-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "inv_448" .f32 0x3B124925#32 ((1 / 448 : ℝ) : EReal)
  ∧ IdealRules.named_const.Statement Cert.KernelIdeal.κ "scale_log2e" .f32 0x3E0293EE#32 (((Real.sqrt 128)⁻¹ * (Real.log 2)⁻¹ : ℝ) : EReal)
  ∧ IdealRules.named_const.Statement Cert.KernelIdeal.κ "log2_448" .f32 0x410CEAED#32 (((Real.log 448) * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)) (v6 : (c : Dev Cert.KernelIdeal.nD) → Buf (Elt Ideal) ((c.tc : Thread Cert.KernelIdeal.nD Cert.KernelIdeal.τ).loc Cert.KernelIdeal.main_v0_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_v0_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v185) = v0 c
          ∧ r.2.mem ((c.tc : Thread Cert.ReferenceIdeal.nD Cert.ReferenceIdeal.τ).loc Cert.ReferenceIdeal.main_v111_0) = v1 c
          ∧ r.2.mem ((c.tc : Thread Cert.ReferenceIdeal.nD Cert.ReferenceIdeal.τ).loc Cert.ReferenceIdeal.main_v187) = v2 c
          ∧ r.2.mem ((c.tc : Thread Cert.ReferenceIdeal.nD Cert.ReferenceIdeal.τ).loc Cert.ReferenceIdeal.main_v111_1) = v3 c
          ∧ r.2.mem ((c.tc : Thread Cert.ReferenceIdeal.nD Cert.ReferenceIdeal.τ).loc Cert.ReferenceIdeal.main_v188) = v4 c
          ∧ r.2.mem ((c.tc : Thread Cert.ReferenceIdeal.nD Cert.ReferenceIdeal.τ).loc Cert.ReferenceIdeal.main_v111_2) = v5 c
          ∧ r.2.mem ((c.tc : Thread Cert.ReferenceIdeal.nD Cert.ReferenceIdeal.τ).loc Cert.ReferenceIdeal.main_v189) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S3x8192x4096 : Shape := ⟨3, ![3, 8192, 4096]⟩
abbrev S3x8192x1024 : Shape := ⟨3, ![3, 8192, 1024]⟩
abbrev S_ : Shape := ⟨0, ![]⟩

class Facts : Prop where
  bcast_S_S3x8192x4096 : S_.BroadcastsInDim S3x8192x4096 (![] : Fin 0 → Fin S3x8192x4096.rank)
  reducesTo_S3x8192x4096_S_d0_1_2 : S3x8192x4096.ReducesTo [0, 1, 2] S_
  h_S_ : 0 < S_.numel
  bcast_S_S3x8192x1024 : S_.BroadcastsInDim S3x8192x1024 (![] : Fin 0 → Fin S3x8192x1024.rank)
  reducesTo_S3x8192x1024_S_d0_1_2 : S3x8192x1024.ReducesTo [0, 1, 2] S_

variable [Facts]

def fn {F : FTy → Type} [FloatOps F] (main_arg0 : FVec F S3x8192x4096 .bf16) (main_arg1 : FVec F S3x8192x1024 .bf16) (main_arg2 : FVec F S3x8192x1024 .bf16) : IVec S_ 1 :=
  let main_v0 : FVec F S3x8192x4096 .bf16 := Host.absf main_arg0
  let main_cst : FVec F S_ .bf16 := constant S_ .bf16 0x7F7F#16
  let main_v1 : FVec F S3x8192x4096 .bf16 := broadcastInDim S3x8192x4096 ![] bcast_S_S3x8192x4096 main_cst
  let main_v2 : IVec S3x8192x4096 1 := cmpf .ole main_v0 main_v1
  let main_c : IVec S_ 1 := constantI S_ 1 1#1
  let main_v3 : IVec S_ 1 := (fun x v => Host.reduce IntOp.andi x v reducesTo_S3x8192x4096_S_d0_1_2 h_S_) main_v2 main_c
  let main_v4 : FVec F S3x8192x1024 .bf16 := Host.absf main_arg1
  let main_cst_0 : FVec F S_ .bf16 := constant S_ .bf16 0x7F7F#16
  let main_v5 : FVec F S3x8192x1024 .bf16 := broadcastInDim S3x8192x1024 ![] bcast_S_S3x8192x1024 main_cst_0
  let main_v6 : IVec S3x8192x1024 1 := cmpf .ole main_v4 main_v5
  let main_c_1 : IVec S_ 1 := constantI S_ 1 1#1
  let main_v7 : IVec S_ 1 := (fun x v => Host.reduce IntOp.andi x v reducesTo_S3x8192x1024_S_d0_1_2 h_S_) main_v6 main_c_1
  let main_v8 : IVec S_ 1 := andi main_v3 main_v7
  let main_v9 : FVec F S3x8192x1024 .bf16 := Host.absf main_arg2
  let main_cst_2 : FVec F S_ .bf16 := constant S_ .bf16 0x7F7F#16
  let main_v10 : FVec F S3x8192x1024 .bf16 := broadcastInDim S3x8192x1024 ![] bcast_S_S3x8192x1024 main_cst_2
  let main_v11 : IVec S3x8192x1024 1 := cmpf .ole main_v9 main_v10
  let main_c_3 : IVec S_ 1 := constantI S_ 1 1#1
  let main_v12 : IVec S_ 1 := (fun x v => Host.reduce IntOp.andi x v reducesTo_S3x8192x1024_S_d0_1_2 h_S_) main_v11 main_c_3
  let main_v13 : IVec S_ 1 := andi main_v8 main_v12
  main_v13
-- ==== Kernel.lean ====
abbrev S3x8192x4096 : Shape := ⟨3, ![3, 8192, 4096]⟩
abbrev S3x8192x1024 : Shape := ⟨3, ![3, 8192, 1024]⟩
abbrev S3x8x16x8192 : Shape := ⟨4, ![3, 8, 16, 8192]⟩
abbrev S3x8x4x8192 : Shape := ⟨4, ![3, 8, 4, 8192]⟩
abbrev S1x256x512 : Shape := ⟨3, ![1, 256, 512]⟩
abbrev S1x8192x128 : Shape := ⟨3, ![1, 8192, 128]⟩
abbrev S1x1x16x256 : Shape := ⟨4, ![1, 1, 16, 256]⟩
abbrev S1x1x4x8192 : Shape := ⟨4, ![1, 1, 4, 8192]⟩
abbrev S8192x1024 : Shape := ⟨2, ![8192, 1024]⟩
abbrev S8192x128 : Shape := ⟨2, ![8192, 128]⟩
abbrev S128x8192 : Shape := ⟨2, ![128, 8192]⟩
abbrev S128x1024 : Shape := ⟨2, ![128, 1024]⟩
abbrev S8x128 : Shape := ⟨2, ![8, 128]⟩
abbrev S1x512x128 : Shape := ⟨3, ![1, 512, 128]⟩
abbrev S512x128 : Shape := ⟨2, ![512, 128]⟩
abbrev S64x8x128 : Shape := ⟨3, ![64, 8, 128]⟩
abbrev S128 : Shape := ⟨1, ![128]⟩
abbrev S1x128 : Shape := ⟨2, ![1, 128]⟩
abbrev S128x128 : Shape := ⟨2, ![128, 128]⟩
abbrev S128x1 : Shape := ⟨2, ![128, 1]⟩
abbrev S128x512 : Shape := ⟨2, ![128, 512]⟩
abbrev S4x32x512 : Shape := ⟨3, ![4, 32, 512]⟩
abbrev S4x512 : Shape := ⟨2, ![4, 512]⟩
abbrev S4x1x512 : Shape := ⟨3, ![4, 1, 512]⟩
abbrev S1x1x4x512 : Shape := ⟨4, ![1, 1, 4, 512]⟩
abbrev S256x512 : Shape := ⟨2, ![256, 512]⟩
abbrev S512x256 : Shape := ⟨2, ![512, 256]⟩
abbrev S16x32x256 : Shape := ⟨3, ![16, 32, 256]⟩
abbrev S16x256 : Shape := ⟨2, ![16, 256]⟩
abbrev S16x1x256 : Shape := ⟨3, ![16, 1, 256]⟩
abbrev S128x256 : Shape := ⟨2, ![128, 256]⟩
abbrev S8x1024 : Shape := ⟨2, ![8, 1024]⟩
abbrev S256x128 : Shape := ⟨2, ![256, 128]⟩
abbrev S256x1024 : Shape := ⟨2, ![256, 1024]⟩
abbrev S32x8x1024 : Shape := ⟨3, ![32, 8, 1024]⟩
abbrev S1024 : Shape := ⟨1, ![1024]⟩
abbrev S1x1024 : Shape := ⟨2, ![1, 1024]⟩
abbrev S1x256x128 : Shape := ⟨3, ![1, 256, 128]⟩

abbrev nBuf : Space → Nat
  | .hbm => 10
  | .vmem => 24
  | .smem => 0
  | _ => 0

abbrev bufTy : (tb : Table) → Fin (tcTables nBuf tb) → BufTy
  | .hbm, ⟨0, _⟩ => ⟨S3x8192x4096, .bf16⟩
  | .hbm, ⟨1, _⟩ => ⟨S3x8192x1024, .bf16⟩
  | .hbm, ⟨2, _⟩ => ⟨S3x8192x1024, .bf16⟩
  | .hbm, ⟨3, _⟩ => ⟨S3x8192x4096, .bf16⟩
  | .hbm, ⟨4, _⟩ => ⟨S3x8192x4096, .fp8e4m3⟩
  | .hbm, ⟨5, _⟩ => ⟨S3x8x16x8192, .i32⟩
  | .hbm, ⟨6, _⟩ => ⟨S3x8192x1024, .fp8e4m3⟩
  | .hbm, ⟨7, _⟩ => ⟨S3x8x4x8192, .i32⟩
  | .hbm, ⟨8, _⟩ => ⟨S3x8192x1024, .fp8e4m3⟩
  | .hbm, ⟨9, _⟩ => ⟨S3x8x4x8192, .i32⟩
  | .local _ .vmem, ⟨0, _⟩ => ⟨S1x256x512, .bf16⟩
  | .local _ .vmem, ⟨1, _⟩ => ⟨S1x256x512, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S1x256x512, .bf16⟩
  | .local _ .vmem, ⟨7, _⟩ => ⟨S1x256x512, .bf16⟩
  | .local _ .vmem, ⟨8, _⟩ => ⟨S1x256x512, .fp8e4m3⟩
  | .local _ .vmem, ⟨9, _⟩ => ⟨S1x256x512, .fp8e4m3⟩
  | .local _ .vmem, ⟨10, _⟩ => ⟨S1x1x16x256, .i32⟩
  | .local _ .vmem, ⟨11, _⟩ => ⟨S1x1x16x256, .i32⟩
  | .local _ .vmem, ⟨12, _⟩ => ⟨S1x8192x128, .fp8e4m3⟩
  | .local _ .vmem, ⟨13, _⟩ => ⟨S1x8192x128, .fp8e4m3⟩
  | .local _ .vmem, ⟨14, _⟩ => ⟨S1x1x4x8192, .i32⟩
  | .local _ .vmem, ⟨15, _⟩ => ⟨S1x1x4x8192, .i32⟩
  | .local _ .vmem, ⟨16, _⟩ => ⟨S1x8192x128, .fp8e4m3⟩
  | .local _ .vmem, ⟨17, _⟩ => ⟨S1x8192x128, .fp8e4m3⟩
  | .local _ .vmem, ⟨18, _⟩ => ⟨S1x1x4x8192, .i32⟩
  | .local _ .vmem, ⟨19, _⟩ => ⟨S1x1x4x8192, .i32⟩
  | .local _ .vmem, ⟨20, _⟩ => ⟨S8192x1024, .f32⟩
  | .local _ .vmem, ⟨21, _⟩ => ⟨S8192x128, .bf16⟩
  | .local _ .vmem, ⟨22, _⟩ => ⟨S128x8192, .bf16⟩
  | .local _ .vmem, ⟨23, _⟩ => ⟨S128x1024, .bf16⟩
  | _, _ => ⟨S3x8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev main_v0_5 : Ref sig .tc := ⟨.hbm, 8, rfl⟩
abbrev main_v0_6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨3, ![3, 8, 32], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_72 : BitVec 32 := 0#32
  let c16_i32_73 : BitVec 32 := 16#32
  let v209 : BitVec 32 := Scalar.addi c0_i32_72 c16_i32_73
  let c1_i32_74 : BitVec 32 := 1#32
  ⟨c0_i32_72, v209, c1_i32_74⟩
def k0_off1 (k0_t1 : Fin k0_t1_loop.trips) : Fin 3 → Nat :=
  let c0_82 : Index := 0#32
  let c0_i32_72 : BitVec 32 := 0#32
  let c1_i32_74 : BitVec 32 := 1#32
  let arg17 : BitVec 32 := Scf.iv c0_i32_72 c1_i32_74 k0_t1
  let c512_i32 : BitVec 32 := 512#32
  let v220 : BitVec 32 := Scalar.muli arg17 c512_i32
  let v221 : Index := Scalar.indexCast v220
  let c0_83 : Index := 0#32
  ![0, v221.toNat, 0]
@[reducible] def k0_t2_loop : Scf.Loop 32 :=
  let c0_i32_78 : BitVec 32 := 0#32
  let c16_i32_79 : BitVec 32 := 16#32
  let v219 : BitVec 32 := Scalar.addi c0_i32_78 c16_i32_79
  let c1_i32_80 : BitVec 32 := 1#32
  ⟨c0_i32_78, v219, c1_i32_80⟩
def k0_off2 (k0_t2 : Fin k0_t2_loop.trips) : Fin 3 → Nat :=
  let c0_82 : Index := 0#32
  let c0_i32_78 : BitVec 32 := 0#32
  let c1_i32_80 : BitVec 32 := 1#32
  let arg17 : BitVec 32 := Scf.iv c0_i32_78 c1_i32_80 k0_t2
  let c512_i32 : BitVec 32 := 512#32
  let v220 : BitVec 32 := Scalar.muli arg17 c512_i32
  let v221 : Index := Scalar.indexCast v220
  let c0_83 : Index := 0#32
  ![0, v221.toNat, 0]
def k0_off3 (k0_t2 : Fin k0_t2_loop.trips) : Fin 2 → Nat :=
  let c0_i32_78 : BitVec 32 := 0#32
  let c1_i32_80 : BitVec 32 := 1#32
  let arg17 : BitVec 32 := Scf.iv c0_i32_78 c1_i32_80 k0_t2
  let c512_i32 : BitVec 32 := 512#32
  let v220 : BitVec 32 := Scalar.muli arg17 c512_i32
  let v329 : Index := Scalar.indexCast v220
  let c0_114 : Index := 0#32
  ![v329.toNat, 0]
def k0_off4 (k0_t2 : Fin k0_t2_loop.trips) : Fin 4 → Nat :=
  let c0_115 : Index := 0#32
  let c0_116 : Index := 0#32
  let c0_117 : Index := 0#32
  let c0_i32_78 : BitVec 32 := 0#32
  let c1_i32_80 : BitVec 32 := 1#32
  let arg17 : BitVec 32 := Scf.iv c0_i32_78 c1_i32_80 k0_t2
  let c512_i32 : BitVec 32 := 512#32
  let v220 : BitVec 32 := Scalar.muli arg17 c512_i32
  let v333 : Index := Scalar.indexCast v220
  ![0, 0, 0, v333.toNat]
def k0_off5 (k0_t2 : Fin k0_t2_loop.trips) : Fin 2 → Nat :=
  let c0_150 : Index := 0#32
  let c0_i32_78 : BitVec 32 := 0#32
  let c1_i32_80 : BitVec 32 := 1#32
  let arg17 : BitVec 32 := Scf.iv c0_i32_78 c1_i32_80 k0_t2
  let c512_i32 : BitVec 32 := 512#32
  let v220 : BitVec 32 := Scalar.muli arg17 c512_i32
  let v442 : Index := Scalar.indexCast v220
  ![0, v442.toNat]
@[reducible] def k0_t3_loop (i : grid0.Coords) : Scf.Loop 32 :=
  let c0_i32_32 : BitVec 32 := 0#32
  let arg2 : BitVec 32 := BitVec.ofNat 32 (i 2).val
  let v126 : BitVec 32 := Scalar.subi arg2 c0_i32_32
  let c1_i32_33 : BitVec 32 := 1#32
  let v128 : BitVec 32 := Scalar.divsi v126 c1_i32_33
  let v129 : BitVec 32 := Scalar.muli v128 c1_i32_33
  let v130 : BitVec 32 := Scalar.addi c0_i32_32 v129
  let c1_i32_34 : BitVec 32 := 1#32
  ⟨c0_i32_32, v130, c1_i32_34⟩
def k0_off6 (i : grid0.Coords) (k0_t3 : Fin (k0_t3_loop i).trips) : Fin 2 → Nat :=
  let c0_i32_32 : BitVec 32 := 0#32
  let c1_i32_34 : BitVec 32 := 1#32
  let arg17 : BitVec 32 := Scf.iv c0_i32_32 c1_i32_34 k0_t3
  let c256_i32_71 : BitVec 32 := 256#32
  let v208 : BitVec 32 := Scalar.muli arg17 c256_i32_71
  let v209 : Index := Scalar.indexCast v208
  let c0_72 : Index := 0#32
  ![v209.toNat, 0]
def k0_off7 (i : grid0.Coords) (k0_t3 : Fin (k0_t3_loop i).trips) : Fin 2 → Nat :=
  let c0_i32_32 : BitVec 32 := 0#32
  let c1_i32_34 : BitVec 32 := 1#32
  let arg17 : BitVec 32 := Scf.iv c0_i32_32 c1_i32_34 k0_t3
  let c256_i32_76 : BitVec 32 := 256#32
  let v213 : BitVec 32 := Scalar.muli arg17 c256_i32_76
  let v214 : Index := Scalar.indexCast v213
  let c0_77 : Index := 0#32
  ![v214.toNat, 0]
@[reducible] def k0_t4_loop (i : grid0.Coords) : Scf.Loop 32 :=
  let c0_i32_32 : BitVec 32 := 0#32
  let arg2 : BitVec 32 := BitVec.ofNat 32 (i 2).val
  let v126 : BitVec 32 := Scalar.subi arg2 c0_i32_32
  let c1_i32_33 : BitVec 32 := 1#32
  let v128 : BitVec 32 := Scalar.divsi v126 c1_i32_33
  let v129 : BitVec 32 := Scalar.muli v128 c1_i32_33
  let v130 : BitVec 32 := Scalar.addi c0_i32_32 v129
  let v127 : BitVec 32 := Scalar.addi c0_i32_32 v126
  let c1_i32_35 : BitVec 32 := 1#32
  ⟨v130, v127, c1_i32_35⟩
def k0_off8 (i : grid0.Coords) (k0_t4 : Fin (k0_t4_loop i).trips) : Fin 2 → Nat :=
  let c0_i32_32 : BitVec 32 := 0#32
  let arg2 : BitVec 32 := BitVec.ofNat 32 (i 2).val
  let v126 : BitVec 32 := Scalar.subi arg2 c0_i32_32
  let c1_i32_33 : BitVec 32 := 1#32
  let v128 : BitVec 32 := Scalar.divsi v126 c1_i32_33
  let v129 : BitVec 32 := Scalar.muli v128 c1_i32_33
  let v130 : BitVec 32 := Scalar.addi c0_i32_32 v129
  let c1_i32_35 : BitVec 32 := 1#32
  let arg17 : BitVec 32 := Scf.iv v130 c1_i32_35 k0_t4
  let c256_i32_71 : BitVec 32 := 256#32
  let v208 : BitVec 32 := Scalar.muli arg17 c256_i32_71
  let v209 : Index := Scalar.indexCast v208
  let c0_72 : Index := 0#32
  ![v209.toNat, 0]
def k0_off9 (i : grid0.Coords) (k0_t4 : Fin (k0_t4_loop i).trips) : Fin 2 → Nat :=
  let c0_i32_32 : BitVec 32 := 0#32
  let arg2 : BitVec 32 := BitVec.ofNat 32 (i 2).val
  let v126 : BitVec 32 := Scalar.subi arg2 c0_i32_32
  let c1_i32_33 : BitVec 32 := 1#32
  let v128 : BitVec 32 := Scalar.divsi v126 c1_i32_33
  let v129 : BitVec 32 := Scalar.muli v128 c1_i32_33
  let v130 : BitVec 32 := Scalar.addi c0_i32_32 v129
  let c1_i32_35 : BitVec 32 := 1#32
  let arg17 : BitVec 32 := Scf.iv v130 c1_i32_35 k0_t4
  let c256_i32_76 : BitVec 32 := 256#32
  let v213 : BitVec 32 := Scalar.muli arg17 c256_i32_76
  let v214 : Index := Scalar.indexCast v213
  let c0_77 : Index := 0#32
  ![v214.toNat, 0]
def k0_off10 (i : grid0.Coords) : Fin 2 → Nat :=
  let arg2 : BitVec 32 := BitVec.ofNat 32 (i 2).val
  let c256_i32 : BitVec 32 := 256#32
  let v133 : BitVec 32 := Scalar.muli arg2 c256_i32
  let v134 : Index := Scalar.indexCast v133
  let c0_36 : Index := 0#32
  ![v134.toNat, 0]
def k0_off11 (i : grid0.Coords) : Fin 2 → Nat :=
  let arg2 : BitVec 32 := BitVec.ofNat 32 (i 2).val
  let c256_i32_47 : BitVec 32 := 256#32
  let v159 : BitVec 32 := Scalar.muli arg2 c256_i32_47
  let v160 : Index := Scalar.indexCast v159
  let c0_48 : Index := 0#32
  ![v160.toNat, 0]
@[reducible] def k0_t5_loop (i : grid0.Coords) : Scf.Loop 32 :=
  let c0_i32_56 : BitVec 32 := 0#32
  let arg2 : BitVec 32 := BitVec.ofNat 32 (i 2).val
  let c1_i32_53 : BitVec 32 := 1#32
  let v173 : BitVec 32 := Scalar.addi arg2 c1_i32_53
  let v176 : BitVec 32 := Scalar.subi v173 c0_i32_56
  let c1_i32_57 : BitVec 32 := 1#32
  let v178 : BitVec 32 := Scalar.divsi v176 c1_i32_57
  let v179 : BitVec 32 := Scalar.muli v178 c1_i32_57
  let v180 : BitVec 32 := Scalar.addi c0_i32_56 v179
  let c1_i32_58 : BitVec 32 := 1#32
  ⟨c0_i32_56, v180, c1_i32_58⟩
def k0_off12 (i : grid0.Coords) (k0_t5 : Fin (k0_t5_loop i).trips) : Fin 2 → Nat :=
  let c0_i32_56 : BitVec 32 := 0#32
  let c1_i32_58 : BitVec 32 := 1#32
  let arg17 : BitVec 32 := Scf.iv c0_i32_56 c1_i32_58 k0_t5
  let c256_i32_71 : BitVec 32 := 256#32
  let v208 : BitVec 32 := Scalar.muli arg17 c256_i32_71
  let v209 : Index := Scalar.indexCast v208
  let c0_72 : Index := 0#32
  ![v209.toNat, 0]
def k0_off13 (i : grid0.Coords) (k0_t5 : Fin (k0_t5_loop i).trips) : Fin 2 → Nat :=
  let c0_77 : Index := 0#32
  let c0_i32_56 : BitVec 32 := 0#32
  let c1_i32_58 : BitVec 32 := 1#32
  let arg17 : BitVec 32 := Scf.iv c0_i32_56 c1_i32_58 k0_t5
  let c256_i32_71 : BitVec 32 := 256#32
  let v208 : BitVec 32 := Scalar.muli arg17 c256_i32_71
  let v224 : Index := Scalar.indexCast v208
  ![0, v224.toNat]
@[reducible] def k0_t6_loop (i : grid0.Coords) : Scf.Loop 32 :=
  let c0_i32_56 : BitVec 32 := 0#32
  let arg2 : BitVec 32 := BitVec.ofNat 32 (i 2).val
  let c1_i32_53 : BitVec 32 := 1#32
  let v173 : BitVec 32 := Scalar.addi arg2 c1_i32_53
  let v176 : BitVec 32 := Scalar.subi v173 c0_i32_56
  let c1_i32_57 : BitVec 32 := 1#32
  let v178 : BitVec 32 := Scalar.divsi v176 c1_i32_57
  let v179 : BitVec 32 := Scalar.muli v178 c1_i32_57
  let v180 : BitVec 32 := Scalar.addi c0_i32_56 v179
  let v177 : BitVec 32 := Scalar.addi c0_i32_56 v176
  let c1_i32_59 : BitVec 32 := 1#32
  ⟨v180, v177, c1_i32_59⟩
def k0_off14 (i : grid0.Coords) (k0_t6 : Fin (k0_t6_loop i).trips) : Fin 2 → Nat :=
  let c0_i32_56 : BitVec 32 := 0#32
  let arg2 : BitVec 32 := BitVec.ofNat 32 (i 2).val
  let c1_i32_53 : BitVec 32 := 1#32
  let v173 : BitVec 32 := Scalar.addi arg2 c1_i32_53
  let v176 : BitVec 32 := Scalar.subi v173 c0_i32_56
  let c1_i32_57 : BitVec 32 := 1#32
  let v178 : BitVec 32 := Scalar.divsi v176 c1_i32_57
  let v179 : BitVec 32 := Scalar.muli v178 c1_i32_57
  let v180 : BitVec 32 := Scalar.addi c0_i32_56 v179
  let c1_i32_59 : BitVec 32 := 1#32
  let arg17 : BitVec 32 := Scf.iv v180 c1_i32_59 k0_t6
  let c256_i32_71 : BitVec 32 := 256#32
  let v208 : BitVec 32 := Scalar.muli arg17 c256_i32_71
  let v209 : Index := Scalar.indexCast v208
  let c0_72 : Index := 0#32
  ![v209.toNat, 0]
def k0_off15 (i : grid0.Coords) (k0_t6 : Fin (k0_t6_loop i).trips) : Fin 2 → Nat :=
  let c0_77 : Index := 0#32
  let c0_i32_56 : BitVec 32 := 0#32
  let arg2 : BitVec 32 := BitVec.ofNat 32 (i 2).val
  let c1_i32_53 : BitVec 32 := 1#32
  let v173 : BitVec 32 := Scalar.addi arg2 c1_i32_53
  let v176 : BitVec 32 := Scalar.subi v173 c0_i32_56
  let c1_i32_57 : BitVec 32 := 1#32
  let v178 : BitVec 32 := Scalar.divsi v176 c1_i32_57
  let v179 : BitVec 32 := Scalar.muli v178 c1_i32_57
  let v180 : BitVec 32 := Scalar.addi c0_i32_56 v179
  let c1_i32_59 : BitVec 32 := 1#32
  let arg17 : BitVec 32 := Scf.iv v180 c1_i32_59 k0_t6
  let c256_i32_71 : BitVec 32 := 256#32
  let v208 : BitVec 32 := Scalar.muli arg17 c256_i32_71
  let v224 : Index := Scalar.indexCast v208
  ![0, v224.toNat]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x256x512 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x16x256 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x8192x128 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x1x4x8192 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x8192x128 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1x1x4x8192 .i32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== KernelIdeal.lean ====
variable {F : FTy → Type} [FloatOps F] [Named F]
def κ : String → Option EReal := fun
  | "inv_448" => some ((1 / 448 : ℝ) : EReal)
  | "log2_448" => some (((Real.log 448) * (Real.log 2)⁻¹ : ℝ) : EReal)
  | "scale_log2e" => some (((Real.sqrt 128)⁻¹ * (Real.log 2)⁻¹ : ℝ) : EReal)
  | _ => none
-- ==== ReferenceIdeal.lean ====
abbrev S3x8192x4096 : Shape := ⟨3, ![3, 8192, 4096]⟩
abbrev S3x8192x1024 : Shape := ⟨3, ![3, 8192, 1024]⟩
abbrev S3x8192x32x128 : Shape := ⟨4, ![3, 8192, 32, 128]⟩
abbrev S3x8192x32x4x32 : Shape := ⟨5, ![3, 8192, 32, 4, 32]⟩
abbrev S_ : Shape := ⟨0, ![]⟩
abbrev S3x8192x32x4 : Shape := ⟨4, ![3, 8192, 32, 4]⟩
abbrev S254 : Shape := ⟨1, ![254]⟩
abbrev S3x8192x32x4x1 : Shape := ⟨5, ![3, 8192, 32, 4, 1]⟩
abbrev S1x1x1x1x254 : Shape := ⟨5, ![1, 1, 1, 1, 254]⟩
abbrev S3x8192x32x4x254 : Shape := ⟨5, ![3, 8192, 32, 4, 254]⟩
abbrev S3x8192x8x128 : Shape := ⟨4, ![3, 8192, 8, 128]⟩
abbrev S3x8x128 : Shape := ⟨3, ![3, 8, 128]⟩
abbrev S3x1x8x128 : Shape := ⟨4, ![3, 1, 8, 128]⟩
abbrev S3x8192x8x4x32 : Shape := ⟨5, ![3, 8192, 8, 4, 32]⟩
abbrev S3x8192x8x4 : Shape := ⟨4, ![3, 8192, 8, 4]⟩
abbrev S3x8192x8x4x1 : Shape := ⟨5, ![3, 8192, 8, 4, 1]⟩
abbrev S3x8192x8x4x254 : Shape := ⟨5, ![3, 8192, 8, 4, 254]⟩
abbrev S3x8192x8x4x128 : Shape := ⟨5, ![3, 8192, 8, 4, 128]⟩
abbrev S3x8x8192x8192x4 : Shape := ⟨5, ![3, 8, 8192, 8192, 4]⟩
abbrev S3x8x4x8192x8192 : Shape := ⟨5, ![3, 8, 4, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S3x8x4x8192 : Shape := ⟨4, ![3, 8, 4, 8192]⟩
abbrev S3x8x4x8192x1 : Shape := ⟨5, ![3, 8, 4, 8192, 1]⟩
abbrev S3x8x4x8192x128 : Shape := ⟨5, ![3, 8, 4, 8192, 128]⟩
abbrev S3x32x4x8192 : Shape := ⟨4, ![3, 32, 4, 8192]⟩
abbrev S3x8x16x8192 : Shape := ⟨4, ![3, 8, 16, 8192]⟩

abbrev nBuf : Space → Nat
  | .hbm => 279
  | .vmem => 15
  | .smem => 0
  | _ => 0

abbrev hbmTy0_0 (i : Nat) : BufTy := match i % 128 with
  | 0 => ⟨S3x8192x4096, .bf16⟩
  | 1 => ⟨S3x8192x1024, .bf16⟩
  | 2 => ⟨S3x8192x1024, .bf16⟩
  | 3 => ⟨S3x8192x4096, .f32⟩
  | 4 => ⟨S3x8192x32x128, .f32⟩
  | 5 => ⟨S3x8192x32x4x32, .f32⟩
  | 6 => ⟨S3x8192x32x4x32, .f32⟩
  | 7 => ⟨S_, .f32⟩
  | 8 => ⟨S3x8192x32x4, .f32⟩
  | 9 => ⟨S_, .f32⟩
  | 10 => ⟨S3x8192x32x4, .f32⟩
  | 11 => ⟨S3x8192x32x4, .f32⟩
  | 12 => ⟨S_, .f32⟩
  | 13 => ⟨S254, .f32⟩
  | 14 => ⟨S254, .i32⟩
  | 15 => ⟨S254, .f32⟩
  | 16 => ⟨S_, .f32⟩
  | 17 => ⟨S254, .f32⟩
  | 18 => ⟨S254, .f32⟩
  | 19 => ⟨S254, .f32⟩
  | 20 => ⟨S3x8192x32x4x1, .f32⟩
  | 21 => ⟨S1x1x1x1x254, .f32⟩
  | 22 => ⟨S3x8192x32x4x254, .f32⟩
  | 23 => ⟨S3x8192x32x4x254, .f32⟩
  | 24 => ⟨S3x8192x32x4x254, .i1⟩
  | 25 => ⟨S3x8192x32x4x254, .i32⟩
  | 26 => ⟨S_, .i32⟩
  | 27 => ⟨S3x8192x32x4, .i32⟩
  | 28 => ⟨S_, .i32⟩
  | 29 => ⟨S3x8192x32x4, .i32⟩
  | 30 => ⟨S3x8192x32x4, .i32⟩
  | 31 => ⟨S_, .f32⟩
  | 32 => ⟨S3x8192x32x4, .f32⟩
  | 33 => ⟨S3x8192x32x4, .i1⟩
  | 34 => ⟨S_, .i32⟩
  | 35 => ⟨S_, .i32⟩
  | 36 => ⟨S3x8192x32x4, .i32⟩
  | 37 => ⟨S3x8192x32x4, .i32⟩
  | 38 => ⟨S_, .f32⟩
  | 39 => ⟨S3x8192x32x4, .f32⟩
  | 40 => ⟨S3x8192x32x4, .i32⟩
  | 41 => ⟨S3x8192x32x4, .f32⟩
  | 42 => ⟨S3x8192x32x4, .f32⟩
  | 43 => ⟨S3x8192x32x4x1, .f32⟩
  | 44 => ⟨S3x8192x32x4x32, .f32⟩
  | 45 => ⟨S3x8192x32x4x32, .f32⟩
  | 46 => ⟨S_, .f32⟩
  | 47 => ⟨S_, .f32⟩
  | 48 => ⟨S_, .f32⟩
  | 49 => ⟨S3x8192x32x4x32, .f32⟩
  | 50 => ⟨S3x8192x32x4x32, .f32⟩
  | 51 => ⟨S_, .f32⟩
  | 52 => ⟨S3x8192x32x4x32, .f32⟩
  | 53 => ⟨S3x8192x32x4x32, .f32⟩
  | 54 => ⟨S3x8192x32x128, .f32⟩
  | 55 => ⟨S3x8192x1024, .f32⟩
  | 56 => ⟨S3x8192x8x128, .f32⟩
  | 57 => ⟨S_, .f32⟩
  | 58 => ⟨S3x8x128, .f32⟩
  | 59 => ⟨S3x1x8x128, .f32⟩
  | 60 => ⟨S_, .f32⟩
  | 61 => ⟨S3x1x8x128, .f32⟩
  | 62 => ⟨S3x1x8x128, .f32⟩
  | 63 => ⟨S3x8192x8x128, .f32⟩
  | 64 => ⟨S3x8192x8x128, .f32⟩
  | 65 => ⟨S3x8192x8x4x32, .f32⟩
  | 66 => ⟨S3x8192x8x4x32, .f32⟩
  | 67 => ⟨S_, .f32⟩
  | 68 => ⟨S3x8192x8x4, .f32⟩
  | 69 => ⟨S_, .f32⟩
  | 70 => ⟨S3x8192x8x4, .f32⟩
  | 71 => ⟨S3x8192x8x4, .f32⟩
  | 72 => ⟨S_, .f32⟩
  | 73 => ⟨S254, .f32⟩
  | 74 => ⟨S254, .i32⟩
  | 75 => ⟨S254, .f32⟩
  | 76 => ⟨S_, .f32⟩
  | 77 => ⟨S254, .f32⟩
  | 78 => ⟨S254, .f32⟩
  | 79 => ⟨S254, .f32⟩
  | 80 => ⟨S3x8192x8x4x1, .f32⟩
  | 81 => ⟨S1x1x1x1x254, .f32⟩
  | 82 => ⟨S3x8192x8x4x254, .f32⟩
  | 83 => ⟨S3x8192x8x4x254, .f32⟩
  | 84 => ⟨S3x8192x8x4x254, .i1⟩
  | 85 => ⟨S3x8192x8x4x254, .i32⟩
  | 86 => ⟨S_, .i32⟩
  | 87 => ⟨S3x8192x8x4, .i32⟩
  | 88 => ⟨S_, .i32⟩
  | 89 => ⟨S3x8192x8x4, .i32⟩
  | 90 => ⟨S3x8192x8x4, .i32⟩
  | 91 => ⟨S_, .f32⟩
  | 92 => ⟨S3x8192x8x4, .f32⟩
  | 93 => ⟨S3x8192x8x4, .i1⟩
  | 94 => ⟨S_, .i32⟩
  | 95 => ⟨S_, .i32⟩
  | 96 => ⟨S3x8192x8x4, .i32⟩
  | 97 => ⟨S3x8192x8x4, .i32⟩
  | 98 => ⟨S_, .f32⟩
  | 99 => ⟨S3x8192x8x4, .f32⟩
  | 100 => ⟨S3x8192x8x4, .i32⟩
  | 101 => ⟨S3x8192x8x4, .f32⟩
  | 102 => ⟨S3x8192x8x4, .f32⟩
  | 103 => ⟨S3x8192x8x4x1, .f32⟩
  | 104 => ⟨S3x8192x8x4x32, .f32⟩
  | 105 => ⟨S3x8192x8x4x32, .f32⟩
  | 106 => ⟨S_, .f32⟩
  | 107 => ⟨S_, .f32⟩
  | 108 => ⟨S_, .f32⟩
  | 109 => ⟨S3x8192x8x4x32, .f32⟩
  | 110 => ⟨S3x8192x8x4x32, .f32⟩
  | 111 => ⟨S_, .f32⟩
  | 112 => ⟨S3x8192x8x4x32, .f32⟩
  | 113 => ⟨S3x8192x8x4x32, .f32⟩
  | 114 => ⟨S3x8192x8x128, .f32⟩
  | 115 => ⟨S3x8192x1024, .f32⟩
  | 116 => ⟨S3x8192x8x128, .f32⟩
  | 117 => ⟨S3x8192x8x4x32, .f32⟩
  | 118 => ⟨S3x8192x8x4x32, .f32⟩
  | 119 => ⟨S_, .f32⟩
  | 120 => ⟨S3x8192x8x4, .f32⟩
  | 121 => ⟨S_, .f32⟩
  | 122 => ⟨S3x8192x8x4, .f32⟩
  | 123 => ⟨S3x8192x8x4, .f32⟩
  | 124 => ⟨S_, .f32⟩
  | 125 => ⟨S254, .f32⟩
  | 126 => ⟨S254, .i32⟩
  | 127 => ⟨S254, .f32⟩
  | _ => ⟨S3x8192x4096, .bf16⟩

abbrev hbmTy0_1 (i : Nat) : BufTy := match i % 128 with
  | 0 => ⟨S_, .f32⟩
  | 1 => ⟨S254, .f32⟩
  | 2 => ⟨S254, .f32⟩
  | 3 => ⟨S254, .f32⟩
  | 4 => ⟨S3x8192x8x4x1, .f32⟩
  | 5 => ⟨S1x1x1x1x254, .f32⟩
  | 6 => ⟨S3x8192x8x4x254, .f32⟩
  | 7 => ⟨S3x8192x8x4x254, .f32⟩
  | 8 => ⟨S3x8192x8x4x254, .i1⟩
  | 9 => ⟨S3x8192x8x4x254, .i32⟩
  | 10 => ⟨S_, .i32⟩
  | 11 => ⟨S3x8192x8x4, .i32⟩
  | 12 => ⟨S_, .i32⟩
  | 13 => ⟨S3x8192x8x4, .i32⟩
  | 14 => ⟨S3x8192x8x4, .i32⟩
  | 15 => ⟨S_, .f32⟩
  | 16 => ⟨S3x8192x8x4, .f32⟩
  | 17 => ⟨S3x8192x8x4, .i1⟩
  | 18 => ⟨S_, .i32⟩
  | 19 => ⟨S_, .i32⟩
  | 20 => ⟨S3x8192x8x4, .i32⟩
  | 21 => ⟨S3x8192x8x4, .i32⟩
  | 22 => ⟨S_, .f32⟩
  | 23 => ⟨S3x8192x8x4, .f32⟩
  | 24 => ⟨S3x8192x8x4, .i32⟩
  | 25 => ⟨S3x8192x8x4, .f32⟩
  | 26 => ⟨S3x8192x8x4, .f32⟩
  | 27 => ⟨S3x8192x8x4x1, .f32⟩
  | 28 => ⟨S3x8192x8x4x32, .f32⟩
  | 29 => ⟨S3x8192x8x4x32, .f32⟩
  | 30 => ⟨S_, .f32⟩
  | 31 => ⟨S_, .f32⟩
  | 32 => ⟨S_, .f32⟩
  | 33 => ⟨S3x8192x8x4x32, .f32⟩
  | 34 => ⟨S3x8192x8x4x32, .f32⟩
  | 35 => ⟨S_, .f32⟩
  | 36 => ⟨S3x8192x8x4x32, .f32⟩
  | 37 => ⟨S3x8192x8x4x32, .f32⟩
  | 38 => ⟨S3x8192x8x128, .f32⟩
  | 39 => ⟨S3x8192x4096, .f32⟩
  | 40 => ⟨S3x8192x1024, .f32⟩
  | 41 => ⟨S3x8192x1024, .f32⟩
  | 42 => ⟨S3x8192x4096, .fp8e4m3⟩
  | 43 => ⟨S3x8192x1024, .fp8e4m3⟩
  | 44 => ⟨S3x8192x1024, .fp8e4m3⟩
  | 45 => ⟨S3x8192x4096, .bf16⟩
  | 46 => ⟨S3x8192x1024, .bf16⟩
  | 47 => ⟨S3x8192x1024, .bf16⟩
  | 48 => ⟨S3x8192x32x4, .i32⟩
  | 49 => ⟨S3x8192x8x4, .i32⟩
  | 50 => ⟨S3x8192x8x4, .i32⟩
  | 51 => ⟨S3x8192x32x4, .i8⟩
  | 52 => ⟨S3x8192x32x4, .i32⟩
  | 53 => ⟨S3x8192x8x4, .i8⟩
  | 54 => ⟨S3x8192x8x4, .i32⟩
  | 55 => ⟨S3x8192x8x4, .i8⟩
  | 56 => ⟨S3x8192x8x4, .i32⟩
  | 57 => ⟨S3x8192x32x128, .bf16⟩
  | 58 => ⟨S_, .f32⟩
  | 59 => ⟨S3x8192x32x4, .f32⟩
  | 60 => ⟨S_, .i32⟩
  | 61 => ⟨S3x8192x32x4, .i32⟩
  | 62 => ⟨S3x8192x32x4, .i32⟩
  | 63 => ⟨S3x8192x32x4, .f32⟩
  | 64 => ⟨S3x8192x32x4, .f32⟩
  | 65 => ⟨S3x8192x32x4, .bf16⟩
  | 66 => ⟨S3x8192x32x4x32, .bf16⟩
  | 67 => ⟨S3x8192x32x4x1, .bf16⟩
  | 68 => ⟨S3x8192x32x4x32, .bf16⟩
  | 69 => ⟨S3x8192x32x4x32, .bf16⟩
  | 70 => ⟨S3x8192x32x128, .bf16⟩
  | 71 => ⟨S3x8192x8x4x128, .bf16⟩
  | 72 => ⟨S3x8192x8x128, .bf16⟩
  | 73 => ⟨S_, .f32⟩
  | 74 => ⟨S3x8192x8x4, .f32⟩
  | 75 => ⟨S_, .i32⟩
  | 76 => ⟨S3x8192x8x4, .i32⟩
  | 77 => ⟨S3x8192x8x4, .i32⟩
  | 78 => ⟨S3x8192x8x4, .f32⟩
  | 79 => ⟨S3x8192x8x4, .f32⟩
  | 80 => ⟨S3x8192x8x4, .bf16⟩
  | 81 => ⟨S3x8192x8x4x32, .bf16⟩
  | 82 => ⟨S3x8192x8x4x1, .bf16⟩
  | 83 => ⟨S3x8192x8x4x32, .bf16⟩
  | 84 => ⟨S3x8192x8x4x32, .bf16⟩
  | 85 => ⟨S3x8192x8x128, .bf16⟩
  | 86 => ⟨S3x8192x8x128, .bf16⟩
  | 87 => ⟨S_, .f32⟩
  | 88 => ⟨S3x8192x8x4, .f32⟩
  | 89 => ⟨S_, .i32⟩
  | 90 => ⟨S3x8192x8x4, .i32⟩
  | 91 => ⟨S3x8192x8x4, .i32⟩
  | 92 => ⟨S3x8192x8x4, .f32⟩
  | 93 => ⟨S3x8192x8x4, .f32⟩
  | 94 => ⟨S3x8192x8x4, .bf16⟩
  | 95 => ⟨S3x8192x8x4x32, .bf16⟩
  | 96 => ⟨S3x8192x8x4x1, .bf16⟩
  | 97 => ⟨S3x8192x8x4x32, .bf16⟩
  | 98 => ⟨S3x8192x8x4x32, .bf16⟩
  | 99 => ⟨S3x8192x8x128, .bf16⟩
  | 100 => ⟨S3x8x8192x8192x4, .f32⟩
  | 101 => ⟨S3x8x4x8192x8192, .f32⟩
  | 102 => ⟨S_, .f32⟩
  | 103 => ⟨S_, .f32⟩
  | 104 => ⟨S3x8x4x8192x8192, .f32⟩
  | 105 => ⟨S3x8x4x8192x8192, .f32⟩
  | 106 => ⟨S8192, .i32⟩
  | 107 => ⟨S1x8192, .i32⟩
  | 108 => ⟨S8192x1, .i32⟩
  | 109 => ⟨S8192x8192, .i32⟩
  | 110 => ⟨S8192x8192, .i32⟩
  | 111 => ⟨S8192x8192, .i1⟩
  | 112 => ⟨S_, .f32⟩
  | 113 => ⟨S_, .f32⟩
  | 114 => ⟨S3x8x4x8192x8192, .i1⟩
  | 115 => ⟨S3x8x4x8192x8192, .f32⟩
  | 116 => ⟨S3x8x4x8192x8192, .f32⟩
  | 117 => ⟨S_, .f32⟩
  | 118 => ⟨S3x8x4x8192, .f32⟩
  | 119 => ⟨S3x8x4x8192x1, .f32⟩
  | 120 => ⟨S3x8x4x8192x8192, .f32⟩
  | 121 => ⟨S3x8x4x8192x8192, .f32⟩
  | 122 => ⟨S3x8x4x8192x8192, .f32⟩
  | 123 => ⟨S_, .f32⟩
  | 124 => ⟨S3x8x4x8192, .f32⟩
  | 125 => ⟨S_, .f32⟩
  | 126 => ⟨S3x8x4x8192x8192, .f32⟩
  | 127 => ⟨S3x8x4x8192x8192, .f32⟩
  | _ => ⟨S3x8192x4096, .bf16⟩

abbrev hbmTy0_2 (i : Nat) : BufTy := match i % 128 with
  | 0 => ⟨S_, .f32⟩
  | 1 => ⟨S_, .f32⟩
  | 2 => ⟨S_, .f32⟩
  | 3 => ⟨S3x8x4x8192x8192, .f32⟩
  | 4 => ⟨S3x8x4x8192x8192, .f32⟩
  | 5 => ⟨S_, .f32⟩
  | 6 => ⟨S3x8x4x8192x8192, .f32⟩
  | 7 => ⟨S3x8x4x8192x8192, .f32⟩
  | 8 => ⟨S3x8x4x8192x8192, .bf16⟩
  | 9 => ⟨S3x8x4x8192x128, .f32⟩
  | 10 => ⟨S_, .f32⟩
  | 11 => ⟨S3x8x4x8192x128, .f32⟩
  | 12 => ⟨S3x8x4x8192x128, .f32⟩
  | 13 => ⟨S3x8x4x8192x1, .f32⟩
  | 14 => ⟨S3x8x4x8192x128, .f32⟩
  | 15 => ⟨S3x8x4x8192x128, .f32⟩
  | 16 => ⟨S3x8x4x8192x128, .bf16⟩
  | 17 => ⟨S3x8192x8x4x128, .bf16⟩
  | 18 => ⟨S3x8192x4096, .bf16⟩
  | 19 => ⟨S3x32x4x8192, .i32⟩
  | 20 => ⟨S3x8x16x8192, .i32⟩
  | 21 => ⟨S3x8x4x8192, .i32⟩
  | 22 => ⟨S3x8x4x8192, .i32⟩
  | _ => ⟨S3x8192x4096, .bf16⟩

abbrev hbmTy (i : Nat) : BufTy := match i / 128 with
  | 0 => hbmTy0_0 i
  | 1 => hbmTy0_1 i
  | 2 => hbmTy0_2 i
  | _ => ⟨S3x8192x4096, .bf16⟩

abbrev bufTy : (tb : Table) → Fin (tcTables nBuf tb) → BufTy
  | .hbm, ⟨i, _⟩ => hbmTy i
  | .local _ .vmem, ⟨0, _⟩ => ⟨S3x8192x4096, .f32⟩
  | .local _ .vmem, ⟨1, _⟩ => ⟨S3x8192x1024, .f32⟩
  | .local _ .vmem, ⟨2, _⟩ => ⟨S3x8192x1024, .f32⟩
  | .local _ .vmem, ⟨3, _⟩ => ⟨S3x8192x32x4, .i32⟩
  | .local _ .vmem, ⟨4, _⟩ => ⟨S3x8192x8x4, .i32⟩
  | .local _ .vmem, ⟨5, _⟩ => ⟨S3x8192x8x4, .i32⟩
  | .local _ .vmem, ⟨6, _⟩ => ⟨S3x8192x4096, .fp8e4m3⟩
  | .local _ .vmem, ⟨7, _⟩ => ⟨S3x8192x1024, .fp8e4m3⟩
  | .local _ .vmem, ⟨8, _⟩ => ⟨S3x8192x1024, .fp8e4m3⟩
  | .local _ .vmem, ⟨9, _⟩ => ⟨S3x8192x4096, .bf16⟩
  | .local _ .vmem, ⟨10, _⟩ => ⟨S3x8192x1024, .bf16⟩
  | .local _ .vmem, ⟨11, _⟩ => ⟨S3x8192x1024, .bf16⟩
  | .local _ .vmem, ⟨12, _⟩ => ⟨S3x8192x32x4, .i32⟩
  | .local _ .vmem, ⟨13, _⟩ => ⟨S3x8192x8x4, .i32⟩
  | .local _ .vmem, ⟨14, _⟩ => ⟨S3x8192x8x4, .i32⟩
  | _, _ => ⟨S3x8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c : Ref sig .tc := ⟨.hbm, 26, rfl⟩
abbrev main_v19 : Ref sig .tc := ⟨.hbm, 27, rfl⟩
abbrev main_c_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_c_5 : Ref sig .tc := ⟨.hbm, 34, rfl⟩
abbrev main_call0_v0 : Ref sig .tc := ⟨.hbm, 35, rfl⟩
abbrev main_call0_v1 : Ref sig .tc := ⟨.hbm, 36, rfl⟩
abbrev main_v24 : Ref sig .tc := ⟨.hbm, 37, rfl⟩
abbrev main_cst_6 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_cst_8 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_9 : Ref sig .tc := ⟨.hbm, 57, rfl⟩
abbrev main_v36 : Ref sig .tc := ⟨.hbm, 58, rfl⟩
abbrev main_v37 : Ref sig .tc := ⟨.hbm, 59, rfl⟩
abbrev main_cst_10 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_11 : Ref sig .tc := ⟨.hbm, 67, rfl⟩
abbrev main_v44 : Ref sig .tc := ⟨.hbm, 68, rfl⟩
abbrev main_cst_12 : Ref sig .tc := ⟨.hbm, 69, rfl⟩
abbrev main_v45 : Ref sig .tc := ⟨.hbm, 70, rfl⟩
abbrev main_v46 : Ref sig .tc := ⟨.hbm, 71, rfl⟩
abbrev main_cst_13 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_14 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_c_15 : Ref sig .tc := ⟨.hbm, 86, rfl⟩
abbrev main_v59 : Ref sig .tc := ⟨.hbm, 87, rfl⟩
abbrev main_c_16 : Ref sig .tc := ⟨.hbm, 88, rfl⟩
abbrev main_v60 : Ref sig .tc := ⟨.hbm, 89, rfl⟩
abbrev main_v61 : Ref sig .tc := ⟨.hbm, 90, rfl⟩
abbrev main_cst_17 : Ref sig .tc := ⟨.hbm, 91, rfl⟩
abbrev main_v62 : Ref sig .tc := ⟨.hbm, 92, rfl⟩
abbrev main_v63 : Ref sig .tc := ⟨.hbm, 93, rfl⟩
abbrev main_c_18 : Ref sig .tc := ⟨.hbm, 94, rfl⟩
abbrev main_call2_v0 : Ref sig .tc := ⟨.hbm, 95, rfl⟩
abbrev main_call2_v1 : Ref sig .tc := ⟨.hbm, 96, rfl⟩
abbrev main_v64 : Ref sig .tc := ⟨.hbm, 97, rfl⟩
abbrev main_cst_19 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_cst_20 : Ref sig .tc := ⟨.hbm, 106, rfl⟩
abbrev main_cst_21 : Ref sig .tc := ⟨.hbm, 107, rfl⟩
abbrev main_call3_v0 : Ref sig .tc := ⟨.hbm, 108, rfl⟩
abbrev main_call3_v1 : Ref sig .tc := ⟨.hbm, 109, rfl⟩
abbrev main_call3_v2 : Ref sig .tc := ⟨.hbm, 110, rfl⟩
abbrev main_call3_v3 : Ref sig .tc := ⟨.hbm, 111, rfl⟩
abbrev main_call3_v4 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_cst_22 : Ref sig .tc := ⟨.hbm, 119, rfl⟩
abbrev main_v78 : Ref sig .tc := ⟨.hbm, 120, rfl⟩
abbrev main_cst_23 : Ref sig .tc := ⟨.hbm, 121, rfl⟩
abbrev main_v79 : Ref sig .tc := ⟨.hbm, 122, rfl⟩
abbrev main_v80 : Ref sig .tc := ⟨.hbm, 123, rfl⟩
abbrev main_cst_24 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_cst_25 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_c_26 : Ref sig .tc := ⟨.hbm, 138, rfl⟩
abbrev main_v93 : Ref sig .tc := ⟨.hbm, 139, rfl⟩
abbrev main_c_27 : Ref sig .tc := ⟨.hbm, 140, rfl⟩
abbrev main_v94 : Ref sig .tc := ⟨.hbm, 141, rfl⟩
abbrev main_v95 : Ref sig .tc := ⟨.hbm, 142, rfl⟩
abbrev main_cst_28 : Ref sig .tc := ⟨.hbm, 143, rfl⟩
abbrev main_v96 : Ref sig .tc := ⟨.hbm, 144, rfl⟩
abbrev main_v97 : Ref sig .tc := ⟨.hbm, 145, rfl⟩
abbrev main_c_29 : Ref sig .tc := ⟨.hbm, 146, rfl⟩
abbrev main_call4_v0 : Ref sig .tc := ⟨.hbm, 147, rfl⟩
abbrev main_call4_v1 : Ref sig .tc := ⟨.hbm, 148, rfl⟩
abbrev main_v98 : Ref sig .tc := ⟨.hbm, 149, rfl⟩
abbrev main_cst_30 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_cst_31 : Ref sig .tc := ⟨.hbm, 158, rfl⟩
abbrev main_cst_32 : Ref sig .tc := ⟨.hbm, 159, rfl⟩
abbrev main_call5_v0 : Ref sig .tc := ⟨.hbm, 160, rfl⟩
abbrev main_call5_v1 : Ref sig .tc := ⟨.hbm, 161, rfl⟩
abbrev main_call5_v2 : Ref sig .tc := ⟨.hbm, 162, rfl⟩
abbrev main_call5_v3 : Ref sig .tc := ⟨.hbm, 163, rfl⟩
abbrev main_call5_v4 : Ref sig .tc := ⟨.hbm, 164, rfl⟩
abbrev main_v106 : Ref sig .tc := ⟨.hbm, 165, rfl⟩
abbrev main_v107 : Ref sig .tc := ⟨.hbm, 166, rfl⟩
abbrev main_v108 : Ref sig .tc := ⟨.hbm, 167, rfl⟩
abbrev main_v109 : Ref sig .tc := ⟨.hbm, 168, rfl⟩
abbrev main_v110 : Ref sig .tc := ⟨.hbm, 169, rfl⟩
abbrev main_v111_0 : Ref sig .tc := ⟨.hbm, 170, rfl⟩
abbrev main_v111_1 : Ref sig .tc := ⟨.hbm, 171, rfl⟩
abbrev main_v111_2 : Ref sig .tc := ⟨.hbm, 172, rfl⟩
abbrev main_v111_3 : Ref sig .tc := ⟨.hbm, 173, rfl⟩
abbrev main_v111_4 : Ref sig .tc := ⟨.hbm, 174, rfl⟩
abbrev main_v111_5 : Ref sig .tc := ⟨.hbm, 175, rfl⟩
abbrev main_v111_6 : Ref sig .tc := ⟨.hbm, 176, rfl⟩
abbrev main_v111_7 : Ref sig .tc := ⟨.hbm, 177, rfl⟩
abbrev main_v111_8 : Ref sig .tc := ⟨.hbm, 178, rfl⟩
abbrev main_v112 : Ref sig .tc := ⟨.hbm, 179, rfl⟩
abbrev main_v113 : Ref sig .tc := ⟨.hbm, 180, rfl⟩
abbrev main_v114 : Ref sig .tc := ⟨.hbm, 181, rfl⟩
abbrev main_v115 : Ref sig .tc := ⟨.hbm, 182, rfl⟩
abbrev main_v116 : Ref sig .tc := ⟨.hbm, 183, rfl⟩
abbrev main_v117 : Ref sig .tc := ⟨.hbm, 184, rfl⟩
abbrev main_v118 : Ref sig .tc := ⟨.hbm, 185, rfl⟩
abbrev main_cst_33 : Ref sig .tc := ⟨.hbm, 186, rfl⟩
abbrev main_v119 : Ref sig .tc := ⟨.hbm, 187, rfl⟩
abbrev main_c_34 : Ref sig .tc := ⟨.hbm, 188, rfl⟩
abbrev main_v120 : Ref sig .tc := ⟨.hbm, 189, rfl⟩
abbrev main_v121 : Ref sig .tc := ⟨.hbm, 190, rfl⟩
abbrev main_v122 : Ref sig .tc := ⟨.hbm, 191, rfl⟩
abbrev main_v123 : Ref sig .tc := ⟨.hbm, 192, rfl⟩
abbrev main_v124 : Ref sig .tc := ⟨.hbm, 193, rfl⟩
abbrev main_v125 : Ref sig .tc := ⟨.hbm, 194, rfl⟩
abbrev main_v126 : Ref sig .tc := ⟨.hbm, 195, rfl⟩
abbrev main_v127 : Ref sig .tc := ⟨.hbm, 196, rfl⟩
abbrev main_v128 : Ref sig .tc := ⟨.hbm, 197, rfl⟩
abbrev main_v129 : Ref sig .tc := ⟨.hbm, 198, rfl⟩
abbrev main_v130 : Ref sig .tc := ⟨.hbm, 199, rfl⟩
abbrev main_v131 : Ref sig .tc := ⟨.hbm, 200, rfl⟩
abbrev main_cst_35 : Ref sig .tc := ⟨.hbm, 201, rfl⟩
abbrev main_v132 : Ref sig .tc := ⟨.hbm, 202, rfl⟩
abbrev main_c_36 : Ref sig .tc := ⟨.hbm, 203, rfl⟩
abbrev main_v133 : Ref sig .tc := ⟨.hbm, 204, rfl⟩
abbrev main_v134 : Ref sig .tc := ⟨.hbm, 205, rfl⟩
abbrev main_v135 : Ref sig .tc := ⟨.hbm, 206, rfl⟩
abbrev main_v136 : Ref sig .tc := ⟨.hbm, 207, rfl⟩
abbrev main_v137 : Ref sig .tc := ⟨.hbm, 208, rfl⟩
abbrev main_v138 : Ref sig .tc := ⟨.hbm, 209, rfl⟩
abbrev main_v139 : Ref sig .tc := ⟨.hbm, 210, rfl⟩
abbrev main_v140 : Ref sig .tc := ⟨.hbm, 211, rfl⟩
abbrev main_v141 : Ref sig .tc := ⟨.hbm, 212, rfl⟩
abbrev main_v142 : Ref sig .tc := ⟨.hbm, 213, rfl⟩
abbrev main_v143 : Ref sig .tc := ⟨.hbm, 214, rfl⟩
abbrev main_cst_37 : Ref sig .tc := ⟨.hbm, 215, rfl⟩
abbrev main_v144 : Ref sig .tc := ⟨.hbm, 216, rfl⟩
abbrev main_c_38 : Ref sig .tc := ⟨.hbm, 217, rfl⟩
abbrev main_v145 : Ref sig .tc := ⟨.hbm, 218, rfl⟩
abbrev main_v146 : Ref sig .tc := ⟨.hbm, 219, rfl⟩
abbrev main_v147 : Ref sig .tc := ⟨.hbm, 220, rfl⟩
abbrev main_v148 : Ref sig .tc := ⟨.hbm, 221, rfl⟩
abbrev main_v149 : Ref sig .tc := ⟨.hbm, 222, rfl⟩
abbrev main_v150 : Ref sig .tc := ⟨.hbm, 223, rfl⟩
abbrev main_v151 : Ref sig .tc := ⟨.hbm, 224, rfl⟩
abbrev main_v152 : Ref sig .tc := ⟨.hbm, 225, rfl⟩
abbrev main_v153 : Ref sig .tc := ⟨.hbm, 226, rfl⟩
abbrev main_v154 : Ref sig .tc := ⟨.hbm, 227, rfl⟩
abbrev main_v155 : Ref sig .tc := ⟨.hbm, 228, rfl⟩
abbrev main_v156 : Ref sig .tc := ⟨.hbm, 229, rfl⟩
abbrev main_cst_39 : Ref sig .tc := ⟨.hbm, 230, rfl⟩
abbrev main_v157 : Ref sig .tc := ⟨.hbm, 231, rfl⟩
abbrev main_v158 : Ref sig .tc := ⟨.hbm, 232, rfl⟩
abbrev main_v159 : Ref sig .tc := ⟨.hbm, 233, rfl⟩
abbrev main_v160 : Ref sig .tc := ⟨.hbm, 234, rfl⟩
abbrev main_v161 : Ref sig .tc := ⟨.hbm, 235, rfl⟩
abbrev main_v162 : Ref sig .tc := ⟨.hbm, 236, rfl⟩
abbrev main_v163 : Ref sig .tc := ⟨.hbm, 237, rfl⟩
abbrev main_v164 : Ref sig .tc := ⟨.hbm, 238, rfl⟩
abbrev main_v165 : Ref sig .tc := ⟨.hbm, 239, rfl⟩
abbrev main_cst_40 : Ref sig .tc := ⟨.hbm, 240, rfl⟩
abbrev main_call6_v0 : Ref sig .tc := ⟨.hbm, 241, rfl⟩
abbrev main_call6_v1 : Ref sig .tc := ⟨.hbm, 242, rfl⟩
abbrev main_call6_v2 : Ref sig .tc := ⟨.hbm, 243, rfl⟩
abbrev main_v166 : Ref sig .tc := ⟨.hbm, 244, rfl⟩
abbrev main_cst_41 : Ref sig .tc := ⟨.hbm, 245, rfl⟩
abbrev main_v167 : Ref sig .tc := ⟨.hbm, 246, rfl⟩
abbrev main_v168 : Ref sig .tc := ⟨.hbm, 247, rfl⟩
abbrev main_v169 : Ref sig .tc := ⟨.hbm, 248, rfl⟩
abbrev main_v170 : Ref sig .tc := ⟨.hbm, 249, rfl⟩
abbrev main_v171 : Ref sig .tc := ⟨.hbm, 250, rfl⟩
abbrev main_cst_42 : Ref sig .tc := ⟨.hbm, 251, rfl⟩
abbrev main_v172 : Ref sig .tc := ⟨.hbm, 252, rfl⟩
abbrev main_cst_43 : Ref sig .tc := ⟨.hbm, 253, rfl⟩
abbrev main_v173 : Ref sig .tc := ⟨.hbm, 254, rfl⟩
abbrev main_v174 : Ref sig .tc := ⟨.hbm, 255, rfl⟩
abbrev main_cst_44 : Ref sig .tc := ⟨.hbm, 256, rfl⟩
abbrev main_cst_45 : Ref sig .tc := ⟨.hbm, 257, rfl⟩
abbrev main_call7_v0 : Ref sig .tc := ⟨.hbm, 258, rfl⟩
abbrev main_call7_v1 : Ref sig .tc := ⟨.hbm, 259, rfl⟩
abbrev main_call7_v2 : Ref sig .tc := ⟨.hbm, 260, rfl⟩
abbrev main_call7_v3 : Ref sig .tc := ⟨.hbm, 261, rfl⟩
abbrev main_call7_v4 : Ref sig .tc := ⟨.hbm, 262, rfl⟩
abbrev main_v175 : Ref sig .tc := ⟨.hbm, 263, rfl⟩
abbrev main_v176 : Ref sig .tc := ⟨.hbm, 264, rfl⟩
abbrev main_v177 : Ref sig .tc := ⟨.hbm, 265, rfl⟩
abbrev main_cst_46 : Ref sig .tc := ⟨.hbm, 266, rfl⟩
abbrev main_v178 : Ref sig .tc := ⟨.hbm, 267, rfl⟩
abbrev main_v179 : Ref sig .tc := ⟨.hbm, 268, rfl⟩
abbrev main_v180 : Ref sig .tc := ⟨.hbm, 269, rfl⟩
abbrev main_v181 : Ref sig .tc := ⟨.hbm, 270, rfl⟩
abbrev main_v182 : Ref sig .tc := ⟨.hbm, 271, rfl⟩
abbrev main_v183 : Ref sig .tc := ⟨.hbm, 272, rfl⟩
abbrev main_v184 : Ref sig .tc := ⟨.hbm, 273, rfl⟩
abbrev main_v185 : Ref sig .tc := ⟨.hbm, 274, rfl⟩
abbrev main_v186 : Ref sig .tc := ⟨.hbm, 275, rfl⟩
abbrev main_v187 : Ref sig .tc := ⟨.hbm, 276, rfl⟩
abbrev main_v188 : Ref sig .tc := ⟨.hbm, 277, rfl⟩
abbrev main_v189 : Ref sig .tc := ⟨.hbm, 278, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := .none

abbrev stage0_0 : Fin 1 → Memref sig .tc .vmem S3x8192x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x8192x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x8192x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x8192x32x4 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x8192x8x4 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x8192x8x4 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3x8192x4096 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3x8192x1024 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S3x8192x1024 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S3x8192x4096 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S3x8192x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S3x8192x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S3x8192x32x4 .i32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S3x8192x8x4 .i32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S3x8192x8x4 .i32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
-- ==== Proof.KI.Spec.lean ====
/- What the kernel computes, by values alone: the contents of every buffer as a function of the three input blocks,
   spelt with the generated payloads. Nothing here mentions a memory. -/
module

public import proofs.«01_k».proof.Proof.Gen.KernelIdeal.Skeleton

@[expose] public section

set_option maxRecDepth 16384

noncomputable section

namespace Cert.KernelIdeal.Spec

open Idealize.ShloMosaic
open Cert.KernelIdeal.Gen

variable {F : FTy → Type} [FloatOps F] [Named F]

/-! ## Chunks and blocks -/

/-- Rows `512 k` to `512 k + 511` of a k or v block. -/
def chunk {e : EltTy} (x : Vec F S1x8192x128 e) (k : ℕ) : Vec F S1x512x128 e := fun j =>
  x (fun a => match a with
    | ⟨0, _⟩ => ⟨0, Nat.zero_lt_one⟩
    | ⟨1, _⟩ => ⟨(512 * k + (j 1).val) % 8192, Nat.mod_lt _ (by decide)⟩
    | ⟨2, _⟩ => ⟨(j 2).val, (j 2).isLt⟩)

/-- Rows `256 k` to `256 k + 255` of the dequantised keys. -/
def kBlk (x : Vec F S8192x128 .bf16) (k : ℕ) : Vec F S256x128 .bf16 := fun j =>
  x (fun a => match a with
    | ⟨0, _⟩ => ⟨(256 * k + (j 0).val) % 8192, Nat.mod_lt _ (by decide)⟩
    | ⟨1, _⟩ => ⟨(j 1).val, (j 1).isLt⟩)

/-- Columns `256 k` to `256 k + 255` of the dequantised, transposed values. -/
def vBlk (x : Vec F S128x8192 .bf16) (k : ℕ) : Vec F S128x256 .bf16 := fun j =>
  x (fun a => match a with
    | ⟨0, _⟩ => ⟨(j 0).val, (j 0).isLt⟩
    | ⟨1, _⟩ => ⟨(256 * k + (j 1).val) % 8192, Nat.mod_lt _ (by decide)⟩)

/-- Where an index of a k or v block lies in its chunk. -/
def inChunk (y : S1x8192x128.Idx) : S1x512x128.Idx := fun a => match a with
  | ⟨0, _⟩ => ⟨0, Nat.zero_lt_one⟩
  | ⟨1, _⟩ => ⟨(y 1).val % 512, Nat.mod_lt _ (by decide)⟩
  | ⟨2, _⟩ => ⟨(y 2).val, (y 2).isLt⟩

/-- Where an index of the dequantised keys lies in its chunk. -/
def inKd (y : S8192x128.Idx) : S512x128.Idx := fun a => match a with
  | ⟨0, _⟩ => ⟨(y 0).val % 512, Nat.mod_lt _ (by decide)⟩
  | ⟨1, _⟩ => ⟨(y 1).val, (y 1).isLt⟩

/-- Where an index of the transposed values lies in its chunk. -/
def inVt (y : S128x8192.Idx) : S128x512.Idx := fun a => match a with
  | ⟨0, _⟩ => ⟨(y 0).val, (y 0).isLt⟩
  | ⟨1, _⟩ => ⟨(y 1).val % 512, Nat.mod_lt _ (by decide)⟩

/-- Where an index of the scale codes lies in its chunk. -/
def inCodes (y : S1x1x4x8192.Idx) : S1x1x4x512.Idx := fun a => match a with
  | ⟨0, _⟩ => ⟨0, Nat.zero_lt_one⟩
  | ⟨1, _⟩ => ⟨0, Nat.zero_lt_one⟩
  | ⟨2, _⟩ => ⟨(y 2).val, (y 2).isLt⟩
  | ⟨3, _⟩ => ⟨(y 3).val % 512, Nat.mod_lt _ (by decide)⟩

/-! ## The keys and the values -/

/-- The running sum of the key chunks, eight rows wide, after `n` chunks. -/
def meanAcc (x : Vec F S1x8192x128 .bf16) : ℕ → FVec F S8x128 .f32
  | 0 => k0_pay26
  | n + 1 => k0_pay27 (meanAcc x n) (chunk x n)

/-- The running sum of all sixteen key chunks. -/
def mean (x : Vec F S1x8192x128 .bf16) : FVec F S8x128 .f32 := meanAcc x 16

/-- The largest scaled key per group and row, negated exponent codes and all that the key quantiser makes of one chunk:
    the codes (fp8), given the running sum `s` and the chunk `c`. -/
def kcC (s : FVec F S8x128 .f32) (c : Vec F S1x512x128 .bf16) : FVec F S1x512x128 .fp8e4m3 :=
  k0_pay11 (Scalar.ofBits .f32 0x43E00000#32)
    (k0_pay9 (k0_pay3 (k0_pay28 s) c) (k0_pay4 (k0_pay28 s) c) (k0_pay5 (k0_pay28 s) c) k0_pay6)
/-- One chunk's dequantised keys. -/
def kdC (s : FVec F S8x128 .f32) (c : Vec F S1x512x128 .bf16) : FVec F S512x128 .bf16 :=
  k0_pay12 (k0_pay8 (k0_pay4 (k0_pay28 s) c) (k0_pay5 (k0_pay28 s) c) k0_pay6) (Scalar.ofBits .f32 0x43E00000#32)
    (k0_pay9 (k0_pay3 (k0_pay28 s) c) (k0_pay4 (k0_pay28 s) c) (k0_pay5 (k0_pay28 s) c) k0_pay6)
/-- One chunk's key scale codes. -/
def ksC (s : FVec F S8x128 .f32) (c : Vec F S1x512x128 .bf16) : IVec S1x1x4x512 32 :=
  k0_pay13 (k0_pay7 (k0_pay4 (k0_pay28 s) c) (k0_pay5 (k0_pay28 s) c) k0_pay6)

/-- One chunk's value codes (fp8). -/
def vcC (c : Vec F S1x512x128 .bf16) : FVec F S1x512x128 .fp8e4m3 :=
  k0_pay25 (k0_pay14 c) (k0_pay15 c) (k0_pay19 (k0_pay15 c) k0_pay16 k0_pay17 k0_pay18) k0_pay20
/-- One chunk's dequantised values, transposed. -/
def vtC (c : Vec F S1x512x128 .bf16) : FVec F S128x512 .bf16 :=
  k0_pay29 (k0_pay23 (k0_pay14 c) (k0_pay15 c) (k0_pay19 (k0_pay15 c) k0_pay16 k0_pay17 k0_pay18) k0_pay20)
/-- One chunk's value scale codes. -/
def vsC (c : Vec F S1x512x128 .bf16) : IVec S1x1x4x512 32 :=
  k0_pay30 (k0_pay24 (k0_pay15 c) (k0_pay19 (k0_pay15 c) k0_pay16 k0_pay17 k0_pay18) k0_pay20)

/-- The key codes of the whole block. -/
def KC (x : Vec F S1x8192x128 .bf16) : Vec F S1x8192x128 .fp8e4m3 := fun y =>
  kcC (mean x) (chunk x ((y 1).val / 512)) (inChunk y)
/-- The key scale codes of the whole block. -/
def KS (x : Vec F S1x8192x128 .bf16) : Vec F S1x1x4x8192 .i32 := fun y =>
  ksC (mean x) (chunk x ((y 3).val / 512)) (inCodes y)
/-- The dequantised keys of the whole block. -/
def KD (x : Vec F S1x8192x128 .bf16) : Vec F S8192x128 .bf16 := fun y =>
  kdC (mean x) (chunk x ((y 0).val / 512)) (inKd y)
/-- The value codes of the whole block. -/
def VC (x : Vec F S1x8192x128 .bf16) : Vec F S1x8192x128 .fp8e4m3 := fun y =>
  vcC (chunk x ((y 1).val / 512)) (inChunk y)
/-- The value scale codes of the whole block. -/
def VS (x : Vec F S1x8192x128 .bf16) : Vec F S1x1x4x8192 .i32 := fun y =>
  vsC (chunk x ((y 3).val / 512)) (inCodes y)
/-- The dequantised, transposed values of the whole block. -/
def VT (x : Vec F S1x8192x128 .bf16) : Vec F S128x8192 .bf16 := fun y =>
  vtC (chunk x ((y 1).val / 512)) (inVt y)

/-! ## The queries -/

/-- The query scale exponents. -/
def qe (x : Vec F S1x256x512 .bf16) : IVec S16x1x256 32 := k0_pay36 (k0_pay32 x) (k0_pay33 x) (k0_pay34 x) (k0_pay35 x)
/-- The query scales. -/
def qsc (x : Vec F S1x256x512 .bf16) : FVec F S16x1x256 .f32 := k0_pay37 (k0_pay32 x) (k0_pay33 x) (k0_pay34 x) (k0_pay35 x)
/-- The scaled queries, clipped from above. -/
def qv (x : Vec F S1x256x512 .bf16) : FVec F S16x32x256 .f32 :=
  k0_pay38 (k0_pay31 x) (k0_pay32 x) (k0_pay33 x) (k0_pay34 x) (k0_pay35 x)
/-- The query codes. -/
def QC (x : Vec F S1x256x512 .bf16) : Vec F S1x256x512 .fp8e4m3 := k0_pay41 (qv x)
/-- The query scale codes. -/
def QS (x : Vec F S1x256x512 .bf16) : Vec F S1x1x16x256 .i32 := k0_pay42 (qe x)

/-- Where an index of the transposed queries lies in its head. -/
def inHead (y : S128x1024.Idx) : S128x256.Idx := fun a => match a with
  | ⟨0, _⟩ => ⟨(y 0).val, (y 0).isLt⟩
  | ⟨1, _⟩ => ⟨(y 1).val % 256, Nat.mod_lt _ (by decide)⟩

/-- The dequantised queries, transposed, the four heads side by side. -/
def QT (x : Vec F S1x256x512 .bf16) : Vec F S128x1024 .bf16 := fun y =>
  if (y 1).val < 256 then k0_pay43 (qsc x) (qv x) (inHead y)
  else if (y 1).val < 512 then k0_pay44 (qsc x) (qv x) (inHead y)
  else if (y 1).val < 768 then k0_pay45 (qsc x) (qv x) (inHead y)
  else k0_pay47 (k0_pay46 (qsc x) (qv x)) (inHead y)

/-! ## The attention of one query block -/

/-- The running maximum of the scores against the first `n` key blocks, eight rows wide. -/
def mAcc (kd : Vec F S8192x128 .bf16) (qt : Vec F S128x1024 .bf16) : ℕ → FVec F S8x1024 .f32
  | 0 => k0_pay48
  | n + 1 => k0_pay51 (mAcc kd qt n) (kBlk kd n) qt

/-- The masked scores of the diagonal block `i`. -/
def sDiag (kd : Vec F S8192x128 .bf16) (qt : Vec F S128x1024 .bf16) (i : ℕ) : FVec F S256x1024 .f32 :=
  k0_pay55 (kBlk kd i) qt

/-- The stored scores of key block `j ≤ i`. -/
def sBlk (kd : Vec F S8192x128 .bf16) (qt : Vec F S128x1024 .bf16) (i j : ℕ) : FVec F S256x1024 .f32 :=
  if j < i then k0_pay50 (kBlk kd j) qt else k0_pay56 (sDiag kd qt i)

/-- The running denominator and numerator after `n` key blocks. -/
def lAcc (kd : Vec F S8192x128 .bf16) (vt : Vec F S128x8192 .bf16) (qt : Vec F S128x1024 .bf16) (i : ℕ) :
    ℕ → FVec F S8x1024 .f32 × FVec F S128x1024 .f32
  | 0 => (k0_pay58, k0_pay59)
  | n + 1 =>
    (k0_pay61 (mAcc kd qt i) (sDiag kd qt i) (lAcc kd vt qt i n).1 (sBlk kd qt i n),
      k0_pay62 (mAcc kd qt i) (sDiag kd qt i) (lAcc kd vt qt i n).2 (sBlk kd qt i n) (vBlk vt n))

/-- Where an index of the attention block lies in its head. -/
def inOut (y : S1x256x512.Idx) : S1x256x128.Idx := fun a => match a with
  | ⟨0, _⟩ => ⟨0, Nat.zero_lt_one⟩
  | ⟨1, _⟩ => ⟨(y 1).val, (y 1).isLt⟩
  | ⟨2, _⟩ => ⟨(y 2).val % 128, Nat.mod_lt _ (by decide)⟩

/-- The attention block from the final denominator and numerator. -/
def outOf (l : FVec F S8x1024 .f32) (acc : FVec F S128x1024 .f32) : Vec F S1x256x512 .bf16 := fun y =>
  if (y 2).val < 128 then k0_pay67 l acc (inOut y)
  else if (y 2).val < 256 then k0_pay68 l acc (inOut y)
  else if (y 2).val < 384 then k0_pay1 (k0_pay69 l acc) (inOut y)
  else k0_pay2 (k0_pay66 l acc) (inOut y)

/-- The attention block of query block `i`. -/
def OUT (i : ℕ) (x0 : Vec F S1x256x512 .bf16) (x1 x2 : Vec F S1x8192x128 .bf16) : Vec F S1x256x512 .bf16 :=
  outOf (lAcc (KD x1) (VT x2) (QT x0) i (i + 1)).1 (lAcc (KD x1) (VT x2) (QT x0) i (i + 1)).2

end Cert.KernelIdeal.Spec

end
-- ==== Proof.KI.KV.lean ====
/- The key and value part of the body (the first query block of a head): the two counted loops over the sixteen chunks
   of 512 rows, and what they leave. -/
module

public import proofs.«01_k».proof.Proof.KI.Spec
public import proofs.«01_k».proof.Proof.Gen.KernelIdeal.Frame
public import Idealize.ShloMosaic.Lib.WritesUnit
public import Idealize.ShloMosaic.Lib.Pipeline.ValueKit.Tiles

@[expose] public section

set_option maxRecDepth 16384

noncomputable section

namespace Cert.KernelIdeal.Spec

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

-- the payloads are compared by name, never opened
attribute [local irreducible] k0_pay1 k0_pay2 k0_pay3 k0_pay4 k0_pay5 k0_pay6 k0_pay7 k0_pay8 k0_pay9 k0_pay10 k0_pay11 k0_pay12 k0_pay13 k0_pay14 k0_pay15 k0_pay16 k0_pay17 k0_pay18 k0_pay19 k0_pay20 k0_pay21 k0_pay22 k0_pay23 k0_pay24 k0_pay25 k0_pay26 k0_pay27 k0_pay28 k0_pay29 k0_pay30

/-! ## Loads and stores of one chunk -/

/-- Loading chunk `k` through its rectangle. -/
theorem ld_chunk {e : EltTy} (x : Vec F S1x8192x128 e) {off : Fin 3 → ℕ} (inb : ∀ a, off a + S1x512x128.size a ≤ S1x8192x128.size a)
    (k : ℕ) (hk : k < 16) (ho : off = ![0, 512 * k, 0]) :
    View.ld x (Rect.unit (s := S1x8192x128) off S1x512x128.size inb) = chunk x k := by
  subst ho
  funext j
  refine View.ld_unit_apply_of x _ _ inb j _ fun a => ?_
  have h1 : (j 1).val < 512 := (j 1).isLt
  have h0 : (j 0).val < 1 := (j 0).isLt
  match a with
  | ⟨0, _⟩ => show 0 = 0 + (j 0).val; omega
  | ⟨1, _⟩ => show (512 * k + (j 1).val) % 8192 = 512 * k + (j 1).val; omega
  | ⟨2, _⟩ => show (j 2).val = 0 + (j 2).val; omega

theorem trips1 : k0_t1_loop.trips = 16 := by decide +kernel
theorem trips2 : k0_t2_loop.trips = 16 := by decide +kernel

section StoreChunk

variable {sp : Space} {κ : Kind}

/-- A store of chunk `k` of a buffer shaped as a k or v block extends the rows that agree with `G`. -/
theorem store_chunk {e : EltTy} (v : View sig κ sp S1x8192x128 e) (f : v.ty.Contents (Elt F)) {off : Fin 3 → ℕ}
    (inb : ∀ a, off a + S1x512x128.size a ≤ S1x8192x128.size a) (w : S1x512x128.Idx → Elt F e) (k : ℕ)
    (ho : off = ![0, 512 * k, 0]) (G : S1x8192x128.Idx → Elt F e)
    (hw : ∀ y : S1x8192x128.Idx, (y 1).val / 512 = k → G y = w (inChunk y))
    (hf : ∀ y : S1x8192x128.Idx, (y 1).val < 512 * k → v.read (Elt F) f y = G y) :
    ∀ y : S1x8192x128.Idx, (y 1).val < 512 * (k + 1) →
      v.read (Elt F) (v.writes (Elt F) f [⟨Rect.unit (s := S1x8192x128) off S1x512x128.size inb, w⟩]) y = G y := by
  intro y hy
  by_cases h : (y 1).val < 512 * k
  · refine (View.read_writes_cons_unit_of_not_mem v f inb w [] y ho 1 (.inl ?_)).trans (hf y h)
    exact h
  · refine (View.read_writes_cons_unit_of_mem v f inb w [] y (inChunk y) ho fun a => ?_).trans (hw y (by omega)).symm
    have h0 : (y 0).val < 1 := (y 0).isLt
    match a with
    | ⟨0, _⟩ => show (y 0).val = 0 + 0; omega
    | ⟨1, _⟩ => show (y 1).val = 512 * k + (y 1).val % 512; omega
    | ⟨2, _⟩ => show (y 2).val = 0 + (y 2).val; omega

/-- The same of the dequantised keys. -/
theorem store_kd (v : View sig κ sp S8192x128 .bf16) (f : v.ty.Contents (Elt F)) {off : Fin 2 → ℕ}
    (inb : ∀ a, off a + S512x128.size a ≤ S8192x128.size a) (w : S512x128.Idx → Elt F .bf16) (k : ℕ)
    (ho : off = ![512 * k, 0]) (G : S8192x128.Idx → Elt F .bf16)
    (hw : ∀ y : S8192x128.Idx, (y 0).val / 512 = k → G y = w (inKd y))
    (hf : ∀ y : S8192x128.Idx, (y 0).val < 512 * k → v.read (Elt F) f y = G y) :
    ∀ y : S8192x128.Idx, (y 0).val < 512 * (k + 1) →
      v.read (Elt F) (v.writes (Elt F) f [⟨Rect.unit (s := S8192x128) off S512x128.size inb, w⟩]) y = G y := by
  intro y hy
  by_cases h : (y 0).val < 512 * k
  · exact (View.read_writes_cons_unit_of_not_mem v f inb w [] y ho 0 (.inl h)).trans (hf y h)
  · refine (View.read_writes_cons_unit_of_mem v f inb w [] y (inKd y) ho fun a => ?_).trans (hw y (by omega)).symm
    match a with
    | ⟨0, _⟩ => show (y 0).val = 512 * k + (y 0).val % 512; omega
    | ⟨1, _⟩ => show (y 1).val = 0 + (y 1).val; omega

/-- The same of the transposed values. -/
theorem store_vt (v : View sig κ sp S128x8192 .bf16) (f : v.ty.Contents (Elt F)) {off : Fin 2 → ℕ}
    (inb : ∀ a, off a + S128x512.size a ≤ S128x8192.size a) (w : S128x512.Idx → Elt F .bf16) (k : ℕ)
    (ho : off = ![0, 512 * k]) (G : S128x8192.Idx → Elt F .bf16)
    (hw : ∀ y : S128x8192.Idx, (y 1).val / 512 = k → G y = w (inVt y))
    (hf : ∀ y : S128x8192.Idx, (y 1).val < 512 * k → v.read (Elt F) f y = G y) :
    ∀ y : S128x8192.Idx, (y 1).val < 512 * (k + 1) →
      v.read (Elt F) (v.writes (Elt F) f [⟨Rect.unit (s := S128x8192) off S128x512.size inb, w⟩]) y = G y := by
  intro y hy
  by_cases h : (y 1).val < 512 * k
  · exact (View.read_writes_cons_unit_of_not_mem v f inb w [] y ho 1 (.inl h)).trans (hf y h)
  · refine (View.read_writes_cons_unit_of_mem v f inb w [] y (inVt y) ho fun a => ?_).trans (hw y (by omega)).symm
    match a with
    | ⟨0, _⟩ => show (y 0).val = 0 + (y 0).val; omega
    | ⟨1, _⟩ => show (y 1).val = 512 * k + (y 1).val % 512; omega

/-- The same of the scale codes. -/
theorem store_codes (v : View sig κ sp S1x1x4x8192 .i32) (f : v.ty.Contents (Elt F)) {off : Fin 4 → ℕ}
    (inb : ∀ a, off a + S1x1x4x512.size a ≤ S1x1x4x8192.size a) (w : S1x1x4x512.Idx → Elt F .i32) (k : ℕ)
    (ho : off = ![0, 0, 0, 512 * k]) (G : S1x1x4x8192.Idx → Elt F .i32)
    (hw : ∀ y : S1x1x4x8192.Idx, (y 3).val / 512 = k → G y = w (inCodes y))
    (hf : ∀ y : S1x1x4x8192.Idx, (y 3).val < 512 * k → v.read (Elt F) f y = G y) :
    ∀ y : S1x1x4x8192.Idx, (y 3).val < 512 * (k + 1) →
      v.read (Elt F) (v.writes (Elt F) f [⟨Rect.unit (s := S1x1x4x8192) off S1x1x4x512.size inb, w⟩]) y = G y := by
  intro y hy
  by_cases h : (y 3).val < 512 * k
  · exact (View.read_writes_cons_unit_of_not_mem v f inb w [] y ho 3 (.inl h)).trans (hf y h)
  · refine (View.read_writes_cons_unit_of_mem v f inb w [] y (inCodes y) ho fun a => ?_).trans (hw y (by omega)).symm
    have h0 : (y 0).val < 1 := (y 0).isLt
    have h1 : (y 1).val < 1 := (y 1).isLt
    match a with
    | ⟨0, _⟩ => show (y 0).val = 0 + 0; omega
    | ⟨1, _⟩ => show (y 1).val = 0 + 0; omega
    | ⟨2, _⟩ => show (y 2).val = 0 + (y 2).val; omega
    | ⟨3, _⟩ => show (y 3).val = 512 * k + (y 3).val % 512; omega

end StoreChunk

/-! ## The loop over the chunks -/

section Part6

variable (c : Dev nD) (i : grid0.Coords) (arg3 : Memref sig .tc .vmem S1x256x512 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x256x512 .bf16) (harg6 : arg6.IsWhole) (arg7 : Memref sig .tc .vmem S1x256x512 .fp8e4m3) (harg7 : arg7.IsWhole) (arg8 : Memref sig .tc .vmem S1x1x16x256 .i32) (harg8 : arg8.IsWhole) (arg9 : Memref sig .tc .vmem S1x8192x128 .fp8e4m3) (harg9 : arg9.IsWhole) (arg10 : Memref sig .tc .vmem S1x1x4x8192 .i32) (harg10 : arg10.IsWhole) (arg11 : Memref sig .tc .vmem S1x8192x128 .fp8e4m3) (harg11 : arg11.IsWhole) (arg12 : Memref sig .tc .vmem S1x1x4x8192 .i32) (harg12 : arg12.IsWhole) (arg13 : Memref sig .tc .vmem S8192x1024 .f32) (harg13 : arg13.IsWhole) (arg14 : Memref sig .tc .vmem S8192x128 .bf16) (harg14 : arg14.IsWhole) (arg15 : Memref sig .tc .vmem S128x8192 .bf16) (harg15 : arg15.IsWhole) (arg16 : Memref sig .tc .vmem S128x1024 .bf16) (harg16 : arg16.IsWhole)

/-- Before chunk `k`: the rows below `512 k` of the six buffers hold the block's codes, scale codes and dequantised
    keys and values. -/
def inv2 (f4 : arg4.view.ty.Contents (Elt F)) (f5 : arg5.view.ty.Contents (Elt F)) (k : ℕ) : sProp 𝕄 :=
  iprop((arg4.view.loc (c : Thread nD τ) ↦[arg4.view.set]{fullShare} f4) ∗ (arg5.view.loc (c : Thread nD τ) ↦[arg5.view.set]{fullShare} f5)
    ∗ (∃ g, (arg9.view.loc (c : Thread nD τ) ↦[arg9.view.set]{fullShare} g) ∗ ⌜∀ y : S1x8192x128.Idx, (y 1).val < 512 * k → arg9.view.read (Elt F) g y = KC (arg4.view.read (Elt F) f4) y⌝)
    ∗ (∃ g, (arg10.view.loc (c : Thread nD τ) ↦[arg10.view.set]{fullShare} g) ∗ ⌜∀ y : S1x1x4x8192.Idx, (y 3).val < 512 * k → arg10.view.read (Elt F) g y = KS (arg4.view.read (Elt F) f4) y⌝)
    ∗ (∃ g, (arg11.view.loc (c : Thread nD τ) ↦[arg11.view.set]{fullShare} g) ∗ ⌜∀ y : S1x8192x128.Idx, (y 1).val < 512 * k → arg11.view.read (Elt F) g y = VC (arg5.view.read (Elt F) f5) y⌝)
    ∗ (∃ g, (arg12.view.loc (c : Thread nD τ) ↦[arg12.view.set]{fullShare} g) ∗ ⌜∀ y : S1x1x4x8192.Idx, (y 3).val < 512 * k → arg12.view.read (Elt F) g y = VS (arg5.view.read (Elt F) f5) y⌝)
    ∗ (∃ g, (arg14.view.loc (c : Thread nD τ) ↦[arg14.view.set]{fullShare} g) ∗ ⌜∀ y : S8192x128.Idx, (y 0).val < 512 * k → arg14.view.read (Elt F) g y = KD (arg4.view.read (Elt F) f4) y⌝)
    ∗ (∃ g, (arg15.view.loc (c : Thread nD τ) ↦[arg15.view.set]{fullShare} g) ∗ ⌜∀ y : S128x8192.Idx, (y 1).val < 512 * k → arg15.view.read (Elt F) g y = VT (arg5.view.read (Elt F) f5) y⌝))

set_option backward.isDefEq.respectTransparency.types false in
set_option maxHeartbeats 1600000 in
/-- One chunk of the second loop. -/
theorem trip2 (E : Set ℕ) (h1 : k0_cond1 i = 1#1) (f4 : arg4.view.ty.Contents (Elt F)) (f5 : arg5.view.ty.Contents (Elt F))
    (k : Fin k0_t2_loop.trips) :
    inv2 (F := F) c arg4 arg5 arg9 arg10 arg11 arg12 arg14 arg15 f4 f5 k.val
      ⊢ wp frame (wpE (defs₀ (F := F)) Variants.none (c : Thread nD τ) none) E
          (k0_t2_body i arg3 harg3 arg4 harg4 arg5 harg5 arg6 harg6 arg7 harg7 arg8 harg8 arg9 harg9 arg10 harg10 arg11 harg11 arg12 harg12 arg13 harg13 arg14 harg14 arg15 harg15 arg16 harg16 h1 (mean (arg4.view.read (Elt F) f4)) k ())
          (fun _ => inv2 (F := F) c arg4 arg5 arg9 arg10 arg11 arg12 arg14 arg15 f4 f5 (k.val + 1)) := by
  have hk : k.val < 16 := trips2 ▸ k.isLt
  have e1 := ld_chunk (F := F) (arg4.view.read (Elt F) f4) (k0_off2_inb i k h1) k.val hk (k0_off2_eq k)
  have e2 := ld_chunk (F := F) (arg5.view.read (Elt F) f5) (k0_off2_inb i k h1) k.val hk (k0_off2_eq k)
  unfold inv2 k0_t2_body
  simp only [k0_part1_eq_skeleton, k0_part2_eq_skeleton, k0_part3_eq_skeleton, k0_part4_eq_skeleton, k0_part5_eq_skeleton]
  iintro ⟨H4, H5, ⟨%g9, H9, %h9⟩, ⟨%g10, H10, %h10⟩, ⟨%g11, H11, %h11⟩, ⟨%g12, H12, %h12⟩, ⟨%g14, H14, %h14⟩, ⟨%g15, H15, %h15⟩⟩
  sl_exec
  sl_step
  isplitl [H4]; · iexact H4
  isplitl [H5]; · iexact H5
  isplitl [H9]
  · iexists _; isplitl [H9]; · iexact H9
    ipureintro
    refine store_chunk arg9.view g9 (k0_off2_inb i k h1) _ k.val (k0_off2_eq k) _ (fun y hy => ?_) h9
    unfold KC; rw [hy]; rfl
  isplitl [H10]
  · iexists _; isplitl [H10]; · iexact H10
    ipureintro
    refine store_codes arg10.view g10 (k0_off4_inb i k h1) _ k.val (k0_off4_eq k) _ (fun y hy => ?_) h10
    unfold KS; rw [hy]; rfl
  isplitl [H11]
  · iexists _; isplitl [H11]; · iexact H11
    ipureintro
    refine store_chunk arg11.view g11 (k0_off2_inb i k h1) _ k.val (k0_off2_eq k) _ (fun y hy => ?_) h11
    unfold VC; rw [hy]; rfl
  isplitl [H12]
  · iexists _; isplitl [H12]; · iexact H12
    ipureintro
    refine store_codes arg12.view g12 (k0_off4_inb i k h1) _ k.val (k0_off4_eq k) _ (fun y hy => ?_) h12
    unfold VS; rw [hy]; rfl
  isplitl [H14]
  · iexists _; isplitl [H14]; · iexact H14
    ipureintro
    refine store_kd arg14.view g14 (k0_off3_inb i k h1) _ k.val (k0_off3_eq k) _ (fun y hy => ?_) h14
    unfold KD; rw [hy]; rfl
  iexists _; isplitl [H15]; · iexact H15
  ipureintro
  refine store_vt arg15.view g15 (k0_off5_inb i k h1) _ k.val (k0_off5_eq k) _ (fun y hy => ?_) h15
  unfold VT; rw [hy]; rfl

/-- Before chunk `k` of the first loop: the running sum. -/
def inv1 (f4 : arg4.view.ty.Contents (Elt F)) (k : ℕ) (acc : FVec F S8x128 .f32) : sProp 𝕄 :=
  iprop((arg4.view.loc (c : Thread nD τ) ↦[arg4.view.set]{fullShare} f4) ∗ ⌜acc = meanAcc (arg4.view.read (Elt F) f4) k⌝)

set_option backward.isDefEq.respectTransparency.types false in
set_option maxHeartbeats 1600000 in
/-- One chunk of the first loop. -/
theorem trip1 (E : Set ℕ) (h1 : k0_cond1 i = 1#1) (f4 : arg4.view.ty.Contents (Elt F)) (k : Fin k0_t1_loop.trips)
    (acc : FVec F S8x128 .f32) :
    inv1 (F := F) c arg4 f4 k.val acc
      ⊢ wp frame (wpE (defs₀ (F := F)) Variants.none (c : Thread nD τ) none) E (k0_t1_body i arg3 harg3 arg4 harg4 arg5 harg5 arg6 harg6 arg7 harg7 arg8 harg8 arg9 harg9 arg10 harg10 arg11 harg11 arg12 harg12 arg13 harg13 arg14 harg14 arg15 harg15 arg16 harg16 h1 k acc)
          (fun r => inv1 (F := F) c arg4 f4 (k.val + 1) r) := by
  have hk : k.val < 16 := trips1 ▸ k.isLt
  have e1 := ld_chunk (F := F) (arg4.view.read (Elt F) f4) (k0_off1_inb i k h1) k.val hk (k0_off1_eq k)
  unfold inv1 k0_t1_body
  iintro ⟨H4, %hacc⟩
  sl_exec
  sl_step
  isplitl [H4]; · iexact H4
  ipureintro
  rw [hacc]; rfl

/-- What the key and value part leaves: the two blocks as they were, the six buffers filled. -/
def kvPost (f4 : arg4.view.ty.Contents (Elt F)) (f5 : arg5.view.ty.Contents (Elt F)) : sProp 𝕄 :=
  iprop(∃ g9 g10 g11 g12 g14 g15, (arg4.view.loc (c : Thread nD τ) ↦[arg4.view.set]{fullShare} f4) ∗ (arg5.view.loc (c : Thread nD τ) ↦[arg5.view.set]{fullShare} f5) ∗ (arg9.view.loc (c : Thread nD τ) ↦[arg9.view.set]{fullShare} g9) ∗ (arg10.view.loc (c : Thread nD τ) ↦[arg10.view.set]{fullShare} g10) ∗ (arg11.view.loc (c : Thread nD τ) ↦[arg11.view.set]{fullShare} g11) ∗ (arg12.view.loc (c : Thread nD τ) ↦[arg12.view.set]{fullShare} g12) ∗ (arg14.view.loc (c : Thread nD τ) ↦[arg14.view.set]{fullShare} g14) ∗ (arg15.view.loc (c : Thread nD τ) ↦[arg15.view.set]{fullShare} g15)
    ∗ ⌜arg9.view.read (Elt F) g9 = KC (arg4.view.read (Elt F) f4) ∧ arg10.view.read (Elt F) g10 = KS (arg4.view.read (Elt F) f4) ∧ arg11.view.read (Elt F) g11 = VC (arg5.view.read (Elt F) f5) ∧ arg12.view.read (Elt F) g12 = VS (arg5.view.read (Elt F) f5)
        ∧ arg14.view.read (Elt F) g14 = KD (arg4.view.read (Elt F) f4) ∧ arg15.view.read (Elt F) g15 = VT (arg5.view.read (Elt F) f5)⌝)

set_option backward.isDefEq.respectTransparency.types false in
set_option maxHeartbeats 1600000 in
/-- The first part of the body: at a head's first query block it fills the six buffers, at the others it finds them
    filled; then it loads the query block. -/
theorem part6_spec (E : Set ℕ) (f3 : arg3.view.ty.Contents (Elt F)) (f4 : arg4.view.ty.Contents (Elt F))
    (f5 : arg5.view.ty.Contents (Elt F)) (g9 : arg9.view.ty.Contents (Elt F)) (g10 : arg10.view.ty.Contents (Elt F))
    (g11 : arg11.view.ty.Contents (Elt F)) (g12 : arg12.view.ty.Contents (Elt F)) (g14 : arg14.view.ty.Contents (Elt F))
    (g15 : arg15.view.ty.Contents (Elt F))
    (hpre : ¬ k0_cond1 i = 1#1 → arg9.view.read (Elt F) g9 = KC (arg4.view.read (Elt F) f4) ∧ arg10.view.read (Elt F) g10 = KS (arg4.view.read (Elt F) f4) ∧ arg11.view.read (Elt F) g11 = VC (arg5.view.read (Elt F) f5) ∧ arg12.view.read (Elt F) g12 = VS (arg5.view.read (Elt F) f5)
        ∧ arg14.view.read (Elt F) g14 = KD (arg4.view.read (Elt F) f4) ∧ arg15.view.read (Elt F) g15 = VT (arg5.view.read (Elt F) f5)) :
    iprop((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg9.view.loc (c : Thread nD τ) ↦[arg9.view.set]{fullShare} g9) ∗ (arg10.view.loc (c : Thread nD τ) ↦[arg10.view.set]{fullShare} g10) ∗ (arg11.view.loc (c : Thread nD τ) ↦[arg11.view.set]{fullShare} g11) ∗ (arg12.view.loc (c : Thread nD τ) ↦[arg12.view.set]{fullShare} g12) ∗ (arg14.view.loc (c : Thread nD τ) ↦[arg14.view.set]{fullShare} g14) ∗ (arg15.view.loc (c : Thread nD τ) ↦[arg15.view.set]{fullShare} g15))
      ⊢ wp frame (wpE (defs₀ (F := F)) Variants.none (c : Thread nD τ) none) E (k0_part6 i arg3 harg3 arg4 harg4 arg5 harg5 arg6 harg6 arg7 harg7 arg8 harg8 arg9 harg9 arg10 harg10 arg11 harg11 arg12 harg12 arg13 harg13 arg14 harg14 arg15 harg15 arg16 harg16)
          (fun r => iprop((arg3.view.loc (c : Thread nD τ) ↦[arg3.view.set]{fullShare} f3) ∗ kvPost (F := F) c arg4 arg5 arg9 arg10 arg11 arg12 arg14 arg15 f4 f5
            ∗ ⌜r = ⟨BitVec.ofNat 32 (i 2).val, k0_pay31 (arg3.view.read (Elt F) f3), k0_pay32 (arg3.view.read (Elt F) f3), k0_pay33 (arg3.view.read (Elt F) f3), k0_pay34 (arg3.view.read (Elt F) f3), k0_pay35 (arg3.view.read (Elt F) f3)⟩⌝)) := by
  have e3 : View.ld (arg3.view.read (Elt F) f3) (Rect.unit (s := S1x256x512) ![0, 0, 0] S1x256x512.size inb_S1x256x512_S1x256x512_0_0_0) = arg3.view.read (Elt F) f3 :=
    View.ld_unit_zero (by funext a; match a with | ⟨0, _⟩ => rfl | ⟨1, _⟩ => rfl | ⟨2, _⟩ => rfl) _ _
  by_cases h1 : k0_cond1 i = 1#1
  · simp only [k0_part6_eq_skeleton]
    unfold k0_part6_skel
    iintro ⟨H3, H4, H5, H9, H10, H11, H12, H14, H15⟩
    sl_exec
    sl_for (inv1 (F := F) c arg4 f4) $$ [H4]
    · exact fun k acc => trip1 c i arg3 harg3 arg4 harg4 arg5 harg5 arg6 harg6 arg7 harg7 arg8 harg8 arg9 harg9 arg10 harg10 arg11 harg11 arg12 harg12 arg13 harg13 arg14 harg14 arg15 harg15 arg16 harg16 E h1 f4 k acc
    · unfold inv1
      isplitl [H4]; · iexact H4
      ipureintro; rfl
    · iintro %acc HI
      unfold inv1
      icases HI with ⟨H4, %hacc⟩
      have hacc' : acc = mean (arg4.view.read (Elt F) f4) := hacc.trans (congrArg (meanAcc _) trips1)
      subst hacc'
      sl_exec
      sl_for (fun k _ => inv2 (F := F) c arg4 arg5 arg9 arg10 arg11 arg12 arg14 arg15 f4 f5 k) $$ [H4 H5 H9 H10 H11 H12 H14 H15]
      · exact fun k _ => trip2 c i arg3 harg3 arg4 harg4 arg5 harg5 arg6 harg6 arg7 harg7 arg8 harg8 arg9 harg9 arg10 harg10 arg11 harg11 arg12 harg12 arg13 harg13 arg14 harg14 arg15 harg15 arg16 harg16 E h1 f4 f5 k
      · unfold inv2
        isplitl [H4]; · iexact H4
        isplitl [H5]; · iexact H5
        isplitl [H9]
        · iexists g9; isplitl [H9]; · iexact H9
          ipureintro; exact fun y h => absurd h (Nat.not_lt_zero _)
        isplitl [H10]
        · iexists g10; isplitl [H10]; · iexact H10
          ipureintro; exact fun y h => absurd h (Nat.not_lt_zero _)
        isplitl [H11]
        · iexists g11; isplitl [H11]; · iexact H11
          ipureintro; exact fun y h => absurd h (Nat.not_lt_zero _)
        isplitl [H12]
        · iexists g12; isplitl [H12]; · iexact H12
          ipureintro; exact fun y h => absurd h (Nat.not_lt_zero _)
        isplitl [H14]
        · iexists g14; isplitl [H14]; · iexact H14
          ipureintro; exact fun y h => absurd h (Nat.not_lt_zero _)
        iexists g15; isplitl [H15]; · iexact H15
        ipureintro; exact fun y h => absurd h (Nat.not_lt_zero _)
      · iintro %acc2 HI
        unfold inv2
        icases HI with ⟨H4, H5, ⟨%k9, H9, %h9⟩, ⟨%k10, H10, %h10⟩, ⟨%k11, H11, %h11⟩, ⟨%k12, H12, %h12⟩, ⟨%k14, H14, %h14⟩, ⟨%k15, H15, %h15⟩⟩
        sl_exec
        sl_step
        isplitl [H3]; · iexact H3
        isplitl [H4 H5 H9 H10 H11 H12 H14 H15]
        · unfold kvPost
          iexists k9, k10, k11, k12, k14, k15
          iframe
          ipureintro
          have ht : ∀ n, n < 8192 → n < 512 * k0_t2_loop.trips := fun n hn => by rw [trips2]; omega
          exact ⟨funext fun y => h9 y (ht _ (y 1).isLt), funext fun y => h10 y (ht _ (y 3).isLt), funext fun y => h11 y (ht _ (y 1).isLt),
            funext fun y => h12 y (ht _ (y 3).isLt), funext fun y => h14 y (ht _ (y 0).isLt), funext fun y => h15 y (ht _ (y 1).isLt)⟩
        · ipureintro; rfl
  · simp only [k0_part6_eq_skeleton]
    unfold k0_part6_skel
    iintro ⟨H3, H4, H5, H9, H10, H11, H12, H14, H15⟩
    sl_exec
    sl_step
    isplitl [H3]; · iexact H3
    isplitl [H4 H5 H9 H10 H11 H12 H14 H15]
    · unfold kvPost
      iexists g9, g10, g11, g12, g14, g15
      iframe
      ipureintro
      exact hpre h1
    · ipureintro; rfl

end Part6

end Cert.KernelIdeal.Spec

end
-- ==== Proof.KI.Blocks.lean ====
/- Loads and stores of one block of the attention part, and the loops' trip counts. -/
module

public import proofs.«01_k».proof.Proof.KI.KV

@[expose] public section

set_option maxRecDepth 16384

noncomputable section

namespace Cert.KernelIdeal.Spec

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

-- the payloads are compared by name, never opened
attribute [local irreducible] k0_pay1 k0_pay2 k0_pay3 k0_pay4 k0_pay5 k0_pay6 k0_pay7 k0_pay8 k0_pay9 k0_pay10 k0_pay11 k0_pay12 k0_pay13 k0_pay14 k0_pay15 k0_pay16 k0_pay17 k0_pay18 k0_pay19 k0_pay20 k0_pay21 k0_pay22 k0_pay23 k0_pay24 k0_pay25 k0_pay26 k0_pay27 k0_pay28 k0_pay29 k0_pay30 k0_pay31 k0_pay32 k0_pay33 k0_pay34 k0_pay35 k0_pay36 k0_pay37 k0_pay38 k0_pay39 k0_pay40 k0_pay41 k0_pay42 k0_pay43 k0_pay44 k0_pay45 k0_pay46 k0_pay47 k0_pay48 k0_pay49 k0_pay50 k0_pay51 k0_pay52 k0_pay53 k0_pay54 k0_pay55 k0_pay56 k0_pay57 k0_pay58 k0_pay59 k0_pay60 k0_pay61 k0_pay62 k0_pay63 k0_pay64 k0_pay65 k0_pay66 k0_pay67 k0_pay68 k0_pay69

/-! ## Loads and stores of one block -/

/-- Loading key block `k` through its rectangle. -/
theorem ld_kBlk (x : Vec F S8192x128 .bf16) {off : Fin 2 → ℕ} (inb : ∀ a, off a + S256x128.size a ≤ S8192x128.size a)
    (k : ℕ) (hk : k < 32) (ho : off = ![256 * k, 0]) :
    View.ld x (Rect.unit (s := S8192x128) off S256x128.size inb) = kBlk x k := by
  subst ho
  funext j
  refine View.ld_unit_apply_of x _ _ inb j _ fun a => ?_
  have h0 : (j 0).val < 256 := (j 0).isLt
  match a with
  | ⟨0, _⟩ => show (256 * k + (j 0).val) % 8192 = 256 * k + (j 0).val; omega
  | ⟨1, _⟩ => show (j 1).val = 0 + (j 1).val; omega

/-- Loading value block `k` through its rectangle. -/
theorem ld_vBlk (x : Vec F S128x8192 .bf16) {off : Fin 2 → ℕ} (inb : ∀ a, off a + S128x256.size a ≤ S128x8192.size a)
    (k : ℕ) (hk : k < 32) (ho : off = ![0, 256 * k]) :
    View.ld x (Rect.unit (s := S128x8192) off S128x256.size inb) = vBlk x k := by
  subst ho
  funext j
  refine View.ld_unit_apply_of x _ _ inb j _ fun a => ?_
  have h0 : (j 1).val < 256 := (j 1).isLt
  match a with
  | ⟨0, _⟩ => show (j 0).val = 0 + (j 0).val; omega
  | ⟨1, _⟩ => show (256 * k + (j 1).val) % 8192 = 256 * k + (j 1).val; omega

/-- Where an index of the scores lies in its block. -/
def inS (y : S8192x1024.Idx) : S256x1024.Idx := fun a => match a with
  | ⟨0, _⟩ => ⟨(y 0).val % 256, Nat.mod_lt _ (by decide)⟩
  | ⟨1, _⟩ => ⟨(y 1).val, (y 1).isLt⟩

/-- Loading score block `k`, whose rows agree with a family of blocks, through its rectangle. -/
theorem ld_sBlk (x : Vec F S8192x1024 .f32) {off : Fin 2 → ℕ} (inb : ∀ a, off a + S256x1024.size a ≤ S8192x1024.size a)
    (k : ℕ) (hk : k < 32) (ho : off = ![256 * k, 0]) (G : ℕ → FVec F S256x1024 .f32) (n : ℕ) (hn : k < n)
    (hx : ∀ y : S8192x1024.Idx, (y 0).val < 256 * n → x y = G ((y 0).val / 256) (inS y)) :
    View.ld x (Rect.unit (s := S8192x1024) off S256x1024.size inb) = G k := by
  subst ho
  funext j
  have h0 : (j 0).val < 256 := (j 0).isLt
  have hlt : 256 * k + (j 0).val < 8192 := by omega
  let y : S8192x1024.Idx := fun a => match a with
    | ⟨0, _⟩ => ⟨256 * k + (j 0).val, hlt⟩
    | ⟨1, _⟩ => ⟨(j 1).val, (j 1).isLt⟩
  refine (View.ld_unit_apply_of x _ _ inb j y fun a => ?_).trans ((hx y ?_).trans ?_)
  · match a with
    | ⟨0, _⟩ => rfl
    | ⟨1, _⟩ => show (j 1).val = 0 + (j 1).val; omega
  · show 256 * k + (j 0).val < 256 * n; omega
  · have e1 : (y 0).val / 256 = k := by show (256 * k + (j 0).val) / 256 = k; omega
    have e2 : inS y = j := by
      funext a
      apply Fin.ext
      match a with
      | ⟨0, _⟩ => show (256 * k + (j 0).val) % 256 = (j 0).val; omega
      | ⟨1, _⟩ => rfl
    rw [e1, e2]

section Store

variable {sp : Space} {κ : Kind}

/-- A store of score block `k` extends the rows that agree with a family of blocks. -/
theorem store_s (v : View sig κ sp S8192x1024 .f32) (f : v.ty.Contents (Elt F)) {off : Fin 2 → ℕ}
    (inb : ∀ a, off a + S256x1024.size a ≤ S8192x1024.size a) (w : S256x1024.Idx → Elt F .f32) (k : ℕ)
    (ho : off = ![256 * k, 0]) (G G' : ℕ → FVec F S256x1024 .f32) (hw : G' k = w) (hG : ∀ j, j < k → G' j = G j)
    (hf : ∀ y : S8192x1024.Idx, (y 0).val < 256 * k → v.read (Elt F) f y = G ((y 0).val / 256) (inS y)) :
    ∀ y : S8192x1024.Idx, (y 0).val < 256 * (k + 1) →
      v.read (Elt F) (v.writes (Elt F) f [⟨Rect.unit (s := S8192x1024) off S256x1024.size inb, w⟩]) y
        = G' ((y 0).val / 256) (inS y) := by
  intro y hy
  by_cases h : (y 0).val < 256 * k
  · refine (View.read_writes_cons_unit_of_not_mem v f inb w [] y ho 0 (.inl h)).trans ((hf y h).trans ?_)
    rw [hG _ (by omega)]
  · have hk : (y 0).val / 256 = k := by omega
    rw [hk, hw]
    refine (View.read_writes_cons_unit_of_mem v f inb w [] y (inS y) ho fun a => ?_)
    match a with
    | ⟨0, _⟩ => show (y 0).val = 256 * k + (y 0).val % 256; omega
    | ⟨1, _⟩ => show (y 1).val = 0 + (y 1).val; omega

/-- The four heads' stores of the transposed queries leave them side by side. -/
theorem read_qt (v : View sig κ sp S128x1024 .bf16) (f : v.ty.Contents (Elt F))
    (i0 : ∀ a, (![0, 0] : Fin 2 → ℕ) a + S128x256.size a ≤ S128x1024.size a)
    (i1 : ∀ a, (![0, 256] : Fin 2 → ℕ) a + S128x256.size a ≤ S128x1024.size a)
    (i2 : ∀ a, (![0, 512] : Fin 2 → ℕ) a + S128x256.size a ≤ S128x1024.size a)
    (i3 : ∀ a, (![0, 768] : Fin 2 → ℕ) a + S128x256.size a ≤ S128x1024.size a)
    (w0 w1 w2 w3 : S128x256.Idx → Elt F .bf16) :
    v.read (Elt F) (v.writes (Elt F) f [⟨Rect.unit (s := S128x1024) ![0, 768] S128x256.size i3, w3⟩,
        ⟨Rect.unit (s := S128x1024) ![0, 512] S128x256.size i2, w2⟩, ⟨Rect.unit (s := S128x1024) ![0, 256] S128x256.size i1, w1⟩,
        ⟨Rect.unit (s := S128x1024) ![0, 0] S128x256.size i0, w0⟩])
      = fun y => if (y 1).val < 256 then w0 (inHead y) else if (y 1).val < 512 then w1 (inHead y)
          else if (y 1).val < 768 then w2 (inHead y) else w3 (inHead y) := by
  funext y
  have hy : (y 1).val < 1024 := (y 1).isLt
  have key : ∀ o : ℕ, o % 256 = 0 → o ≤ (y 1).val → (y 1).val < o + 256 →
      ∀ a, (y a).val = (![0, o] : Fin 2 → ℕ) a + (inHead y a).val := fun o ho h1 h2 a => by
    match a with
    | ⟨0, _⟩ => show (y 0).val = 0 + (y 0).val; omega
    | ⟨1, _⟩ => show (y 1).val = o + (y 1).val % 256; omega
  by_cases h0 : (y 1).val < 256
  · rw [if_pos h0]
    refine (View.read_writes_cons_unit_of_not_mem v f i3 w3 _ y rfl 1 (.inl ?_)).trans ?_
    · show (y 1).val < 768; omega
    refine (View.read_writes_cons_unit_of_not_mem v f i2 w2 _ y rfl 1 (.inl ?_)).trans ?_
    · show (y 1).val < 512; omega
    refine (View.read_writes_cons_unit_of_not_mem v f i1 w1 _ y rfl 1 (.inl h0)).trans ?_
    exact View.read_writes_cons_unit_of_mem v f i0 w0 _ y (inHead y) rfl (key 0 rfl (by omega) (by omega))
  rw [if_neg h0]
  by_cases h1 : (y 1).val < 512
  · rw [if_pos h1]
    refine (View.read_writes_cons_unit_of_not_mem v f i3 w3 _ y rfl 1 (.inl ?_)).trans ?_
    · show (y 1).val < 768; omega
    refine (View.read_writes_cons_unit_of_not_mem v f i2 w2 _ y rfl 1 (.inl h1)).trans ?_
    exact View.read_writes_cons_unit_of_mem v f i1 w1 _ y (inHead y) rfl (key 256 rfl (by omega) (by omega))
  rw [if_neg h1]
  by_cases h2 : (y 1).val < 768
  · rw [if_pos h2]
    refine (View.read_writes_cons_unit_of_not_mem v f i3 w3 _ y rfl 1 (.inl h2)).trans ?_
    exact View.read_writes_cons_unit_of_mem v f i2 w2 _ y (inHead y) rfl (key 512 rfl (by omega) (by omega))
  rw [if_neg h2]
  exact View.read_writes_cons_unit_of_mem v f i3 w3 _ y (inHead y) rfl (key 768 rfl (by omega) (by omega))

/-- The four heads' stores of the attention block leave them side by side. -/
theorem read_out (v : View sig κ sp S1x256x512 .bf16) (f : v.ty.Contents (Elt F))
    (i0 : ∀ a, (![0, 0, 0] : Fin 3 → ℕ) a + S1x256x128.size a ≤ S1x256x512.size a)
    (i1 : ∀ a, (![0, 0, 128] : Fin 3 → ℕ) a + S1x256x128.size a ≤ S1x256x512.size a)
    (i2 : ∀ a, (![0, 0, 256] : Fin 3 → ℕ) a + S1x256x128.size a ≤ S1x256x512.size a)
    (i3 : ∀ a, (![0, 0, 384] : Fin 3 → ℕ) a + S1x256x128.size a ≤ S1x256x512.size a)
    (w0 w1 w2 w3 : S1x256x128.Idx → Elt F .bf16) :
    v.read (Elt F) (v.writes (Elt F) f [⟨Rect.unit (s := S1x256x512) ![0, 0, 384] S1x256x128.size i3, w3⟩,
        ⟨Rect.unit (s := S1x256x512) ![0, 0, 256] S1x256x128.size i2, w2⟩,
        ⟨Rect.unit (s := S1x256x512) ![0, 0, 128] S1x256x128.size i1, w1⟩,
        ⟨Rect.unit (s := S1x256x512) ![0, 0, 0] S1x256x128.size i0, w0⟩])
      = fun y => if (y 2).val < 128 then w0 (inOut y) else if (y 2).val < 256 then w1 (inOut y)
          else if (y 2).val < 384 then w2 (inOut y) else w3 (inOut y) := by
  funext y
  have hy : (y 2).val < 512 := (y 2).isLt
  have hy0 : (y 0).val < 1 := (y 0).isLt
  have key : ∀ o : ℕ, o % 128 = 0 → o ≤ (y 2).val → (y 2).val < o + 128 →
      ∀ a, (y a).val = (![0, 0, o] : Fin 3 → ℕ) a + (inOut y a).val := fun o ho h1 h2 a => by
    match a with
    | ⟨0, _⟩ => show (y 0).val = 0 + 0; omega
    | ⟨1, _⟩ => show (y 1).val = 0 + (y 1).val; omega
    | ⟨2, _⟩ => show (y 2).val = o + (y 2).val % 128; omega
  by_cases h0 : (y 2).val < 128
  · rw [if_pos h0]
    refine (View.read_writes_cons_unit_of_not_mem v f i3 w3 _ y rfl 2 (.inl ?_)).trans ?_
    · show (y 2).val < 384; omega
    refine (View.read_writes_cons_unit_of_not_mem v f i2 w2 _ y rfl 2 (.inl ?_)).trans ?_
    · show (y 2).val < 256; omega
    refine (View.read_writes_cons_unit_of_not_mem v f i1 w1 _ y rfl 2 (.inl h0)).trans ?_
    exact View.read_writes_cons_unit_of_mem v f i0 w0 _ y (inOut y) rfl (key 0 rfl (by omega) (by omega))
  rw [if_neg h0]
  by_cases h1 : (y 2).val < 256
  · rw [if_pos h1]
    refine (View.read_writes_cons_unit_of_not_mem v f i3 w3 _ y rfl 2 (.inl ?_)).trans ?_
    · show (y 2).val < 384; omega
    refine (View.read_writes_cons_unit_of_not_mem v f i2 w2 _ y rfl 2 (.inl h1)).trans ?_
    exact View.read_writes_cons_unit_of_mem v f i1 w1 _ y (inOut y) rfl (key 128 rfl (by omega) (by omega))
  rw [if_neg h1]
  by_cases h2 : (y 2).val < 384
  · rw [if_pos h2]
    refine (View.read_writes_cons_unit_of_not_mem v f i3 w3 _ y rfl 2 (.inl h2)).trans ?_
    exact View.read_writes_cons_unit_of_mem v f i2 w2 _ y (inOut y) rfl (key 256 rfl (by omega) (by omega))
  rw [if_neg h2]
  exact View.read_writes_cons_unit_of_mem v f i3 w3 _ y (inOut y) rfl (key 384 rfl (by omega) (by omega))

/-- A store of a whole buffer leaves what it stored. -/
theorem read_whole {s : Shape} {e : EltTy} (v : View sig κ sp s e) (f : v.ty.Contents (Elt F)) {off : Fin s.rank → ℕ}
    (ho : off = fun _ => 0) (inb : ∀ a, off a + s.size a ≤ s.size a) (w : s.Idx → Elt F e) :
    v.read (Elt F) (v.writes (Elt F) f [⟨Rect.unit (s := s) off s.size inb, w⟩]) = w := by
  funext y
  exact View.read_writes_cons_unit_of_mem v f inb w [] y y ho fun a => (Nat.zero_add _).symm

end Store

/-! ## Trip counts -/

theorem trips3 (i : grid0.Coords) : (k0_t3_loop i).trips = (i 2).val := by
  have h : ∀ n : Fin 32, Scf.trips 0#32 (Scalar.addi 0#32 (Scalar.muli (Scalar.divsi (Scalar.subi (BitVec.ofNat 32 n.val) 0#32) 1#32) 1#32)) 1#32 = n.val := by
    decide +kernel
  exact h (i 2)
theorem trips5 (i : grid0.Coords) : (k0_t5_loop i).trips = (i 2).val + 1 := by
  have h : ∀ n : Fin 32, Scf.trips 0#32 (Scalar.addi 0#32 (Scalar.muli (Scalar.divsi (Scalar.subi (Scalar.addi (BitVec.ofNat 32 n.val) 1#32) 0#32) 1#32) 1#32)) 1#32 = n.val + 1 := by
    decide +kernel
  exact h (i 2)
theorem trips4 (i : grid0.Coords) : (k0_t4_loop i).trips = 0 := Nat.le_zero.mp (k0_t4_abs i).2.1
theorem trips6 (i : grid0.Coords) : (k0_t6_loop i).trips = 0 := Nat.le_zero.mp (k0_t6_abs i).2.1

end Cert.KernelIdeal.Spec

end
-- ==== Proof.KI.Trips.lean ====
/- The two counted loops over the key blocks: the scores and the softmax sums. -/
module

public import proofs.«01_k».proof.Proof.KI.Blocks

@[expose] public section

set_option maxRecDepth 16384

noncomputable section

namespace Cert.KernelIdeal.Spec

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

-- the payloads are compared by name, never opened
attribute [local irreducible] k0_pay1 k0_pay2 k0_pay3 k0_pay4 k0_pay5 k0_pay6 k0_pay7 k0_pay8 k0_pay9 k0_pay10 k0_pay11 k0_pay12 k0_pay13 k0_pay14 k0_pay15 k0_pay16 k0_pay17 k0_pay18 k0_pay19 k0_pay20 k0_pay21 k0_pay22 k0_pay23 k0_pay24 k0_pay25 k0_pay26 k0_pay27 k0_pay28 k0_pay29 k0_pay30 k0_pay31 k0_pay32 k0_pay33 k0_pay34 k0_pay35 k0_pay36 k0_pay37 k0_pay38 k0_pay39 k0_pay40 k0_pay41 k0_pay42 k0_pay43 k0_pay44 k0_pay45 k0_pay46 k0_pay47 k0_pay48 k0_pay49 k0_pay50 k0_pay51 k0_pay52 k0_pay53 k0_pay54 k0_pay55 k0_pay56 k0_pay57 k0_pay58 k0_pay59 k0_pay60 k0_pay61 k0_pay62 k0_pay63 k0_pay64 k0_pay65 k0_pay66 k0_pay67 k0_pay68 k0_pay69

section Body

variable (c : Dev nD) (i : grid0.Coords) (arg3 : Memref sig .tc .vmem S1x256x512 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x256x512 .bf16) (harg6 : arg6.IsWhole) (arg7 : Memref sig .tc .vmem S1x256x512 .fp8e4m3) (harg7 : arg7.IsWhole) (arg8 : Memref sig .tc .vmem S1x1x16x256 .i32) (harg8 : arg8.IsWhole) (arg9 : Memref sig .tc .vmem S1x8192x128 .fp8e4m3) (harg9 : arg9.IsWhole) (arg10 : Memref sig .tc .vmem S1x1x4x8192 .i32) (harg10 : arg10.IsWhole) (arg11 : Memref sig .tc .vmem S1x8192x128 .fp8e4m3) (harg11 : arg11.IsWhole) (arg12 : Memref sig .tc .vmem S1x1x4x8192 .i32) (harg12 : arg12.IsWhole) (arg13 : Memref sig .tc .vmem S8192x1024 .f32) (harg13 : arg13.IsWhole) (arg14 : Memref sig .tc .vmem S8192x128 .bf16) (harg14 : arg14.IsWhole) (arg15 : Memref sig .tc .vmem S128x8192 .bf16) (harg15 : arg15.IsWhole) (arg16 : Memref sig .tc .vmem S128x1024 .bf16) (harg16 : arg16.IsWhole)

/-- Before key block `k`: the score rows below `256 k` hold the blocks' scores, and the running maximum. -/
def inv3 (kd : Vec F S8192x128 .bf16) (qt : Vec F S128x1024 .bf16) (k : ℕ) (acc : FVec F S8x1024 .f32) : sProp 𝕄 :=
  iprop((∃ g, (arg14.view.loc (c : Thread nD τ) ↦[arg14.view.set]{fullShare} g) ∗ ⌜arg14.view.read (Elt F) g = kd⌝) ∗ (∃ g, (arg16.view.loc (c : Thread nD τ) ↦[arg16.view.set]{fullShare} g) ∗ ⌜arg16.view.read (Elt F) g = qt⌝)
    ∗ (∃ g, (arg13.view.loc (c : Thread nD τ) ↦[arg13.view.set]{fullShare} g) ∗ ⌜∀ y : S8192x1024.Idx, (y 0).val < 256 * k → arg13.view.read (Elt F) g y = (fun j => k0_pay50 (kBlk kd j) qt) ((y 0).val / 256) (inS y)⌝)
    ∗ ⌜acc = mAcc kd qt k⌝)

theorem whole16 (x : Vec F S128x1024 .bf16) : View.ld x (Rect.unit (s := S128x1024) ![0, 0] S128x1024.size inb_S128x1024_S128x1024_0_0) = x :=
  View.ld_unit_zero (by funext a; match a with | ⟨0, _⟩ => rfl | ⟨1, _⟩ => rfl) _ _

set_option backward.isDefEq.respectTransparency.types false in
set_option maxHeartbeats 400000 in
/-- One key block of the score loop. -/
theorem trip3 (E : Set ℕ) (kd : Vec F S8192x128 .bf16) (qt : Vec F S128x1024 .bf16) (u : BitVec 32) (v121 : FVec F S128x256 .bf16)
    (v122 : Vec F S128x256 .bf16) (k : Fin (k0_t3_loop i).trips) (acc : FVec F S8x1024 .f32) :
    inv3 (F := F) c arg13 arg14 arg16 kd qt k.val acc
      ⊢ wp frame (wpE (defs₀ (F := F)) Variants.none (c : Thread nD τ) none) E (k0_t3_body i arg3 harg3 arg4 harg4 arg5 harg5 arg6 harg6 arg7 harg7 arg8 harg8 arg9 harg9 arg10 harg10 arg11 harg11 arg12 harg12 arg13 harg13 arg14 harg14 arg15 harg15 arg16 harg16 u v121 v122 k acc)
          (fun r => inv3 (F := F) c arg13 arg14 arg16 kd qt (k.val + 1) r) := by
  have hi : (i 2).val < 32 := (i 2).isLt
  have hk : k.val < 32 := lt_trans (lt_of_lt_of_eq k.isLt (trips3 i)) hi
  unfold inv3 k0_t3_body
  iintro ⟨⟨%g14, H14, %e14⟩, ⟨%g16, H16, %e16⟩, ⟨%g13, H13, %h13⟩, %hacc⟩
  subst e14 e16 hacc
  have e1 := ld_kBlk (F := F) (arg14.view.read (Elt F) g14) (k0_off6_inb i k) k.val hk (k0_off6_eq i k)
  have e2 := whole16 (F := F) (arg16.view.read (Elt F) g16)
  sl_exec
  sl_step
  isplitl [H14]
  · iexists g14; isplitl [H14]; · iexact H14
    ipureintro; rfl
  isplitl [H16]
  · iexists g16; isplitl [H16]; · iexact H16
    ipureintro; rfl
  isplitl [H13]
  · iexists _; isplitl [H13]; · iexact H13
    ipureintro
    refine store_s arg13.view g13 (k0_off7_inb i k) _ k.val (k0_off7_eq i k) (fun j => k0_pay50 (kBlk (arg14.view.read (Elt F) g14) j) (arg16.view.read (Elt F) g16)) (fun j => k0_pay50 (kBlk (arg14.view.read (Elt F) g14) j) (arg16.view.read (Elt F) g16)) ?_ (fun _ _ => rfl) h13
    exact rfl
  ipureintro; rfl

/-- Before key block `k` of the softmax loop: the sums so far. -/
def inv5 (kd : Vec F S8192x128 .bf16) (vt : Vec F S128x8192 .bf16) (qt : Vec F S128x1024 .bf16)
    (g13 : arg13.view.ty.Contents (Elt F)) (g15 : arg15.view.ty.Contents (Elt F)) (k : ℕ)
    (acc : FVec F S8x1024 .f32 × FVec F S128x1024 .f32) : sProp 𝕄 :=
  iprop((arg13.view.loc (c : Thread nD τ) ↦[arg13.view.set]{fullShare} g13) ∗ (arg15.view.loc (c : Thread nD τ) ↦[arg15.view.set]{fullShare} g15) ∗ ⌜acc = lAcc kd vt qt (i 2).val k⌝)

set_option backward.isDefEq.respectTransparency.types false in
set_option maxHeartbeats 400000 in
/-- One key block of the softmax loop. -/
theorem trip5 (E : Set ℕ) (kd : Vec F S8192x128 .bf16) (qt : Vec F S128x1024 .bf16)
    (g13 : arg13.view.ty.Contents (Elt F)) (g15 : arg15.view.ty.Contents (Elt F))
    (h13 : ∀ y : S8192x1024.Idx, (y 0).val < 256 * ((i 2).val + 1) → arg13.view.read (Elt F) g13 y = sBlk kd qt (i 2).val ((y 0).val / 256) (inS y))
    (u : BitVec 32) (v132 : FVec F S8x1024 .f32) (hm : v132 = mAcc kd qt (i 2).val) (v158 : FVec F S256x1024 .f32)
    (hs : v158 = sDiag kd qt (i 2).val) (k : Fin (k0_t5_loop i).trips) (acc : FVec F S8x1024 .f32 × FVec F S128x1024 .f32) :
    inv5 (F := F) c i arg13 arg15 kd (arg15.view.read (Elt F) g15) qt g13 g15 k.val acc
      ⊢ wp frame (wpE (defs₀ (F := F)) Variants.none (c : Thread nD τ) none) E
          (k0_t5_body i arg3 harg3 arg4 harg4 arg5 harg5 arg6 harg6 arg7 harg7 arg8 harg8 arg9 harg9 arg10 harg10 arg11 harg11 arg12 harg12 arg13 harg13 arg14 harg14 arg15 harg15 arg16 harg16 u v132 v158 k acc)
          (fun r => inv5 (F := F) c i arg13 arg15 kd (arg15.view.read (Elt F) g15) qt g13 g15 (k.val + 1) r) := by
  have hi : (i 2).val < 32 := (i 2).isLt
  have hk : k.val < (i 2).val + 1 := lt_of_lt_of_eq k.isLt (trips5 i)
  have e1 := ld_sBlk (F := F) (arg13.view.read (Elt F) g13) (k0_off12_inb i k) k.val (by omega) (k0_off12_eq i k) (sBlk kd qt (i 2).val) _ hk h13
  have e2 := ld_vBlk (F := F) (arg15.view.read (Elt F) g15) (k0_off13_inb i k) k.val (by omega) (k0_off13_eq i k)
  unfold inv5 k0_t5_body
  iintro ⟨H13, H15, %hacc⟩
  subst hacc hm hs
  sl_exec
  sl_step
  isplitl [H13]; · iexact H13
  isplitl [H15]; · iexact H15
  ipureintro; rfl

end Body

end Cert.KernelIdeal.Spec

end
-- ==== Proof.KI.Body.lean ====
/- The whole body: the query block, the scores against the key blocks up to the diagonal, the softmax sums and
   the attention block; and what the whole body leaves. -/
module

public import proofs.«01_k».proof.Proof.KI.Trips

@[expose] public section

set_option maxRecDepth 16384

noncomputable section

namespace Cert.KernelIdeal.Spec

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

-- the payloads are compared by name, never opened
attribute [local irreducible] k0_pay1 k0_pay2 k0_pay3 k0_pay4 k0_pay5 k0_pay6 k0_pay7 k0_pay8 k0_pay9 k0_pay10 k0_pay11 k0_pay12 k0_pay13 k0_pay14 k0_pay15 k0_pay16 k0_pay17 k0_pay18 k0_pay19 k0_pay20 k0_pay21 k0_pay22 k0_pay23 k0_pay24 k0_pay25 k0_pay26 k0_pay27 k0_pay28 k0_pay29 k0_pay30 k0_pay31 k0_pay32 k0_pay33 k0_pay34 k0_pay35 k0_pay36 k0_pay37 k0_pay38 k0_pay39 k0_pay40 k0_pay41 k0_pay42 k0_pay43 k0_pay44 k0_pay45 k0_pay46 k0_pay47 k0_pay48 k0_pay49 k0_pay50 k0_pay51 k0_pay52 k0_pay53 k0_pay54 k0_pay55 k0_pay56 k0_pay57 k0_pay58 k0_pay59 k0_pay60 k0_pay61 k0_pay62 k0_pay63 k0_pay64 k0_pay65 k0_pay66 k0_pay67 k0_pay68 k0_pay69

section Body

variable (c : Dev nD) (i : grid0.Coords) (arg3 : Memref sig .tc .vmem S1x256x512 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x256x512 .bf16) (harg6 : arg6.IsWhole) (arg7 : Memref sig .tc .vmem S1x256x512 .fp8e4m3) (harg7 : arg7.IsWhole) (arg8 : Memref sig .tc .vmem S1x1x16x256 .i32) (harg8 : arg8.IsWhole) (arg9 : Memref sig .tc .vmem S1x8192x128 .fp8e4m3) (harg9 : arg9.IsWhole) (arg10 : Memref sig .tc .vmem S1x1x4x8192 .i32) (harg10 : arg10.IsWhole) (arg11 : Memref sig .tc .vmem S1x8192x128 .fp8e4m3) (harg11 : arg11.IsWhole) (arg12 : Memref sig .tc .vmem S1x1x4x8192 .i32) (harg12 : arg12.IsWhole) (arg13 : Memref sig .tc .vmem S8192x1024 .f32) (harg13 : arg13.IsWhole) (arg14 : Memref sig .tc .vmem S8192x128 .bf16) (harg14 : arg14.IsWhole) (arg15 : Memref sig .tc .vmem S128x8192 .bf16) (harg15 : arg15.IsWhole) (arg16 : Memref sig .tc .vmem S128x1024 .bf16) (harg16 : arg16.IsWhole)

theorem zero3 : (![0, 0, 0] : Fin 3 → ℕ) = fun _ => 0 := by
  funext a; match a with | ⟨0, _⟩ => rfl | ⟨1, _⟩ => rfl | ⟨2, _⟩ => rfl
theorem zero4 : (![0, 0, 0, 0] : Fin 4 → ℕ) = fun _ => 0 := by
  funext a; match a with | ⟨0, _⟩ => rfl | ⟨1, _⟩ => rfl | ⟨2, _⟩ => rfl | ⟨3, _⟩ => rfl

/-- What the body leaves in its fourteen buffers, given what the three inputs hold. -/
def bodyPost (f3 : arg3.view.ty.Contents (Elt F)) (f4 : arg4.view.ty.Contents (Elt F)) (f5 : arg5.view.ty.Contents (Elt F)) : sProp 𝕄 :=
  iprop(∃ g6 g7 g8 g9 g10 g11 g12 g13 g14 g15 g16, (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} g6) ∗ (arg7.view.loc (c : Thread nD τ) ↦[arg7.view.set]{fullShare} g7) ∗ (arg8.view.loc (c : Thread nD τ) ↦[arg8.view.set]{fullShare} g8) ∗ (arg9.view.loc (c : Thread nD τ) ↦[arg9.view.set]{fullShare} g9) ∗ (arg10.view.loc (c : Thread nD τ) ↦[arg10.view.set]{fullShare} g10) ∗ (arg11.view.loc (c : Thread nD τ) ↦[arg11.view.set]{fullShare} g11) ∗ (arg12.view.loc (c : Thread nD τ) ↦[arg12.view.set]{fullShare} g12)
    ∗ (arg13.view.loc (c : Thread nD τ) ↦[arg13.view.set]{fullShare} g13) ∗ (arg14.view.loc (c : Thread nD τ) ↦[arg14.view.set]{fullShare} g14) ∗ (arg15.view.loc (c : Thread nD τ) ↦[arg15.view.set]{fullShare} g15) ∗ (arg16.view.loc (c : Thread nD τ) ↦[arg16.view.set]{fullShare} g16)
    ∗ ⌜arg6.view.read (Elt F) g6 = OUT (i 2).val (arg3.view.read (Elt F) f3) (arg4.view.read (Elt F) f4) (arg5.view.read (Elt F) f5) ∧ arg7.view.read (Elt F) g7 = QC (arg3.view.read (Elt F) f3) ∧ arg8.view.read (Elt F) g8 = QS (arg3.view.read (Elt F) f3)
        ∧ arg9.view.read (Elt F) g9 = KC (arg4.view.read (Elt F) f4) ∧ arg10.view.read (Elt F) g10 = KS (arg4.view.read (Elt F) f4) ∧ arg11.view.read (Elt F) g11 = VC (arg5.view.read (Elt F) f5) ∧ arg12.view.read (Elt F) g12 = VS (arg5.view.read (Elt F) f5)
        ∧ arg14.view.read (Elt F) g14 = KD (arg4.view.read (Elt F) f4) ∧ arg15.view.read (Elt F) g15 = VT (arg5.view.read (Elt F) f5)⌝)

set_option backward.isDefEq.respectTransparency.types false in
set_option maxHeartbeats 800000 in
/-- The whole body at one grid point. -/
theorem body_spec (E : Set ℕ) (f3 : arg3.view.ty.Contents (Elt F)) (f4 : arg4.view.ty.Contents (Elt F))
    (f5 : arg5.view.ty.Contents (Elt F)) (g6 : arg6.view.ty.Contents (Elt F)) (g7 : arg7.view.ty.Contents (Elt F)) (g8 : arg8.view.ty.Contents (Elt F))
    (g9 : arg9.view.ty.Contents (Elt F)) (g10 : arg10.view.ty.Contents (Elt F))
    (g11 : arg11.view.ty.Contents (Elt F)) (g12 : arg12.view.ty.Contents (Elt F)) (g13 : arg13.view.ty.Contents (Elt F)) (g14 : arg14.view.ty.Contents (Elt F))
    (g15 : arg15.view.ty.Contents (Elt F)) (g16 : arg16.view.ty.Contents (Elt F))
    (hpre : ¬ k0_cond1 i = 1#1 → arg9.view.read (Elt F) g9 = KC (arg4.view.read (Elt F) f4) ∧ arg10.view.read (Elt F) g10 = KS (arg4.view.read (Elt F) f4) ∧ arg11.view.read (Elt F) g11 = VC (arg5.view.read (Elt F) f5) ∧ arg12.view.read (Elt F) g12 = VS (arg5.view.read (Elt F) f5)
        ∧ arg14.view.read (Elt F) g14 = KD (arg4.view.read (Elt F) f4) ∧ arg15.view.read (Elt F) g15 = VT (arg5.view.read (Elt F) f5)) :
    iprop((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} g6) ∗ (arg7.view.loc (c : Thread nD τ) ↦[arg7.view.set]{fullShare} g7) ∗ (arg8.view.loc (c : Thread nD τ) ↦[arg8.view.set]{fullShare} g8) ∗ (arg9.view.loc (c : Thread nD τ) ↦[arg9.view.set]{fullShare} g9) ∗ (arg10.view.loc (c : Thread nD τ) ↦[arg10.view.set]{fullShare} g10) ∗ (arg11.view.loc (c : Thread nD τ) ↦[arg11.view.set]{fullShare} g11) ∗ (arg12.view.loc (c : Thread nD τ) ↦[arg12.view.set]{fullShare} g12) ∗ (arg13.view.loc (c : Thread nD τ) ↦[arg13.view.set]{fullShare} g13) ∗ (arg14.view.loc (c : Thread nD τ) ↦[arg14.view.set]{fullShare} g14) ∗ (arg15.view.loc (c : Thread nD τ) ↦[arg15.view.set]{fullShare} g15) ∗ (arg16.view.loc (c : Thread nD τ) ↦[arg16.view.set]{fullShare} g16))
      ⊢ wp frame (wpE (defs₀ (F := F)) Variants.none (c : Thread nD τ) none) E (cc0_sage_attn i arg3 harg3 arg4 harg4 arg5 harg5 arg6 harg6 arg7 harg7 arg8 harg8 arg9 harg9 arg10 harg10 arg11 harg11 arg12 harg12 arg13 harg13 arg14 harg14 arg15 harg15 arg16 harg16)
          (fun _ => bodyPost (F := F) c i arg3 arg4 arg5 arg6 arg7 arg8 arg9 arg10 arg11 arg12 arg13 arg14 arg15 arg16 f3 f4 f5) := by
  have hcut := part6_spec (F := F) c i arg3 harg3 arg4 harg4 arg5 harg5 arg6 harg6 arg7 harg7 arg8 harg8 arg9 harg9 arg10 harg10 arg11 harg11 arg12 harg12 arg13 harg13 arg14 harg14 arg15 harg15 arg16 harg16 E f3 f4 f5 g9 g10 g11 g12 g14 g15 hpre
  unfold kvPost at hcut
  have hi : (i 2).val < 32 := (i 2).isLt
  simp only [cc0_sage_attn_eq_skeleton]
  unfold cc0_sage_attn_skel
  simp only [k0_part7_eq_skeleton, k0_part8_eq_skeleton, k0_part9_eq_skeleton, k0_part10_eq_skeleton]
  iintro ⟨H3, H4, H5, H6, H7, H8, H9, H10, H11, H12, H13, H14, H15, H16⟩
  sl_exec
  obtain ⟨q9, q10, q11, q12, q14, q15⟩ := hk0_part6_9
  cases hk0_part6_10
  have htr4 := trips4 i
  have htr6 := trips6 i
  sl_for (inv3 (F := F) c arg13 arg14 arg16 (KD (arg4.view.read (Elt F) f4)) (QT (arg3.view.read (Elt F) f3))) $$ [H13 Hk0_part6_7 H16]
  · exact fun k acc => trip3 c i arg3 harg3 arg4 harg4 arg5 harg5 arg6 harg6 arg7 harg7 arg8 harg8 arg9 harg9 arg10 harg10 arg11 harg11 arg12 harg12 arg13 harg13 arg14 harg14 arg15 harg15 arg16 harg16 E _ _ _ _ _ k acc
  · unfold inv3
    isplitl [Hk0_part6_7]
    · iexists _; isplitl [Hk0_part6_7]; · iexact Hk0_part6_7
      ipureintro; exact q14
    isplitl [H16]
    · iexists _; isplitl [H16]; · iexact H16
      ipureintro
      refine (read_qt arg16.view _ _ _ _ _ _ _ _ _).trans ?_
      exact rfl
    isplitl [H13]
    · iexists g13; isplitl [H13]; · iexact H13
      ipureintro; exact fun y h => absurd h (Nat.not_lt_zero _)
    ipureintro; exact rfl
  · iintro %acc HI
    unfold inv3
    icases HI with ⟨⟨%k14, H14, %h14⟩, ⟨%k16, H16, %h16⟩, ⟨%k13, H13, %h13⟩, %hacc⟩
    have hacc' : acc = mAcc (KD (arg4.view.read (Elt F) f4)) (QT (arg3.view.read (Elt F) f3)) (i 2).val := hacc.trans (congrArg (mAcc _ _) (trips3 i))
    subst hacc'
    have e10 := ld_kBlk (F := F) (arg14.view.read (Elt F) k14) (k0_off10_inb i) (i 2).val hi (k0_off10_eq i)
    have e16 := whole16 (F := F) (arg16.view.read (Elt F) k16)
    sl_exec
    have hr5 : body_spec.sl.r_5 c i arg14 arg16 k14 k16 = sDiag (KD (arg4.view.read (Elt F) f4)) (QT (arg3.view.read (Elt F) f3)) (i 2).val := by
      unfold sDiag; rw [← h14, ← h16]; exact rfl
    have h13' := store_s (F := F) arg13.view k13 (k0_off11_inb i) (k0_pay56 (body_spec.sl.r_5 c i arg14 arg16 k14 k16)) (i 2).val (k0_off11_eq i)
      (fun j => k0_pay50 (kBlk (KD (arg4.view.read (Elt F) f4)) j) (QT (arg3.view.read (Elt F) f3))) (sBlk (KD (arg4.view.read (Elt F) f4)) (QT (arg3.view.read (Elt F) f3)) (i 2).val)
      (by rw [hr5]; unfold sBlk; rw [if_neg (lt_irrefl _)]) (fun j hj => by unfold sBlk; rw [if_pos hj])
      (fun y hy => h13 y (lt_of_lt_of_eq hy (congrArg (256 * ·) (trips3 i).symm)))
    sl_for (inv5 (F := F) c i arg13 arg15 (KD (arg4.view.read (Elt F) f4)) (arg15.view.read (Elt F) g15k0_part6_5) (QT (arg3.view.read (Elt F) f3)) _ g15k0_part6_5) $$ [H13 Hk0_part6_8]
    · exact fun k acc => trip5 c i arg3 harg3 arg4 harg4 arg5 harg5 arg6 harg6 arg7 harg7 arg8 harg8 arg9 harg9 arg10 harg10 arg11 harg11 arg12 harg12 arg13 harg13 arg14 harg14 arg15 harg15 arg16 harg16 E _ _ _ _ h13' _ _ rfl _ hr5 k acc
    · unfold inv5
      isplitl [H13]; · iexact H13
      isplitl [Hk0_part6_8]; · iexact Hk0_part6_8
      ipureintro; exact rfl
    · iintro %acc5 HI
      unfold inv5
      icases HI with ⟨H13, H15, %hacc5⟩
      sl_exec
      sl_step
      unfold bodyPost
      iexists _, _, _, _, _, _, _, _, _, _, _
      isplitl [Hk0_part6_0]; · iexact Hk0_part6_0
      isplitl [Hk0_part6_1]; · iexact Hk0_part6_1
      isplitl [Hk0_part6_2]; · iexact Hk0_part6_2
      isplitl [H6]; · iexact H6
      isplitl [H7]; · iexact H7
      isplitl [H8]; · iexact H8
      isplitl [Hk0_part6_3]; · iexact Hk0_part6_3
      isplitl [Hk0_part6_4]; · iexact Hk0_part6_4
      isplitl [Hk0_part6_5]; · iexact Hk0_part6_5
      isplitl [Hk0_part6_6]; · iexact Hk0_part6_6
      isplitl [H13]; · iexact H13
      isplitl [H14]; · iexact H14
      isplitl [H15]; · iexact H15
      isplitl [H16]; · iexact H16
      ipureintro
      have ha : acc5 = lAcc (KD (arg4.view.read (Elt F) f4)) (VT (arg5.view.read (Elt F) f5)) (QT (arg3.view.read (Elt F) f3)) (i 2).val ((i 2).val + 1) := by
        rw [← q15]; exact hacc5.trans (congrArg (lAcc _ _ _ _) (trips5 i))
      refine ⟨?_, ?_, ?_, q9, q10, q11, q12, h14, q15⟩
      · refine (read_out arg6.view _ _ _ _ _ _ _ _ _).trans ?_
        unfold OUT outOf
        rw [← ha]; exact rfl
      · refine (read_whole arg7.view _ zero3 _ _).trans ?_
        exact rfl
      · refine (read_whole arg8.view _ zero4 _ _).trans ?_
        exact rfl

end Body

end Cert.KernelIdeal.Spec

end
-- ==== Proof.KI.Owns.lean ====
/- The body over owned contents, and the facts of a grid point. -/
module

public import proofs.«01_k».proof.Proof.KI.Body

@[expose] public section

set_option maxRecDepth 16384

noncomputable section

namespace Cert.KernelIdeal.Spec

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

section Owns

variable (c : Dev nD) (i : grid0.Coords) (arg3 : Memref sig .tc .vmem S1x256x512 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x256x512 .bf16) (harg6 : arg6.IsWhole) (arg7 : Memref sig .tc .vmem S1x256x512 .fp8e4m3) (harg7 : arg7.IsWhole) (arg8 : Memref sig .tc .vmem S1x1x16x256 .i32) (harg8 : arg8.IsWhole) (arg9 : Memref sig .tc .vmem S1x8192x128 .fp8e4m3) (harg9 : arg9.IsWhole) (arg10 : Memref sig .tc .vmem S1x1x4x8192 .i32) (harg10 : arg10.IsWhole) (arg11 : Memref sig .tc .vmem S1x8192x128 .fp8e4m3) (harg11 : arg11.IsWhole) (arg12 : Memref sig .tc .vmem S1x1x4x8192 .i32) (harg12 : arg12.IsWhole) (arg13 : Memref sig .tc .vmem S8192x1024 .f32) (harg13 : arg13.IsWhole) (arg14 : Memref sig .tc .vmem S8192x128 .bf16) (harg14 : arg14.IsWhole) (arg15 : Memref sig .tc .vmem S128x8192 .bf16) (harg15 : arg15.IsWhole) (arg16 : Memref sig .tc .vmem S128x1024 .bf16) (harg16 : arg16.IsWhole)

/-- The whole body, over owned contents: the inputs stay, the outputs hold the attention block, the codes and the scale
    codes, the two carried scratch buffers the dequantised keys and values. -/
theorem sound_kernel (E : Set ℕ) (x0 : Vec F S1x256x512 .bf16) (x1 : Vec F S1x8192x128 .bf16) (x2 : Vec F S1x8192x128 .bf16) (y6 : Vec F S1x256x512 .bf16) (y7 : Vec F S1x256x512 .fp8e4m3) (y8 : Vec F S1x1x16x256 .i32) (y9 : Vec F S1x8192x128 .fp8e4m3) (y10 : Vec F S1x1x4x8192 .i32) (y11 : Vec F S1x8192x128 .fp8e4m3) (y12 : Vec F S1x1x4x8192 .i32) (y13 : Vec F S8192x1024 .f32) (y14 : Vec F S8192x128 .bf16) (y15 : Vec F S128x8192 .bf16) (y16 : Vec F S128x1024 .bf16)
    (hpre : ¬ k0_cond1 i = 1#1 → y9 = KC x1 ∧ y10 = KS x1 ∧ y11 = VC x2 ∧ y12 = VS x2 ∧ y14 = KD x1 ∧ y15 = VT x2) :
    (iprop(owns (c : Thread nD τ) arg3 fullShare x0 ∗ owns (c : Thread nD τ) arg4 fullShare x1 ∗ owns (c : Thread nD τ) arg5 fullShare x2 ∗ owns (c : Thread nD τ) arg6 fullShare y6 ∗ owns (c : Thread nD τ) arg7 fullShare y7 ∗ owns (c : Thread nD τ) arg8 fullShare y8 ∗ owns (c : Thread nD τ) arg9 fullShare y9 ∗ owns (c : Thread nD τ) arg10 fullShare y10 ∗ owns (c : Thread nD τ) arg11 fullShare y11 ∗ owns (c : Thread nD τ) arg12 fullShare y12 ∗ owns (c : Thread nD τ) arg13 fullShare y13 ∗ owns (c : Thread nD τ) arg14 fullShare y14 ∗ owns (c : Thread nD τ) arg15 fullShare y15 ∗ owns (c : Thread nD τ) arg16 fullShare y16) : sProp 𝕄)
      ⊢ wp frame (wpE (defs₀ (F := F)) Variants.none (c : Thread nD τ) none) E (cc0_sage_attn i arg3 harg3 arg4 harg4 arg5 harg5 arg6 harg6 arg7 harg7 arg8 harg8 arg9 harg9 arg10 harg10 arg11 harg11 arg12 harg12 arg13 harg13 arg14 harg14 arg15 harg15 arg16 harg16)
          (fun _ => iprop(owns (c : Thread nD τ) arg3 fullShare x0 ∗ owns (c : Thread nD τ) arg4 fullShare x1 ∗ owns (c : Thread nD τ) arg5 fullShare x2 ∗ owns (c : Thread nD τ) arg6 fullShare (OUT (i 2).val x0 x1 x2) ∗ owns (c : Thread nD τ) arg7 fullShare (QC x0) ∗ owns (c : Thread nD τ) arg8 fullShare (QS x0) ∗ owns (c : Thread nD τ) arg9 fullShare (KC x1) ∗ owns (c : Thread nD τ) arg10 fullShare (KS x1) ∗ owns (c : Thread nD τ) arg11 fullShare (VC x2) ∗ owns (c : Thread nD τ) arg12 fullShare (VS x2) ∗ (∃ X, owns (c : Thread nD τ) arg13 fullShare X) ∗ owns (c : Thread nD τ) arg14 fullShare (KD x1) ∗ owns (c : Thread nD τ) arg15 fullShare (VT x2) ∗ (∃ X, owns (c : Thread nD τ) arg16 fullShare X))) := by
  unfold owns
  iintro ⟨⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩⟩
  subst e3 e4 e5 e6 e7 e8 e9 e10 e11 e12 e13 e14 e15 e16
  iapply wp_wand $$ [H3 H4 H5 H6 H7 H8 H9 H10 H11 H12 H13 H14 H15 H16]
  · iapply (body_spec (F := F) c i arg3 harg3 arg4 harg4 arg5 harg5 arg6 harg6 arg7 harg7 arg8 harg8 arg9 harg9 arg10 harg10 arg11 harg11 arg12 harg12 arg13 harg13 arg14 harg14 arg15 harg15 arg16 harg16 E f3 f4 f5 f6 f7 f8 f9 f10 f11 f12 f13 f14 f15 f16 hpre)
    iframe
  · iintro %r HP
    unfold bodyPost
    icases HP with ⟨%g6, %g7, %g8, %g9, %g10, %g11, %g12, %g13, %g14, %g15, %g16, H3, H4, H5, H6, H7, H8, H9, H10, H11, H12, H13, H14, H15, H16, %h⟩
    obtain ⟨h6, h7, h8, h9, h10, h11, h12, h14, h15⟩ := h
    isplitl [H3]
    · iexists f3; isplitr
      · ipureintro; rfl
      iexact H3
    isplitl [H4]
    · iexists f4; isplitr
      · ipureintro; rfl
      iexact H4
    isplitl [H5]
    · iexists f5; isplitr
      · ipureintro; rfl
      iexact H5
    isplitl [H6]
    · iexists g6; isplitr
      · ipureintro; exact h6
      iexact H6
    isplitl [H7]
    · iexists g7; isplitr
      · ipureintro; exact h7
      iexact H7
    isplitl [H8]
    · iexists g8; isplitr
      · ipureintro; exact h8
      iexact H8
    isplitl [H9]
    · iexists g9; isplitr
      · ipureintro; exact h9
      iexact H9
    isplitl [H10]
    · iexists g10; isplitr
      · ipureintro; exact h10
      iexact H10
    isplitl [H11]
    · iexists g11; isplitr
      · ipureintro; exact h11
      iexact H11
    isplitl [H12]
    · iexists g12; isplitr
      · ipureintro; exact h12
      iexact H12
    isplitl [H13]
    · iexists _, g13; isplitr
      · ipureintro; rfl
      iexact H13
    isplitl [H14]
    · iexists g14; isplitr
      · ipureintro; exact h14
      iexact H14
    isplitl [H15]
    · iexists g15; isplitr
      · ipureintro; exact h15
      iexact H15
    iexists _, g16; isplitr
    · ipureintro; rfl
    iexact H16

end Owns

/-! ## The grid point's facts -/

theorem cond1_iff : ∀ t : Fin grid0.N, k0_cond1 (grid0.coords t) = 1#1 ↔ t.val % 32 = 0 := by decide +kernel
theorem coord2 : ∀ t : Fin grid0.N, (grid0.coords t 2).val = t.val % 32 := by decide +kernel

end Cert.KernelIdeal.Spec

end
-- ==== Proof.KI.Dats.lean ====
/- The pipeline's proof data, the body obligation at every grid point, and the run of the whole program. -/
module

public import proofs.«01_k».proof.Proof.KI.Owns

@[expose] public section

set_option maxRecDepth 16384

noncomputable section

namespace Cert.KernelIdeal.Spec

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The body's invariant after `n` points: the four scratch buffers and the generator register at any contents, but the
    two carried ones at the dequantised keys and values of the point before. -/
def PhiS (c : Dev nD) (n : ℕ) (_ : n ≤ cfg0.N) : sProp 𝕄 :=
  iprop((∃ X, owns (c : Thread nD τ) (Memref.whole cc0_scratch0) fullShare X)
    ∗ (∃ X, owns (c : Thread nD τ) (Memref.whole cc0_scratch1) fullShare X ∗ ⌜∀ t : Fin cfg0.N, t.val + 1 = n → X = KD (iblk m c 1 t)⌝)
    ∗ (∃ X, owns (c : Thread nD τ) (Memref.whole cc0_scratch2) fullShare X ∗ ⌜∀ t : Fin cfg0.N, t.val + 1 = n → X = VT (iblk m c 2 t)⌝)
    ∗ (∃ X, owns (c : Thread nD τ) (Memref.whole cc0_scratch3) fullShare X) ∗ ∃ r, prngReg c r)

/-- The proof data: the arrays as launched, each input's buffer at its block, each output's at what the body computes
    of the point's blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => OUT (grid0.coords t 2).val (iblk m c 0 t) (iblk m c 1 t) (iblk m c 2 t)
    | ⟨4, _⟩ => QC (iblk m c 0 t)
    | ⟨5, _⟩ => QS (iblk m c 0 t)
    | ⟨6, _⟩ => KC (iblk m c 1 t)
    | ⟨7, _⟩ => KS (iblk m c 1 t)
    | ⟨8, _⟩ => VC (iblk m c 2 t)
    | ⟨9, _⟩ => VS (iblk m c 2 t)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = OUT (grid0.coords t 2).val (iblk m c 0 t) (iblk m c 1 t) (iblk m c 2 t) := by dsimp only [dats]
theorem after_4 (c : Dev nD) (t : Fin cfg0.N) : (dats m 0 c).after 4 t = QC (iblk m c 0 t) := by dsimp only [dats]
theorem after_5 (c : Dev nD) (t : Fin cfg0.N) : (dats m 0 c).after 5 t = QS (iblk m c 0 t) := by dsimp only [dats]
theorem after_6 (c : Dev nD) (t : Fin cfg0.N) : (dats m 0 c).after 6 t = KC (iblk m c 1 t) := by dsimp only [dats]
theorem after_7 (c : Dev nD) (t : Fin cfg0.N) : (dats m 0 c).after 7 t = KS (iblk m c 1 t) := by dsimp only [dats]
theorem after_8 (c : Dev nD) (t : Fin cfg0.N) : (dats m 0 c).after 8 t = VC (iblk m c 2 t) := by dsimp only [dats]
theorem after_9 (c : Dev nD) (t : Fin cfg0.N) : (dats m 0 c).after 9 t = VS (iblk m c 2 t) := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

theorem Phi_cast (c : Dev nD) (t : Fin cfg0.N) : (dats m 0 c).Φ t.castSucc = PhiS m c t.val (Nat.le_of_lt t.isLt) := by
  dsimp only [dats]; exact Pipeline.Dat.Φ_castSucc (PhiS m c) t
theorem Phi_succ (c : Dev nD) (t : Fin cfg0.N) : (dats m 0 c).Φ t.succ = PhiS m c (t.val + 1) t.isLt := by
  dsimp only [dats]; rfl

/-- The point before. -/
abbrev pred (t : Fin cfg0.N) : Fin cfg0.N := ⟨t.val - 1, Nat.lt_of_le_of_lt (Nat.sub_le _ _) t.isLt⟩

/-- Off a head's first point, window 1's block is the point before's. -/
theorem iblk1_pred (c : Dev nD) (t : Fin cfg0.N) (ht : t.val % 32 ≠ 0) : iblk m c 1 (pred t) = iblk m c 1 t := by
  have hf : (cfg0.win 1).fetch t = false := Bool.eq_false_iff.mpr fun h => ht ((fetch0_1 t).mp h)
  have h := (dats m 0 c).before_unfetched_in 1 rfl t hf (fun _ => rfl) (iblk m c 1 t)
  rw [before_1] at h
  rw [h]
  unfold Dat.kept
  rw [Pipeline.fill_of_clip_none (cfg := cfg0) 1 _ (fun _ => rfl) _ ((dats m 0 c).after 1 (pred t)) _]
  exact ((after_1 m c (pred t)).symm.trans ((cfg0.win 1).fill_cut _ _).symm)
/-- Off a head's first point, window 2's block is the point before's. -/
theorem iblk2_pred (c : Dev nD) (t : Fin cfg0.N) (ht : t.val % 32 ≠ 0) : iblk m c 2 (pred t) = iblk m c 2 t := by
  have hf : (cfg0.win 2).fetch t = false := Bool.eq_false_iff.mpr fun h => ht ((fetch0_2 t).mp h)
  have h := (dats m 0 c).before_unfetched_in 2 rfl t hf (fun _ => rfl) (iblk m c 2 t)
  rw [before_2] at h
  rw [h]
  unfold Dat.kept
  rw [Pipeline.fill_of_clip_none (cfg := cfg0) 2 _ (fun _ => rfl) _ ((dats m 0 c).after 2 (pred t)) _]
  exact ((after_2 m c (pred t)).symm.trans ((cfg0.win 2).fill_cut _ _).symm)

/-- An output stored only at a head's first point holds, at the head's other points, what `after` says: the points between
    leave it as they found it. -/
theorem before_out (c : Dev nD) (w : Fin cfg0.W) (hout : ∀ t, (cfg0.win w).fetch t = false)
    (hidle : ∀ i, cfg0.idle w i = !(k0_cond1 i == 1#1)) (hflush : ∀ t, (cfg0.win w).flush t = true ↔ t.val % 32 = 31)
    (hclip : ∀ (i : cfg0.grid.Coords) a, (cfg0.win w).clip i a = none)
    (hstep : ∀ t : Fin cfg0.N, t.val % 32 ≠ 0 → (dats m 0 c).after w (pred t) = (dats m 0 c).after w t) (d) :
    ∀ (n : ℕ) (h : n < cfg0.N), n % 32 ≠ 0 → (dats m 0 c).before w ⟨n, h⟩ d = (dats m 0 c).after w ⟨n, h⟩ := by
  intro n
  induction n with
  | zero => intro h hn; exact absurd rfl hn
  | succ n ih =>
    intro h hn
    have hn' : n < cfg0.N := Nat.lt_of_succ_lt h
    have hfl : (cfg0.win w).flush (pred ⟨n + 1, h⟩) = false := Bool.eq_false_iff.mpr fun h' => by
      have := (hflush _).mp h'
      have h2 : n % 32 = 31 := this
      omega
    rw [(dats m 0 c).before_of_pos w _ (Nat.succ_ne_zero n) (hout _) d, hfl, if_neg Bool.false_ne_true, ← hstep _ hn]
    unfold Dat.left
    by_cases h0 : n % 32 = 0
    · have hc : cfg0.idle w (grid0.coords (pred ⟨n + 1, h⟩)) = false := by
        rw [hidle, (cond1_iff _).mpr h0]; rfl
      rw [hc]
      unfold Dat.kept
      dsimp only
      rw [Pipeline.fill_of_clip_none (cfg := cfg0) w _ (hclip _) _ ((dats m 0 c).after w (pred ⟨n + 1, h⟩)) _]
      exact (cfg0.win w).fill_cut _ _
    · have hc : cfg0.idle w (grid0.coords (pred ⟨n + 1, h⟩)) = true := by
        rw [hidle]
        have : ¬ k0_cond1 (grid0.coords (pred ⟨n + 1, h⟩)) = 1#1 := fun h' => h0 ((cond1_iff _).mp h')
        simp [this]
      rw [hc]
      exact ih hn' h0

theorem before_6 (c : Dev nD) (t : Fin cfg0.N) (ht : t.val % 32 ≠ 0) (d) :
    (dats m 0 c).before 6 t d = KC (iblk m c 1 t) :=
  (before_out m c 6 (fun _ => rfl) (fun _ => rfl) flush0_6 (fun _ _ => rfl)
    (fun t ht => by rw [after_6, after_6, iblk1_pred m c t ht]) d t.val t.isLt ht).trans (after_6 m c t)
theorem before_7 (c : Dev nD) (t : Fin cfg0.N) (ht : t.val % 32 ≠ 0) (d) :
    (dats m 0 c).before 7 t d = KS (iblk m c 1 t) :=
  (before_out m c 7 (fun _ => rfl) (fun _ => rfl) flush0_7 (fun _ _ => rfl)
    (fun t ht => by rw [after_7, after_7, iblk1_pred m c t ht]) d t.val t.isLt ht).trans (after_7 m c t)
theorem before_8 (c : Dev nD) (t : Fin cfg0.N) (ht : t.val % 32 ≠ 0) (d) :
    (dats m 0 c).before 8 t d = VC (iblk m c 2 t) :=
  (before_out m c 8 (fun _ => rfl) (fun _ => rfl) flush0_8 (fun _ _ => rfl)
    (fun t ht => by rw [after_8, after_8, iblk2_pred m c t ht]) d t.val t.isLt ht).trans (after_8 m c t)
theorem before_9 (c : Dev nD) (t : Fin cfg0.N) (ht : t.val % 32 ≠ 0) (d) :
    (dats m 0 c).before 9 t d = VS (iblk m c 2 t) :=
  (before_out m c 9 (fun _ => rfl) (fun _ => rfl) flush0_9 (fun _ _ => rfl)
    (fun t ht => by rw [after_9, after_9, iblk2_pred m c t ht]) d t.val t.isLt ht).trans (after_9 m c t)

/-- A window's buffer at `after` is a buffer as the obligation wants it left, where an idle point finds it so. -/
theorem leaves_of (c : Dev nD) (w : Fin cfg0.W) (t : Fin cfg0.N)
    (hb : cfg0.idle w (cfg0.grid.coords t) = true → ∀ d, (dats m 0 c).before w t d = (dats m 0 c).after w t) :
    (owns (c : Thread nD τ) ((cfg0.win w).stage (cfg0.slots t w)) fullShare ((dats m 0 c).after w t) : sProp 𝕄)
      ⊢ (dats m 0 c).leavesExact w t := by
  unfold Dat.leavesExact
  cases hi : cfg0.idle w (cfg0.grid.coords t)
  · exact .rfl
  · cases (cfg0.win w).flush t
    · iintro H
      iexists (dats m 0 c).after w t
      rw [hb hi]
      iexact H
    · exact .rfl

theorem not_idle {b : BitVec 1} (h : (!(b == 1#1)) = true) : ¬ b = 1#1 := by
  intro hb; subst hb; cases h

end Cert.KernelIdeal.Spec

end
-- ==== Proof.KI.Run.lean ====
/- The body obligation at every grid point, and the run of the whole program. -/
module

public import proofs.«01_k».proof.Proof.KI.Dats
public import Idealize.ShloMosaic.Lib.Claim

@[expose] public section

set_option maxRecDepth 16384

noncomputable section

namespace Cert.KernelIdeal.Spec

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the body is called with at point `t`, the windows one by one, -/
def obPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def obPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

/-- Each window's buffer at `after` is left as the obligation wants it. -/
theorem leaves_all (c : Dev nD) (t : Fin cfg0.N) (w : Fin 10) :
    (owns (c : Thread nD τ) ((cfg0.win w).stage (cfg0.slots t w)) fullShare ((dats m 0 c).after w t) : sProp 𝕄)
      ⊢ (dats m 0 c).leavesExact w t := by
  refine leaves_of m c w t ?_
  have key : ∀ i, (!(k0_cond1 i == 1#1)) = true → i = grid0.coords t → t.val % 32 ≠ 0 := fun i h hi h0 =>
    not_idle h (hi ▸ (cond1_iff t).mpr h0)
  match w with
  | 0 => intro h; cases h
  | 1 => intro h; cases h
  | 2 => intro h; cases h
  | 3 => intro h; cases h
  | 4 => intro h; cases h
  | 5 => intro h; cases h
  | 6 => intro h d; rw [before_6 m c t (key _ h rfl) d, after_6]
  | 7 => intro h d; rw [before_7 m c t (key _ h rfl) d, after_7]
  | 8 => intro h d; rw [before_8 m c t (key _ h rfl) d, after_8]
  | 9 => intro h d; rw [before_9 m c t (key _ h rfl) d, after_9]

/-- The body at any point: the inputs' buffers hold their blocks, so the body's triple applies. -/
theorem sound_body (c : Dev nD) (t : Fin cfg0.N) :
    obPre m c t ⊢ wp frame (wpE (defs₀ (F := F)) Variants.none c none) Set.univ (bodyAt0 t) (fun _ => obPost m c t) := by
  have hl := leaves_all m c t
  have h3 := hl 3; have h4 := hl 4; have h5 := hl 5; have h6 := hl 6; have h7 := hl 7; have h8 := hl 8; have h9 := hl 9
  have h0 := hl 0; have h1 := hl 1; have h2 := hl 2
  rw [after_0] at h0
  rw [after_1] at h1
  rw [after_2] at h2
  rw [after_3] at h3
  rw [after_4] at h4
  rw [after_5] at h5
  rw [after_6] at h6
  rw [after_7] at h7
  rw [after_8] at h8
  rw [after_9] at h9
  unfold obPre obPost bodyAt0
  simp only [before_0, before_1, before_2]
  rw [Phi_cast, Phi_succ, show (dats m 0 c).owesAt () t.succ = (dats m 0 c).owesAt () t.castSucc from rfl]
  unfold PhiS
  iintro ⟨⟨⟨%X0, S0⟩, ⟨%X1, S1, %hX1⟩, ⟨%X2, S2, %hX2⟩, ⟨%X3, S3⟩, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  have hpre : ¬ k0_cond1 (grid0.coords t) = 1#1 → (dats m 0 c).before 6 t d6 = KC (iblk m c 1 t) ∧ (dats m 0 c).before 7 t d7 = KS (iblk m c 1 t)
      ∧ (dats m 0 c).before 8 t d8 = VC (iblk m c 2 t) ∧ (dats m 0 c).before 9 t d9 = VS (iblk m c 2 t)
      ∧ X1 = KD (iblk m c 1 t) ∧ X2 = VT (iblk m c 2 t) := fun hc => by
    have ht : t.val % 32 ≠ 0 := fun h => hc ((cond1_iff t).mpr h)
    have hp : (pred t).val + 1 = t.val := by
      show t.val - 1 + 1 = t.val
      have : t.val ≠ 0 := fun h => ht (by rw [h])
      omega
    refine ⟨before_6 m c t ht d6, before_7 m c t ht d7, before_8 m c t ht d8, before_9 m c t ht d9, ?_, ?_⟩
    · rw [hX1 (pred t) hp, iblk1_pred m c t ht]
    · rw [hX2 (pred t) hp, iblk2_pred m c t ht]
  iapply wp_wand $$ [H0 H1 H2 H3 H4 H5 H6 H7 H8 H9 S0 S1 S2 S3]
  · iapply (sound_kernel (F := F) c (grid0.coords t) _ _ _ _ _ _ _ _ _ _ _ _ _ _ _ _ _ _ _ _ _ _ _ _ _ _ _ _ Set.univ (iblk m c 0 t) (iblk m c 1 t) (iblk m c 2 t) _ _ _ _ _ _ _ X0 X1 X2 X3 hpre)
    iframe
  · iintro %r ⟨H0, H1, H2, H3, H4, H5, H6, H7, H8, H9, S0, S1, S2, S3⟩
    isplitl [S0 S1 S2 S3 HP]
    · isplitl [S0]
      · iexact S0
      isplitl [S1]
      · iexists _
        isplitl
        · iexact S1
        ipureintro
        intro t' ht'
        have : t' = t := Fin.ext (Nat.succ.inj ht')
        rw [this]
      isplitl [S2]
      · iexists _
        isplitl
        · iexact S2
        ipureintro
        intro t' ht'
        have : t' = t := Fin.ext (Nat.succ.inj ht')
        rw [this]
      isplitl [S3]
      · iexact S3
      iexact HP
    isplitl [Ho]; · iexact Ho
    isplitl [H0]; · iapply h0 $$ [H0]; iexact H0
    isplitl [H1]; · iapply h1 $$ [H1]; iexact H1
    isplitl [H2]; · iapply h2 $$ [H2]; iexact H2
    isplitl [H3]; · iapply h3 $$ [H3]; iexact H3
    isplitl [H4]; · iapply h4 $$ [H4]; iexact H4
    isplitl [H5]; · iapply h5 $$ [H5]; iexact H5
    isplitl [H6]; · iapply h6 $$ [H6]; iexact H6
    isplitl [H7]; · iapply h7 $$ [H7]; iexact H7
    isplitl [H8]; · iapply h8 $$ [H8]; iexact H8
    iapply h9 $$ [H9]
    iexact H9

/-- The library's body obligation, at every point. -/
theorem body_obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by
    unfold defs₀; rw [Defs.onTc_tc]]
  exact Idealize.ShloMosaic.triple_restated (sound_body m c t) rfl .rfl fun _ => .rfl

/-- The invariant at the first point, from the scoped buffers at any contents, -/
theorem Phi_in (c : Dev nD) : (Pipeline.ΦA (U := UR sig nD τ) (Val := Elt F) spec0 c : sProp 𝕄) ⊢ (dats m 0 c).Φ 0 := by
  show _ ⊢ PhiS m c 0 (Nat.zero_le _)
  unfold Pipeline.ΦA PhiS
  rw [scopedRest0_eq]
  simp only [owns_whole]
  iintro ⟨⟨⟨%f0, H0⟩, ⟨%f1, H1⟩, ⟨%f2, H2⟩, ⟨%f3, H3⟩⟩, HP⟩
  isplitl [H0]; · iexists f0; iexact H0
  isplitl [H1]
  · iexists f1
    isplitl
    · iexact H1
    ipureintro
    intro t ht
    exact absurd ht (Nat.succ_ne_zero _)
  isplitl [H2]
  · iexists f2
    isplitl
    · iexact H2
    ipureintro
    intro t ht
    exact absurd ht (Nat.succ_ne_zero _)
  isplitl [H3]; · iexists f3; iexact H3
  iexact HP

/-- and back to them after the last. -/
theorem Phi_out (c : Dev nD) : (dats m 0 c).Φ (Fin.last cfg0.N) ⊢ (Pipeline.ΦA (U := UR sig nD τ) (Val := Elt F) spec0 c : sProp 𝕄) := by
  show PhiS m c cfg0.N (Nat.le_refl _) ⊢ _
  unfold Pipeline.ΦA PhiS
  rw [scopedRest0_eq]
  simp only [owns_whole]
  iintro ⟨⟨%f0, H0⟩, ⟨%f1, H1, %h1⟩, ⟨%f2, H2, %h2⟩, ⟨%f3, H3⟩, HP⟩
  isplitl [H0 H1 H2 H3]
  · isplitl [H0]; · iexists f0; iexact H0
    isplitl [H1]; · iexists f1; iexact H1
    isplitl [H2]; · iexists f2; iexact H2
    iexists f3; iexact H3
  iexact HP

set_option backward.isDefEq.respectTransparency.types false in
set_option maxHeartbeats 800000 in
/-- Every fair run of the program ends with each array of the pipeline at what the proof data computes, and with every
    semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := Phi_in m) (hout := Phi_out m)

/-- The same run, without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged, the counters at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) := θ_run_and (frame_of m ρ (dats m) (A_eq m) (run_main m ρ))
  ((θ_run defs _ _).mono (fun _ h => h.2) (run_main_quiescent m ρ))

end Cert.KernelIdeal.Spec

end
-- ==== Proof.KP.Spec.lean ====
/- What the kernel computes, by values alone: the contents of every buffer as a function of the three input blocks,
   spelt with the generated payloads. Nothing here mentions a memory. -/
module

public import proofs.«01_k».proof.Proof.Gen.Kernel.Skeleton

@[expose] public section

set_option maxRecDepth 16384

noncomputable section

namespace Cert.Kernel.Spec

open Idealize.ShloMosaic
open Cert.Kernel.Gen

variable {F : FTy → Type} [FloatOps F]

/-! ## Chunks and blocks -/

/-- Rows `512 k` to `512 k + 511` of a k or v block. -/
def chunk {e : EltTy} (x : Vec F S1x8192x128 e) (k : ℕ) : Vec F S1x512x128 e := fun j =>
  x (fun a => match a with
    | ⟨0, _⟩ => ⟨0, Nat.zero_lt_one⟩
    | ⟨1, _⟩ => ⟨(512 * k + (j 1).val) % 8192, Nat.mod_lt _ (by decide)⟩
    | ⟨2, _⟩ => ⟨(j 2).val, (j 2).isLt⟩)

/-- Rows `256 k` to `256 k + 255` of the dequantised keys. -/
def kBlk (x : Vec F S8192x128 .bf16) (k : ℕ) : Vec F S256x128 .bf16 := fun j =>
  x (fun a => match a with
    | ⟨0, _⟩ => ⟨(256 * k + (j 0).val) % 8192, Nat.mod_lt _ (by decide)⟩
    | ⟨1, _⟩ => ⟨(j 1).val, (j 1).isLt⟩)

/-- Columns `256 k` to `256 k + 255` of the dequantised, transposed values. -/
def vBlk (x : Vec F S128x8192 .bf16) (k : ℕ) : Vec F S128x256 .bf16 := fun j =>
  x (fun a => match a with
    | ⟨0, _⟩ => ⟨(j 0).val, (j 0).isLt⟩
    | ⟨1, _⟩ => ⟨(256 * k + (j 1).val) % 8192, Nat.mod_lt _ (by decide)⟩)

/-- Where an index of a k or v block lies in its chunk. -/
def inChunk (y : S1x8192x128.Idx) : S1x512x128.Idx := fun a => match a with
  | ⟨0, _⟩ => ⟨0, Nat.zero_lt_one⟩
  | ⟨1, _⟩ => ⟨(y 1).val % 512, Nat.mod_lt _ (by decide)⟩
  | ⟨2, _⟩ => ⟨(y 2).val, (y 2).isLt⟩

/-- Where an index of the dequantised keys lies in its chunk. -/
def inKd (y : S8192x128.Idx) : S512x128.Idx := fun a => match a with
  | ⟨0, _⟩ => ⟨(y 0).val % 512, Nat.mod_lt _ (by decide)⟩
  | ⟨1, _⟩ => ⟨(y 1).val, (y 1).isLt⟩

/-- Where an index of the transposed values lies in its chunk. -/
def inVt (y : S128x8192.Idx) : S128x512.Idx := fun a => match a with
  | ⟨0, _⟩ => ⟨(y 0).val, (y 0).isLt⟩
  | ⟨1, _⟩ => ⟨(y 1).val % 512, Nat.mod_lt _ (by decide)⟩

/-- Where an index of the scale codes lies in its chunk. -/
def inCodes (y : S1x1x4x8192.Idx) : S1x1x4x512.Idx := fun a => match a with
  | ⟨0, _⟩ => ⟨0, Nat.zero_lt_one⟩
  | ⟨1, _⟩ => ⟨0, Nat.zero_lt_one⟩
  | ⟨2, _⟩ => ⟨(y 2).val, (y 2).isLt⟩
  | ⟨3, _⟩ => ⟨(y 3).val % 512, Nat.mod_lt _ (by decide)⟩

/-! ## The keys and the values -/

/-- The running sum of the key chunks, eight rows wide, after `n` chunks. -/
def meanAcc (x : Vec F S1x8192x128 .bf16) : ℕ → FVec F S8x128 .f32
  | 0 => k0_pay26
  | n + 1 => k0_pay27 (meanAcc x n) (chunk x n)

/-- The running sum of all sixteen key chunks. -/
def mean (x : Vec F S1x8192x128 .bf16) : FVec F S8x128 .f32 := meanAcc x 16

/-- The largest scaled key per group and row, negated exponent codes and all that the key quantiser makes of one chunk:
    the codes (fp8), given the running sum `s` and the chunk `c`. -/
def kcC (s : FVec F S8x128 .f32) (c : Vec F S1x512x128 .bf16) : FVec F S1x512x128 .fp8e4m3 :=
  k0_pay11 (Scalar.ofBits .f32 0x43E00000#32)
    (k0_pay9 (k0_pay3 (k0_pay28 s) c) (k0_pay4 (k0_pay28 s) c) (k0_pay5 (k0_pay28 s) c) k0_pay6)
/-- One chunk's dequantised keys. -/
def kdC (s : FVec F S8x128 .f32) (c : Vec F S1x512x128 .bf16) : FVec F S512x128 .bf16 :=
  k0_pay12 (k0_pay8 (k0_pay4 (k0_pay28 s) c) (k0_pay5 (k0_pay28 s) c) k0_pay6) (Scalar.ofBits .f32 0x43E00000#32)
    (k0_pay9 (k0_pay3 (k0_pay28 s) c) (k0_pay4 (k0_pay28 s) c) (k0_pay5 (k0_pay28 s) c) k0_pay6)
/-- One chunk's key scale codes. -/
def ksC (s : FVec F S8x128 .f32) (c : Vec F S1x512x128 .bf16) : IVec S1x1x4x512 32 :=
  k0_pay13 (k0_pay7 (k0_pay4 (k0_pay28 s) c) (k0_pay5 (k0_pay28 s) c) k0_pay6)

/-- One chunk's value codes (fp8). -/
def vcC (c : Vec F S1x512x128 .bf16) : FVec F S1x512x128 .fp8e4m3 :=
  k0_pay25 (k0_pay14 c) (k0_pay15 c) (k0_pay19 (k0_pay15 c) k0_pay16 k0_pay17 k0_pay18) k0_pay20
/-- One chunk's dequantised values, transposed. -/
def vtC (c : Vec F S1x512x128 .bf16) : FVec F S128x512 .bf16 :=
  k0_pay29 (k0_pay23 (k0_pay14 c) (k0_pay15 c) (k0_pay19 (k0_pay15 c) k0_pay16 k0_pay17 k0_pay18) k0_pay20)
/-- One chunk's value scale codes. -/
def vsC (c : Vec F S1x512x128 .bf16) : IVec S1x1x4x512 32 :=
  k0_pay30 (k0_pay24 (k0_pay15 c) (k0_pay19 (k0_pay15 c) k0_pay16 k0_pay17 k0_pay18) k0_pay20)

/-- The key codes of the whole block. -/
def KC (x : Vec F S1x8192x128 .bf16) : Vec F S1x8192x128 .fp8e4m3 := fun y =>
  kcC (mean x) (chunk x ((y 1).val / 512)) (inChunk y)
/-- The key scale codes of the whole block. -/
def KS (x : Vec F S1x8192x128 .bf16) : Vec F S1x1x4x8192 .i32 := fun y =>
  ksC (mean x) (chunk x ((y 3).val / 512)) (inCodes y)
/-- The dequantised keys of the whole block. -/
def KD (x : Vec F S1x8192x128 .bf16) : Vec F S8192x128 .bf16 := fun y =>
  kdC (mean x) (chunk x ((y 0).val / 512)) (inKd y)
/-- The value codes of the whole block. -/
def VC (x : Vec F S1x8192x128 .bf16) : Vec F S1x8192x128 .fp8e4m3 := fun y =>
  vcC (chunk x ((y 1).val / 512)) (inChunk y)
/-- The value scale codes of the whole block. -/
def VS (x : Vec F S1x8192x128 .bf16) : Vec F S1x1x4x8192 .i32 := fun y =>
  vsC (chunk x ((y 3).val / 512)) (inCodes y)
/-- The dequantised, transposed values of the whole block. -/
def VT (x : Vec F S1x8192x128 .bf16) : Vec F S128x8192 .bf16 := fun y =>
  vtC (chunk x ((y 1).val / 512)) (inVt y)

/-! ## The queries -/

/-- The query scale exponents. -/
def qe (x : Vec F S1x256x512 .bf16) : IVec S16x1x256 32 := k0_pay36 (k0_pay32 x) (k0_pay33 x) (k0_pay34 x) (k0_pay35 x)
/-- The query scales. -/
def qsc (x : Vec F S1x256x512 .bf16) : FVec F S16x1x256 .f32 := k0_pay37 (k0_pay32 x) (k0_pay33 x) (k0_pay34 x) (k0_pay35 x)
/-- The scaled queries, clipped from above. -/
def qv (x : Vec F S1x256x512 .bf16) : FVec F S16x32x256 .f32 :=
  k0_pay38 (k0_pay31 x) (k0_pay32 x) (k0_pay33 x) (k0_pay34 x) (k0_pay35 x)
/-- The query codes. -/
def QC (x : Vec F S1x256x512 .bf16) : Vec F S1x256x512 .fp8e4m3 := k0_pay41 (qv x)
/-- The query scale codes. -/
def QS (x : Vec F S1x256x512 .bf16) : Vec F S1x1x16x256 .i32 := k0_pay42 (qe x)

/-- Where an index of the transposed queries lies in its head. -/
def inHead (y : S128x1024.Idx) : S128x256.Idx := fun a => match a with
  | ⟨0, _⟩ => ⟨(y 0).val, (y 0).isLt⟩
  | ⟨1, _⟩ => ⟨(y 1).val % 256, Nat.mod_lt _ (by decide)⟩

/-- The dequantised queries, transposed, the four heads side by side. -/
def QT (x : Vec F S1x256x512 .bf16) : Vec F S128x1024 .bf16 := fun y =>
  if (y 1).val < 256 then k0_pay43 (qsc x) (qv x) (inHead y)
  else if (y 1).val < 512 then k0_pay44 (qsc x) (qv x) (inHead y)
  else if (y 1).val < 768 then k0_pay45 (qsc x) (qv x) (inHead y)
  else k0_pay47 (k0_pay46 (qsc x) (qv x)) (inHead y)

/-! ## The attention of one query block -/

/-- The running maximum of the scores against the first `n` key blocks, eight rows wide. -/
def mAcc (kd : Vec F S8192x128 .bf16) (qt : Vec F S128x1024 .bf16) : ℕ → FVec F S8x1024 .f32
  | 0 => k0_pay48
  | n + 1 => k0_pay51 (mAcc kd qt n) (kBlk kd n) qt

/-- The masked scores of the diagonal block `i`. -/
def sDiag (kd : Vec F S8192x128 .bf16) (qt : Vec F S128x1024 .bf16) (i : ℕ) : FVec F S256x1024 .f32 :=
  k0_pay55 (kBlk kd i) qt

/-- The stored scores of key block `j ≤ i`. -/
def sBlk (kd : Vec F S8192x128 .bf16) (qt : Vec F S128x1024 .bf16) (i j : ℕ) : FVec F S256x1024 .f32 :=
  if j < i then k0_pay50 (kBlk kd j) qt else k0_pay56 (sDiag kd qt i)

/-- The running denominator and numerator after `n` key blocks. -/
def lAcc (kd : Vec F S8192x128 .bf16) (vt : Vec F S128x8192 .bf16) (qt : Vec F S128x1024 .bf16) (i : ℕ) :
    ℕ → FVec F S8x1024 .f32 × FVec F S128x1024 .f32
  | 0 => (k0_pay58, k0_pay59)
  | n + 1 =>
    (k0_pay61 (mAcc kd qt i) (sDiag kd qt i) (lAcc kd vt qt i n).1 (sBlk kd qt i n),
      k0_pay62 (mAcc kd qt i) (sDiag kd qt i) (lAcc kd vt qt i n).2 (sBlk kd qt i n) (vBlk vt n))

/-- Where an index of the attention block lies in its head. -/
def inOut (y : S1x256x512.Idx) : S1x256x128.Idx := fun a => match a with
  | ⟨0, _⟩ => ⟨0, Nat.zero_lt_one⟩
  | ⟨1, _⟩ => ⟨(y 1).val, (y 1).isLt⟩
  | ⟨2, _⟩ => ⟨(y 2).val % 128, Nat.mod_lt _ (by decide)⟩

/-- The attention block from the final denominator and numerator. -/
def outOf (l : FVec F S8x1024 .f32) (acc : FVec F S128x1024 .f32) : Vec F S1x256x512 .bf16 := fun y =>
  if (y 2).val < 128 then k0_pay67 l acc (inOut y)
  else if (y 2).val < 256 then k0_pay68 l acc (inOut y)
  else if (y 2).val < 384 then k0_pay1 (k0_pay69 l acc) (inOut y)
  else k0_pay2 (k0_pay66 l acc) (inOut y)

/-- The attention block of query block `i`. -/
def OUT (i : ℕ) (x0 : Vec F S1x256x512 .bf16) (x1 x2 : Vec F S1x8192x128 .bf16) : Vec F S1x256x512 .bf16 :=
  outOf (lAcc (KD x1) (VT x2) (QT x0) i (i + 1)).1 (lAcc (KD x1) (VT x2) (QT x0) i (i + 1)).2

end Cert.Kernel.Spec

end
-- ==== Proof.KP.KV.lean ====
/- The key and value part of the body (the first query block of a head): the two counted loops over the sixteen chunks
   of 512 rows, and what they leave. -/
module

public import proofs.«01_k».proof.Proof.KP.Spec
public import proofs.«01_k».proof.Proof.Gen.Kernel.Frame
public import Idealize.ShloMosaic.Lib.WritesUnit
public import Idealize.ShloMosaic.Lib.Pipeline.ValueKit.Tiles

@[expose] public section

set_option maxRecDepth 16384

noncomputable section

namespace Cert.Kernel.Spec

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

-- the payloads are compared by name, never opened
attribute [local irreducible] k0_pay1 k0_pay2 k0_pay3 k0_pay4 k0_pay5 k0_pay6 k0_pay7 k0_pay8 k0_pay9 k0_pay10 k0_pay11 k0_pay12 k0_pay13 k0_pay14 k0_pay15 k0_pay16 k0_pay17 k0_pay18 k0_pay19 k0_pay20 k0_pay21 k0_pay22 k0_pay23 k0_pay24 k0_pay25 k0_pay26 k0_pay27 k0_pay28 k0_pay29 k0_pay30

/-! ## Loads and stores of one chunk -/

/-- Loading chunk `k` through its rectangle. -/
theorem ld_chunk {e : EltTy} (x : Vec F S1x8192x128 e) {off : Fin 3 → ℕ} (inb : ∀ a, off a + S1x512x128.size a ≤ S1x8192x128.size a)
    (k : ℕ) (hk : k < 16) (ho : off = ![0, 512 * k, 0]) :
    View.ld x (Rect.unit (s := S1x8192x128) off S1x512x128.size inb) = chunk x k := by
  subst ho
  funext j
  refine View.ld_unit_apply_of x _ _ inb j _ fun a => ?_
  have h1 : (j 1).val < 512 := (j 1).isLt
  have h0 : (j 0).val < 1 := (j 0).isLt
  match a with
  | ⟨0, _⟩ => show 0 = 0 + (j 0).val; omega
  | ⟨1, _⟩ => show (512 * k + (j 1).val) % 8192 = 512 * k + (j 1).val; omega
  | ⟨2, _⟩ => show (j 2).val = 0 + (j 2).val; omega

theorem trips1 : k0_t1_loop.trips = 16 := by decide +kernel
theorem trips2 : k0_t2_loop.trips = 16 := by decide +kernel

section StoreChunk

variable {sp : Space} {κ : Kind}

/-- A store of chunk `k` of a buffer shaped as a k or v block extends the rows that agree with `G`. -/
theorem store_chunk {e : EltTy} (v : View sig κ sp S1x8192x128 e) (f : v.ty.Contents (Elt F)) {off : Fin 3 → ℕ}
    (inb : ∀ a, off a + S1x512x128.size a ≤ S1x8192x128.size a) (w : S1x512x128.Idx → Elt F e) (k : ℕ)
    (ho : off = ![0, 512 * k, 0]) (G : S1x8192x128.Idx → Elt F e)
    (hw : ∀ y : S1x8192x128.Idx, (y 1).val / 512 = k → G y = w (inChunk y))
    (hf : ∀ y : S1x8192x128.Idx, (y 1).val < 512 * k → v.read (Elt F) f y = G y) :
    ∀ y : S1x8192x128.Idx, (y 1).val < 512 * (k + 1) →
      v.read (Elt F) (v.writes (Elt F) f [⟨Rect.unit (s := S1x8192x128) off S1x512x128.size inb, w⟩]) y = G y := by
  intro y hy
  by_cases h : (y 1).val < 512 * k
  · refine (View.read_writes_cons_unit_of_not_mem v f inb w [] y ho 1 (.inl ?_)).trans (hf y h)
    exact h
  · refine (View.read_writes_cons_unit_of_mem v f inb w [] y (inChunk y) ho fun a => ?_).trans (hw y (by omega)).symm
    have h0 : (y 0).val < 1 := (y 0).isLt
    match a with
    | ⟨0, _⟩ => show (y 0).val = 0 + 0; omega
    | ⟨1, _⟩ => show (y 1).val = 512 * k + (y 1).val % 512; omega
    | ⟨2, _⟩ => show (y 2).val = 0 + (y 2).val; omega

/-- The same of the dequantised keys. -/
theorem store_kd (v : View sig κ sp S8192x128 .bf16) (f : v.ty.Contents (Elt F)) {off : Fin 2 → ℕ}
    (inb : ∀ a, off a + S512x128.size a ≤ S8192x128.size a) (w : S512x128.Idx → Elt F .bf16) (k : ℕ)
    (ho : off = ![512 * k, 0]) (G : S8192x128.Idx → Elt F .bf16)
    (hw : ∀ y : S8192x128.Idx, (y 0).val / 512 = k → G y = w (inKd y))
    (hf : ∀ y : S8192x128.Idx, (y 0).val < 512 * k → v.read (Elt F) f y = G y) :
    ∀ y : S8192x128.Idx, (y 0).val < 512 * (k + 1) →
      v.read (Elt F) (v.writes (Elt F) f [⟨Rect.unit (s := S8192x128) off S512x128.size inb, w⟩]) y = G y := by
  intro y hy
  by_cases h : (y 0).val < 512 * k
  · exact (View.read_writes_cons_unit_of_not_mem v f inb w [] y ho 0 (.inl h)).trans (hf y h)
  · refine (View.read_writes_cons_unit_of_mem v f inb w [] y (inKd y) ho fun a => ?_).trans (hw y (by omega)).symm
    match a with
    | ⟨0, _⟩ => show (y 0).val = 512 * k + (y 0).val % 512; omega
    | ⟨1, _⟩ => show (y 1).val = 0 + (y 1).val; omega

/-- The same of the transposed values. -/
theorem store_vt (v : View sig κ sp S128x8192 .bf16) (f : v.ty.Contents (Elt F)) {off : Fin 2 → ℕ}
    (inb : ∀ a, off a + S128x512.size a ≤ S128x8192.size a) (w : S128x512.Idx → Elt F .bf16) (k : ℕ)
    (ho : off = ![0, 512 * k]) (G : S128x8192.Idx → Elt F .bf16)
    (hw : ∀ y : S128x8192.Idx, (y 1).val / 512 = k → G y = w (inVt y))
    (hf : ∀ y : S128x8192.Idx, (y 1).val < 512 * k → v.read (Elt F) f y = G y) :
    ∀ y : S128x8192.Idx, (y 1).val < 512 * (k + 1) →
      v.read (Elt F) (v.writes (Elt F) f [⟨Rect.unit (s := S128x8192) off S128x512.size inb, w⟩]) y = G y := by
  intro y hy
  by_cases h : (y 1).val < 512 * k
  · exact (View.read_writes_cons_unit_of_not_mem v f inb w [] y ho 1 (.inl h)).trans (hf y h)
  · refine (View.read_writes_cons_unit_of_mem v f inb w [] y (inVt y) ho fun a => ?_).trans (hw y (by omega)).symm
    match a with
    | ⟨0, _⟩ => show (y 0).val = 0 + (y 0).val; omega
    | ⟨1, _⟩ => show (y 1).val = 512 * k + (y 1).val % 512; omega

/-- The same of the scale codes. -/
theorem store_codes (v : View sig κ sp S1x1x4x8192 .i32) (f : v.ty.Contents (Elt F)) {off : Fin 4 → ℕ}
    (inb : ∀ a, off a + S1x1x4x512.size a ≤ S1x1x4x8192.size a) (w : S1x1x4x512.Idx → Elt F .i32) (k : ℕ)
    (ho : off = ![0, 0, 0, 512 * k]) (G : S1x1x4x8192.Idx → Elt F .i32)
    (hw : ∀ y : S1x1x4x8192.Idx, (y 3).val / 512 = k → G y = w (inCodes y))
    (hf : ∀ y : S1x1x4x8192.Idx, (y 3).val < 512 * k → v.read (Elt F) f y = G y) :
    ∀ y : S1x1x4x8192.Idx, (y 3).val < 512 * (k + 1) →
      v.read (Elt F) (v.writes (Elt F) f [⟨Rect.unit (s := S1x1x4x8192) off S1x1x4x512.size inb, w⟩]) y = G y := by
  intro y hy
  by_cases h : (y 3).val < 512 * k
  · exact (View.read_writes_cons_unit_of_not_mem v f inb w [] y ho 3 (.inl h)).trans (hf y h)
  · refine (View.read_writes_cons_unit_of_mem v f inb w [] y (inCodes y) ho fun a => ?_).trans (hw y (by omega)).symm
    have h0 : (y 0).val < 1 := (y 0).isLt
    have h1 : (y 1).val < 1 := (y 1).isLt
    match a with
    | ⟨0, _⟩ => show (y 0).val = 0 + 0; omega
    | ⟨1, _⟩ => show (y 1).val = 0 + 0; omega
    | ⟨2, _⟩ => show (y 2).val = 0 + (y 2).val; omega
    | ⟨3, _⟩ => show (y 3).val = 512 * k + (y 3).val % 512; omega

end StoreChunk

/-! ## The loop over the chunks -/

section Part6

variable (c : Dev nD) (i : grid0.Coords) (arg3 : Memref sig .tc .vmem S1x256x512 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x256x512 .bf16) (harg6 : arg6.IsWhole) (arg7 : Memref sig .tc .vmem S1x256x512 .fp8e4m3) (harg7 : arg7.IsWhole) (arg8 : Memref sig .tc .vmem S1x1x16x256 .i32) (harg8 : arg8.IsWhole) (arg9 : Memref sig .tc .vmem S1x8192x128 .fp8e4m3) (harg9 : arg9.IsWhole) (arg10 : Memref sig .tc .vmem S1x1x4x8192 .i32) (harg10 : arg10.IsWhole) (arg11 : Memref sig .tc .vmem S1x8192x128 .fp8e4m3) (harg11 : arg11.IsWhole) (arg12 : Memref sig .tc .vmem S1x1x4x8192 .i32) (harg12 : arg12.IsWhole) (arg13 : Memref sig .tc .vmem S8192x1024 .f32) (harg13 : arg13.IsWhole) (arg14 : Memref sig .tc .vmem S8192x128 .bf16) (harg14 : arg14.IsWhole) (arg15 : Memref sig .tc .vmem S128x8192 .bf16) (harg15 : arg15.IsWhole) (arg16 : Memref sig .tc .vmem S128x1024 .bf16) (harg16 : arg16.IsWhole)

/-- Before chunk `k`: the rows below `512 k` of the six buffers hold the block's codes, scale codes and dequantised
    keys and values. -/
def inv2 (f4 : arg4.view.ty.Contents (Elt F)) (f5 : arg5.view.ty.Contents (Elt F)) (k : ℕ) : sProp 𝕄 :=
  iprop((arg4.view.loc (c : Thread nD τ) ↦[arg4.view.set]{fullShare} f4) ∗ (arg5.view.loc (c : Thread nD τ) ↦[arg5.view.set]{fullShare} f5)
    ∗ (∃ g, (arg9.view.loc (c : Thread nD τ) ↦[arg9.view.set]{fullShare} g) ∗ ⌜∀ y : S1x8192x128.Idx, (y 1).val < 512 * k → arg9.view.read (Elt F) g y = KC (arg4.view.read (Elt F) f4) y⌝)
    ∗ (∃ g, (arg10.view.loc (c : Thread nD τ) ↦[arg10.view.set]{fullShare} g) ∗ ⌜∀ y : S1x1x4x8192.Idx, (y 3).val < 512 * k → arg10.view.read (Elt F) g y = KS (arg4.view.read (Elt F) f4) y⌝)
    ∗ (∃ g, (arg11.view.loc (c : Thread nD τ) ↦[arg11.view.set]{fullShare} g) ∗ ⌜∀ y : S1x8192x128.Idx, (y 1).val < 512 * k → arg11.view.read (Elt F) g y = VC (arg5.view.read (Elt F) f5) y⌝)
    ∗ (∃ g, (arg12.view.loc (c : Thread nD τ) ↦[arg12.view.set]{fullShare} g) ∗ ⌜∀ y : S1x1x4x8192.Idx, (y 3).val < 512 * k → arg12.view.read (Elt F) g y = VS (arg5.view.read (Elt F) f5) y⌝)
    ∗ (∃ g, (arg14.view.loc (c : Thread nD τ) ↦[arg14.view.set]{fullShare} g) ∗ ⌜∀ y : S8192x128.Idx, (y 0).val < 512 * k → arg14.view.read (Elt F) g y = KD (arg4.view.read (Elt F) f4) y⌝)
    ∗ (∃ g, (arg15.view.loc (c : Thread nD τ) ↦[arg15.view.set]{fullShare} g) ∗ ⌜∀ y : S128x8192.Idx, (y 1).val < 512 * k → arg15.view.read (Elt F) g y = VT (arg5.view.read (Elt F) f5) y⌝))

set_option backward.isDefEq.respectTransparency.types false in
set_option maxHeartbeats 1600000 in
/-- One chunk of the second loop. -/
theorem trip2 (E : Set ℕ) (h1 : k0_cond1 i = 1#1) (f4 : arg4.view.ty.Contents (Elt F)) (f5 : arg5.view.ty.Contents (Elt F))
    (k : Fin k0_t2_loop.trips) :
    inv2 (F := F) c arg4 arg5 arg9 arg10 arg11 arg12 arg14 arg15 f4 f5 k.val
      ⊢ wp frame (wpE (defs₀ (F := F)) Variants.none (c : Thread nD τ) none) E
          (k0_t2_body i arg3 harg3 arg4 harg4 arg5 harg5 arg6 harg6 arg7 harg7 arg8 harg8 arg9 harg9 arg10 harg10 arg11 harg11 arg12 harg12 arg13 harg13 arg14 harg14 arg15 harg15 arg16 harg16 h1 (mean (arg4.view.read (Elt F) f4)) k ())
          (fun _ => inv2 (F := F) c arg4 arg5 arg9 arg10 arg11 arg12 arg14 arg15 f4 f5 (k.val + 1)) := by
  have hk : k.val < 16 := trips2 ▸ k.isLt
  have e1 := ld_chunk (F := F) (arg4.view.read (Elt F) f4) (k0_off2_inb i k h1) k.val hk (k0_off2_eq k)
  have e2 := ld_chunk (F := F) (arg5.view.read (Elt F) f5) (k0_off2_inb i k h1) k.val hk (k0_off2_eq k)
  unfold inv2 k0_t2_body
  simp only [k0_part1_eq_skeleton, k0_part2_eq_skeleton, k0_part3_eq_skeleton, k0_part4_eq_skeleton, k0_part5_eq_skeleton]
  iintro ⟨H4, H5, ⟨%g9, H9, %h9⟩, ⟨%g10, H10, %h10⟩, ⟨%g11, H11, %h11⟩, ⟨%g12, H12, %h12⟩, ⟨%g14, H14, %h14⟩, ⟨%g15, H15, %h15⟩⟩
  sl_exec
  sl_step
  isplitl [H4]; · iexact H4
  isplitl [H5]; · iexact H5
  isplitl [H9]
  · iexists _; isplitl [H9]; · iexact H9
    ipureintro
    refine store_chunk arg9.view g9 (k0_off2_inb i k h1) _ k.val (k0_off2_eq k) _ (fun y hy => ?_) h9
    unfold KC; rw [hy]; rfl
  isplitl [H10]
  · iexists _; isplitl [H10]; · iexact H10
    ipureintro
    refine store_codes arg10.view g10 (k0_off4_inb i k h1) _ k.val (k0_off4_eq k) _ (fun y hy => ?_) h10
    unfold KS; rw [hy]; rfl
  isplitl [H11]
  · iexists _; isplitl [H11]; · iexact H11
    ipureintro
    refine store_chunk arg11.view g11 (k0_off2_inb i k h1) _ k.val (k0_off2_eq k) _ (fun y hy => ?_) h11
    unfold VC; rw [hy]; rfl
  isplitl [H12]
  · iexists _; isplitl [H12]; · iexact H12
    ipureintro
    refine store_codes arg12.view g12 (k0_off4_inb i k h1) _ k.val (k0_off4_eq k) _ (fun y hy => ?_) h12
    unfold VS; rw [hy]; rfl
  isplitl [H14]
  · iexists _; isplitl [H14]; · iexact H14
    ipureintro
    refine store_kd arg14.view g14 (k0_off3_inb i k h1) _ k.val (k0_off3_eq k) _ (fun y hy => ?_) h14
    unfold KD; rw [hy]; rfl
  iexists _; isplitl [H15]; · iexact H15
  ipureintro
  refine store_vt arg15.view g15 (k0_off5_inb i k h1) _ k.val (k0_off5_eq k) _ (fun y hy => ?_) h15
  unfold VT; rw [hy]; rfl

/-- Before chunk `k` of the first loop: the running sum. -/
def inv1 (f4 : arg4.view.ty.Contents (Elt F)) (k : ℕ) (acc : FVec F S8x128 .f32) : sProp 𝕄 :=
  iprop((arg4.view.loc (c : Thread nD τ) ↦[arg4.view.set]{fullShare} f4) ∗ ⌜acc = meanAcc (arg4.view.read (Elt F) f4) k⌝)

set_option backward.isDefEq.respectTransparency.types false in
set_option maxHeartbeats 1600000 in
/-- One chunk of the first loop. -/
theorem trip1 (E : Set ℕ) (h1 : k0_cond1 i = 1#1) (f4 : arg4.view.ty.Contents (Elt F)) (k : Fin k0_t1_loop.trips)
    (acc : FVec F S8x128 .f32) :
    inv1 (F := F) c arg4 f4 k.val acc
      ⊢ wp frame (wpE (defs₀ (F := F)) Variants.none (c : Thread nD τ) none) E (k0_t1_body i arg3 harg3 arg4 harg4 arg5 harg5 arg6 harg6 arg7 harg7 arg8 harg8 arg9 harg9 arg10 harg10 arg11 harg11 arg12 harg12 arg13 harg13 arg14 harg14 arg15 harg15 arg16 harg16 h1 k acc)
          (fun r => inv1 (F := F) c arg4 f4 (k.val + 1) r) := by
  have hk : k.val < 16 := trips1 ▸ k.isLt
  have e1 := ld_chunk (F := F) (arg4.view.read (Elt F) f4) (k0_off1_inb i k h1) k.val hk (k0_off1_eq k)
  unfold inv1 k0_t1_body
  iintro ⟨H4, %hacc⟩
  sl_exec
  sl_step
  isplitl [H4]; · iexact H4
  ipureintro
  rw [hacc]; rfl

/-- What the key and value part leaves: the two blocks as they were, the six buffers filled. -/
def kvPost (f4 : arg4.view.ty.Contents (Elt F)) (f5 : arg5.view.ty.Contents (Elt F)) : sProp 𝕄 :=
  iprop(∃ g9 g10 g11 g12 g14 g15, (arg4.view.loc (c : Thread nD τ) ↦[arg4.view.set]{fullShare} f4) ∗ (arg5.view.loc (c : Thread nD τ) ↦[arg5.view.set]{fullShare} f5) ∗ (arg9.view.loc (c : Thread nD τ) ↦[arg9.view.set]{fullShare} g9) ∗ (arg10.view.loc (c : Thread nD τ) ↦[arg10.view.set]{fullShare} g10) ∗ (arg11.view.loc (c : Thread nD τ) ↦[arg11.view.set]{fullShare} g11) ∗ (arg12.view.loc (c : Thread nD τ) ↦[arg12.view.set]{fullShare} g12) ∗ (arg14.view.loc (c : Thread nD τ) ↦[arg14.view.set]{fullShare} g14) ∗ (arg15.view.loc (c : Thread nD τ) ↦[arg15.view.set]{fullShare} g15)
    ∗ ⌜arg9.view.read (Elt F) g9 = KC (arg4.view.read (Elt F) f4) ∧ arg10.view.read (Elt F) g10 = KS (arg4.view.read (Elt F) f4) ∧ arg11.view.read (Elt F) g11 = VC (arg5.view.read (Elt F) f5) ∧ arg12.view.read (Elt F) g12 = VS (arg5.view.read (Elt F) f5)
        ∧ arg14.view.read (Elt F) g14 = KD (arg4.view.read (Elt F) f4) ∧ arg15.view.read (Elt F) g15 = VT (arg5.view.read (Elt F) f5)⌝)

set_option backward.isDefEq.respectTransparency.types false in
set_option maxHeartbeats 1600000 in
/-- The first part of the body: at a head's first query block it fills the six buffers, at the others it finds them
    filled; then it loads the query block. -/
theorem part6_spec (E : Set ℕ) (f3 : arg3.view.ty.Contents (Elt F)) (f4 : arg4.view.ty.Contents (Elt F))
    (f5 : arg5.view.ty.Contents (Elt F)) (g9 : arg9.view.ty.Contents (Elt F)) (g10 : arg10.view.ty.Contents (Elt F))
    (g11 : arg11.view.ty.Contents (Elt F)) (g12 : arg12.view.ty.Contents (Elt F)) (g14 : arg14.view.ty.Contents (Elt F))
    (g15 : arg15.view.ty.Contents (Elt F))
    (hpre : ¬ k0_cond1 i = 1#1 → arg9.view.read (Elt F) g9 = KC (arg4.view.read (Elt F) f4) ∧ arg10.view.read (Elt F) g10 = KS (arg4.view.read (Elt F) f4) ∧ arg11.view.read (Elt F) g11 = VC (arg5.view.read (Elt F) f5) ∧ arg12.view.read (Elt F) g12 = VS (arg5.view.read (Elt F) f5)
        ∧ arg14.view.read (Elt F) g14 = KD (arg4.view.read (Elt F) f4) ∧ arg15.view.read (Elt F) g15 = VT (arg5.view.read (Elt F) f5)) :
    iprop((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg9.view.loc (c : Thread nD τ) ↦[arg9.view.set]{fullShare} g9) ∗ (arg10.view.loc (c : Thread nD τ) ↦[arg10.view.set]{fullShare} g10) ∗ (arg11.view.loc (c : Thread nD τ) ↦[arg11.view.set]{fullShare} g11) ∗ (arg12.view.loc (c : Thread nD τ) ↦[arg12.view.set]{fullShare} g12) ∗ (arg14.view.loc (c : Thread nD τ) ↦[arg14.view.set]{fullShare} g14) ∗ (arg15.view.loc (c : Thread nD τ) ↦[arg15.view.set]{fullShare} g15))
      ⊢ wp frame (wpE (defs₀ (F := F)) Variants.none (c : Thread nD τ) none) E (k0_part6 i arg3 harg3 arg4 harg4 arg5 harg5 arg6 harg6 arg7 harg7 arg8 harg8 arg9 harg9 arg10 harg10 arg11 harg11 arg12 harg12 arg13 harg13 arg14 harg14 arg15 harg15 arg16 harg16)
          (fun r => iprop((arg3.view.loc (c : Thread nD τ) ↦[arg3.view.set]{fullShare} f3) ∗ kvPost (F := F) c arg4 arg5 arg9 arg10 arg11 arg12 arg14 arg15 f4 f5
            ∗ ⌜r = ⟨BitVec.ofNat 32 (i 2).val, k0_pay31 (arg3.view.read (Elt F) f3), k0_pay32 (arg3.view.read (Elt F) f3), k0_pay33 (arg3.view.read (Elt F) f3), k0_pay34 (arg3.view.read (Elt F) f3), k0_pay35 (arg3.view.read (Elt F) f3)⟩⌝)) := by
  have e3 : View.ld (arg3.view.read (Elt F) f3) (Rect.unit (s := S1x256x512) ![0, 0, 0] S1x256x512.size inb_S1x256x512_S1x256x512_0_0_0) = arg3.view.read (Elt F) f3 :=
    View.ld_unit_zero (by funext a; match a with | ⟨0, _⟩ => rfl | ⟨1, _⟩ => rfl | ⟨2, _⟩ => rfl) _ _
  by_cases h1 : k0_cond1 i = 1#1
  · simp only [k0_part6_eq_skeleton]
    unfold k0_part6_skel
    iintro ⟨H3, H4, H5, H9, H10, H11, H12, H14, H15⟩
    sl_exec
    sl_for (inv1 (F := F) c arg4 f4) $$ [H4]
    · exact fun k acc => trip1 c i arg3 harg3 arg4 harg4 arg5 harg5 arg6 harg6 arg7 harg7 arg8 harg8 arg9 harg9 arg10 harg10 arg11 harg11 arg12 harg12 arg13 harg13 arg14 harg14 arg15 harg15 arg16 harg16 E h1 f4 k acc
    · unfold inv1
      isplitl [H4]; · iexact H4
      ipureintro; rfl
    · iintro %acc HI
      unfold inv1
      icases HI with ⟨H4, %hacc⟩
      have hacc' : acc = mean (arg4.view.read (Elt F) f4) := hacc.trans (congrArg (meanAcc _) trips1)
      subst hacc'
      sl_exec
      sl_for (fun k _ => inv2 (F := F) c arg4 arg5 arg9 arg10 arg11 arg12 arg14 arg15 f4 f5 k) $$ [H4 H5 H9 H10 H11 H12 H14 H15]
      · exact fun k _ => trip2 c i arg3 harg3 arg4 harg4 arg5 harg5 arg6 harg6 arg7 harg7 arg8 harg8 arg9 harg9 arg10 harg10 arg11 harg11 arg12 harg12 arg13 harg13 arg14 harg14 arg15 harg15 arg16 harg16 E h1 f4 f5 k
      · unfold inv2
        isplitl [H4]; · iexact H4
        isplitl [H5]; · iexact H5
        isplitl [H9]
        · iexists g9; isplitl [H9]; · iexact H9
          ipureintro; exact fun y h => absurd h (Nat.not_lt_zero _)
        isplitl [H10]
        · iexists g10; isplitl [H10]; · iexact H10
          ipureintro; exact fun y h => absurd h (Nat.not_lt_zero _)
        isplitl [H11]
        · iexists g11; isplitl [H11]; · iexact H11
          ipureintro; exact fun y h => absurd h (Nat.not_lt_zero _)
        isplitl [H12]
        · iexists g12; isplitl [H12]; · iexact H12
          ipureintro; exact fun y h => absurd h (Nat.not_lt_zero _)
        isplitl [H14]
        · iexists g14; isplitl [H14]; · iexact H14
          ipureintro; exact fun y h => absurd h (Nat.not_lt_zero _)
        iexists g15; isplitl [H15]; · iexact H15
        ipureintro; exact fun y h => absurd h (Nat.not_lt_zero _)
      · iintro %acc2 HI
        unfold inv2
        icases HI with ⟨H4, H5, ⟨%k9, H9, %h9⟩, ⟨%k10, H10, %h10⟩, ⟨%k11, H11, %h11⟩, ⟨%k12, H12, %h12⟩, ⟨%k14, H14, %h14⟩, ⟨%k15, H15, %h15⟩⟩
        sl_exec
        sl_step
        isplitl [H3]; · iexact H3
        isplitl [H4 H5 H9 H10 H11 H12 H14 H15]
        · unfold kvPost
          iexists k9, k10, k11, k12, k14, k15
          iframe
          ipureintro
          have ht : ∀ n, n < 8192 → n < 512 * k0_t2_loop.trips := fun n hn => by rw [trips2]; omega
          exact ⟨funext fun y => h9 y (ht _ (y 1).isLt), funext fun y => h10 y (ht _ (y 3).isLt), funext fun y => h11 y (ht _ (y 1).isLt),
            funext fun y => h12 y (ht _ (y 3).isLt), funext fun y => h14 y (ht _ (y 0).isLt), funext fun y => h15 y (ht _ (y 1).isLt)⟩
        · ipureintro; rfl
  · simp only [k0_part6_eq_skeleton]
    unfold k0_part6_skel
    iintro ⟨H3, H4, H5, H9, H10, H11, H12, H14, H15⟩
    sl_exec
    sl_step
    isplitl [H3]; · iexact H3
    isplitl [H4 H5 H9 H10 H11 H12 H14 H15]
    · unfold kvPost
      iexists g9, g10, g11, g12, g14, g15
      iframe
      ipureintro
      exact hpre h1
    · ipureintro; rfl

end Part6

end Cert.Kernel.Spec

end
-- ==== Proof.KP.Blocks.lean ====
/- Loads and stores of one block of the attention part, and the loops' trip counts. -/
module

public import proofs.«01_k».proof.Proof.KP.KV

@[expose] public section

set_option maxRecDepth 16384

noncomputable section

namespace Cert.Kernel.Spec

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

-- the payloads are compared by name, never opened
attribute [local irreducible] k0_pay1 k0_pay2 k0_pay3 k0_pay4 k0_pay5 k0_pay6 k0_pay7 k0_pay8 k0_pay9 k0_pay10 k0_pay11 k0_pay12 k0_pay13 k0_pay14 k0_pay15 k0_pay16 k0_pay17 k0_pay18 k0_pay19 k0_pay20 k0_pay21 k0_pay22 k0_pay23 k0_pay24 k0_pay25 k0_pay26 k0_pay27 k0_pay28 k0_pay29 k0_pay30 k0_pay31 k0_pay32 k0_pay33 k0_pay34 k0_pay35 k0_pay36 k0_pay37 k0_pay38 k0_pay39 k0_pay40 k0_pay41 k0_pay42 k0_pay43 k0_pay44 k0_pay45 k0_pay46 k0_pay47 k0_pay48 k0_pay49 k0_pay50 k0_pay51 k0_pay52 k0_pay53 k0_pay54 k0_pay55 k0_pay56 k0_pay57 k0_pay58 k0_pay59 k0_pay60 k0_pay61 k0_pay62 k0_pay63 k0_pay64 k0_pay65 k0_pay66 k0_pay67 k0_pay68 k0_pay69

/-! ## Loads and stores of one block -/

/-- Loading key block `k` through its rectangle. -/
theorem ld_kBlk (x : Vec F S8192x128 .bf16) {off : Fin 2 → ℕ} (inb : ∀ a, off a + S256x128.size a ≤ S8192x128.size a)
    (k : ℕ) (hk : k < 32) (ho : off = ![256 * k, 0]) :
    View.ld x (Rect.unit (s := S8192x128) off S256x128.size inb) = kBlk x k := by
  subst ho
  funext j
  refine View.ld_unit_apply_of x _ _ inb j _ fun a => ?_
  have h0 : (j 0).val < 256 := (j 0).isLt
  match a with
  | ⟨0, _⟩ => show (256 * k + (j 0).val) % 8192 = 256 * k + (j 0).val; omega
  | ⟨1, _⟩ => show (j 1).val = 0 + (j 1).val; omega

/-- Loading value block `k` through its rectangle. -/
theorem ld_vBlk (x : Vec F S128x8192 .bf16) {off : Fin 2 → ℕ} (inb : ∀ a, off a + S128x256.size a ≤ S128x8192.size a)
    (k : ℕ) (hk : k < 32) (ho : off = ![0, 256 * k]) :
    View.ld x (Rect.unit (s := S128x8192) off S128x256.size inb) = vBlk x k := by
  subst ho
  funext j
  refine View.ld_unit_apply_of x _ _ inb j _ fun a => ?_
  have h0 : (j 1).val < 256 := (j 1).isLt
  match a with
  | ⟨0, _⟩ => show (j 0).val = 0 + (j 0).val; omega
  | ⟨1, _⟩ => show (256 * k + (j 1).val) % 8192 = 256 * k + (j 1).val; omega

/-- Where an index of the scores lies in its block. -/
def inS (y : S8192x1024.Idx) : S256x1024.Idx := fun a => match a with
  | ⟨0, _⟩ => ⟨(y 0).val % 256, Nat.mod_lt _ (by decide)⟩
  | ⟨1, _⟩ => ⟨(y 1).val, (y 1).isLt⟩

/-- Loading score block `k`, whose rows agree with a family of blocks, through its rectangle. -/
theorem ld_sBlk (x : Vec F S8192x1024 .f32) {off : Fin 2 → ℕ} (inb : ∀ a, off a + S256x1024.size a ≤ S8192x1024.size a)
    (k : ℕ) (hk : k < 32) (ho : off = ![256 * k, 0]) (G : ℕ → FVec F S256x1024 .f32) (n : ℕ) (hn : k < n)
    (hx : ∀ y : S8192x1024.Idx, (y 0).val < 256 * n → x y = G ((y 0).val / 256) (inS y)) :
    View.ld x (Rect.unit (s := S8192x1024) off S256x1024.size inb) = G k := by
  subst ho
  funext j
  have h0 : (j 0).val < 256 := (j 0).isLt
  have hlt : 256 * k + (j 0).val < 8192 := by omega
  let y : S8192x1024.Idx := fun a => match a with
    | ⟨0, _⟩ => ⟨256 * k + (j 0).val, hlt⟩
    | ⟨1, _⟩ => ⟨(j 1).val, (j 1).isLt⟩
  refine (View.ld_unit_apply_of x _ _ inb j y fun a => ?_).trans ((hx y ?_).trans ?_)
  · match a with
    | ⟨0, _⟩ => rfl
    | ⟨1, _⟩ => show (j 1).val = 0 + (j 1).val; omega
  · show 256 * k + (j 0).val < 256 * n; omega
  · have e1 : (y 0).val / 256 = k := by show (256 * k + (j 0).val) / 256 = k; omega
    have e2 : inS y = j := by
      funext a
      apply Fin.ext
      match a with
      | ⟨0, _⟩ => show (256 * k + (j 0).val) % 256 = (j 0).val; omega
      | ⟨1, _⟩ => rfl
    rw [e1, e2]

section Store

variable {sp : Space} {κ : Kind}

/-- A store of score block `k` extends the rows that agree with a family of blocks. -/
theorem store_s (v : View sig κ sp S8192x1024 .f32) (f : v.ty.Contents (Elt F)) {off : Fin 2 → ℕ}
    (inb : ∀ a, off a + S256x1024.size a ≤ S8192x1024.size a) (w : S256x1024.Idx → Elt F .f32) (k : ℕ)
    (ho : off = ![256 * k, 0]) (G G' : ℕ → FVec F S256x1024 .f32) (hw : G' k = w) (hG : ∀ j, j < k → G' j = G j)
    (hf : ∀ y : S8192x1024.Idx, (y 0).val < 256 * k → v.read (Elt F) f y = G ((y 0).val / 256) (inS y)) :
    ∀ y : S8192x1024.Idx, (y 0).val < 256 * (k + 1) →
      v.read (Elt F) (v.writes (Elt F) f [⟨Rect.unit (s := S8192x1024) off S256x1024.size inb, w⟩]) y
        = G' ((y 0).val / 256) (inS y) := by
  intro y hy
  by_cases h : (y 0).val < 256 * k
  · refine (View.read_writes_cons_unit_of_not_mem v f inb w [] y ho 0 (.inl h)).trans ((hf y h).trans ?_)
    rw [hG _ (by omega)]
  · have hk : (y 0).val / 256 = k := by omega
    rw [hk, hw]
    refine (View.read_writes_cons_unit_of_mem v f inb w [] y (inS y) ho fun a => ?_)
    match a with
    | ⟨0, _⟩ => show (y 0).val = 256 * k + (y 0).val % 256; omega
    | ⟨1, _⟩ => show (y 1).val = 0 + (y 1).val; omega

/-- The four heads' stores of the transposed queries leave them side by side. -/
theorem read_qt (v : View sig κ sp S128x1024 .bf16) (f : v.ty.Contents (Elt F))
    (i0 : ∀ a, (![0, 0] : Fin 2 → ℕ) a + S128x256.size a ≤ S128x1024.size a)
    (i1 : ∀ a, (![0, 256] : Fin 2 → ℕ) a + S128x256.size a ≤ S128x1024.size a)
    (i2 : ∀ a, (![0, 512] : Fin 2 → ℕ) a + S128x256.size a ≤ S128x1024.size a)
    (i3 : ∀ a, (![0, 768] : Fin 2 → ℕ) a + S128x256.size a ≤ S128x1024.size a)
    (w0 w1 w2 w3 : S128x256.Idx → Elt F .bf16) :
    v.read (Elt F) (v.writes (Elt F) f [⟨Rect.unit (s := S128x1024) ![0, 768] S128x256.size i3, w3⟩,
        ⟨Rect.unit (s := S128x1024) ![0, 512] S128x256.size i2, w2⟩, ⟨Rect.unit (s := S128x1024) ![0, 256] S128x256.size i1, w1⟩,
        ⟨Rect.unit (s := S128x1024) ![0, 0] S128x256.size i0, w0⟩])
      = fun y => if (y 1).val < 256 then w0 (inHead y) else if (y 1).val < 512 then w1 (inHead y)
          else if (y 1).val < 768 then w2 (inHead y) else w3 (inHead y) := by
  funext y
  have hy : (y 1).val < 1024 := (y 1).isLt
  have key : ∀ o : ℕ, o % 256 = 0 → o ≤ (y 1).val → (y 1).val < o + 256 →
      ∀ a, (y a).val = (![0, o] : Fin 2 → ℕ) a + (inHead y a).val := fun o ho h1 h2 a => by
    match a with
    | ⟨0, _⟩ => show (y 0).val = 0 + (y 0).val; omega
    | ⟨1, _⟩ => show (y 1).val = o + (y 1).val % 256; omega
  by_cases h0 : (y 1).val < 256
  · rw [if_pos h0]
    refine (View.read_writes_cons_unit_of_not_mem v f i3 w3 _ y rfl 1 (.inl ?_)).trans ?_
    · show (y 1).val < 768; omega
    refine (View.read_writes_cons_unit_of_not_mem v f i2 w2 _ y rfl 1 (.inl ?_)).trans ?_
    · show (y 1).val < 512; omega
    refine (View.read_writes_cons_unit_of_not_mem v f i1 w1 _ y rfl 1 (.inl h0)).trans ?_
    exact View.read_writes_cons_unit_of_mem v f i0 w0 _ y (inHead y) rfl (key 0 rfl (by omega) (by omega))
  rw [if_neg h0]
  by_cases h1 : (y 1).val < 512
  · rw [if_pos h1]
    refine (View.read_writes_cons_unit_of_not_mem v f i3 w3 _ y rfl 1 (.inl ?_)).trans ?_
    · show (y 1).val < 768; omega
    refine (View.read_writes_cons_unit_of_not_mem v f i2 w2 _ y rfl 1 (.inl h1)).trans ?_
    exact View.read_writes_cons_unit_of_mem v f i1 w1 _ y (inHead y) rfl (key 256 rfl (by omega) (by omega))
  rw [if_neg h1]
  by_cases h2 : (y 1).val < 768
  · rw [if_pos h2]
    refine (View.read_writes_cons_unit_of_not_mem v f i3 w3 _ y rfl 1 (.inl h2)).trans ?_
    exact View.read_writes_cons_unit_of_mem v f i2 w2 _ y (inHead y) rfl (key 512 rfl (by omega) (by omega))
  rw [if_neg h2]
  exact View.read_writes_cons_unit_of_mem v f i3 w3 _ y (inHead y) rfl (key 768 rfl (by omega) (by omega))

/-- The four heads' stores of the attention block leave them side by side. -/
theorem read_out (v : View sig κ sp S1x256x512 .bf16) (f : v.ty.Contents (Elt F))
    (i0 : ∀ a, (![0, 0, 0] : Fin 3 → ℕ) a + S1x256x128.size a ≤ S1x256x512.size a)
    (i1 : ∀ a, (![0, 0, 128] : Fin 3 → ℕ) a + S1x256x128.size a ≤ S1x256x512.size a)
    (i2 : ∀ a, (![0, 0, 256] : Fin 3 → ℕ) a + S1x256x128.size a ≤ S1x256x512.size a)
    (i3 : ∀ a, (![0, 0, 384] : Fin 3 → ℕ) a + S1x256x128.size a ≤ S1x256x512.size a)
    (w0 w1 w2 w3 : S1x256x128.Idx → Elt F .bf16) :
    v.read (Elt F) (v.writes (Elt F) f [⟨Rect.unit (s := S1x256x512) ![0, 0, 384] S1x256x128.size i3, w3⟩,
        ⟨Rect.unit (s := S1x256x512) ![0, 0, 256] S1x256x128.size i2, w2⟩,
        ⟨Rect.unit (s := S1x256x512) ![0, 0, 128] S1x256x128.size i1, w1⟩,
        ⟨Rect.unit (s := S1x256x512) ![0, 0, 0] S1x256x128.size i0, w0⟩])
      = fun y => if (y 2).val < 128 then w0 (inOut y) else if (y 2).val < 256 then w1 (inOut y)
          else if (y 2).val < 384 then w2 (inOut y) else w3 (inOut y) := by
  funext y
  have hy : (y 2).val < 512 := (y 2).isLt
  have hy0 : (y 0).val < 1 := (y 0).isLt
  have key : ∀ o : ℕ, o % 128 = 0 → o ≤ (y 2).val → (y 2).val < o + 128 →
      ∀ a, (y a).val = (![0, 0, o] : Fin 3 → ℕ) a + (inOut y a).val := fun o ho h1 h2 a => by
    match a with
    | ⟨0, _⟩ => show (y 0).val = 0 + 0; omega
    | ⟨1, _⟩ => show (y 1).val = 0 + (y 1).val; omega
    | ⟨2, _⟩ => show (y 2).val = o + (y 2).val % 128; omega
  by_cases h0 : (y 2).val < 128
  · rw [if_pos h0]
    refine (View.read_writes_cons_unit_of_not_mem v f i3 w3 _ y rfl 2 (.inl ?_)).trans ?_
    · show (y 2).val < 384; omega
    refine (View.read_writes_cons_unit_of_not_mem v f i2 w2 _ y rfl 2 (.inl ?_)).trans ?_
    · show (y 2).val < 256; omega
    refine (View.read_writes_cons_unit_of_not_mem v f i1 w1 _ y rfl 2 (.inl h0)).trans ?_
    exact View.read_writes_cons_unit_of_mem v f i0 w0 _ y (inOut y) rfl (key 0 rfl (by omega) (by omega))
  rw [if_neg h0]
  by_cases h1 : (y 2).val < 256
  · rw [if_pos h1]
    refine (View.read_writes_cons_unit_of_not_mem v f i3 w3 _ y rfl 2 (.inl ?_)).trans ?_
    · show (y 2).val < 384; omega
    refine (View.read_writes_cons_unit_of_not_mem v f i2 w2 _ y rfl 2 (.inl h1)).trans ?_
    exact View.read_writes_cons_unit_of_mem v f i1 w1 _ y (inOut y) rfl (key 128 rfl (by omega) (by omega))
  rw [if_neg h1]
  by_cases h2 : (y 2).val < 384
  · rw [if_pos h2]
    refine (View.read_writes_cons_unit_of_not_mem v f i3 w3 _ y rfl 2 (.inl h2)).trans ?_
    exact View.read_writes_cons_unit_of_mem v f i2 w2 _ y (inOut y) rfl (key 256 rfl (by omega) (by omega))
  rw [if_neg h2]
  exact View.read_writes_cons_unit_of_mem v f i3 w3 _ y (inOut y) rfl (key 384 rfl (by omega) (by omega))

/-- A store of a whole buffer leaves what it stored. -/
theorem read_whole {s : Shape} {e : EltTy} (v : View sig κ sp s e) (f : v.ty.Contents (Elt F)) {off : Fin s.rank → ℕ}
    (ho : off = fun _ => 0) (inb : ∀ a, off a + s.size a ≤ s.size a) (w : s.Idx → Elt F e) :
    v.read (Elt F) (v.writes (Elt F) f [⟨Rect.unit (s := s) off s.size inb, w⟩]) = w := by
  funext y
  exact View.read_writes_cons_unit_of_mem v f inb w [] y y ho fun a => (Nat.zero_add _).symm

end Store

/-! ## Trip counts -/

theorem trips3 (i : grid0.Coords) : (k0_t3_loop i).trips = (i 2).val := by
  have h : ∀ n : Fin 32, Scf.trips 0#32 (Scalar.addi 0#32 (Scalar.muli (Scalar.divsi (Scalar.subi (BitVec.ofNat 32 n.val) 0#32) 1#32) 1#32)) 1#32 = n.val := by
    decide +kernel
  exact h (i 2)
theorem trips5 (i : grid0.Coords) : (k0_t5_loop i).trips = (i 2).val + 1 := by
  have h : ∀ n : Fin 32, Scf.trips 0#32 (Scalar.addi 0#32 (Scalar.muli (Scalar.divsi (Scalar.subi (Scalar.addi (BitVec.ofNat 32 n.val) 1#32) 0#32) 1#32) 1#32)) 1#32 = n.val + 1 := by
    decide +kernel
  exact h (i 2)
theorem trips4 (i : grid0.Coords) : (k0_t4_loop i).trips = 0 := Nat.le_zero.mp (k0_t4_abs i).2.1
theorem trips6 (i : grid0.Coords) : (k0_t6_loop i).trips = 0 := Nat.le_zero.mp (k0_t6_abs i).2.1

end Cert.Kernel.Spec

end
-- ==== Proof.KP.Trips.lean ====
/- The two counted loops over the key blocks: the scores and the softmax sums. -/
module

public import proofs.«01_k».proof.Proof.KP.Blocks

@[expose] public section

set_option maxRecDepth 16384

noncomputable section

namespace Cert.Kernel.Spec

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

-- the payloads are compared by name, never opened
attribute [local irreducible] k0_pay1 k0_pay2 k0_pay3 k0_pay4 k0_pay5 k0_pay6 k0_pay7 k0_pay8 k0_pay9 k0_pay10 k0_pay11 k0_pay12 k0_pay13 k0_pay14 k0_pay15 k0_pay16 k0_pay17 k0_pay18 k0_pay19 k0_pay20 k0_pay21 k0_pay22 k0_pay23 k0_pay24 k0_pay25 k0_pay26 k0_pay27 k0_pay28 k0_pay29 k0_pay30 k0_pay31 k0_pay32 k0_pay33 k0_pay34 k0_pay35 k0_pay36 k0_pay37 k0_pay38 k0_pay39 k0_pay40 k0_pay41 k0_pay42 k0_pay43 k0_pay44 k0_pay45 k0_pay46 k0_pay47 k0_pay48 k0_pay49 k0_pay50 k0_pay51 k0_pay52 k0_pay53 k0_pay54 k0_pay55 k0_pay56 k0_pay57 k0_pay58 k0_pay59 k0_pay60 k0_pay61 k0_pay62 k0_pay63 k0_pay64 k0_pay65 k0_pay66 k0_pay67 k0_pay68 k0_pay69

section Body

variable (c : Dev nD) (i : grid0.Coords) (arg3 : Memref sig .tc .vmem S1x256x512 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x256x512 .bf16) (harg6 : arg6.IsWhole) (arg7 : Memref sig .tc .vmem S1x256x512 .fp8e4m3) (harg7 : arg7.IsWhole) (arg8 : Memref sig .tc .vmem S1x1x16x256 .i32) (harg8 : arg8.IsWhole) (arg9 : Memref sig .tc .vmem S1x8192x128 .fp8e4m3) (harg9 : arg9.IsWhole) (arg10 : Memref sig .tc .vmem S1x1x4x8192 .i32) (harg10 : arg10.IsWhole) (arg11 : Memref sig .tc .vmem S1x8192x128 .fp8e4m3) (harg11 : arg11.IsWhole) (arg12 : Memref sig .tc .vmem S1x1x4x8192 .i32) (harg12 : arg12.IsWhole) (arg13 : Memref sig .tc .vmem S8192x1024 .f32) (harg13 : arg13.IsWhole) (arg14 : Memref sig .tc .vmem S8192x128 .bf16) (harg14 : arg14.IsWhole) (arg15 : Memref sig .tc .vmem S128x8192 .bf16) (harg15 : arg15.IsWhole) (arg16 : Memref sig .tc .vmem S128x1024 .bf16) (harg16 : arg16.IsWhole)

/-- Before key block `k`: the score rows below `256 k` hold the blocks' scores, and the running maximum. -/
def inv3 (kd : Vec F S8192x128 .bf16) (qt : Vec F S128x1024 .bf16) (k : ℕ) (acc : FVec F S8x1024 .f32) : sProp 𝕄 :=
  iprop((∃ g, (arg14.view.loc (c : Thread nD τ) ↦[arg14.view.set]{fullShare} g) ∗ ⌜arg14.view.read (Elt F) g = kd⌝) ∗ (∃ g, (arg16.view.loc (c : Thread nD τ) ↦[arg16.view.set]{fullShare} g) ∗ ⌜arg16.view.read (Elt F) g = qt⌝)
    ∗ (∃ g, (arg13.view.loc (c : Thread nD τ) ↦[arg13.view.set]{fullShare} g) ∗ ⌜∀ y : S8192x1024.Idx, (y 0).val < 256 * k → arg13.view.read (Elt F) g y = (fun j => k0_pay50 (kBlk kd j) qt) ((y 0).val / 256) (inS y)⌝)
    ∗ ⌜acc = mAcc kd qt k⌝)

theorem whole16 (x : Vec F S128x1024 .bf16) : View.ld x (Rect.unit (s := S128x1024) ![0, 0] S128x1024.size inb_S128x1024_S128x1024_0_0) = x :=
  View.ld_unit_zero (by funext a; match a with | ⟨0, _⟩ => rfl | ⟨1, _⟩ => rfl) _ _

set_option backward.isDefEq.respectTransparency.types false in
set_option maxHeartbeats 400000 in
/-- One key block of the score loop. -/
theorem trip3 (E : Set ℕ) (kd : Vec F S8192x128 .bf16) (qt : Vec F S128x1024 .bf16) (u : BitVec 32) (v121 : FVec F S128x256 .bf16)
    (v122 : Vec F S128x256 .bf16) (k : Fin (k0_t3_loop i).trips) (acc : FVec F S8x1024 .f32) :
    inv3 (F := F) c arg13 arg14 arg16 kd qt k.val acc
      ⊢ wp frame (wpE (defs₀ (F := F)) Variants.none (c : Thread nD τ) none) E (k0_t3_body i arg3 harg3 arg4 harg4 arg5 harg5 arg6 harg6 arg7 harg7 arg8 harg8 arg9 harg9 arg10 harg10 arg11 harg11 arg12 harg12 arg13 harg13 arg14 harg14 arg15 harg15 arg16 harg16 u v121 v122 k acc)
          (fun r => inv3 (F := F) c arg13 arg14 arg16 kd qt (k.val + 1) r) := by
  have hi : (i 2).val < 32 := (i 2).isLt
  have hk : k.val < 32 := lt_trans (lt_of_lt_of_eq k.isLt (trips3 i)) hi
  unfold inv3 k0_t3_body
  iintro ⟨⟨%g14, H14, %e14⟩, ⟨%g16, H16, %e16⟩, ⟨%g13, H13, %h13⟩, %hacc⟩
  subst e14 e16 hacc
  have e1 := ld_kBlk (F := F) (arg14.view.read (Elt F) g14) (k0_off6_inb i k) k.val hk (k0_off6_eq i k)
  have e2 := whole16 (F := F) (arg16.view.read (Elt F) g16)
  sl_exec
  sl_step
  isplitl [H14]
  · iexists g14; isplitl [H14]; · iexact H14
    ipureintro; rfl
  isplitl [H16]
  · iexists g16; isplitl [H16]; · iexact H16
    ipureintro; rfl
  isplitl [H13]
  · iexists _; isplitl [H13]; · iexact H13
    ipureintro
    refine store_s arg13.view g13 (k0_off7_inb i k) _ k.val (k0_off7_eq i k) (fun j => k0_pay50 (kBlk (arg14.view.read (Elt F) g14) j) (arg16.view.read (Elt F) g16)) (fun j => k0_pay50 (kBlk (arg14.view.read (Elt F) g14) j) (arg16.view.read (Elt F) g16)) ?_ (fun _ _ => rfl) h13
    exact rfl
  ipureintro; rfl

/-- Before key block `k` of the softmax loop: the sums so far. -/
def inv5 (kd : Vec F S8192x128 .bf16) (vt : Vec F S128x8192 .bf16) (qt : Vec F S128x1024 .bf16)
    (g13 : arg13.view.ty.Contents (Elt F)) (g15 : arg15.view.ty.Contents (Elt F)) (k : ℕ)
    (acc : FVec F S8x1024 .f32 × FVec F S128x1024 .f32) : sProp 𝕄 :=
  iprop((arg13.view.loc (c : Thread nD τ) ↦[arg13.view.set]{fullShare} g13) ∗ (arg15.view.loc (c : Thread nD τ) ↦[arg15.view.set]{fullShare} g15) ∗ ⌜acc = lAcc kd vt qt (i 2).val k⌝)

set_option backward.isDefEq.respectTransparency.types false in
set_option maxHeartbeats 400000 in
/-- One key block of the softmax loop. -/
theorem trip5 (E : Set ℕ) (kd : Vec F S8192x128 .bf16) (qt : Vec F S128x1024 .bf16)
    (g13 : arg13.view.ty.Contents (Elt F)) (g15 : arg15.view.ty.Contents (Elt F))
    (h13 : ∀ y : S8192x1024.Idx, (y 0).val < 256 * ((i 2).val + 1) → arg13.view.read (Elt F) g13 y = sBlk kd qt (i 2).val ((y 0).val / 256) (inS y))
    (u : BitVec 32) (v132 : FVec F S8x1024 .f32) (hm : v132 = mAcc kd qt (i 2).val) (v158 : FVec F S256x1024 .f32)
    (hs : v158 = sDiag kd qt (i 2).val) (k : Fin (k0_t5_loop i).trips) (acc : FVec F S8x1024 .f32 × FVec F S128x1024 .f32) :
    inv5 (F := F) c i arg13 arg15 kd (arg15.view.read (Elt F) g15) qt g13 g15 k.val acc
      ⊢ wp frame (wpE (defs₀ (F := F)) Variants.none (c : Thread nD τ) none) E
          (k0_t5_body i arg3 harg3 arg4 harg4 arg5 harg5 arg6 harg6 arg7 harg7 arg8 harg8 arg9 harg9 arg10 harg10 arg11 harg11 arg12 harg12 arg13 harg13 arg14 harg14 arg15 harg15 arg16 harg16 u v132 v158 k acc)
          (fun r => inv5 (F := F) c i arg13 arg15 kd (arg15.view.read (Elt F) g15) qt g13 g15 (k.val + 1) r) := by
  have hi : (i 2).val < 32 := (i 2).isLt
  have hk : k.val < (i 2).val + 1 := lt_of_lt_of_eq k.isLt (trips5 i)
  have e1 := ld_sBlk (F := F) (arg13.view.read (Elt F) g13) (k0_off12_inb i k) k.val (by omega) (k0_off12_eq i k) (sBlk kd qt (i 2).val) _ hk h13
  have e2 := ld_vBlk (F := F) (arg15.view.read (Elt F) g15) (k0_off13_inb i k) k.val (by omega) (k0_off13_eq i k)
  unfold inv5 k0_t5_body
  iintro ⟨H13, H15, %hacc⟩
  subst hacc hm hs
  sl_exec
  sl_step
  isplitl [H13]; · iexact H13
  isplitl [H15]; · iexact H15
  ipureintro; rfl

end Body

end Cert.Kernel.Spec

end
-- ==== Proof.KP.Body.lean ====
/- The whole body: the query block, the scores against the key blocks up to the diagonal, the softmax sums and
   the attention block; and what the whole body leaves. -/
module

public import proofs.«01_k».proof.Proof.KP.Trips

@[expose] public section

set_option maxRecDepth 16384

noncomputable section

namespace Cert.Kernel.Spec

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

-- the payloads are compared by name, never opened
attribute [local irreducible] k0_pay1 k0_pay2 k0_pay3 k0_pay4 k0_pay5 k0_pay6 k0_pay7 k0_pay8 k0_pay9 k0_pay10 k0_pay11 k0_pay12 k0_pay13 k0_pay14 k0_pay15 k0_pay16 k0_pay17 k0_pay18 k0_pay19 k0_pay20 k0_pay21 k0_pay22 k0_pay23 k0_pay24 k0_pay25 k0_pay26 k0_pay27 k0_pay28 k0_pay29 k0_pay30 k0_pay31 k0_pay32 k0_pay33 k0_pay34 k0_pay35 k0_pay36 k0_pay37 k0_pay38 k0_pay39 k0_pay40 k0_pay41 k0_pay42 k0_pay43 k0_pay44 k0_pay45 k0_pay46 k0_pay47 k0_pay48 k0_pay49 k0_pay50 k0_pay51 k0_pay52 k0_pay53 k0_pay54 k0_pay55 k0_pay56 k0_pay57 k0_pay58 k0_pay59 k0_pay60 k0_pay61 k0_pay62 k0_pay63 k0_pay64 k0_pay65 k0_pay66 k0_pay67 k0_pay68 k0_pay69

section Body

variable (c : Dev nD) (i : grid0.Coords) (arg3 : Memref sig .tc .vmem S1x256x512 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x256x512 .bf16) (harg6 : arg6.IsWhole) (arg7 : Memref sig .tc .vmem S1x256x512 .fp8e4m3) (harg7 : arg7.IsWhole) (arg8 : Memref sig .tc .vmem S1x1x16x256 .i32) (harg8 : arg8.IsWhole) (arg9 : Memref sig .tc .vmem S1x8192x128 .fp8e4m3) (harg9 : arg9.IsWhole) (arg10 : Memref sig .tc .vmem S1x1x4x8192 .i32) (harg10 : arg10.IsWhole) (arg11 : Memref sig .tc .vmem S1x8192x128 .fp8e4m3) (harg11 : arg11.IsWhole) (arg12 : Memref sig .tc .vmem S1x1x4x8192 .i32) (harg12 : arg12.IsWhole) (arg13 : Memref sig .tc .vmem S8192x1024 .f32) (harg13 : arg13.IsWhole) (arg14 : Memref sig .tc .vmem S8192x128 .bf16) (harg14 : arg14.IsWhole) (arg15 : Memref sig .tc .vmem S128x8192 .bf16) (harg15 : arg15.IsWhole) (arg16 : Memref sig .tc .vmem S128x1024 .bf16) (harg16 : arg16.IsWhole)

theorem zero3 : (![0, 0, 0] : Fin 3 → ℕ) = fun _ => 0 := by
  funext a; match a with | ⟨0, _⟩ => rfl | ⟨1, _⟩ => rfl | ⟨2, _⟩ => rfl
theorem zero4 : (![0, 0, 0, 0] : Fin 4 → ℕ) = fun _ => 0 := by
  funext a; match a with | ⟨0, _⟩ => rfl | ⟨1, _⟩ => rfl | ⟨2, _⟩ => rfl | ⟨3, _⟩ => rfl

/-- What the body leaves in its fourteen buffers, given what the three inputs hold. -/
def bodyPost (f3 : arg3.view.ty.Contents (Elt F)) (f4 : arg4.view.ty.Contents (Elt F)) (f5 : arg5.view.ty.Contents (Elt F)) : sProp 𝕄 :=
  iprop(∃ g6 g7 g8 g9 g10 g11 g12 g13 g14 g15 g16, (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} g6) ∗ (arg7.view.loc (c : Thread nD τ) ↦[arg7.view.set]{fullShare} g7) ∗ (arg8.view.loc (c : Thread nD τ) ↦[arg8.view.set]{fullShare} g8) ∗ (arg9.view.loc (c : Thread nD τ) ↦[arg9.view.set]{fullShare} g9) ∗ (arg10.view.loc (c : Thread nD τ) ↦[arg10.view.set]{fullShare} g10) ∗ (arg11.view.loc (c : Thread nD τ) ↦[arg11.view.set]{fullShare} g11) ∗ (arg12.view.loc (c : Thread nD τ) ↦[arg12.view.set]{fullShare} g12)
    ∗ (arg13.view.loc (c : Thread nD τ) ↦[arg13.view.set]{fullShare} g13) ∗ (arg14.view.loc (c : Thread nD τ) ↦[arg14.view.set]{fullShare} g14) ∗ (arg15.view.loc (c : Thread nD τ) ↦[arg15.view.set]{fullShare} g15) ∗ (arg16.view.loc (c : Thread nD τ) ↦[arg16.view.set]{fullShare} g16)
    ∗ ⌜arg6.view.read (Elt F) g6 = OUT (i 2).val (arg3.view.read (Elt F) f3) (arg4.view.read (Elt F) f4) (arg5.view.read (Elt F) f5) ∧ arg7.view.read (Elt F) g7 = QC (arg3.view.read (Elt F) f3) ∧ arg8.view.read (Elt F) g8 = QS (arg3.view.read (Elt F) f3)
        ∧ arg9.view.read (Elt F) g9 = KC (arg4.view.read (Elt F) f4) ∧ arg10.view.read (Elt F) g10 = KS (arg4.view.read (Elt F) f4) ∧ arg11.view.read (Elt F) g11 = VC (arg5.view.read (Elt F) f5) ∧ arg12.view.read (Elt F) g12 = VS (arg5.view.read (Elt F) f5)
        ∧ arg14.view.read (Elt F) g14 = KD (arg4.view.read (Elt F) f4) ∧ arg15.view.read (Elt F) g15 = VT (arg5.view.read (Elt F) f5)⌝)

set_option backward.isDefEq.respectTransparency.types false in
set_option maxHeartbeats 800000 in
/-- The whole body at one grid point. -/
theorem body_spec (E : Set ℕ) (f3 : arg3.view.ty.Contents (Elt F)) (f4 : arg4.view.ty.Contents (Elt F))
    (f5 : arg5.view.ty.Contents (Elt F)) (g6 : arg6.view.ty.Contents (Elt F)) (g7 : arg7.view.ty.Contents (Elt F)) (g8 : arg8.view.ty.Contents (Elt F))
    (g9 : arg9.view.ty.Contents (Elt F)) (g10 : arg10.view.ty.Contents (Elt F))
    (g11 : arg11.view.ty.Contents (Elt F)) (g12 : arg12.view.ty.Contents (Elt F)) (g13 : arg13.view.ty.Contents (Elt F)) (g14 : arg14.view.ty.Contents (Elt F))
    (g15 : arg15.view.ty.Contents (Elt F)) (g16 : arg16.view.ty.Contents (Elt F))
    (hpre : ¬ k0_cond1 i = 1#1 → arg9.view.read (Elt F) g9 = KC (arg4.view.read (Elt F) f4) ∧ arg10.view.read (Elt F) g10 = KS (arg4.view.read (Elt F) f4) ∧ arg11.view.read (Elt F) g11 = VC (arg5.view.read (Elt F) f5) ∧ arg12.view.read (Elt F) g12 = VS (arg5.view.read (Elt F) f5)
        ∧ arg14.view.read (Elt F) g14 = KD (arg4.view.read (Elt F) f4) ∧ arg15.view.read (Elt F) g15 = VT (arg5.view.read (Elt F) f5)) :
    iprop((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} g6) ∗ (arg7.view.loc (c : Thread nD τ) ↦[arg7.view.set]{fullShare} g7) ∗ (arg8.view.loc (c : Thread nD τ) ↦[arg8.view.set]{fullShare} g8) ∗ (arg9.view.loc (c : Thread nD τ) ↦[arg9.view.set]{fullShare} g9) ∗ (arg10.view.loc (c : Thread nD τ) ↦[arg10.view.set]{fullShare} g10) ∗ (arg11.view.loc (c : Thread nD τ) ↦[arg11.view.set]{fullShare} g11) ∗ (arg12.view.loc (c : Thread nD τ) ↦[arg12.view.set]{fullShare} g12) ∗ (arg13.view.loc (c : Thread nD τ) ↦[arg13.view.set]{fullShare} g13) ∗ (arg14.view.loc (c : Thread nD τ) ↦[arg14.view.set]{fullShare} g14) ∗ (arg15.view.loc (c : Thread nD τ) ↦[arg15.view.set]{fullShare} g15) ∗ (arg16.view.loc (c : Thread nD τ) ↦[arg16.view.set]{fullShare} g16))
      ⊢ wp frame (wpE (defs₀ (F := F)) Variants.none (c : Thread nD τ) none) E (cc0_sage_attn i arg3 harg3 arg4 harg4 arg5 harg5 arg6 harg6 arg7 harg7 arg8 harg8 arg9 harg9 arg10 harg10 arg11 harg11 arg12 harg12 arg13 harg13 arg14 harg14 arg15 harg15 arg16 harg16)
          (fun _ => bodyPost (F := F) c i arg3 arg4 arg5 arg6 arg7 arg8 arg9 arg10 arg11 arg12 arg13 arg14 arg15 arg16 f3 f4 f5) := by
  have hcut := part6_spec (F := F) c i arg3 harg3 arg4 harg4 arg5 harg5 arg6 harg6 arg7 harg7 arg8 harg8 arg9 harg9 arg10 harg10 arg11 harg11 arg12 harg12 arg13 harg13 arg14 harg14 arg15 harg15 arg16 harg16 E f3 f4 f5 g9 g10 g11 g12 g14 g15 hpre
  unfold kvPost at hcut
  have hi : (i 2).val < 32 := (i 2).isLt
  simp only [cc0_sage_attn_eq_skeleton]
  unfold cc0_sage_attn_skel
  simp only [k0_part7_eq_skeleton, k0_part8_eq_skeleton, k0_part9_eq_skeleton, k0_part10_eq_skeleton]
  iintro ⟨H3, H4, H5, H6, H7, H8, H9, H10, H11, H12, H13, H14, H15, H16⟩
  sl_exec
  obtain ⟨q9, q10, q11, q12, q14, q15⟩ := hk0_part6_9
  cases hk0_part6_10
  have htr4 := trips4 i
  have htr6 := trips6 i
  sl_for (inv3 (F := F) c arg13 arg14 arg16 (KD (arg4.view.read (Elt F) f4)) (QT (arg3.view.read (Elt F) f3))) $$ [H13 Hk0_part6_7 H16]
  · exact fun k acc => trip3 c i arg3 harg3 arg4 harg4 arg5 harg5 arg6 harg6 arg7 harg7 arg8 harg8 arg9 harg9 arg10 harg10 arg11 harg11 arg12 harg12 arg13 harg13 arg14 harg14 arg15 harg15 arg16 harg16 E _ _ _ _ _ k acc
  · unfold inv3
    isplitl [Hk0_part6_7]
    · iexists _; isplitl [Hk0_part6_7]; · iexact Hk0_part6_7
      ipureintro; exact q14
    isplitl [H16]
    · iexists _; isplitl [H16]; · iexact H16
      ipureintro
      refine (read_qt arg16.view _ _ _ _ _ _ _ _ _).trans ?_
      exact rfl
    isplitl [H13]
    · iexists g13; isplitl [H13]; · iexact H13
      ipureintro; exact fun y h => absurd h (Nat.not_lt_zero _)
    ipureintro; exact rfl
  · iintro %acc HI
    unfold inv3
    icases HI with ⟨⟨%k14, H14, %h14⟩, ⟨%k16, H16, %h16⟩, ⟨%k13, H13, %h13⟩, %hacc⟩
    have hacc' : acc = mAcc (KD (arg4.view.read (Elt F) f4)) (QT (arg3.view.read (Elt F) f3)) (i 2).val := hacc.trans (congrArg (mAcc _ _) (trips3 i))
    subst hacc'
    have e10 := ld_kBlk (F := F) (arg14.view.read (Elt F) k14) (k0_off10_inb i) (i 2).val hi (k0_off10_eq i)
    have e16 := whole16 (F := F) (arg16.view.read (Elt F) k16)
    sl_exec
    have hr5 : body_spec.sl.r_5 c i arg14 arg16 k14 k16 = sDiag (KD (arg4.view.read (Elt F) f4)) (QT (arg3.view.read (Elt F) f3)) (i 2).val := by
      unfold sDiag; rw [← h14, ← h16]; exact rfl
    have h13' := store_s (F := F) arg13.view k13 (k0_off11_inb i) (k0_pay56 (body_spec.sl.r_5 c i arg14 arg16 k14 k16)) (i 2).val (k0_off11_eq i)
      (fun j => k0_pay50 (kBlk (KD (arg4.view.read (Elt F) f4)) j) (QT (arg3.view.read (Elt F) f3))) (sBlk (KD (arg4.view.read (Elt F) f4)) (QT (arg3.view.read (Elt F) f3)) (i 2).val)
      (by rw [hr5]; unfold sBlk; rw [if_neg (lt_irrefl _)]) (fun j hj => by unfold sBlk; rw [if_pos hj])
      (fun y hy => h13 y (lt_of_lt_of_eq hy (congrArg (256 * ·) (trips3 i).symm)))
    sl_for (inv5 (F := F) c i arg13 arg15 (KD (arg4.view.read (Elt F) f4)) (arg15.view.read (Elt F) g15k0_part6_5) (QT (arg3.view.read (Elt F) f3)) _ g15k0_part6_5) $$ [H13 Hk0_part6_8]
    · exact fun k acc => trip5 c i arg3 harg3 arg4 harg4 arg5 harg5 arg6 harg6 arg7 harg7 arg8 harg8 arg9 harg9 arg10 harg10 arg11 harg11 arg12 harg12 arg13 harg13 arg14 harg14 arg15 harg15 arg16 harg16 E _ _ _ _ h13' _ _ rfl _ hr5 k acc
    · unfold inv5
      isplitl [H13]; · iexact H13
      isplitl [Hk0_part6_8]; · iexact Hk0_part6_8
      ipureintro; exact rfl
    · iintro %acc5 HI
      unfold inv5
      icases HI with ⟨H13, H15, %hacc5⟩
      sl_exec
      sl_step
      unfold bodyPost
      iexists _, _, _, _, _, _, _, _, _, _, _
      isplitl [Hk0_part6_0]; · iexact Hk0_part6_0
      isplitl [Hk0_part6_1]; · iexact Hk0_part6_1
      isplitl [Hk0_part6_2]; · iexact Hk0_part6_2
      isplitl [H6]; · iexact H6
      isplitl [H7]; · iexact H7
      isplitl [H8]; · iexact H8
      isplitl [Hk0_part6_3]; · iexact Hk0_part6_3
      isplitl [Hk0_part6_4]; · iexact Hk0_part6_4
      isplitl [Hk0_part6_5]; · iexact Hk0_part6_5
      isplitl [Hk0_part6_6]; · iexact Hk0_part6_6
      isplitl [H13]; · iexact H13
      isplitl [H14]; · iexact H14
      isplitl [H15]; · iexact H15
      isplitl [H16]; · iexact H16
      ipureintro
      have ha : acc5 = lAcc (KD (arg4.view.read (Elt F) f4)) (VT (arg5.view.read (Elt F) f5)) (QT (arg3.view.read (Elt F) f3)) (i 2).val ((i 2).val + 1) := by
        rw [← q15]; exact hacc5.trans (congrArg (lAcc _ _ _ _) (trips5 i))
      refine ⟨?_, ?_, ?_, q9, q10, q11, q12, h14, q15⟩
      · refine (read_out arg6.view _ _ _ _ _ _ _ _ _).trans ?_
        unfold OUT outOf
        rw [← ha]; exact rfl
      · refine (read_whole arg7.view _ zero3 _ _).trans ?_
        exact rfl
      · refine (read_whole arg8.view _ zero4 _ _).trans ?_
        exact rfl

end Body

end Cert.Kernel.Spec

end
-- ==== Proof.KP.Owns.lean ====
/- The body over owned contents, and the facts of a grid point. -/
module

public import proofs.«01_k».proof.Proof.KP.Body

@[expose] public section

set_option maxRecDepth 16384

noncomputable section

namespace Cert.Kernel.Spec

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

section Owns

variable (c : Dev nD) (i : grid0.Coords) (arg3 : Memref sig .tc .vmem S1x256x512 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x256x512 .bf16) (harg6 : arg6.IsWhole) (arg7 : Memref sig .tc .vmem S1x256x512 .fp8e4m3) (harg7 : arg7.IsWhole) (arg8 : Memref sig .tc .vmem S1x1x16x256 .i32) (harg8 : arg8.IsWhole) (arg9 : Memref sig .tc .vmem S1x8192x128 .fp8e4m3) (harg9 : arg9.IsWhole) (arg10 : Memref sig .tc .vmem S1x1x4x8192 .i32) (harg10 : arg10.IsWhole) (arg11 : Memref sig .tc .vmem S1x8192x128 .fp8e4m3) (harg11 : arg11.IsWhole) (arg12 : Memref sig .tc .vmem S1x1x4x8192 .i32) (harg12 : arg12.IsWhole) (arg13 : Memref sig .tc .vmem S8192x1024 .f32) (harg13 : arg13.IsWhole) (arg14 : Memref sig .tc .vmem S8192x128 .bf16) (harg14 : arg14.IsWhole) (arg15 : Memref sig .tc .vmem S128x8192 .bf16) (harg15 : arg15.IsWhole) (arg16 : Memref sig .tc .vmem S128x1024 .bf16) (harg16 : arg16.IsWhole)

/-- The whole body, over owned contents: the inputs stay, the outputs hold the attention block, the codes and the scale
    codes, the two carried scratch buffers the dequantised keys and values. -/
theorem sound_kernel (E : Set ℕ) (x0 : Vec F S1x256x512 .bf16) (x1 : Vec F S1x8192x128 .bf16) (x2 : Vec F S1x8192x128 .bf16) (y6 : Vec F S1x256x512 .bf16) (y7 : Vec F S1x256x512 .fp8e4m3) (y8 : Vec F S1x1x16x256 .i32) (y9 : Vec F S1x8192x128 .fp8e4m3) (y10 : Vec F S1x1x4x8192 .i32) (y11 : Vec F S1x8192x128 .fp8e4m3) (y12 : Vec F S1x1x4x8192 .i32) (y13 : Vec F S8192x1024 .f32) (y14 : Vec F S8192x128 .bf16) (y15 : Vec F S128x8192 .bf16) (y16 : Vec F S128x1024 .bf16)
    (hpre : ¬ k0_cond1 i = 1#1 → y9 = KC x1 ∧ y10 = KS x1 ∧ y11 = VC x2 ∧ y12 = VS x2 ∧ y14 = KD x1 ∧ y15 = VT x2) :
    (iprop(owns (c : Thread nD τ) arg3 fullShare x0 ∗ owns (c : Thread nD τ) arg4 fullShare x1 ∗ owns (c : Thread nD τ) arg5 fullShare x2 ∗ owns (c : Thread nD τ) arg6 fullShare y6 ∗ owns (c : Thread nD τ) arg7 fullShare y7 ∗ owns (c : Thread nD τ) arg8 fullShare y8 ∗ owns (c : Thread nD τ) arg9 fullShare y9 ∗ owns (c : Thread nD τ) arg10 fullShare y10 ∗ owns (c : Thread nD τ) arg11 fullShare y11 ∗ owns (c : Thread nD τ) arg12 fullShare y12 ∗ owns (c : Thread nD τ) arg13 fullShare y13 ∗ owns (c : Thread nD τ) arg14 fullShare y14 ∗ owns (c : Thread nD τ) arg15 fullShare y15 ∗ owns (c : Thread nD τ) arg16 fullShare y16) : sProp 𝕄)
      ⊢ wp frame (wpE (defs₀ (F := F)) Variants.none (c : Thread nD τ) none) E (cc0_sage_attn i arg3 harg3 arg4 harg4 arg5 harg5 arg6 harg6 arg7 harg7 arg8 harg8 arg9 harg9 arg10 harg10 arg11 harg11 arg12 harg12 arg13 harg13 arg14 harg14 arg15 harg15 arg16 harg16)
          (fun _ => iprop(owns (c : Thread nD τ) arg3 fullShare x0 ∗ owns (c : Thread nD τ) arg4 fullShare x1 ∗ owns (c : Thread nD τ) arg5 fullShare x2 ∗ owns (c : Thread nD τ) arg6 fullShare (OUT (i 2).val x0 x1 x2) ∗ owns (c : Thread nD τ) arg7 fullShare (QC x0) ∗ owns (c : Thread nD τ) arg8 fullShare (QS x0) ∗ owns (c : Thread nD τ) arg9 fullShare (KC x1) ∗ owns (c : Thread nD τ) arg10 fullShare (KS x1) ∗ owns (c : Thread nD τ) arg11 fullShare (VC x2) ∗ owns (c : Thread nD τ) arg12 fullShare (VS x2) ∗ (∃ X, owns (c : Thread nD τ) arg13 fullShare X) ∗ owns (c : Thread nD τ) arg14 fullShare (KD x1) ∗ owns (c : Thread nD τ) arg15 fullShare (VT x2) ∗ (∃ X, owns (c : Thread nD τ) arg16 fullShare X))) := by
  unfold owns
  iintro ⟨⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩⟩
  subst e3 e4 e5 e6 e7 e8 e9 e10 e11 e12 e13 e14 e15 e16
  iapply wp_wand $$ [H3 H4 H5 H6 H7 H8 H9 H10 H11 H12 H13 H14 H15 H16]
  · iapply (body_spec (F := F) c i arg3 harg3 arg4 harg4 arg5 harg5 arg6 harg6 arg7 harg7 arg8 harg8 arg9 harg9 arg10 harg10 arg11 harg11 arg12 harg12 arg13 harg13 arg14 harg14 arg15 harg15 arg16 harg16 E f3 f4 f5 f6 f7 f8 f9 f10 f11 f12 f13 f14 f15 f16 hpre)
    iframe
  · iintro %r HP
    unfold bodyPost
    icases HP with ⟨%g6, %g7, %g8, %g9, %g10, %g11, %g12, %g13, %g14, %g15, %g16, H3, H4, H5, H6, H7, H8, H9, H10, H11, H12, H13, H14, H15, H16, %h⟩
    obtain ⟨h6, h7, h8, h9, h10, h11, h12, h14, h15⟩ := h
    isplitl [H3]
    · iexists f3; isplitr
      · ipureintro; rfl
      iexact H3
    isplitl [H4]
    · iexists f4; isplitr
      · ipureintro; rfl
      iexact H4
    isplitl [H5]
    · iexists f5; isplitr
      · ipureintro; rfl
      iexact H5
    isplitl [H6]
    · iexists g6; isplitr
      · ipureintro; exact h6
      iexact H6
    isplitl [H7]
    · iexists g7; isplitr
      · ipureintro; exact h7
      iexact H7
    isplitl [H8]
    · iexists g8; isplitr
      · ipureintro; exact h8
      iexact H8
    isplitl [H9]
    · iexists g9; isplitr
      · ipureintro; exact h9
      iexact H9
    isplitl [H10]
    · iexists g10; isplitr
      · ipureintro; exact h10
      iexact H10
    isplitl [H11]
    · iexists g11; isplitr
      · ipureintro; exact h11
      iexact H11
    isplitl [H12]
    · iexists g12; isplitr
      · ipureintro; exact h12
      iexact H12
    isplitl [H13]
    · iexists _, g13; isplitr
      · ipureintro; rfl
      iexact H13
    isplitl [H14]
    · iexists g14; isplitr
      · ipureintro; exact h14
      iexact H14
    isplitl [H15]
    · iexists g15; isplitr
      · ipureintro; exact h15
      iexact H15
    iexists _, g16; isplitr
    · ipureintro; rfl
    iexact H16

end Owns

/-! ## The grid point's facts -/

theorem cond1_iff : ∀ t : Fin grid0.N, k0_cond1 (grid0.coords t) = 1#1 ↔ t.val % 32 = 0 := by decide +kernel
theorem coord2 : ∀ t : Fin grid0.N, (grid0.coords t 2).val = t.val % 32 := by decide +kernel

end Cert.Kernel.Spec

end
-- ==== Proof.KP.Dats.lean ====
/- The pipeline's proof data, the body obligation at every grid point, and the run of the whole program. -/
module

public import proofs.«01_k».proof.Proof.KP.Owns

@[expose] public section

set_option maxRecDepth 16384

noncomputable section

namespace Cert.Kernel.Spec

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's invariant after `n` points: the four scratch buffers and the generator register at any contents, but the
    two carried ones at the dequantised keys and values of the point before. -/
def PhiS (c : Dev nD) (n : ℕ) (_ : n ≤ cfg0.N) : sProp 𝕄 :=
  iprop((∃ X, owns (c : Thread nD τ) (Memref.whole cc0_scratch0) fullShare X)
    ∗ (∃ X, owns (c : Thread nD τ) (Memref.whole cc0_scratch1) fullShare X ∗ ⌜∀ t : Fin cfg0.N, t.val + 1 = n → X = KD (iblk m c 1 t)⌝)
    ∗ (∃ X, owns (c : Thread nD τ) (Memref.whole cc0_scratch2) fullShare X ∗ ⌜∀ t : Fin cfg0.N, t.val + 1 = n → X = VT (iblk m c 2 t)⌝)
    ∗ (∃ X, owns (c : Thread nD τ) (Memref.whole cc0_scratch3) fullShare X) ∗ ∃ r, prngReg c r)

/-- The proof data: the arrays as launched, each input's buffer at its block, each output's at what the body computes
    of the point's blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => OUT (grid0.coords t 2).val (iblk m c 0 t) (iblk m c 1 t) (iblk m c 2 t)
    | ⟨4, _⟩ => QC (iblk m c 0 t)
    | ⟨5, _⟩ => QS (iblk m c 0 t)
    | ⟨6, _⟩ => KC (iblk m c 1 t)
    | ⟨7, _⟩ => KS (iblk m c 1 t)
    | ⟨8, _⟩ => VC (iblk m c 2 t)
    | ⟨9, _⟩ => VS (iblk m c 2 t)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = OUT (grid0.coords t 2).val (iblk m c 0 t) (iblk m c 1 t) (iblk m c 2 t) := by dsimp only [dats]
theorem after_4 (c : Dev nD) (t : Fin cfg0.N) : (dats m 0 c).after 4 t = QC (iblk m c 0 t) := by dsimp only [dats]
theorem after_5 (c : Dev nD) (t : Fin cfg0.N) : (dats m 0 c).after 5 t = QS (iblk m c 0 t) := by dsimp only [dats]
theorem after_6 (c : Dev nD) (t : Fin cfg0.N) : (dats m 0 c).after 6 t = KC (iblk m c 1 t) := by dsimp only [dats]
theorem after_7 (c : Dev nD) (t : Fin cfg0.N) : (dats m 0 c).after 7 t = KS (iblk m c 1 t) := by dsimp only [dats]
theorem after_8 (c : Dev nD) (t : Fin cfg0.N) : (dats m 0 c).after 8 t = VC (iblk m c 2 t) := by dsimp only [dats]
theorem after_9 (c : Dev nD) (t : Fin cfg0.N) : (dats m 0 c).after 9 t = VS (iblk m c 2 t) := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

theorem Phi_cast (c : Dev nD) (t : Fin cfg0.N) : (dats m 0 c).Φ t.castSucc = PhiS m c t.val (Nat.le_of_lt t.isLt) := by
  dsimp only [dats]; exact Pipeline.Dat.Φ_castSucc (PhiS m c) t
theorem Phi_succ (c : Dev nD) (t : Fin cfg0.N) : (dats m 0 c).Φ t.succ = PhiS m c (t.val + 1) t.isLt := by
  dsimp only [dats]; rfl

/-- The point before. -/
abbrev pred (t : Fin cfg0.N) : Fin cfg0.N := ⟨t.val - 1, Nat.lt_of_le_of_lt (Nat.sub_le _ _) t.isLt⟩

/-- Off a head's first point, window 1's block is the point before's. -/
theorem iblk1_pred (c : Dev nD) (t : Fin cfg0.N) (ht : t.val % 32 ≠ 0) : iblk m c 1 (pred t) = iblk m c 1 t := by
  have hf : (cfg0.win 1).fetch t = false := Bool.eq_false_iff.mpr fun h => ht ((fetch0_1 t).mp h)
  have h := (dats m 0 c).before_unfetched_in 1 rfl t hf (fun _ => rfl) (iblk m c 1 t)
  rw [before_1] at h
  rw [h]
  unfold Dat.kept
  rw [Pipeline.fill_of_clip_none (cfg := cfg0) 1 _ (fun _ => rfl) _ ((dats m 0 c).after 1 (pred t)) _]
  exact ((after_1 m c (pred t)).symm.trans ((cfg0.win 1).fill_cut _ _).symm)
/-- Off a head's first point, window 2's block is the point before's. -/
theorem iblk2_pred (c : Dev nD) (t : Fin cfg0.N) (ht : t.val % 32 ≠ 0) : iblk m c 2 (pred t) = iblk m c 2 t := by
  have hf : (cfg0.win 2).fetch t = false := Bool.eq_false_iff.mpr fun h => ht ((fetch0_2 t).mp h)
  have h := (dats m 0 c).before_unfetched_in 2 rfl t hf (fun _ => rfl) (iblk m c 2 t)
  rw [before_2] at h
  rw [h]
  unfold Dat.kept
  rw [Pipeline.fill_of_clip_none (cfg := cfg0) 2 _ (fun _ => rfl) _ ((dats m 0 c).after 2 (pred t)) _]
  exact ((after_2 m c (pred t)).symm.trans ((cfg0.win 2).fill_cut _ _).symm)

/-- An output stored only at a head's first point holds, at the head's other points, what `after` says: the points between
    leave it as they found it. -/
theorem before_out (c : Dev nD) (w : Fin cfg0.W) (hout : ∀ t, (cfg0.win w).fetch t = false)
    (hidle : ∀ i, cfg0.idle w i = !(k0_cond1 i == 1#1)) (hflush : ∀ t, (cfg0.win w).flush t = true ↔ t.val % 32 = 31)
    (hclip : ∀ (i : cfg0.grid.Coords) a, (cfg0.win w).clip i a = none)
    (hstep : ∀ t : Fin cfg0.N, t.val % 32 ≠ 0 → (dats m 0 c).after w (pred t) = (dats m 0 c).after w t) (d) :
    ∀ (n : ℕ) (h : n < cfg0.N), n % 32 ≠ 0 → (dats m 0 c).before w ⟨n, h⟩ d = (dats m 0 c).after w ⟨n, h⟩ := by
  intro n
  induction n with
  | zero => intro h hn; exact absurd rfl hn
  | succ n ih =>
    intro h hn
    have hn' : n < cfg0.N := Nat.lt_of_succ_lt h
    have hfl : (cfg0.win w).flush (pred ⟨n + 1, h⟩) = false := Bool.eq_false_iff.mpr fun h' => by
      have := (hflush _).mp h'
      have h2 : n % 32 = 31 := this
      omega
    rw [(dats m 0 c).before_of_pos w _ (Nat.succ_ne_zero n) (hout _) d, hfl, if_neg Bool.false_ne_true, ← hstep _ hn]
    unfold Dat.left
    by_cases h0 : n % 32 = 0
    · have hc : cfg0.idle w (grid0.coords (pred ⟨n + 1, h⟩)) = false := by
        rw [hidle, (cond1_iff _).mpr h0]; rfl
      rw [hc]
      unfold Dat.kept
      dsimp only
      rw [Pipeline.fill_of_clip_none (cfg := cfg0) w _ (hclip _) _ ((dats m 0 c).after w (pred ⟨n + 1, h⟩)) _]
      exact (cfg0.win w).fill_cut _ _
    · have hc : cfg0.idle w (grid0.coords (pred ⟨n + 1, h⟩)) = true := by
        rw [hidle]
        have : ¬ k0_cond1 (grid0.coords (pred ⟨n + 1, h⟩)) = 1#1 := fun h' => h0 ((cond1_iff _).mp h')
        simp [this]
      rw [hc]
      exact ih hn' h0

theorem before_6 (c : Dev nD) (t : Fin cfg0.N) (ht : t.val % 32 ≠ 0) (d) :
    (dats m 0 c).before 6 t d = KC (iblk m c 1 t) :=
  (before_out m c 6 (fun _ => rfl) (fun _ => rfl) flush0_6 (fun _ _ => rfl)
    (fun t ht => by rw [after_6, after_6, iblk1_pred m c t ht]) d t.val t.isLt ht).trans (after_6 m c t)
theorem before_7 (c : Dev nD) (t : Fin cfg0.N) (ht : t.val % 32 ≠ 0) (d) :
    (dats m 0 c).before 7 t d = KS (iblk m c 1 t) :=
  (before_out m c 7 (fun _ => rfl) (fun _ => rfl) flush0_7 (fun _ _ => rfl)
    (fun t ht => by rw [after_7, after_7, iblk1_pred m c t ht]) d t.val t.isLt ht).trans (after_7 m c t)
theorem before_8 (c : Dev nD) (t : Fin cfg0.N) (ht : t.val % 32 ≠ 0) (d) :
    (dats m 0 c).before 8 t d = VC (iblk m c 2 t) :=
  (before_out m c 8 (fun _ => rfl) (fun _ => rfl) flush0_8 (fun _ _ => rfl)
    (fun t ht => by rw [after_8, after_8, iblk2_pred m c t ht]) d t.val t.isLt ht).trans (after_8 m c t)
theorem before_9 (c : Dev nD) (t : Fin cfg0.N) (ht : t.val % 32 ≠ 0) (d) :
    (dats m 0 c).before 9 t d = VS (iblk m c 2 t) :=
  (before_out m c 9 (fun _ => rfl) (fun _ => rfl) flush0_9 (fun _ _ => rfl)
    (fun t ht => by rw [after_9, after_9, iblk2_pred m c t ht]) d t.val t.isLt ht).trans (after_9 m c t)

/-- A window's buffer at `after` is a buffer as the obligation wants it left, where an idle point finds it so. -/
theorem leaves_of (c : Dev nD) (w : Fin cfg0.W) (t : Fin cfg0.N)
    (hb : cfg0.idle w (cfg0.grid.coords t) = true → ∀ d, (dats m 0 c).before w t d = (dats m 0 c).after w t) :
    (owns (c : Thread nD τ) ((cfg0.win w).stage (cfg0.slots t w)) fullShare ((dats m 0 c).after w t) : sProp 𝕄)
      ⊢ (dats m 0 c).leavesExact w t := by
  unfold Dat.leavesExact
  cases hi : cfg0.idle w (cfg0.grid.coords t)
  · exact .rfl
  · cases (cfg0.win w).flush t
    · iintro H
      iexists (dats m 0 c).after w t
      rw [hb hi]
      iexact H
    · exact .rfl

theorem not_idle {b : BitVec 1} (h : (!(b == 1#1)) = true) : ¬ b = 1#1 := by
  intro hb; subst hb; cases h

end Cert.Kernel.Spec

end
-- ==== Proof.KP.Run.lean ====
/- The body obligation at every grid point, and the run of the whole program. -/
module

public import proofs.«01_k».proof.Proof.KP.Dats
public import Idealize.ShloMosaic.Lib.Claim

@[expose] public section

set_option maxRecDepth 16384

noncomputable section

namespace Cert.Kernel.Spec

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, the windows one by one, -/
def obPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def obPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

/-- Each window's buffer at `after` is left as the obligation wants it. -/
theorem leaves_all (c : Dev nD) (t : Fin cfg0.N) (w : Fin 10) :
    (owns (c : Thread nD τ) ((cfg0.win w).stage (cfg0.slots t w)) fullShare ((dats m 0 c).after w t) : sProp 𝕄)
      ⊢ (dats m 0 c).leavesExact w t := by
  refine leaves_of m c w t ?_
  have key : ∀ i, (!(k0_cond1 i == 1#1)) = true → i = grid0.coords t → t.val % 32 ≠ 0 := fun i h hi h0 =>
    not_idle h (hi ▸ (cond1_iff t).mpr h0)
  match w with
  | 0 => intro h; cases h
  | 1 => intro h; cases h
  | 2 => intro h; cases h
  | 3 => intro h; cases h
  | 4 => intro h; cases h
  | 5 => intro h; cases h
  | 6 => intro h d; rw [before_6 m c t (key _ h rfl) d, after_6]
  | 7 => intro h d; rw [before_7 m c t (key _ h rfl) d, after_7]
  | 8 => intro h d; rw [before_8 m c t (key _ h rfl) d, after_8]
  | 9 => intro h d; rw [before_9 m c t (key _ h rfl) d, after_9]

/-- The body at any point: the inputs' buffers hold their blocks, so the body's triple applies. -/
theorem sound_body (c : Dev nD) (t : Fin cfg0.N) :
    obPre m c t ⊢ wp frame (wpE (defs₀ (F := F)) Variants.none c none) Set.univ (bodyAt0 t) (fun _ => obPost m c t) := by
  have hl := leaves_all m c t
  have h3 := hl 3; have h4 := hl 4; have h5 := hl 5; have h6 := hl 6; have h7 := hl 7; have h8 := hl 8; have h9 := hl 9
  have h0 := hl 0; have h1 := hl 1; have h2 := hl 2
  rw [after_0] at h0
  rw [after_1] at h1
  rw [after_2] at h2
  rw [after_3] at h3
  rw [after_4] at h4
  rw [after_5] at h5
  rw [after_6] at h6
  rw [after_7] at h7
  rw [after_8] at h8
  rw [after_9] at h9
  unfold obPre obPost bodyAt0
  simp only [before_0, before_1, before_2]
  rw [Phi_cast, Phi_succ, show (dats m 0 c).owesAt () t.succ = (dats m 0 c).owesAt () t.castSucc from rfl]
  unfold PhiS
  iintro ⟨⟨⟨%X0, S0⟩, ⟨%X1, S1, %hX1⟩, ⟨%X2, S2, %hX2⟩, ⟨%X3, S3⟩, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  have hpre : ¬ k0_cond1 (grid0.coords t) = 1#1 → (dats m 0 c).before 6 t d6 = KC (iblk m c 1 t) ∧ (dats m 0 c).before 7 t d7 = KS (iblk m c 1 t)
      ∧ (dats m 0 c).before 8 t d8 = VC (iblk m c 2 t) ∧ (dats m 0 c).before 9 t d9 = VS (iblk m c 2 t)
      ∧ X1 = KD (iblk m c 1 t) ∧ X2 = VT (iblk m c 2 t) := fun hc => by
    have ht : t.val % 32 ≠ 0 := fun h => hc ((cond1_iff t).mpr h)
    have hp : (pred t).val + 1 = t.val := by
      show t.val - 1 + 1 = t.val
      have : t.val ≠ 0 := fun h => ht (by rw [h])
      omega
    refine ⟨before_6 m c t ht d6, before_7 m c t ht d7, before_8 m c t ht d8, before_9 m c t ht d9, ?_, ?_⟩
    · rw [hX1 (pred t) hp, iblk1_pred m c t ht]
    · rw [hX2 (pred t) hp, iblk2_pred m c t ht]
  iapply wp_wand $$ [H0 H1 H2 H3 H4 H5 H6 H7 H8 H9 S0 S1 S2 S3]
  · iapply (sound_kernel (F := F) c (grid0.coords t) _ _ _ _ _ _ _ _ _ _ _ _ _ _ _ _ _ _ _ _ _ _ _ _ _ _ _ _ Set.univ (iblk m c 0 t) (iblk m c 1 t) (iblk m c 2 t) _ _ _ _ _ _ _ X0 X1 X2 X3 hpre)
    iframe
  · iintro %r ⟨H0, H1, H2, H3, H4, H5, H6, H7, H8, H9, S0, S1, S2, S3⟩
    isplitl [S0 S1 S2 S3 HP]
    · isplitl [S0]
      · iexact S0
      isplitl [S1]
      · iexists _
        isplitl
        · iexact S1
        ipureintro
        intro t' ht'
        have : t' = t := Fin.ext (Nat.succ.inj ht')
        rw [this]
      isplitl [S2]
      · iexists _
        isplitl
        · iexact S2
        ipureintro
        intro t' ht'
        have : t' = t := Fin.ext (Nat.succ.inj ht')
        rw [this]
      isplitl [S3]
      · iexact S3
      iexact HP
    isplitl [Ho]; · iexact Ho
    isplitl [H0]; · iapply h0 $$ [H0]; iexact H0
    isplitl [H1]; · iapply h1 $$ [H1]; iexact H1
    isplitl [H2]; · iapply h2 $$ [H2]; iexact H2
    isplitl [H3]; · iapply h3 $$ [H3]; iexact H3
    isplitl [H4]; · iapply h4 $$ [H4]; iexact H4
    isplitl [H5]; · iapply h5 $$ [H5]; iexact H5
    isplitl [H6]; · iapply h6 $$ [H6]; iexact H6
    isplitl [H7]; · iapply h7 $$ [H7]; iexact H7
    isplitl [H8]; · iapply h8 $$ [H8]; iexact H8
    iapply h9 $$ [H9]
    iexact H9

/-- The library's body obligation, at every point. -/
theorem body_obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by
    unfold defs₀; rw [Defs.onTc_tc]]
  exact Idealize.ShloMosaic.triple_restated (sound_body m c t) rfl .rfl fun _ => .rfl

/-- The invariant at the first point, from the scoped buffers at any contents, -/
theorem Phi_in (c : Dev nD) : (Pipeline.ΦA (U := UR sig nD τ) (Val := Elt F) spec0 c : sProp 𝕄) ⊢ (dats m 0 c).Φ 0 := by
  show _ ⊢ PhiS m c 0 (Nat.zero_le _)
  unfold Pipeline.ΦA PhiS
  rw [scopedRest0_eq]
  simp only [owns_whole]
  iintro ⟨⟨⟨%f0, H0⟩, ⟨%f1, H1⟩, ⟨%f2, H2⟩, ⟨%f3, H3⟩⟩, HP⟩
  isplitl [H0]; · iexists f0; iexact H0
  isplitl [H1]
  · iexists f1
    isplitl
    · iexact H1
    ipureintro
    intro t ht
    exact absurd ht (Nat.succ_ne_zero _)
  isplitl [H2]
  · iexists f2
    isplitl
    · iexact H2
    ipureintro
    intro t ht
    exact absurd ht (Nat.succ_ne_zero _)
  isplitl [H3]; · iexists f3; iexact H3
  iexact HP

/-- and back to them after the last. -/
theorem Phi_out (c : Dev nD) : (dats m 0 c).Φ (Fin.last cfg0.N) ⊢ (Pipeline.ΦA (U := UR sig nD τ) (Val := Elt F) spec0 c : sProp 𝕄) := by
  show PhiS m c cfg0.N (Nat.le_refl _) ⊢ _
  unfold Pipeline.ΦA PhiS
  rw [scopedRest0_eq]
  simp only [owns_whole]
  iintro ⟨⟨%f0, H0⟩, ⟨%f1, H1, %h1⟩, ⟨%f2, H2, %h2⟩, ⟨%f3, H3⟩, HP⟩
  isplitl [H0 H1 H2 H3]
  · isplitl [H0]; · iexists f0; iexact H0
    isplitl [H1]; · iexists f1; iexact H1
    isplitl [H2]; · iexists f2; iexact H2
    iexists f3; iexact H3
  iexact HP

set_option backward.isDefEq.respectTransparency.types false in
set_option maxHeartbeats 800000 in
/-- Every fair run of the program ends with each array of the pipeline at what the proof data computes, and with every
    semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := Phi_in m) (hout := Phi_out m)

/-- The same run, without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged, the counters at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) := θ_run_and (frame_of m ρ (dats m) (A_eq m) (run_main m ρ))
  ((θ_run defs _ _).mono (fun _ h => h.2) (run_main_quiescent m ρ))

end Cert.Kernel.Spec

end
-- ==== Proof.Val.Math.lean ====
/- The quantiser on scalars: the binary search for a block's exponent, the exponent it finds, and the powers of two it
   builds from bit patterns. -/
module

public import Idealize.ShloMosaic.PureOps.Ideal
public import Idealize.ShloMosaic.PureOps.Ideal.Laws

@[expose] public section

set_option maxRecDepth 16384

noncomputable section

namespace Cert.Quant

open Idealize.ShloMosaic

/-- The f32 whose exponent field is `w` and whose other bits are zero. -/
def fv (w : BitVec 32) : EReal := Ideal.ofBits .f32 (IntOp.shli .vector w 23#32)

/-- One step of the search: keep the bit if the power of two it makes is at most `a`. -/
def sstep (a : EReal) (b bit : BitVec 32) : BitVec 32 :=
  Scalar.select (Ideal.cmp .oge a (fv (IntOp.addi b bit))) (IntOp.addi b bit) b

/-- The eight steps. -/
def search (a : EReal) : BitVec 32 :=
  sstep a (sstep a (sstep a (sstep a (sstep a (sstep a (sstep a (sstep a 0#32 128#32) 64#32) 32#32) 16#32) 8#32) 4#32) 2#32) 1#32

/-- The exponent field of a block whose scaled largest magnitude is `a`. -/
def bexp (a : EReal) : BitVec 32 :=
  Scalar.select (Ideal.cmp .oeq a (Ideal.ofBits .f32 0x00000000#32)) 126#32 (search a)

/-- How many of the powers of two from 2⁻¹²⁶ to 2¹²⁷ are at most `a`. -/
def cnt (a : EReal) : ℕ := (Finset.univ.filter fun j : Fin 254 => (((2 : ℝ) ^ ((j : ℤ) - 126) : ℝ) : EReal) ≤ a).card

/-- The same exponent field, by counting. -/
def E (a : EReal) : ℕ := if a = 0 then 126 else cnt a

theorem extr_sign (n : ℕ) (h : n < 256) : (IntOp.shli .vector (BitVec.ofNat 32 n) 23#32).extractLsb' 31 1 = 0#1 := by
  have := (by decide +kernel : ∀ n : Fin 256, (IntOp.shli .vector (BitVec.ofNat 32 n.val) 23#32).extractLsb' 31 1 = 0#1)
  exact this ⟨n, h⟩
theorem extr_exp (n : ℕ) (h : n < 256) : ((IntOp.shli .vector (BitVec.ofNat 32 n) 23#32).extractLsb' 23 8).toNat = n := by
  have := (by decide +kernel : ∀ n : Fin 256, ((IntOp.shli .vector (BitVec.ofNat 32 n.val) 23#32).extractLsb' 23 8).toNat = n.val)
  exact this ⟨n, h⟩
theorem extr_fr (n : ℕ) (h : n < 256) : ((IntOp.shli .vector (BitVec.ofNat 32 n) 23#32).extractLsb' 0 23).toNat = 0 := by
  have := (by decide +kernel : ∀ n : Fin 256, ((IntOp.shli .vector (BitVec.ofNat 32 n.val) 23#32).extractLsb' 0 23).toNat = 0)
  exact this ⟨n, h⟩

theorem fv_zero : fv 0#32 = 0 := by
  have h : IntOp.shli .vector 0#32 23#32 = 0#32 := by decide +kernel
  rw [fv, h]; exact Ideal.ofBits_zero_f32

theorem fv_top : fv (BitVec.ofNat 32 255) = ⊤ := by
  have h1 := extr_sign 255 (by norm_num)
  have h2 := extr_exp 255 (by norm_num)
  have h3 := extr_fr 255 (by norm_num)
  unfold fv
  generalize IntOp.shli .vector (BitVec.ofNat 32 255) 23#32 = w at h1 h2 h3
  show Ideal.ieee 8 23 w = ⊤
  unfold Ideal.ieee
  simp only [Nat.reduceAdd, h1, h2, h3]
  simp

theorem fv_pos (n : ℕ) (h1' : 1 ≤ n) (h : n ≤ 254) : fv (BitVec.ofNat 32 n) = (((2 : ℝ) ^ ((n : ℤ) - 127) : ℝ) : EReal) := by
  have h1 := extr_sign n (by omega)
  have h2 := extr_exp n (by omega)
  have h3 := extr_fr n (by omega)
  unfold fv
  generalize IntOp.shli .vector (BitVec.ofNat 32 n) 23#32 = w at h1 h2 h3
  show Ideal.ieee 8 23 w = _
  unfold Ideal.ieee
  simp only [Nat.reduceAdd, h1, h2, h3]
  rw [if_neg (by omega), if_neg (by omega)]
  congr 1
  have e : ((n : ℤ) - (2 ^ (8 - 1) - 1) - 23) = ((n : ℤ) - 127) + (-23) := by norm_num; ring
  simp only [show ((0#1 == 1#1) = false) from by decide, Nat.cast_ofNat]
  rw [e, zpow_add₀ (by norm_num)]
  norm_num
  ring

theorem fv_le_iff (a : EReal) (h0 : 0 ≤ a) (ht : a < ⊤) (n : ℕ) (h : n < 256) :
    fv (BitVec.ofNat 32 n) ≤ a ↔ n ≤ cnt a := by
  have hmono : ∀ i j : ℤ, i ≤ j → (((2 : ℝ) ^ i : ℝ) : EReal) ≤ (((2 : ℝ) ^ j : ℝ) : EReal) := fun i j hij =>
    EReal.coe_le_coe_iff.mpr (zpow_le_zpow_right₀ (by norm_num) hij)
  have hc : cnt a ≤ 254 := (Finset.card_le_univ _).trans (by simp)
  rcases Nat.eq_zero_or_pos n with rfl | hn
  · exact ⟨fun _ => Nat.zero_le _, fun _ => by rw [show BitVec.ofNat 32 0 = 0#32 from rfl, fv_zero]; exact h0⟩
  rcases Nat.lt_or_ge 254 n with hn2 | hn2
  · obtain rfl : n = 255 := by omega
    rw [fv_top]
    exact ⟨fun hh => absurd ht (not_lt.mpr hh), fun hh => by omega⟩
  rw [fv_pos n hn hn2]
  constructor
  · intro hh
    have hsub : (Finset.univ.filter fun j : Fin 254 => j.val < n) ⊆
        (Finset.univ.filter fun j : Fin 254 => (((2 : ℝ) ^ ((j : ℤ) - 126) : ℝ) : EReal) ≤ a) := by
      intro j hj
      simp only [Finset.mem_filter, Finset.mem_univ, true_and] at hj ⊢
      exact (hmono _ _ (by omega)).trans hh
    have hcard : (Finset.univ.filter fun j : Fin 254 => j.val < n).card = n := by
      rw [Fin.card_filter_val_lt]; omega
    have := Finset.card_le_card hsub
    rw [hcard] at this
    exact this
  · intro hh
    by_contra hcon
    have hsub : (Finset.univ.filter fun j : Fin 254 => (((2 : ℝ) ^ ((j : ℤ) - 126) : ℝ) : EReal) ≤ a) ⊆
        (Finset.univ.filter fun j : Fin 254 => j.val < n - 1) := by
      intro j hj
      simp only [Finset.mem_filter, Finset.mem_univ, true_and] at hj ⊢
      by_contra hge
      exact hcon ((hmono _ _ (by omega)).trans hj)
    have hcard : (Finset.univ.filter fun j : Fin 254 => j.val < n - 1).card = n - 1 := by
      rw [Fin.card_filter_val_lt]; omega
    have := Finset.card_le_card hsub
    rw [hcard] at this
    change cnt a ≤ n - 1 at this
    omega

/-- One step against a known answer `N`. -/
def nstep (N : ℕ) (b bit : BitVec 32) : BitVec 32 := if (b + bit).toNat ≤ N then b + bit else b

theorem nstep_eq (a : EReal) (h0 : 0 ≤ a) (ht : a < ⊤) (b bit : BitVec 32) (hb : (b + bit).toNat < 256) :
    sstep a b bit = nstep (cnt a) b bit := by
  have h := fv_le_iff a h0 ht (b + bit).toNat hb
  rw [BitVec.ofNat_toNat, BitVec.setWidth_eq] at h
  show (if BitVec.ofBool (decide (fv (b + bit) ≤ a)) = 1 then b + bit else b) = if (b + bit).toNat ≤ cnt a then b + bit else b
  by_cases hc : (b + bit).toNat ≤ cnt a
  · rw [if_pos hc, decide_eq_true (h.mpr hc)]; rfl
  · rw [if_neg hc, decide_eq_false (fun hh => hc (h.mp hh))]; rfl

theorem nsearch : ∀ N : Fin 256, (nstep N.val (nstep N.val (nstep N.val (nstep N.val (nstep N.val (nstep N.val (nstep N.val (nstep N.val
    0#32 128#32) 64#32) 32#32) 16#32) 8#32) 4#32) 2#32) 1#32) = BitVec.ofNat 32 N.val := by decide +kernel

theorem nb : ∀ N : Fin 256,
    (nstep N.val 0#32 128#32 + 64#32).toNat < 256 ∧
    (nstep N.val (nstep N.val 0#32 128#32) 64#32 + 32#32).toNat < 256 ∧
    (nstep N.val (nstep N.val (nstep N.val 0#32 128#32) 64#32) 32#32 + 16#32).toNat < 256 ∧
    (nstep N.val (nstep N.val (nstep N.val (nstep N.val 0#32 128#32) 64#32) 32#32) 16#32 + 8#32).toNat < 256 ∧
    (nstep N.val (nstep N.val (nstep N.val (nstep N.val (nstep N.val 0#32 128#32) 64#32) 32#32) 16#32) 8#32 + 4#32).toNat < 256 ∧
    (nstep N.val (nstep N.val (nstep N.val (nstep N.val (nstep N.val (nstep N.val 0#32 128#32) 64#32) 32#32) 16#32) 8#32) 4#32 + 2#32).toNat < 256 ∧
    (nstep N.val (nstep N.val (nstep N.val (nstep N.val (nstep N.val (nstep N.val (nstep N.val 0#32 128#32) 64#32) 32#32) 16#32) 8#32) 4#32) 2#32 + 1#32).toNat < 256 := by
  decide +kernel

theorem cnt_le (a : EReal) : cnt a ≤ 254 := (Finset.card_le_univ _).trans (by simp)

theorem search_eq (a : EReal) (h0 : 0 ≤ a) (ht : a < ⊤) : search a = BitVec.ofNat 32 (cnt a) := by
  have hc := cnt_le a
  obtain ⟨h1, h2, h3, h4, h5, h6, h7⟩ := nb ⟨cnt a, by omega⟩
  unfold search
  rw [nstep_eq a h0 ht 0#32 128#32 (by decide), nstep_eq a h0 ht _ 64#32 h1, nstep_eq a h0 ht _ 32#32 h2,
    nstep_eq a h0 ht _ 16#32 h3, nstep_eq a h0 ht _ 8#32 h4, nstep_eq a h0 ht _ 4#32 h5, nstep_eq a h0 ht _ 2#32 h6,
    nstep_eq a h0 ht _ 1#32 h7]
  exact nsearch ⟨cnt a, by omega⟩

theorem bexp_eq (a : EReal) (h0 : 0 ≤ a) (ht : a < ⊤) : bexp a = BitVec.ofNat 32 (E a) := by
  unfold bexp E
  rw [search_eq a h0 ht, Ideal.ofBits_zero_f32]
  unfold Scalar.select Ideal.cmp
  by_cases h : a = 0
  · simp [h]
  · simp [h]

/-- Below 2¹²⁶ the field is at most 252. -/
theorem E_le (a : EReal) (ht : a < (((2 : ℝ) ^ (126 : ℤ) : ℝ) : EReal)) : E a ≤ 252 := by
  unfold E
  split
  · norm_num
  · have hsub : (Finset.univ.filter fun j : Fin 254 => (((2 : ℝ) ^ ((j : ℤ) - 126) : ℝ) : EReal) ≤ a) ⊆
        (Finset.univ.filter fun j : Fin 254 => j.val < 252) := by
      intro j hj
      simp only [Finset.mem_filter, Finset.mem_univ, true_and] at hj ⊢
      by_contra hge
      have h2 : (((2 : ℝ) ^ (126 : ℤ) : ℝ) : EReal) ≤ (((2 : ℝ) ^ ((j : ℤ) - 126) : ℝ) : EReal) :=
        EReal.coe_le_coe_iff.mpr (zpow_le_zpow_right₀ (by norm_num) (by omega))
      exact absurd ht (not_lt.mpr (h2.trans hj))
    have hcard : (Finset.univ.filter fun j : Fin 254 => j.val < 252).card = 252 := by
      rw [Fin.card_filter_val_lt]; norm_num
    have := Finset.card_le_card hsub
    rw [hcard] at this
    exact this

/-- The value's exponent as an integer: the field less 126. -/
def ex (a : EReal) : ℤ := (E a : ℤ) - 126

theorem scale_eq (a : EReal) (hE : E a ≤ 252) :
    fv (IntOp.addi (BitVec.ofNat 32 (E a)) 1#32) = (((2 : ℝ) ^ ex a : ℝ) : EReal) := by
  have h : IntOp.addi (BitVec.ofNat 32 (E a)) 1#32 = BitVec.ofNat 32 (E a + 1) := by
    unfold IntOp.addi; rw [BitVec.ofNat_add]
  rw [h, fv_pos _ (by omega) (by omega)]
  unfold ex
  rw [show ((E a + 1 : ℕ) : ℤ) - 127 = (E a : ℤ) - 126 by push_cast; ring]

theorem inv_eq (a : EReal) (hE : E a ≤ 252) :
    fv (IntOp.subi 253#32 (BitVec.ofNat 32 (E a))) = (((2 : ℝ) ^ (-ex a) : ℝ) : EReal) := by
  have h : IntOp.subi 253#32 (BitVec.ofNat 32 (E a)) = BitVec.ofNat 32 (253 - E a) := by
    unfold IntOp.subi
    apply BitVec.eq_of_toNat_eq
    simp only [BitVec.toNat_sub, BitVec.toNat_ofNat]
    omega
  rw [h, fv_pos _ (by omega) (by omega)]
  unfold ex
  rw [show ((253 - E a : ℕ) : ℤ) - 127 = -((E a : ℤ) - 126) by omega]

/-! ## One group of thirty-two -/

/-- The group's largest magnitude over 448. -/
def amax (f : Fin 32 → EReal) : EReal :=
  Finset.univ.fold max (Ideal.ofBits .f32 0xFF800000#32) (fun k => max (f k) (-f k)) * ((1 / 448 : ℝ) : EReal)

/-- The clip at ±448. -/
def clip (x : EReal) : EReal := min (max x (Ideal.ofBits .f32 0xC3E00000#32)) (Ideal.ofBits .f32 0x43E00000#32)

/-- The group's codes, scale and biased exponent as the kernel builds them. -/
def kcode (f : Fin 32 → EReal) (k : Fin 32) : EReal := clip (f k * fv (IntOp.subi 253#32 (bexp (amax f))))
def kscale (f : Fin 32 → EReal) : EReal := fv (IntOp.addi (bexp (amax f)) 1#32)
def ksc (f : Fin 32 → EReal) : BitVec 32 := IntOp.addi (bexp (amax f)) 1#32

end Cert.Quant
-- ==== Proof.Val.Kern.lean ====
/- What one block's quantisers compute, read at an index: the codes, the scales and the biased exponents of each group. -/
module

public import proofs.«01_k».proof.Proof.KI.Spec
public import proofs.«01_k».proof.Proof.Val.Math
public import Idealize.ShloMosaic.Lib.Pointwise

@[expose] public section

set_option maxRecDepth 16384

noncomputable section

namespace Cert.KernelIdeal.Val

open Cert.KernelIdeal Cert.KernelIdeal.Gen Idealize.ShloMosaic Idealize.SL.Sem Cert.Quant
open Cert.KernelIdeal.Facts

/-- One step of the search on a whole vector. -/
def vstep {s : Shape} (a : FVec Ideal s .f32) (b : IVec s 32) (w : BitVec 32) : IVec s 32 :=
  select (cmpf .oge a (bitcastToFloat .f32 (shli (addi b (broadcast s w)) (broadcast s 23#32)))) (addi b (broadcast s w)) b
theorem vstep_apply {s : Shape} (a : FVec Ideal s .f32) (b : IVec s 32) (w : BitVec 32) (j : s.Idx) :
    vstep a b w j = sstep (a j) (b j) w := rfl

theorem k5 (m : FVec Ideal S128x1 .f32) (c : Vec Ideal S1x512x128 .bf16) : k0_pay5 m c =
    vstep (k0_pay4 m c) (vstep (k0_pay4 m c) (vstep (k0_pay4 m c) (vstep (k0_pay4 m c) (broadcast _ 0#32) 128#32) 64#32) 32#32) 16#32 := rfl
theorem k7 (m : FVec Ideal S4x1x512 .f32) (b : IVec S4x1x512 32) : k0_pay7 m b k0_pay6 =
    select (cmpf .oeq m (broadcast _ (Scalar.ofBits .f32 0x00000000#32))) (broadcast _ 126#32)
      (vstep m (vstep m (vstep m (vstep m b 8#32) 4#32) 2#32) 1#32) := rfl
theorem k19 (m : FVec Ideal S4x1x512 .f32) : k0_pay19 m k0_pay16 k0_pay17 k0_pay18 =
    vstep m (vstep m (vstep m (vstep m (vstep m (vstep m (vstep m (broadcast _ 0#32) 128#32) 64#32) 32#32) 16#32) 8#32) 4#32) 2#32 := rfl
theorem k21 (m : FVec Ideal S4x1x512 .f32) (b : IVec S4x1x512 32) : k0_pay21 m b k0_pay20 =
    select (cmpf .oeq m (broadcast _ (Scalar.ofBits .f32 0x00000000#32))) (broadcast _ 126#32) (vstep m b 1#32) := rfl
theorem k33 (c : Vec Ideal S1x256x512 .bf16) : k0_pay33 c =
    vstep (k0_pay32 c) (vstep (k0_pay32 c) (vstep (k0_pay32 c) (broadcast _ 0#32) 128#32) 64#32) 32#32 := rfl
theorem k36 (m : FVec Ideal S16x1x256 .f32) (c : Vec Ideal S1x256x512 .bf16) : k0_pay36 m (k0_pay33 c) (k0_pay34 c) (k0_pay35 c) =
    select (cmpf .oeq m (broadcast _ (Scalar.ofBits .f32 0x00000000#32))) (broadcast _ 126#32)
      (vstep m (vstep m (vstep m (vstep m (vstep m (k0_pay33 c) 16#32) 8#32) 4#32) 2#32) 1#32) := rfl

attribute [local irreducible] sstep k0_pay4 k0_pay15 k0_pay32

theorem k7_apply (m : FVec Ideal S128x1 .f32) (c : Vec Ideal S1x512x128 .bf16) (j : S4x1x512.Idx) :
    k0_pay7 (k0_pay4 m c) (k0_pay5 m c) k0_pay6 j = bexp (k0_pay4 m c j) := by
  rw [k7, k5]
  show Scalar.select (Ideal.cmp .oeq (k0_pay4 m c j) (Ideal.ofBits .f32 0x00000000#32)) 126#32 (vstep _ _ _ j) = _
  simp only [vstep_apply]
  unfold bexp search
  rfl
theorem k21_apply (c : Vec Ideal S1x512x128 .bf16) (j : S4x1x512.Idx) :
    k0_pay21 (k0_pay15 c) (k0_pay19 (k0_pay15 c) k0_pay16 k0_pay17 k0_pay18) k0_pay20 j = bexp (k0_pay15 c j) := by
  rw [k21, k19]
  show Scalar.select (Ideal.cmp .oeq (k0_pay15 c j) (Ideal.ofBits .f32 0x00000000#32)) 126#32 (vstep _ _ _ j) = _
  simp only [vstep_apply]
  unfold bexp search
  rfl
theorem k36_apply (c : Vec Ideal S1x256x512 .bf16) (j : S16x1x256.Idx) :
    k0_pay36 (k0_pay32 c) (k0_pay33 c) (k0_pay34 c) (k0_pay35 c) j = bexp (k0_pay32 c j) := by
  rw [k36, k33]
  show Scalar.select (Ideal.cmp .oeq (k0_pay32 c j) (Ideal.ofBits .f32 0x00000000#32)) 126#32 (vstep _ _ _ j) = _
  simp only [vstep_apply]
  unfold bexp search
  rfl

end Cert.KernelIdeal.Val
-- ==== Proof.Val.Kern2.lean ====
module

public import proofs.«01_k».proof.Proof.Val.Kern

@[expose] public section

set_option maxRecDepth 16384

noncomputable section

namespace Cert.KernelIdeal.Val

open Cert.KernelIdeal Cert.KernelIdeal.Gen Idealize.ShloMosaic Idealize.SL.Sem Cert.Quant
open Cert.KernelIdeal.Facts

attribute [local irreducible] k0_pay5 k0_pay7 k0_pay19 k0_pay21 k0_pay33 k0_pay34 k0_pay35 k0_pay36 bexp

theorem inv448 : (Named.named κ "inv_448" 0x3B124925#32 : Ideal .f32) = ((1 / 448 : ℝ) : EReal) := rfl

/-! ## The keys -/

/-- The mean of one column from its eight running sums. -/
def mcol (s : FVec Ideal S8x128 .f32) (d : Fin 128) : EReal := Ideal.div (∑ u : Fin 8, s (ix2 u d)) (Ideal.ofBits .f32 0x46000000#32)

theorem k28 (s : FVec Ideal S8x128 .f32) (d : Fin 128) : k0_pay28 s (ix2 d 0) = mcol s d := by
  pointwise [k0_pay28]
  rfl

/-- One group of one row of a key chunk, less the mean. -/
def kf (s : FVec Ideal S8x128 .f32) (c : Vec Ideal S1x512x128 .bf16) (r : Fin 512) (g : Fin 4) (k : Fin 32) : EReal :=
  c (ix3 0 r ⟨g.val * 32 + k.val, by omega⟩) - mcol s ⟨g.val * 32 + k.val, by omega⟩

theorem k3 (s : FVec Ideal S8x128 .f32) (c : Vec Ideal S1x512x128 .bf16) (g : Fin 4) (k : Fin 32) (r : Fin 512) :
    k0_pay3 (k0_pay28 s) c (ix3 g k r) = kf s c r g k := by
  pointwise [k0_pay3]
  rw [k28]
  rfl

theorem k4 (s : FVec Ideal S8x128 .f32) (c : Vec Ideal S1x512x128 .bf16) (g : Fin 4) (r : Fin 512) :
    k0_pay4 (k0_pay28 s) c (ix3 g 0 r) = amax (kf s c r g) := by
  have h := fun k => k3 s c g k r
  revert h
  generalize hp : k0_pay3 (k0_pay28 s) c = p
  intro h
  unfold k0_pay4
  rw [hp]
  pointwise []
  simp only [inv448]
  unfold amax
  simp only [h]
  rfl

theorem kcC_apply (s : FVec Ideal S8x128 .f32) (c : Vec Ideal S1x512x128 .bf16) (r : Fin 512) (d : Fin 128) :
    Spec.kcC s c (ix3 0 r d) = kcode (kf s c r ⟨d.val / 32, by omega⟩) ⟨d.val % 32, by omega⟩ := by
  have h1 := fun j => k7_apply (k0_pay28 s) c j
  unfold Spec.kcC
  pointwise [k0_pay11, k0_pay10, k0_pay9]
  rw [h1, k4, k3]
  rfl

theorem kdC_apply (s : FVec Ideal S8x128 .f32) (c : Vec Ideal S1x512x128 .bf16) (r : Fin 512) (d : Fin 128) :
    Spec.kdC s c (ix2 r d) = kcode (kf s c r ⟨d.val / 32, by omega⟩) ⟨d.val % 32, by omega⟩ * kscale (kf s c r ⟨d.val / 32, by omega⟩) := by
  have h1 := fun j => k7_apply (k0_pay28 s) c j
  unfold Spec.kdC
  pointwise [k0_pay12, k0_pay10, k0_pay9, k0_pay8]
  rw [h1, k4, k3]
  rfl

theorem ksC_apply (s : FVec Ideal S8x128 .f32) (c : Vec Ideal S1x512x128 .bf16) (g : Fin 4) (r : Fin 512) :
    Spec.ksC s c (ix4 0 0 g r) = ksc (kf s c r g) := by
  have h1 := fun j => k7_apply (k0_pay28 s) c j
  unfold Spec.ksC
  pointwise [k0_pay13]
  rw [h1, k4]
  rfl

/-! ## The values -/

/-- One group of one row of a value chunk. -/
def vf (c : Vec Ideal S1x512x128 .bf16) (r : Fin 512) (g : Fin 4) (k : Fin 32) : EReal :=
  c (ix3 0 r ⟨g.val * 32 + k.val, by omega⟩)

theorem k14 (c : Vec Ideal S1x512x128 .bf16) (g : Fin 4) (k : Fin 32) (r : Fin 512) :
    k0_pay14 c (ix3 g k r) = vf c r g k := by
  pointwise [k0_pay14]
  rfl

theorem k15 (c : Vec Ideal S1x512x128 .bf16) (g : Fin 4) (r : Fin 512) :
    k0_pay15 c (ix3 g 0 r) = amax (vf c r g) := by
  have h := fun k => k14 c g k r
  revert h
  generalize hp : k0_pay14 c = p
  intro h
  unfold k0_pay15
  rw [hp]
  pointwise []
  simp only [inv448]
  unfold amax
  simp only [h]
  rfl

theorem vcC_apply (c : Vec Ideal S1x512x128 .bf16) (r : Fin 512) (d : Fin 128) :
    Spec.vcC c (ix3 0 r d) = kcode (vf c r ⟨d.val / 32, by omega⟩) ⟨d.val % 32, by omega⟩ := by
  have h1 := fun j => k21_apply c j
  unfold Spec.vcC
  pointwise [k0_pay25, k0_pay22]
  rw [h1, k15, k14]
  rfl

theorem vtC_apply (c : Vec Ideal S1x512x128 .bf16) (r : Fin 512) (d : Fin 128) :
    Spec.vtC c (ix2 d r) = kcode (vf c r ⟨d.val / 32, by omega⟩) ⟨d.val % 32, by omega⟩ * kscale (vf c r ⟨d.val / 32, by omega⟩) := by
  have h1 := fun j => k21_apply c j
  unfold Spec.vtC
  pointwise [k0_pay29, k0_pay23, k0_pay22]
  rw [h1, k15, k14]
  rfl

theorem vsC_apply (c : Vec Ideal S1x512x128 .bf16) (g : Fin 4) (r : Fin 512) :
    Spec.vsC c (ix4 0 0 g r) = ksc (vf c r g) := by
  have h1 := fun j => k21_apply c j
  unfold Spec.vsC
  pointwise [k0_pay30, k0_pay24]
  rw [h1, k15]
  rfl

/-! ## The queries -/

/-- One group of one row of a query block. -/
def qf (c : Vec Ideal S1x256x512 .bf16) (r : Fin 256) (g : Fin 16) (k : Fin 32) : EReal :=
  c (ix3 0 r ⟨g.val * 32 + k.val, by omega⟩)

theorem k31 (c : Vec Ideal S1x256x512 .bf16) (g : Fin 16) (k : Fin 32) (r : Fin 256) :
    k0_pay31 c (ix3 g k r) = qf c r g k := by
  pointwise [k0_pay31]
  rfl

theorem k32 (c : Vec Ideal S1x256x512 .bf16) (g : Fin 16) (r : Fin 256) :
    k0_pay32 c (ix3 g 0 r) = amax (qf c r g) := by
  have h := fun k => k31 c g k r
  revert h
  generalize hp : k0_pay31 c = p
  intro h
  unfold k0_pay32
  rw [hp]
  pointwise []
  simp only [inv448]
  unfold amax
  simp only [h]
  rfl

theorem QC_apply (c : Vec Ideal S1x256x512 .bf16) (r : Fin 256) (d : Fin 512) :
    Spec.QC c (ix3 0 r d) = kcode (qf c r ⟨d.val / 32, by omega⟩) ⟨d.val % 32, by omega⟩ := by
  have h1 := fun j => k36_apply c j
  unfold Spec.QC Spec.qv
  pointwise [k0_pay41, k0_pay39, k0_pay38]
  rw [h1, k32, k31]
  rfl

theorem QS_apply (c : Vec Ideal S1x256x512 .bf16) (g : Fin 16) (r : Fin 256) :
    Spec.QS c (ix4 0 0 g r) = ksc (qf c r g) := by
  have h1 := fun j => k36_apply c j
  unfold Spec.QS Spec.qe
  pointwise [k0_pay42]
  rw [h1, k32]
  rfl

/-- The dequantised queries before the heads are cut out. -/
theorem q40 (c : Vec Ideal S1x256x512 .bf16) (r : Fin 256) (d : Fin 512) :
    k0_pay40 (Spec.qsc c) (Spec.qv c) (ix2 d r)
      = kcode (qf c r ⟨d.val / 32, by omega⟩) ⟨d.val % 32, by omega⟩ * kscale (qf c r ⟨d.val / 32, by omega⟩) := by
  have h1 := fun j => k36_apply c j
  unfold Spec.qsc Spec.qv
  pointwise [k0_pay40, k0_pay39, k0_pay38, k0_pay37]
  rw [h1, k32, k31]
  rfl

end Cert.KernelIdeal.Val
-- ==== Proof.Val.Whole.lean ====
/- The whole block's codes, scales and dequantised rows, read at an index; the mean as one sum over the block's rows. -/
module

public import proofs.«01_k».proof.Proof.Val.Kern2

@[expose] public section

set_option maxRecDepth 16384

noncomputable section

namespace Cert.KernelIdeal.Val

open Cert.KernelIdeal Cert.KernelIdeal.Gen Idealize.ShloMosaic Idealize.SL.Sem Cert.Quant
open Cert.KernelIdeal.Facts

theorem chunk_apply (x : Vec Ideal S1x8192x128 .bf16) (n : ℕ) (r : Fin 512) (d : Fin 128) :
    Spec.chunk x n (ix3 0 r d) = x (ix3 0 ⟨(512 * n + r.val) % 8192, Nat.mod_lt _ (by decide)⟩ d) :=
  congrArg x (funext fun a => match a with | ⟨0, _⟩ => rfl | ⟨1, _⟩ => rfl | ⟨2, _⟩ => rfl)

theorem sum_blocks (f : ℕ → EReal) (a b : ℕ) :
    ∑ i ∈ Finset.range a, ∑ j ∈ Finset.range b, f (b * i + j) = ∑ r ∈ Finset.range (b * a), f r := by
  induction a with
  | zero => simp
  | succ a ih => rw [Finset.sum_range_succ, ih, Nat.mul_succ, Finset.sum_range_add]

theorem k26 (u : Fin 8) (d : Fin 128) : (k0_pay26 : FVec Ideal S8x128 .f32) (ix2 u d) = 0 := by
  pointwise [k0_pay26]

theorem k27 (b : FVec Ideal S8x128 .f32) (c : Vec Ideal S1x512x128 .bf16) (u : Fin 8) (d : Fin 128) :
    k0_pay27 b c (ix2 u d) = b (ix2 u d) + ∑ t : Fin 64, c (ix3 0 ⟨t.val * 8 + u.val, by omega⟩ d) := by
  pointwise [k0_pay27]

/-- The block's element, by row number. -/
def rowOf (x : Vec Ideal S1x8192x128 .bf16) (d : Fin 128) (r : ℕ) : EReal := x (ix3 0 ⟨r % 8192, Nat.mod_lt _ (by decide)⟩ d)

theorem meanAcc_apply (x : Vec Ideal S1x8192x128 .bf16) (n : ℕ) (u : Fin 8) (d : Fin 128) :
    Spec.meanAcc x n (ix2 u d) = ∑ i ∈ Finset.range n, ∑ t ∈ Finset.range 64, rowOf x d (512 * i + (8 * t + u.val)) := by
  induction n with
  | zero => rw [Finset.range_zero, Finset.sum_empty]; exact k26 u d
  | succ n ih =>
    rw [Finset.sum_range_succ, ← ih, Finset.sum_range]
    show k0_pay27 (Spec.meanAcc x n) (Spec.chunk x n) (ix2 u d) = _
    rw [k27]
    congr 1
    refine Finset.sum_congr rfl fun t _ => ?_
    rw [chunk_apply]
    unfold rowOf
    congr 3
    simp only [Nat.mul_comm t.val 8]

theorem mean_sum (x : Vec Ideal S1x8192x128 .bf16) (d : Fin 128) :
    ∑ u : Fin 8, Spec.mean x (ix2 u d) = ∑ r : Fin 8192, x (ix3 0 r d) := by
  have h1 : ∑ u : Fin 8, Spec.mean x (ix2 u d)
      = ∑ u ∈ Finset.range 8, ∑ i ∈ Finset.range 16, ∑ t ∈ Finset.range 64, rowOf x d (512 * i + (8 * t + u)) := by
    rw [Finset.sum_range]
    exact Finset.sum_congr rfl fun u _ => meanAcc_apply x 16 u d
  rw [h1, Finset.sum_comm]
  have h2 : ∀ i ∈ Finset.range 16, ∑ u ∈ Finset.range 8, ∑ t ∈ Finset.range 64, rowOf x d (512 * i + (8 * t + u))
      = ∑ r ∈ Finset.range 512, rowOf x d (512 * i + r) := by
    intro i _
    rw [Finset.sum_comm]
    exact sum_blocks (fun r => rowOf x d (512 * i + r)) 64 8
  rw [Finset.sum_congr rfl h2, sum_blocks (rowOf x d) 16 512, Finset.sum_range]
  refine Finset.sum_congr rfl fun r _ => ?_
  unfold rowOf
  congr 2
  exact Fin.ext (Nat.mod_eq_of_lt r.isLt)

/-- The mean of one column of the block. -/
def bmean (x : Vec Ideal S1x8192x128 .bf16) (d : Fin 128) : EReal :=
  Ideal.div (∑ r : Fin 8192, x (ix3 0 r d)) (Ideal.ofBits .f32 0x46000000#32)

theorem mcol_mean (x : Vec Ideal S1x8192x128 .bf16) (d : Fin 128) : mcol (Spec.mean x) d = bmean x d := by
  unfold mcol bmean
  rw [mean_sum]

/-- One group of one row of the keys, less the mean. -/
def KF (x : Vec Ideal S1x8192x128 .bf16) (r : Fin 8192) (g : Fin 4) (k : Fin 32) : EReal :=
  x (ix3 0 r ⟨g.val * 32 + k.val, by omega⟩) - bmean x ⟨g.val * 32 + k.val, by omega⟩
/-- One group of one row of the values. -/
def VF (x : Vec Ideal S1x8192x128 .bf16) (r : Fin 8192) (g : Fin 4) (k : Fin 32) : EReal :=
  x (ix3 0 r ⟨g.val * 32 + k.val, by omega⟩)

theorem row_eq (r : Fin 8192) : (⟨(512 * (r.val / 512) + r.val % 512) % 8192, Nat.mod_lt _ (by decide)⟩ : Fin 8192) = r :=
  Fin.ext (by show _ % 8192 = _; omega)

theorem kf_chunk (x : Vec Ideal S1x8192x128 .bf16) (r : Fin 8192) :
    kf (Spec.mean x) (Spec.chunk x (r.val / 512)) ⟨r.val % 512, Nat.mod_lt _ (by decide)⟩ = KF x r := by
  funext g k
  unfold kf KF
  rw [chunk_apply, mcol_mean, row_eq]
theorem vf_chunk (x : Vec Ideal S1x8192x128 .bf16) (r : Fin 8192) :
    vf (Spec.chunk x (r.val / 512)) ⟨r.val % 512, Nat.mod_lt _ (by decide)⟩ = VF x r := by
  funext g k
  unfold vf VF
  rw [chunk_apply, row_eq]

theorem inChunk_eq (r : Fin 8192) (d : Fin 128) : Spec.inChunk (ix3 0 r d) = ix3 0 ⟨r.val % 512, Nat.mod_lt _ (by decide)⟩ d :=
  funext fun a => match a with | ⟨0, _⟩ => rfl | ⟨1, _⟩ => rfl | ⟨2, _⟩ => rfl
theorem inKd_eq (r : Fin 8192) (d : Fin 128) : Spec.inKd (ix2 r d) = ix2 ⟨r.val % 512, Nat.mod_lt _ (by decide)⟩ d :=
  funext fun a => match a with | ⟨0, _⟩ => rfl | ⟨1, _⟩ => rfl
theorem inVt_eq (r : Fin 8192) (d : Fin 128) : Spec.inVt (ix2 d r) = ix2 d ⟨r.val % 512, Nat.mod_lt _ (by decide)⟩ :=
  funext fun a => match a with | ⟨0, _⟩ => rfl | ⟨1, _⟩ => rfl
theorem inCodes_eq (g : Fin 4) (r : Fin 8192) : Spec.inCodes (ix4 0 0 g r) = ix4 0 0 g ⟨r.val % 512, Nat.mod_lt _ (by decide)⟩ :=
  funext fun a => match a with | ⟨0, _⟩ => rfl | ⟨1, _⟩ => rfl | ⟨2, _⟩ => rfl | ⟨3, _⟩ => rfl

theorem KC_apply (x : Vec Ideal S1x8192x128 .bf16) (r : Fin 8192) (d : Fin 128) :
    Spec.KC x (ix3 0 r d) = kcode (KF x r ⟨d.val / 32, by omega⟩) ⟨d.val % 32, by omega⟩ := by
  show Spec.kcC (Spec.mean x) (Spec.chunk x (r.val / 512)) (Spec.inChunk (ix3 0 r d)) = _
  rw [inChunk_eq, kcC_apply, kf_chunk]
theorem KD_apply (x : Vec Ideal S1x8192x128 .bf16) (r : Fin 8192) (d : Fin 128) :
    Spec.KD x (ix2 r d) = kcode (KF x r ⟨d.val / 32, by omega⟩) ⟨d.val % 32, by omega⟩ * kscale (KF x r ⟨d.val / 32, by omega⟩) := by
  show Spec.kdC (Spec.mean x) (Spec.chunk x (r.val / 512)) (Spec.inKd (ix2 r d)) = _
  rw [inKd_eq, kdC_apply, kf_chunk]
theorem KS_apply (x : Vec Ideal S1x8192x128 .bf16) (g : Fin 4) (r : Fin 8192) :
    Spec.KS x (ix4 0 0 g r) = ksc (KF x r g) := by
  show Spec.ksC (Spec.mean x) (Spec.chunk x (r.val / 512)) (Spec.inCodes (ix4 0 0 g r)) = _
  rw [inCodes_eq, ksC_apply, kf_chunk]
theorem VC_apply (x : Vec Ideal S1x8192x128 .bf16) (r : Fin 8192) (d : Fin 128) :
    Spec.VC x (ix3 0 r d) = kcode (VF x r ⟨d.val / 32, by omega⟩) ⟨d.val % 32, by omega⟩ := by
  show Spec.vcC (Spec.chunk x (r.val / 512)) (Spec.inChunk (ix3 0 r d)) = _
  rw [inChunk_eq, vcC_apply, vf_chunk]
theorem VT_apply (x : Vec Ideal S1x8192x128 .bf16) (r : Fin 8192) (d : Fin 128) :
    Spec.VT x (ix2 d r) = kcode (VF x r ⟨d.val / 32, by omega⟩) ⟨d.val % 32, by omega⟩ * kscale (VF x r ⟨d.val / 32, by omega⟩) := by
  show Spec.vtC (Spec.chunk x (r.val / 512)) (Spec.inVt (ix2 d r)) = _
  rw [inVt_eq, vtC_apply, vf_chunk]
theorem VS_apply (x : Vec Ideal S1x8192x128 .bf16) (g : Fin 4) (r : Fin 8192) :
    Spec.VS x (ix4 0 0 g r) = ksc (VF x r g) := by
  show Spec.vsC (Spec.chunk x (r.val / 512)) (Spec.inCodes (ix4 0 0 g r)) = _
  rw [inCodes_eq, vsC_apply, vf_chunk]

end Cert.KernelIdeal.Val
-- ==== Proof.Val.Arr.lean ====
/- The arrays the kernel leaves, as functions of the three arguments: the codes and the biased exponents of the queries,
   the keys and the values. -/
module

public import proofs.«01_k».proof.Proof.Val.Whole
public import proofs.«01_k».proof.Proof.KI.Dats
public import Idealize.ShloMosaic.Lib.Pipeline.ValueKit.Geometry

@[expose] public section

set_option maxRecDepth 16384

noncomputable section

namespace Cert.Quant

open Idealize.ShloMosaic

/-! ## The groups of the whole arrays -/

/-- The mean of one column of one batch. -/
def colmean (x : (⟨3, ![3, 8192, 1024]⟩ : Shape).Idx → EReal) (b : Fin 3) (d : Fin 1024) : EReal :=
  Ideal.div (∑ r : Fin 8192, x (ix3 b r d)) (Ideal.ofBits .f32 0x46000000#32)
/-- A group of the keys, less the mean. -/
def KG (x : (⟨3, ![3, 8192, 1024]⟩ : Shape).Idx → EReal) (b : Fin 3) (s : Fin 8192) (g : Fin 32) (k : Fin 32) : EReal :=
  x (ix3 b s ⟨g.val * 32 + k.val, by omega⟩) - colmean x b ⟨g.val * 32 + k.val, by omega⟩
/-- A group of the values. -/
def VG (x : (⟨3, ![3, 8192, 1024]⟩ : Shape).Idx → EReal) (b : Fin 3) (s : Fin 8192) (g : Fin 32) (k : Fin 32) : EReal :=
  x (ix3 b s ⟨g.val * 32 + k.val, by omega⟩)
/-- A group of the queries. -/
def QG (x : (⟨3, ![3, 8192, 4096]⟩ : Shape).Idx → EReal) (b : Fin 3) (s : Fin 8192) (g : Fin 128) (k : Fin 32) : EReal :=
  x (ix3 b s ⟨g.val * 32 + k.val, by omega⟩)

end Cert.Quant

namespace Cert.KernelIdeal.Val

open Cert.KernelIdeal Cert.KernelIdeal.Gen Idealize.ShloMosaic Idealize.ShloMosaic.TcCoe Idealize.SL.Sem Cert.Quant Idealize.ShloMosaic.Pipeline
open Cert.KernelIdeal.Facts Cert.KernelIdeal.Spec

variable (m : (ℓ : Loc nD τ sig) → Buf (Elt Ideal) ℓ)

/-- The three arguments. -/
abbrev A0 (c : Dev nD) : S3x8192x4096.Idx → EReal := V m c main_arg0
abbrev A1 (c : Dev nD) : S3x8192x1024.Idx → EReal := V m c main_arg1
abbrev A2 (c : Dev nD) : S3x8192x1024.Idx → EReal := V m c main_arg2

theorem tlt (t : Fin cfg0.N) : t.val < 768 := t.isLt

/-- A grid point's batch, its head group and its query block. -/
def tb (t : Fin cfg0.N) : Fin 3 := ⟨t.val / 256, by have := tlt t; omega⟩
def th (t : Fin cfg0.N) : Fin 8 := ⟨t.val / 32 % 8, Nat.mod_lt _ (by decide)⟩
def ti (t : Fin cfg0.N) : Fin 32 := ⟨t.val % 32, Nat.mod_lt _ (by decide)⟩

theorem idx0 : ∀ t : Fin cfg0.N, win0_0.index t 0 = t.val / 256 ∧ win0_0.index t 1 = t.val % 32 ∧ win0_0.index t 2 = t.val / 32 % 8 := by decide +kernel
theorem idx1 : ∀ t : Fin cfg0.N, win0_1.index t 0 = t.val / 256 ∧ win0_1.index t 1 = 0 ∧ win0_1.index t 2 = t.val / 32 % 8 := by decide +kernel
theorem idx2 : ∀ t : Fin cfg0.N, win0_2.index t 0 = t.val / 256 ∧ win0_2.index t 1 = 0 ∧ win0_2.index t 2 = t.val / 32 % 8 := by decide +kernel
theorem idx6 : ∀ t : Fin cfg0.N, win0_6.index t 0 = t.val / 256 ∧ win0_6.index t 1 = 0 ∧ win0_6.index t 2 = t.val / 32 % 8 := by decide +kernel
theorem idx8 : ∀ t : Fin cfg0.N, win0_8.index t 0 = t.val / 256 ∧ win0_8.index t 1 = 0 ∧ win0_8.index t 2 = t.val / 32 % 8 := by decide +kernel
theorem idx3 : ∀ t : Fin cfg0.N, win0_3.index t 0 = t.val / 256 ∧ win0_3.index t 1 = t.val % 32 ∧ win0_3.index t 2 = t.val / 32 % 8 := by decide +kernel
theorem idx4 : ∀ t : Fin cfg0.N, win0_4.index t 0 = t.val / 256 ∧ win0_4.index t 1 = t.val % 32 ∧ win0_4.index t 2 = t.val / 32 % 8 := by decide +kernel
theorem idx5 : ∀ t : Fin cfg0.N, win0_5.index t 0 = t.val / 256 ∧ win0_5.index t 1 = t.val / 32 % 8 ∧ win0_5.index t 2 = 0 ∧ win0_5.index t 3 = t.val % 32 := by decide +kernel
theorem idx7 : ∀ t : Fin cfg0.N, win0_7.index t 0 = t.val / 256 ∧ win0_7.index t 1 = t.val / 32 % 8 ∧ win0_7.index t 2 = 0 ∧ win0_7.index t 3 = 0 := by decide +kernel
theorem idx9 : ∀ t : Fin cfg0.N, win0_9.index t 0 = t.val / 256 ∧ win0_9.index t 1 = t.val / 32 % 8 ∧ win0_9.index t 2 = 0 ∧ win0_9.index t 3 = 0 := by decide +kernel

theorem iblk0 (c : Dev nD) (t : Fin cfg0.N) (r : Fin 256) (d : Fin 512) :
    iblk m c 0 t (ix3 0 r d) = A0 m c (ix3 (tb t) ⟨(ti t).val * 256 + r.val, by have := (ti t).isLt; omega⟩ ⟨(th t).val * 512 + d.val, by have := (th t).isLt; omega⟩) := by
  unfold iblk
  blk_simp
  refine congrArg (V m c main_arg0) (funext fun a => Fin.ext ?_)
  obtain ⟨h0, h1, h2⟩ := idx0 t
  match a with
  | ⟨0, _⟩ => blk_simp [h0]; rfl
  | ⟨1, _⟩ => blk_simp [h1]; rfl
  | ⟨2, _⟩ => blk_simp [h2]; rfl

theorem iblk1 (c : Dev nD) (t : Fin cfg0.N) (r : Fin 8192) (d : Fin 128) :
    iblk m c 1 t (ix3 0 r d) = A1 m c (ix3 (tb t) r ⟨(th t).val * 128 + d.val, by have := (th t).isLt; omega⟩) := by
  unfold iblk
  blk_simp
  refine congrArg (V m c main_arg1) (funext fun a => Fin.ext ?_)
  obtain ⟨h0, h1, h2⟩ := idx1 t
  match a with
  | ⟨0, _⟩ => blk_simp [h0]; rfl
  | ⟨1, _⟩ => blk_simp [h1]
  | ⟨2, _⟩ => blk_simp [h2]; rfl

theorem iblk2 (c : Dev nD) (t : Fin cfg0.N) (r : Fin 8192) (d : Fin 128) :
    iblk m c 2 t (ix3 0 r d) = A2 m c (ix3 (tb t) r ⟨(th t).val * 128 + d.val, by have := (th t).isLt; omega⟩) := by
  unfold iblk
  blk_simp
  refine congrArg (V m c main_arg2) (funext fun a => Fin.ext ?_)
  obtain ⟨h0, h1, h2⟩ := idx2 t
  match a with
  | ⟨0, _⟩ => blk_simp [h0]; rfl
  | ⟨1, _⟩ => blk_simp [h1]
  | ⟨2, _⟩ => blk_simp [h2]; rfl

/-! ## The groups of a block are groups of the array -/

theorem QF_eq (c : Dev nD) (t : Fin cfg0.N) (r : Fin 256) (g : Fin 16) :
    qf (iblk m c 0 t) r g = QG (A0 m c) (tb t) ⟨(ti t).val * 256 + r.val, by have := (ti t).isLt; omega⟩ ⟨(th t).val * 16 + g.val, by have := (th t).isLt; omega⟩ := by
  funext k
  unfold qf QG
  rw [iblk0]
  refine congrArg (A0 m c) ?_
  congr 1
  refine Fin.ext ?_
  show (th t).val * 512 + (g.val * 32 + k.val) = ((th t).val * 16 + g.val) * 32 + k.val
  omega

theorem VF_eq (c : Dev nD) (t : Fin cfg0.N) (r : Fin 8192) (g : Fin 4) :
    VF (iblk m c 2 t) r g = VG (A2 m c) (tb t) r ⟨(th t).val * 4 + g.val, by have := (th t).isLt; omega⟩ := by
  funext k
  unfold VF VG
  rw [iblk2]
  refine congrArg (A2 m c) ?_
  congr 1
  refine Fin.ext ?_
  show (th t).val * 128 + (g.val * 32 + k.val) = ((th t).val * 4 + g.val) * 32 + k.val
  omega

theorem KF_eq (c : Dev nD) (t : Fin cfg0.N) (r : Fin 8192) (g : Fin 4) :
    KF (iblk m c 1 t) r g = KG (A1 m c) (tb t) r ⟨(th t).val * 4 + g.val, by have := (th t).isLt; omega⟩ := by
  funext k
  have e : (⟨(th t).val * 128 + (g.val * 32 + k.val), by have := (th t).isLt; omega⟩ : Fin 1024) = ⟨((th t).val * 4 + g.val) * 32 + k.val, by have := (th t).isLt; omega⟩ :=
    Fin.ext (by show (th t).val * 128 + (g.val * 32 + k.val) = ((th t).val * 4 + g.val) * 32 + k.val; omega)
  unfold KF KG bmean colmean
  simp only [iblk1, e]

/-! ## The arrays -/

/-- Split one axis index into the block's and the offset in it. -/
theorem ex3a (y : S1x8192x128.Idx) : y = ix3 0 (y 1) (y 2) := funext fun a => match a with
  | ⟨0, _⟩ => Fin.ext (Nat.lt_one_iff.mp (y 0).isLt) | ⟨1, _⟩ => rfl | ⟨2, _⟩ => rfl
theorem ex3b (y : S1x256x512.Idx) : y = ix3 0 (y 1) (y 2) := funext fun a => match a with
  | ⟨0, _⟩ => Fin.ext (Nat.lt_one_iff.mp (y 0).isLt) | ⟨1, _⟩ => rfl | ⟨2, _⟩ => rfl
theorem ex4a (y : S1x1x4x8192.Idx) : y = ix4 0 0 (y 2) (y 3) := funext fun a => match a with
  | ⟨0, _⟩ => Fin.ext (Nat.lt_one_iff.mp (y 0).isLt) | ⟨1, _⟩ => Fin.ext (Nat.lt_one_iff.mp (y 1).isLt) | ⟨2, _⟩ => rfl | ⟨3, _⟩ => rfl
theorem ex4b (y : S1x1x16x256.Idx) : y = ix4 0 0 (y 2) (y 3) := funext fun a => match a with
  | ⟨0, _⟩ => Fin.ext (Nat.lt_one_iff.mp (y 0).isLt) | ⟨1, _⟩ => Fin.ext (Nat.lt_one_iff.mp (y 1).isLt) | ⟨2, _⟩ => rfl | ⟨3, _⟩ => rfl

def GQC (x : S3x8192x4096.Idx → EReal) : FVec Ideal S3x8192x4096 .fp8e4m3 := fun i =>
  kcode (QG x (i 0) (i 1) ⟨(i 2).val / 32, by have : (i 2).val < 4096 := (i 2).isLt; omega⟩) ⟨(i 2).val % 32, Nat.mod_lt _ (by decide)⟩
def GKC (x : S3x8192x1024.Idx → EReal) : FVec Ideal S3x8192x1024 .fp8e4m3 := fun i =>
  kcode (KG x (i 0) (i 1) ⟨(i 2).val / 32, by have : (i 2).val < 1024 := (i 2).isLt; omega⟩) ⟨(i 2).val % 32, Nat.mod_lt _ (by decide)⟩
def GVC (x : S3x8192x1024.Idx → EReal) : FVec Ideal S3x8192x1024 .fp8e4m3 := fun i =>
  kcode (VG x (i 0) (i 1) ⟨(i 2).val / 32, by have : (i 2).val < 1024 := (i 2).isLt; omega⟩) ⟨(i 2).val % 32, Nat.mod_lt _ (by decide)⟩
def GQS (x : S3x8192x4096.Idx → EReal) : IVec S3x8x16x8192 32 := fun i =>
  ksc (QG x (i 0) (i 3) ⟨(i 1).val * 16 + (i 2).val, by have h1 : (i 1).val < 8 := (i 1).isLt; have h2 : (i 2).val < 16 := (i 2).isLt; omega⟩)
def GKS (x : S3x8192x1024.Idx → EReal) : IVec S3x8x4x8192 32 := fun i =>
  ksc (KG x (i 0) (i 3) ⟨(i 1).val * 4 + (i 2).val, by have h1 : (i 1).val < 8 := (i 1).isLt; have h2 : (i 2).val < 4 := (i 2).isLt; omega⟩)
def GVS (x : S3x8192x1024.Idx → EReal) : IVec S3x8x4x8192 32 := fun i =>
  ksc (VG x (i 0) (i 3) ⟨(i 1).val * 4 + (i 2).val, by have h1 : (i 1).val < 8 := (i 1).isLt; have h2 : (i 2).val < 4 := (i 2).isLt; omega⟩)

attribute [local irreducible] Spec.KC Spec.KS Spec.VC Spec.VS Spec.QC Spec.QS

theorem arr6 (c : Dev nD) : (dats m 0 c).arrAt 6 cfg0.N = GKC (A1 m c) := by
  refine (dats m 0 c).arrAt_eq_of_covers 6 _ (by decide +kernel) fun t hf y => ?_
  rw [after_6]
  blk_simp
  obtain ⟨r, d, rfl⟩ : ∃ (r : Fin 8192) (d : Fin 128), y = ix3 0 r d := ⟨y 1, y 2, ex3a y⟩
  have e : (win0_6.blk t).view.emb (ix3 0 r d) = ix3 (tb t) r ⟨(th t).val * 128 + d.val, by have := (th t).isLt; omega⟩ := by
    refine funext fun a => Fin.ext ?_
    obtain ⟨h0, h1, h2⟩ := idx6 t
    match a with
    | ⟨0, _⟩ => blk_simp [h0]; rfl
    | ⟨1, _⟩ => blk_simp [h1]
    | ⟨2, _⟩ => blk_simp [h2]; rfl
  rw [e]
  refine (KC_apply (iblk m c 1 t) r d).trans ?_
  rw [KF_eq]
  unfold GKC
  have hd := d.isLt
  congr 2
  · refine Fin.ext ?_
    show (th t).val * 4 + d.val / 32 = ((th t).val * 128 + d.val) / 32
    omega
  · show d.val % 32 = ((th t).val * 128 + d.val) % 32
    omega

theorem arr8 (c : Dev nD) : (dats m 0 c).arrAt 8 cfg0.N = GVC (A2 m c) := by
  refine (dats m 0 c).arrAt_eq_of_covers 8 _ (by decide +kernel) fun t hf y => ?_
  rw [after_8]
  blk_simp
  obtain ⟨r, d, rfl⟩ : ∃ (r : Fin 8192) (d : Fin 128), y = ix3 0 r d := ⟨y 1, y 2, ex3a y⟩
  have e : (win0_8.blk t).view.emb (ix3 0 r d) = ix3 (tb t) r ⟨(th t).val * 128 + d.val, by have := (th t).isLt; omega⟩ := by
    refine funext fun a => Fin.ext ?_
    obtain ⟨h0, h1, h2⟩ := idx8 t
    match a with
    | ⟨0, _⟩ => blk_simp [h0]; rfl
    | ⟨1, _⟩ => blk_simp [h1]
    | ⟨2, _⟩ => blk_simp [h2]; rfl
  rw [e]
  refine (VC_apply (iblk m c 2 t) r d).trans ?_
  rw [VF_eq]
  unfold GVC
  have hd := d.isLt
  congr 2
  · refine Fin.ext ?_
    show (th t).val * 4 + d.val / 32 = ((th t).val * 128 + d.val) / 32
    omega
  · show d.val % 32 = ((th t).val * 128 + d.val) % 32
    omega

theorem arr7 (c : Dev nD) : (dats m 0 c).arrAt 7 cfg0.N = GKS (A1 m c) := by
  refine (dats m 0 c).arrAt_eq_of_covers 7 _ (by decide +kernel) fun t hf y => ?_
  rw [after_7]
  blk_simp
  obtain ⟨g, r, rfl⟩ : ∃ (g : Fin 4) (r : Fin 8192), y = ix4 0 0 g r := ⟨y 2, y 3, ex4a y⟩
  have e : (win0_7.blk t).view.emb (ix4 0 0 g r) = ix4 (tb t) (th t) g r := by
    refine funext fun a => Fin.ext ?_
    obtain ⟨h0, h1, h2, h3⟩ := idx7 t
    match a with
    | ⟨0, _⟩ => blk_simp [h0]; rfl
    | ⟨1, _⟩ => blk_simp [h1]; rfl
    | ⟨2, _⟩ => blk_simp [h2]
    | ⟨3, _⟩ => blk_simp [h3]
  rw [e]
  refine (KS_apply (iblk m c 1 t) g r).trans ?_
  rw [KF_eq]
  rfl

theorem arr9 (c : Dev nD) : (dats m 0 c).arrAt 9 cfg0.N = GVS (A2 m c) := by
  refine (dats m 0 c).arrAt_eq_of_covers 9 _ (by decide +kernel) fun t hf y => ?_
  rw [after_9]
  blk_simp
  obtain ⟨g, r, rfl⟩ : ∃ (g : Fin 4) (r : Fin 8192), y = ix4 0 0 g r := ⟨y 2, y 3, ex4a y⟩
  have e : (win0_9.blk t).view.emb (ix4 0 0 g r) = ix4 (tb t) (th t) g r := by
    refine funext fun a => Fin.ext ?_
    obtain ⟨h0, h1, h2, h3⟩ := idx9 t
    match a with
    | ⟨0, _⟩ => blk_simp [h0]; rfl
    | ⟨1, _⟩ => blk_simp [h1]; rfl
    | ⟨2, _⟩ => blk_simp [h2]
    | ⟨3, _⟩ => blk_simp [h3]
  rw [e]
  refine (VS_apply (iblk m c 2 t) g r).trans ?_
  rw [VF_eq]
  rfl

theorem arr4 (c : Dev nD) : (dats m 0 c).arrAt 4 cfg0.N = GQC (A0 m c) := by
  refine (dats m 0 c).arrAt_eq_of_covers 4 _ (by decide +kernel) fun t hf y => ?_
  rw [after_4]
  blk_simp
  obtain ⟨r, d, rfl⟩ : ∃ (r : Fin 256) (d : Fin 512), y = ix3 0 r d := ⟨y 1, y 2, ex3b y⟩
  have e : (win0_4.blk t).view.emb (ix3 0 r d) = ix3 (tb t) ⟨(ti t).val * 256 + r.val, by have := (ti t).isLt; omega⟩ ⟨(th t).val * 512 + d.val, by have := (th t).isLt; omega⟩ := by
    refine funext fun a => Fin.ext ?_
    obtain ⟨h0, h1, h2⟩ := idx4 t
    match a with
    | ⟨0, _⟩ => blk_simp [h0]; rfl
    | ⟨1, _⟩ => blk_simp [h1]; rfl
    | ⟨2, _⟩ => blk_simp [h2]; rfl
  rw [e]
  refine (QC_apply (iblk m c 0 t) r d).trans ?_
  rw [QF_eq]
  unfold GQC
  have hd := d.isLt
  congr 2
  · refine Fin.ext ?_
    show (th t).val * 16 + d.val / 32 = ((th t).val * 512 + d.val) / 32
    omega
  · show d.val % 32 = ((th t).val * 512 + d.val) % 32
    omega

theorem arr5 (c : Dev nD) : (dats m 0 c).arrAt 5 cfg0.N = GQS (A0 m c) := by
  refine (dats m 0 c).arrAt_eq_of_covers 5 _ (by decide +kernel) fun t hf y => ?_
  rw [after_5]
  blk_simp
  obtain ⟨g, r, rfl⟩ : ∃ (g : Fin 16) (r : Fin 256), y = ix4 0 0 g r := ⟨y 2, y 3, ex4b y⟩
  have e : (win0_5.blk t).view.emb (ix4 0 0 g r) = ix4 (tb t) (th t) g ⟨(ti t).val * 256 + r.val, by have := (ti t).isLt; omega⟩ := by
    refine funext fun a => Fin.ext ?_
    obtain ⟨h0, h1, h2, h3⟩ := idx5 t
    match a with
    | ⟨0, _⟩ => blk_simp [h0]; rfl
    | ⟨1, _⟩ => blk_simp [h1]; rfl
    | ⟨2, _⟩ => blk_simp [h2]
    | ⟨3, _⟩ => blk_simp [h3]; rfl
  rw [e]
  refine (QS_apply (iblk m c 0 t) g r).trans ?_
  rw [QF_eq]
  rfl

end Cert.KernelIdeal.Val
-- ==== Proof.Val.RefMath.lean ====
/- One group of thirty-two as the reference builds it: the exponent counted from powers of two, the codes by a power. -/
module

public import proofs.«01_k».proof.Proof.Val.Math
public import Idealize.ShloMosaic.Lib.IndicatorCount

@[expose] public section

set_option maxRecDepth 16384

noncomputable section

namespace Cert.Quant

open Idealize.ShloMosaic

theorem word448 : Ideal.ofBits .f32 0x43E00000#32 = ((448 : ℝ) : EReal) := by
  simp [Ideal.ofBits, Ideal.ieee]
  rw [← EReal.coe_mul]
  norm_num

theorem word2 : Ideal.ofBits .f32 0x40000000#32 = ((2 : ℝ) : EReal) := by
  simp [Ideal.ofBits, Ideal.ieee]
  rw [← EReal.coe_mul]
  norm_num

theorem word126 : Ideal.ofBits .f32 0x42FC0000#32 = ((126 : ℝ) : EReal) := by
  simp [Ideal.ofBits, Ideal.ieee]
  rw [← EReal.coe_mul]
  norm_num

theorem word8192 : Ideal.ofBits .f32 0x46000000#32 = ((8192 : ℝ) : EReal) := by
  simp [Ideal.ofBits, Ideal.ieee]
  rw [← EReal.coe_mul]
  norm_num

/-- The reference's largest magnitude over 448. -/
def ramax (f : Fin 32 → EReal) : EReal :=
  Ideal.div (Finset.univ.fold max (Ideal.ofBits .f32 0xFF800000#32) (fun k => max (f k) (-f k))) (Ideal.ofBits .f32 0x43E00000#32)

theorem ramax_eq (f : Fin 32 → EReal) : ramax f = amax f := by
  unfold ramax amax
  rw [word448, Ideal.div_coe (by norm_num)]

/-- The indicator of a power of two under a value, and the exponent the indicators count. -/
def ind (a : EReal) (k : Fin 254) : BitVec 1 :=
  BitVec.ofBool (decide (Ideal.pow (Ideal.ofBits .f32 0x40000000#32) ((((BitVec.ofNat 32 k.val).toInt : ℝ) : EReal) - Ideal.ofBits .f32 0x42FC0000#32) ≤ a))
def rexp (a : EReal) : BitVec 32 :=
  if a = 0 then 0#32 else IntOp.subi (Finset.univ.fold IntOp.addi 0#32 (fun k => (ind a k).setWidth 32)) 126#32

theorem pow_two (z : ℤ) : Ideal.pow (Ideal.ofBits .f32 0x40000000#32) (((z : ℝ)) : EReal) = (((2 : ℝ) ^ z : ℝ) : EReal) := by
  rw [word2]
  show ((Real.rpow 2 (z : ℝ) : ℝ) : EReal) = _
  congr 1
  exact Real.rpow_intCast 2 z

theorem ind_iff (a : EReal) (k : Fin 254) : ind a k = 1#1 ↔ (((2 : ℝ) ^ ((k : ℤ) - 126) : ℝ) : EReal) ≤ a := by
  have h : (BitVec.ofNat 32 k.val).toInt = (k : ℤ) := by
    exact (by decide +kernel : ∀ k : Fin 254, (BitVec.ofNat 32 k.val).toInt = (k.val : ℤ)) k
  unfold ind
  rw [h, word126, ← EReal.coe_sub, show (((k : ℤ) : ℝ) - 126) = ((((k : ℤ) - 126 : ℤ)) : ℝ) by push_cast; ring, pow_two]
  by_cases hh : (((2 : ℝ) ^ ((k : ℤ) - 126) : ℝ) : EReal) ≤ a <;> simp [hh]

theorem rexp_eq (a : EReal) : rexp a = IntOp.subi (BitVec.ofNat 32 (E a)) 126#32 := by
  unfold rexp E
  split
  · decide
  · rw [IndicatorCount.fold_addi_setWidth_eq_card]
    congr 2
    unfold cnt
    exact congrArg Finset.card (Finset.filter_congr fun k _ => ind_iff a k)

/-- The exponent biased by 127 is the field the kernel stores. -/
theorem rexp_bias (f : Fin 32 → EReal) (h0 : 0 ≤ amax f) (ht : amax f < ⊤) : IntOp.addi (rexp (amax f)) 127#32 = ksc f := by
  rw [rexp_eq, ksc, bexp_eq _ h0 ht]
  unfold IntOp.addi IntOp.subi
  bv_omega

theorem ksc_toNat (f : Fin 32 → EReal) (h0 : 0 ≤ amax f) (ht : amax f < ⊤) (hE : E (amax f) ≤ 252) :
    ((ksc f).setWidth 8).setWidth 32 = ksc f := by
  rw [ksc, bexp_eq _ h0 ht]
  unfold IntOp.addi
  apply BitVec.eq_of_toNat_eq
  simp only [BitVec.toNat_setWidth, BitVec.toNat_add, BitVec.toNat_ofNat]
  omega

/-- The scale the codes are multiplied by. -/
theorem rinv_eq (a : EReal) (hE : E a ≤ 252) :
    Ideal.pow (Ideal.ofBits .f32 0x40000000#32) ((((-rexp a).toInt : ℝ)) : EReal) = (((2 : ℝ) ^ (-ex a) : ℝ) : EReal) := by
  have h : (-rexp a).toInt = -ex a := by
    rw [rexp_eq]
    unfold ex IntOp.subi
    generalize E a = n at hE
    have := (by decide +kernel : ∀ n : Fin 253, (-(BitVec.ofNat 32 n.val - 126#32)).toInt = -((n.val : ℤ) - 126))
    exact this ⟨n, by omega⟩
  rw [h, pow_two]

/-- The reference's codes. -/
def rcode (f : Fin 32 → EReal) (k : Fin 32) : EReal :=
  min (Ideal.ofBits .f32 0x43E00000#32) (max (Ideal.ofBits .f32 0xC3E00000#32)
    (f k * Ideal.pow (Ideal.ofBits .f32 0x40000000#32) ((((-rexp (amax f)).toInt : ℝ)) : EReal)))

theorem rcode_eq (f : Fin 32 → EReal) (h0 : 0 ≤ amax f) (ht : amax f < ⊤) (hE : E (amax f) ≤ 252) (k : Fin 32) : rcode f k = kcode f k := by
  unfold rcode kcode clip
  rw [rinv_eq _ hE, bexp_eq _ h0 ht, inv_eq _ hE, min_comm, max_comm]

/-! ## The bound a precondition gives -/

/-- A group every value of which has magnitude below `2^130`. -/
def Small (f : Fin 32 → EReal) : Prop := ∀ k, max (f k) (-f k) ≤ (((2 : ℝ) ^ (130 : ℕ) : ℝ) : EReal)

theorem amax_nonneg (f : Fin 32 → EReal) : 0 ≤ amax f := by
  unfold amax
  refine mul_nonneg ?_ (by exact_mod_cast (by norm_num : (0 : ℝ) ≤ 1 / 448))
  rw [Finset.le_fold_max]
  refine Or.inr ⟨0, Finset.mem_univ _, ?_⟩
  rcases le_total 0 (f 0) with h | h
  · exact le_max_of_le_left h
  · exact le_max_of_le_right (EReal.neg_nonneg.2 h)

theorem amax_lt (f : Fin 32 → EReal) (hf : Small f) : amax f < (((2 : ℝ) ^ (126 : ℤ) : ℝ) : EReal) := by
  unfold amax
  have h : Finset.univ.fold max (Ideal.ofBits .f32 0xFF800000#32) (fun k => max (f k) (-f k)) ≤ (((2 : ℝ) ^ (130 : ℕ) : ℝ) : EReal) := by
    rw [Finset.fold_max_le]
    refine ⟨?_, fun k _ => hf k⟩
    have : Ideal.ofBits .f32 0xFF800000#32 = ⊥ := by
      simp [Ideal.ofBits, Ideal.ieee]
    rw [this]; exact bot_le
  refine lt_of_le_of_lt (mul_le_mul_of_nonneg_right h (by exact_mod_cast (by norm_num : (0 : ℝ) ≤ 1 / 448))) ?_
  rw [← EReal.coe_mul]
  exact_mod_cast (by norm_num : ((2 : ℝ) ^ (130 : ℕ)) * (1 / 448) < (2 : ℝ) ^ (126 : ℤ))

theorem amax_lt_top (f : Fin 32 → EReal) (hf : Small f) : amax f < ⊤ := (amax_lt f hf).trans (EReal.coe_lt_top _)

theorem small_code (f : Fin 32 → EReal) (hf : Small f) (k : Fin 32) : rcode f k = kcode f k :=
  rcode_eq f (amax_nonneg f) (amax_lt_top f hf) (E_le _ (amax_lt f hf)) k
theorem small_ksc (f : Fin 32 → EReal) (hf : Small f) :
    (((IntOp.addi (rexp (amax f)) 127#32)).setWidth 8).setWidth 32 = ksc f := by
  rw [rexp_bias f (amax_nonneg f) (amax_lt_top f hf)]
  exact ksc_toNat f (amax_nonneg f) (amax_lt_top f hf) (E_le _ (amax_lt f hf))

end Cert.Quant

end
-- ==== Proof.Val.Bounds.lean ====
/- What the precondition gives: every argument a real number of magnitude at most `2^128`, so every group is small. -/
module

public import proofs.«01_k».proof.Pre_finite
public import proofs.«01_k».proof.Proof.Val.RefMath
public import proofs.«01_k».proof.Proof.Val.Arr
public import Idealize.ShloMosaic.Lib.ReduceAll

@[expose] public section

set_option maxRecDepth 16384

noncomputable section

namespace Cert.Quant

open Idealize.ShloMosaic

/-- Every element of magnitude at most `2^128`. -/
def Bnd {ι : Type} (x : ι → EReal) : Prop := ∀ i, max (x i) (-x i) ≤ (((2 : ℝ) ^ (128 : ℕ) : ℝ) : EReal)

theorem word7F7F : Ideal.ofBits .bf16 0x7F7F#16 ≤ (((2 : ℝ) ^ (128 : ℕ) : ℝ) : EReal) := by
  simp [Ideal.ofBits, Ideal.ieee]
  exact_mod_cast (by norm_num : (255 : ℝ) * 2 ^ 120 ≤ 2 ^ 128)

theorem one_of_cmp (a b : EReal) (h : Ideal.cmp .ole a b = 1#1) : a ≤ b := by
  by_contra hn
  simp [Ideal.cmp, hn] at h

instance : Subsingleton (Cert.Pre_finite.S_).Idx := ⟨fun a b => funext fun k => k.elim0⟩

theorem pre_bnd [Cert.Pre_finite.Facts] (x0 : FVec Ideal Cert.Pre_finite.S3x8192x4096 .bf16) (x1 x2 : FVec Ideal Cert.Pre_finite.S3x8192x1024 .bf16)
    (h : Cert.Pre_finite.fn (F := Ideal) x0 x1 x2 = fun _ => 1#1) : Bnd x0 ∧ Bnd x1 ∧ Bnd x2 := by
  have h1 := congrFun h (fun a => a.elim0)
  unfold Cert.Pre_finite.fn at h1
  obtain ⟨h2, h5⟩ := IntOp.andi_eq_one.1 h1
  obtain ⟨h3, h4⟩ := IntOp.andi_eq_one.1 h2
  refine ⟨fun i => ?_, fun i => ?_, fun i => ?_⟩
  · exact (one_of_cmp _ _ (Host.reduce_andi_all _ _ _ _ _ h3 i)).trans word7F7F
  · exact (one_of_cmp _ _ (Host.reduce_andi_all _ _ _ _ _ h4 i)).trans word7F7F
  · exact (one_of_cmp _ _ (Host.reduce_andi_all _ _ _ _ _ h5 i)).trans word7F7F

theorem bnd_real {ι : Type} (x : ι → EReal) (h : Bnd x) : ∃ y : ι → ℝ, (∀ i, x i = ((y i : ℝ) : EReal)) ∧ ∀ i, |y i| ≤ 2 ^ (128 : ℕ) := by
  have h' : ∀ i, ∃ r : ℝ, x i = (r : EReal) ∧ |r| ≤ 2 ^ (128 : ℕ) := by
    intro i
    have hi := h i
    have ha : x i ≤ (((2 : ℝ) ^ (128 : ℕ) : ℝ) : EReal) := (le_max_left _ _).trans hi
    have hb : -x i ≤ (((2 : ℝ) ^ (128 : ℕ) : ℝ) : EReal) := (le_max_right _ _).trans hi
    generalize x i = z at ha hb
    induction z with
    | bot => exact absurd hb (by rw [EReal.neg_bot]; exact not_le.2 (EReal.coe_lt_top _))
    | top => exact absurd ha (not_le.2 (EReal.coe_lt_top _))
    | coe r =>
      refine ⟨r, rfl, abs_le.2 ⟨?_, EReal.coe_le_coe_iff.1 ha⟩⟩
      rw [← EReal.coe_neg] at hb
      have := EReal.coe_le_coe_iff.1 hb
      linarith
  choose y hy using h'
  exact ⟨y, fun i => (hy i).1, fun i => (hy i).2⟩

theorem coe_sum' {ι : Type} (s : Finset ι) (y : ι → ℝ) : (∑ i ∈ s, ((y i : ℝ) : EReal)) = ((∑ i ∈ s, y i : ℝ) : EReal) := by
  classical
  induction s using Finset.induction_on with
  | empty => simp
  | insert a s ha ih => rw [Finset.sum_insert ha, Finset.sum_insert ha, ih, EReal.coe_add]

theorem max_neg_coe (r : ℝ) : max ((r : ℝ) : EReal) (-((r : ℝ) : EReal)) = ((|r| : ℝ) : EReal) := by
  rw [← EReal.coe_neg]
  rcases le_total 0 r with h | h
  · rw [abs_of_nonneg h, max_eq_left (EReal.coe_le_coe_iff.2 (by linarith))]
  · rw [abs_of_nonpos h, max_eq_right (EReal.coe_le_coe_iff.2 (by linarith))]

theorem small_of (f : Fin 32 → EReal) (y : Fin 32 → ℝ) (h : ∀ k, f k = ((y k : ℝ) : EReal)) (hb : ∀ k, |y k| ≤ 2 ^ (130 : ℕ)) : Small f := by
  intro k
  rw [h, max_neg_coe]
  exact EReal.coe_le_coe_iff.2 (hb k)

theorem QG_small (x : (⟨3, ![3, 8192, 4096]⟩ : Shape).Idx → EReal) (h : Bnd x) (b : Fin 3) (s : Fin 8192) (g : Fin 128) : Small (QG x b s g) := by
  obtain ⟨y, hy, hb⟩ := bnd_real x h
  refine small_of _ (fun k => y (ix3 b s ⟨g.val * 32 + k.val, by omega⟩)) (fun k => hy _) fun k => (hb _).trans ?_
  exact pow_le_pow_right₀ (by norm_num) (by norm_num)
theorem VG_small (x : (⟨3, ![3, 8192, 1024]⟩ : Shape).Idx → EReal) (h : Bnd x) (b : Fin 3) (s : Fin 8192) (g : Fin 32) : Small (VG x b s g) := by
  obtain ⟨y, hy, hb⟩ := bnd_real x h
  refine small_of _ (fun k => y (ix3 b s ⟨g.val * 32 + k.val, by omega⟩)) (fun k => hy _) fun k => (hb _).trans ?_
  exact pow_le_pow_right₀ (by norm_num) (by norm_num)

theorem colmean_real (x : (⟨3, ![3, 8192, 1024]⟩ : Shape).Idx → EReal) (y : (⟨3, ![3, 8192, 1024]⟩ : Shape).Idx → ℝ)
    (hy : ∀ i, x i = ((y i : ℝ) : EReal)) (hb : ∀ i, |y i| ≤ 2 ^ (128 : ℕ)) (b : Fin 3) (d : Fin 1024) :
    ∃ r : ℝ, colmean x b d = (r : EReal) ∧ |r| ≤ 2 ^ (128 : ℕ) := by
  refine ⟨(∑ r : Fin 8192, y (ix3 b r d)) * (1 / 8192), ?_, ?_⟩
  · unfold colmean
    simp only [hy]
    rw [coe_sum', word8192, Ideal.div_coe (by norm_num), ← EReal.coe_mul]
  · rw [abs_mul]
    have h1 : |∑ r : Fin 8192, y (ix3 b r d)| ≤ 8192 * 2 ^ (128 : ℕ) := by
      refine (Finset.abs_sum_le_sum_abs _ _).trans ?_
      refine (Finset.sum_le_card_nsmul _ _ _ fun r _ => hb (ix3 b r d)).trans ?_
      simp
    rw [abs_of_nonneg (by norm_num : (0 : ℝ) ≤ 1 / 8192)]
    linarith

theorem KG_small (x : (⟨3, ![3, 8192, 1024]⟩ : Shape).Idx → EReal) (h : Bnd x) (b : Fin 3) (s : Fin 8192) (g : Fin 32) : Small (KG x b s g) := by
  obtain ⟨y, hy, hb⟩ := bnd_real x h
  choose c hc hcb using fun (d : Fin 1024) => colmean_real x y hy hb b d
  refine small_of _ (fun k => y (ix3 b s ⟨g.val * 32 + k.val, by omega⟩) - c ⟨g.val * 32 + k.val, by omega⟩) (fun k => ?_) fun k => ?_
  · unfold KG
    rw [hy, hc, EReal.coe_sub]
  · have h1 := abs_sub (y (ix3 b s ⟨g.val * 32 + k.val, by omega⟩)) (c ⟨g.val * 32 + k.val, by omega⟩)
    have h2 := hb (ix3 b s ⟨g.val * 32 + k.val, by omega⟩)
    have h3 := hcb ⟨g.val * 32 + k.val, by omega⟩
    refine h1.trans ?_
    have h4 : (2 : ℝ) ^ (130 : ℕ) = 4 * 2 ^ (128 : ℕ) := by norm_num
    rw [h4]
    have h5 : (0 : ℝ) < 2 ^ (128 : ℕ) := by positivity
    linarith

end Cert.Quant

end
-- ==== Proof.Ref.PrefixRead.lean ====
/- The host operations the reference runs before its kernel region, one at a time: the value each writes as a function
   of the arguments, and that value read at an index. -/
module

public import proofs.«01_k».proof.Proof.Gen.ReferenceIdeal
public import Idealize.ShloMosaic.Lib.Pipeline.Value
public import Idealize.ShloMosaic.PureOps.Ideal.Laws

@[expose] public section

noncomputable section

namespace Cert.ReferenceIdeal.Pre

open Cert.ReferenceIdeal Cert.ReferenceIdeal.Gen Idealize.ShloMosaic Idealize.ShloMosaic.TcCoe Idealize.SL.Sem Idealize.ShloMosaic.StableHlo

variable {F : FTy → Type} [FloatOps F]

-- %0 = stablehlo.convert %arg0 : (tensor<3x8192x4096xbf16>) -> tensor<3x8192x4096xf32>
def val_main_v0 (x0 : (⟨S3x8192x4096, .bf16⟩ : BufTy).Contents (Elt F)) : (⟨S3x8192x4096, .f32⟩ : BufTy).Contents (Elt F) :=
  extf .f32 (x0) bitsLt_bf16_f32
theorem val_main_v0_apply (x0 : (⟨S3x8192x4096, .bf16⟩ : BufTy).Contents (Elt F)) (i : S3x8192x4096.Idx) :
    val_main_v0 (F := F) x0 i = FloatOps.extf .f32 bitsLt_bf16_f32 (x0 i) := rfl

-- %1 = stablehlo.reshape %0 : (tensor<3x8192x4096xf32>) -> tensor<3x8192x32x128xf32>
def val_main_v1 (x0 : (⟨S3x8192x4096, .bf16⟩ : BufTy).Contents (Elt F)) : (⟨S3x8192x32x128, .f32⟩ : BufTy).Contents (Elt F) :=
  shapeCast _ (val_main_v0 (F := F) x0) shapeCasts_S3x8192x4096_S3x8192x32x128
abbrev idx_main_v1 (i : S3x8192x32x128.Idx) : S3x8192x4096.Idx := fun a => match a with
  | ⟨0, _⟩ => ⟨((((i 0).val * 8192 + (i 1).val) * 32 + (i 2).val) * 128 + (i 3).val) / 33554432, by have h0 : (i 0).val < 3 := (i 0).isLt; have h1 : (i 1).val < 8192 := (i 1).isLt; have h2 : (i 2).val < 32 := (i 2).isLt; have h3 : (i 3).val < 128 := (i 3).isLt; show ((((i 0).val * 8192 + (i 1).val) * 32 + (i 2).val) * 128 + (i 3).val) / 33554432 < 3; omega⟩
  | ⟨1, _⟩ => ⟨((((i 0).val * 8192 + (i 1).val) * 32 + (i 2).val) * 128 + (i 3).val) / 4096 % 8192, by have h0 : (i 0).val < 3 := (i 0).isLt; have h1 : (i 1).val < 8192 := (i 1).isLt; have h2 : (i 2).val < 32 := (i 2).isLt; have h3 : (i 3).val < 128 := (i 3).isLt; show ((((i 0).val * 8192 + (i 1).val) * 32 + (i 2).val) * 128 + (i 3).val) / 4096 % 8192 < 8192; omega⟩
  | ⟨2, _⟩ => ⟨((((i 0).val * 8192 + (i 1).val) * 32 + (i 2).val) * 128 + (i 3).val) % 4096, by have h0 : (i 0).val < 3 := (i 0).isLt; have h1 : (i 1).val < 8192 := (i 1).isLt; have h2 : (i 2).val < 32 := (i 2).isLt; have h3 : (i 3).val < 128 := (i 3).isLt; show ((((i 0).val * 8192 + (i 1).val) * 32 + (i 2).val) * 128 + (i 3).val) % 4096 < 4096; omega⟩
theorem val_main_v1_apply (x0 : (⟨S3x8192x4096, .bf16⟩ : BufTy).Contents (Elt F)) (i : S3x8192x32x128.Idx) :
    val_main_v1 (F := F) x0 i = val_main_v0 (F := F) x0 (idx_main_v1 i) := by
  unfold val_main_v1
  generalize val_main_v0 (F := F) x0 = y
  exact shapeCast_apply y shapeCasts_S3x8192x4096_S3x8192x32x128 i (idx_main_v1 i)
    (by rewrite [Shape.rowMajor_val_three, Shape.rowMajor_val_four]; have h0 : (i 0).val < 3 := (i 0).isLt; have h1 : (i 1).val < 8192 := (i 1).isLt; have h2 : (i 2).val < 32 := (i 2).isLt; have h3 : (i 3).val < 128 := (i 3).isLt; show (((((i 0).val * 8192 + (i 1).val) * 32 + (i 2).val) * 128 + (i 3).val) / 33554432 * 8192 + ((((i 0).val * 8192 + (i 1).val) * 32 + (i 2).val) * 128 + (i 3).val) / 4096 % 8192) * 4096 + ((((i 0).val * 8192 + (i 1).val) * 32 + (i 2).val) * 128 + (i 3).val) % 4096 = (((i 0).val * 8192 + (i 1).val) * 32 + (i 2).val) * 128 + (i 3).val; omega)

-- %2 = stablehlo.reshape %1 : (tensor<3x8192x32x128xf32>) -> tensor<3x8192x32x4x32xf32>
def val_main_v2 (x0 : (⟨S3x8192x4096, .bf16⟩ : BufTy).Contents (Elt F)) : (⟨S3x8192x32x4x32, .f32⟩ : BufTy).Contents (Elt F) :=
  shapeCast _ (val_main_v1 (F := F) x0) shapeCasts_S3x8192x32x128_S3x8192x32x4x32
abbrev idx_main_v2 (i : S3x8192x32x4x32.Idx) : S3x8192x32x128.Idx := fun a => match a with
  | ⟨0, _⟩ => ⟨(((((i 0).val * 8192 + (i 1).val) * 32 + (i 2).val) * 4 + (i 3).val) * 32 + (i 4).val) / 33554432, by have h0 : (i 0).val < 3 := (i 0).isLt; have h1 : (i 1).val < 8192 := (i 1).isLt; have h2 : (i 2).val < 32 := (i 2).isLt; have h3 : (i 3).val < 4 := (i 3).isLt; have h4 : (i 4).val < 32 := (i 4).isLt; show (((((i 0).val * 8192 + (i 1).val) * 32 + (i 2).val) * 4 + (i 3).val) * 32 + (i 4).val) / 33554432 < 3; omega⟩
  | ⟨1, _⟩ => ⟨(((((i 0).val * 8192 + (i 1).val) * 32 + (i 2).val) * 4 + (i 3).val) * 32 + (i 4).val) / 4096 % 8192, by have h0 : (i 0).val < 3 := (i 0).isLt; have h1 : (i 1).val < 8192 := (i 1).isLt; have h2 : (i 2).val < 32 := (i 2).isLt; have h3 : (i 3).val < 4 := (i 3).isLt; have h4 : (i 4).val < 32 := (i 4).isLt; show (((((i 0).val * 8192 + (i 1).val) * 32 + (i 2).val) * 4 + (i 3).val) * 32 + (i 4).val) / 4096 % 8192 < 8192; omega⟩
  | ⟨2, _⟩ => ⟨(((((i 0).val * 8192 + (i 1).val) * 32 + (i 2).val) * 4 + (i 3).val) * 32 + (i 4).val) / 128 % 32, by have h0 : (i 0).val < 3 := (i 0).isLt; have h1 : (i 1).val < 8192 := (i 1).isLt; have h2 : (i 2).val < 32 := (i 2).isLt; have h3 : (i 3).val < 4 := (i 3).isLt; have h4 : (i 4).val < 32 := (i 4).isLt; show (((((i 0).val * 8192 + (i 1).val) * 32 + (i 2).val) * 4 + (i 3).val) * 32 + (i 4).val) / 128 % 32 < 32; omega⟩
  | ⟨3, _⟩ => ⟨(((((i 0).val * 8192 + (i 1).val) * 32 + (i 2).val) * 4 + (i 3).val) * 32 + (i 4).val) % 128, by have h0 : (i 0).val < 3 := (i 0).isLt; have h1 : (i 1).val < 8192 := (i 1).isLt; have h2 : (i 2).val < 32 := (i 2).isLt; have h3 : (i 3).val < 4 := (i 3).isLt; have h4 : (i 4).val < 32 := (i 4).isLt; show (((((i 0).val * 8192 + (i 1).val) * 32 + (i 2).val) * 4 + (i 3).val) * 32 + (i 4).val) % 128 < 128; omega⟩
theorem val_main_v2_apply (x0 : (⟨S3x8192x4096, .bf16⟩ : BufTy).Contents (Elt F)) (i : S3x8192x32x4x32.Idx) :
    val_main_v2 (F := F) x0 i = val_main_v1 (F := F) x0 (idx_main_v2 i) := by
  unfold val_main_v2
  generalize val_main_v1 (F := F) x0 = y
  exact shapeCast_apply y shapeCasts_S3x8192x32x128_S3x8192x32x4x32 i (idx_main_v2 i)
    (by rewrite [Shape.rowMajor_val_four, Shape.rowMajor_val_five]; have h0 : (i 0).val < 3 := (i 0).isLt; have h1 : (i 1).val < 8192 := (i 1).isLt; have h2 : (i 2).val < 32 := (i 2).isLt; have h3 : (i 3).val < 4 := (i 3).isLt; have h4 : (i 4).val < 32 := (i 4).isLt; show (((((((i 0).val * 8192 + (i 1).val) * 32 + (i 2).val) * 4 + (i 3).val) * 32 + (i 4).val) / 33554432 * 8192 + (((((i 0).val * 8192 + (i 1).val) * 32 + (i 2).val) * 4 + (i 3).val) * 32 + (i 4).val) / 4096 % 8192) * 32 + (((((i 0).val * 8192 + (i 1).val) * 32 + (i 2).val) * 4 + (i 3).val) * 32 + (i 4).val) / 128 % 32) * 128 + (((((i 0).val * 8192 + (i 1).val) * 32 + (i 2).val) * 4 + (i 3).val) * 32 + (i 4).val) % 128 = ((((i 0).val * 8192 + (i 1).val) * 32 + (i 2).val) * 4 + (i 3).val) * 32 + (i 4).val; omega)

-- %3 = stablehlo.abs %2 : tensor<3x8192x32x4x32xf32>
def val_main_v3 (x0 : (⟨S3x8192x4096, .bf16⟩ : BufTy).Contents (Elt F)) : (⟨S3x8192x32x4x32, .f32⟩ : BufTy).Contents (Elt F) :=
  Host.absf (val_main_v2 (F := F) x0)
theorem val_main_v3_apply (x0 : (⟨S3x8192x4096, .bf16⟩ : BufTy).Contents (Elt F)) (i : S3x8192x32x4x32.Idx) :
    val_main_v3 (F := F) x0 i = FloatOps.hostAbsf (val_main_v2 (F := F) x0 i) := rfl

-- %cst = stablehlo.constant dense<0xFF800000> : tensor<f32>
def val_main_cst : (⟨S_, .f32⟩ : BufTy).Contents (Elt F) :=
  constant S_ .f32 0xFF800000#32
theorem val_main_cst_apply (i : S_.Idx) :
    val_main_cst (F := F) i = FloatOps.ofBits .f32 0xFF800000#32 := rfl

-- %4 = stablehlo.reduce(%3 init: %cst) applies stablehlo.maximum across dimensions = [4] : (tensor<3x8192x32x4x32xf32>, tensor<f32>) -> tensor<3x8192x32x4xf32> {
def val_main_v4 (x0 : (⟨S3x8192x4096, .bf16⟩ : BufTy).Contents (Elt F)) : (⟨S3x8192x32x4, .f32⟩ : BufTy).Contents (Elt F) :=
  Host.reduce FloatOps.maximumf (val_main_v3 (F := F) x0) (val_main_cst (F := F)) reducesTo_S3x8192x32x4x32_S3x8192x32x4_d4 h_S_

-- %cst_0 = stablehlo.constant dense<4.480000e+02> : tensor<f32>
def val_main_cst_0 : (⟨S_, .f32⟩ : BufTy).Contents (Elt F) :=
  constant S_ .f32 0x43E00000#32
theorem val_main_cst_0_apply (i : S_.Idx) :
    val_main_cst_0 (F := F) i = FloatOps.ofBits .f32 0x43E00000#32 := rfl

-- %5 = stablehlo.broadcast_in_dim %cst_0, dims = [] : (tensor<f32>) -> tensor<3x8192x32x4xf32>
def val_main_v5 : (⟨S3x8192x32x4, .f32⟩ : BufTy).Contents (Elt F) :=
  broadcastInDim S3x8192x32x4 ![] bcast_S_S3x8192x32x4 (val_main_cst_0 (F := F))
abbrev idx_main_v5 (i : S3x8192x32x4.Idx) : S_.Idx := fun a => a.elim0
theorem val_main_v5_apply (i : S3x8192x32x4.Idx) :
    val_main_v5 (F := F) i = val_main_cst_0 (F := F) (idx_main_v5 i) := by
  unfold val_main_v5
  generalize val_main_cst_0 (F := F) = y
  exact broadcastInDim_apply _ bcast_S_S3x8192x32x4 y i (idx_main_v5 i) (fun a => a.elim0)

-- %6 = stablehlo.divide %4, %5 : tensor<3x8192x32x4xf32>
def val_main_v6 (x0 : (⟨S3x8192x4096, .bf16⟩ : BufTy).Contents (Elt F)) : (⟨S3x8192x32x4, .f32⟩ : BufTy).Contents (Elt F) :=
  Host.divf (val_main_v4 (F := F) x0) (val_main_v5 (F := F))
theorem val_main_v6_apply (x0 : (⟨S3x8192x4096, .bf16⟩ : BufTy).Contents (Elt F)) (i : S3x8192x32x4.Idx) :
    val_main_v6 (F := F) x0 i = FloatOps.hostDivf (val_main_v4 (F := F) x0 i) (val_main_v5 (F := F) i) := rfl

-- %cst_1 = stablehlo.constant dense<2.000000e+00> : tensor<f32>
def val_main_cst_1 : (⟨S_, .f32⟩ : BufTy).Contents (Elt F) :=
  constant S_ .f32 0x40000000#32
theorem val_main_cst_1_apply (i : S_.Idx) :
    val_main_cst_1 (F := F) i = FloatOps.ofBits .f32 0x40000000#32 := rfl

-- %7 = stablehlo.broadcast_in_dim %cst_1, dims = [] : (tensor<f32>) -> tensor<254xf32>
def val_main_v7 : (⟨S254, .f32⟩ : BufTy).Contents (Elt F) :=
  broadcastInDim S254 ![] bcast_S_S254 (val_main_cst_1 (F := F))
abbrev idx_main_v7 (i : S254.Idx) : S_.Idx := fun a => a.elim0
theorem val_main_v7_apply (i : S254.Idx) :
    val_main_v7 (F := F) i = val_main_cst_1 (F := F) (idx_main_v7 i) := by
  unfold val_main_v7
  generalize val_main_cst_1 (F := F) = y
  exact broadcastInDim_apply _ bcast_S_S254 y i (idx_main_v7 i) (fun a => a.elim0)

-- %8 = stablehlo.iota dim = 0 : tensor<254xi32>
def val_main_v8 : (⟨S254, .i32⟩ : BufTy).Contents (Elt F) :=
  iotaInDim S254 32 0
theorem val_main_v8_apply (i : S254.Idx) :
    val_main_v8 (F := F) i = BitVec.ofNat 32 (i 0).val := rfl

-- %9 = stablehlo.convert %8 : (tensor<254xi32>) -> tensor<254xf32>
def val_main_v9 : (⟨S254, .f32⟩ : BufTy).Contents (Elt F) :=
  sitofp .f32 (val_main_v8 (F := F))
theorem val_main_v9_apply (i : S254.Idx) :
    val_main_v9 (F := F) i = FloatOps.sitofp .f32 (val_main_v8 (F := F) i) := rfl

-- %cst_2 = stablehlo.constant dense<1.260000e+02> : tensor<f32>
def val_main_cst_2 : (⟨S_, .f32⟩ : BufTy).Contents (Elt F) :=
  constant S_ .f32 0x42FC0000#32
theorem val_main_cst_2_apply (i : S_.Idx) :
    val_main_cst_2 (F := F) i = FloatOps.ofBits .f32 0x42FC0000#32 := rfl

-- %10 = stablehlo.broadcast_in_dim %cst_2, dims = [] : (tensor<f32>) -> tensor<254xf32>
def val_main_v10 : (⟨S254, .f32⟩ : BufTy).Contents (Elt F) :=
  broadcastInDim S254 ![] bcast_S_S254 (val_main_cst_2 (F := F))
abbrev idx_main_v10 (i : S254.Idx) : S_.Idx := fun a => a.elim0
theorem val_main_v10_apply (i : S254.Idx) :
    val_main_v10 (F := F) i = val_main_cst_2 (F := F) (idx_main_v10 i) := by
  unfold val_main_v10
  generalize val_main_cst_2 (F := F) = y
  exact broadcastInDim_apply _ bcast_S_S254 y i (idx_main_v10 i) (fun a => a.elim0)

-- %11 = stablehlo.subtract %9, %10 : tensor<254xf32>
def val_main_v11 : (⟨S254, .f32⟩ : BufTy).Contents (Elt F) :=
  subf (val_main_v9 (F := F)) (val_main_v10 (F := F))
theorem val_main_v11_apply (i : S254.Idx) :
    val_main_v11 (F := F) i = FloatOps.subf (val_main_v9 (F := F) i) (val_main_v10 (F := F) i) := rfl

-- %12 = stablehlo.power %7, %11 : tensor<254xf32>
def val_main_v12 : (⟨S254, .f32⟩ : BufTy).Contents (Elt F) :=
  Host.powf (val_main_v7 (F := F)) (val_main_v11 (F := F))
theorem val_main_v12_apply (i : S254.Idx) :
    val_main_v12 (F := F) i = FloatOps.hostPowf (val_main_v7 (F := F) i) (val_main_v11 (F := F) i) := rfl

-- %13 = stablehlo.broadcast_in_dim %6, dims = [0, 1, 2, 3] : (tensor<3x8192x32x4xf32>) -> tensor<3x8192x32x4x1xf32>
def val_main_v13 (x0 : (⟨S3x8192x4096, .bf16⟩ : BufTy).Contents (Elt F)) : (⟨S3x8192x32x4x1, .f32⟩ : BufTy).Contents (Elt F) :=
  broadcastInDim S3x8192x32x4x1 ![0, 1, 2, 3] bcast_S3x8192x32x4_S3x8192x32x4x1_0_1_2_3 (val_main_v6 (F := F) x0)
abbrev idx_main_v13 (i : S3x8192x32x4x1.Idx) : S3x8192x32x4.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨(i 3).val, (i 3).isLt⟩
theorem val_main_v13_apply (x0 : (⟨S3x8192x4096, .bf16⟩ : BufTy).Contents (Elt F)) (i : S3x8192x32x4x1.Idx) :
    val_main_v13 (F := F) x0 i = val_main_v6 (F := F) x0 (idx_main_v13 i) := by
  unfold val_main_v13
  generalize val_main_v6 (F := F) x0 = y
  exact broadcastInDim_apply _ bcast_S3x8192x32x4_S3x8192x32x4x1_0_1_2_3 y i (idx_main_v13 i) (fun a => match a with
    | ⟨0, _⟩ => by show (i 0).val = if (3 : Nat) = 1 then 0 else (i 0).val; rw [if_neg (by decide)]
    | ⟨1, _⟩ => by show (i 1).val = if (8192 : Nat) = 1 then 0 else (i 1).val; rw [if_neg (by decide)]
    | ⟨2, _⟩ => by show (i 2).val = if (32 : Nat) = 1 then 0 else (i 2).val; rw [if_neg (by decide)]
    | ⟨3, _⟩ => by show (i 3).val = if (4 : Nat) = 1 then 0 else (i 3).val; rw [if_neg (by decide)])

-- %14 = stablehlo.broadcast_in_dim %12, dims = [4] : (tensor<254xf32>) -> tensor<1x1x1x1x254xf32>
def val_main_v14 : (⟨S1x1x1x1x254, .f32⟩ : BufTy).Contents (Elt F) :=
  broadcastInDim S1x1x1x1x254 ![4] bcast_S254_S1x1x1x1x254_4 (val_main_v12 (F := F))
abbrev idx_main_v14 (i : S1x1x1x1x254.Idx) : S254.Idx := fun a => match a with
  | ⟨0, _⟩ => ⟨(i 4).val, (i 4).isLt⟩
theorem val_main_v14_apply (i : S1x1x1x1x254.Idx) :
    val_main_v14 (F := F) i = val_main_v12 (F := F) (idx_main_v14 i) := by
  unfold val_main_v14
  generalize val_main_v12 (F := F) = y
  exact broadcastInDim_apply _ bcast_S254_S1x1x1x1x254_4 y i (idx_main_v14 i) (fun a => match a with
    | ⟨0, _⟩ => by show (i 4).val = if (254 : Nat) = 1 then 0 else (i 4).val; rw [if_neg (by decide)])

-- %15 = stablehlo.broadcast_in_dim %13, dims = [0, 1, 2, 3, 4] : (tensor<3x8192x32x4x1xf32>) -> tensor<3x8192x32x4x254xf32>
def val_main_v15 (x0 : (⟨S3x8192x4096, .bf16⟩ : BufTy).Contents (Elt F)) : (⟨S3x8192x32x4x254, .f32⟩ : BufTy).Contents (Elt F) :=
  broadcastInDim S3x8192x32x4x254 ![0, 1, 2, 3, 4] bcast_S3x8192x32x4x1_S3x8192x32x4x254_0_1_2_3_4 (val_main_v13 (F := F) x0)
abbrev idx_main_v15 (i : S3x8192x32x4x254.Idx) : S3x8192x32x4x1.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨(i 3).val, (i 3).isLt⟩
  | ⟨4, _⟩ => ⟨0, Nat.one_pos⟩
theorem val_main_v15_apply (x0 : (⟨S3x8192x4096, .bf16⟩ : BufTy).Contents (Elt F)) (i : S3x8192x32x4x254.Idx) :
    val_main_v15 (F := F) x0 i = val_main_v13 (F := F) x0 (idx_main_v15 i) := by
  unfold val_main_v15
  generalize val_main_v13 (F := F) x0 = y
  exact broadcastInDim_apply _ bcast_S3x8192x32x4x1_S3x8192x32x4x254_0_1_2_3_4 y i (idx_main_v15 i) (fun a => match a with
    | ⟨0, _⟩ => by show (i 0).val = if (3 : Nat) = 1 then 0 else (i 0).val; rw [if_neg (by decide)]
    | ⟨1, _⟩ => by show (i 1).val = if (8192 : Nat) = 1 then 0 else (i 1).val; rw [if_neg (by decide)]
    | ⟨2, _⟩ => by show (i 2).val = if (32 : Nat) = 1 then 0 else (i 2).val; rw [if_neg (by decide)]
    | ⟨3, _⟩ => by show (i 3).val = if (4 : Nat) = 1 then 0 else (i 3).val; rw [if_neg (by decide)]
    | ⟨4, _⟩ => by show 0 = if (1 : Nat) = 1 then 0 else (i 4).val; rw [if_pos rfl])

-- %16 = stablehlo.broadcast_in_dim %14, dims = [0, 1, 2, 3, 4] : (tensor<1x1x1x1x254xf32>) -> tensor<3x8192x32x4x254xf32>
def val_main_v16 : (⟨S3x8192x32x4x254, .f32⟩ : BufTy).Contents (Elt F) :=
  broadcastInDim S3x8192x32x4x254 ![0, 1, 2, 3, 4] bcast_S1x1x1x1x254_S3x8192x32x4x254_0_1_2_3_4 (val_main_v14 (F := F))
abbrev idx_main_v16 (i : S3x8192x32x4x254.Idx) : S1x1x1x1x254.Idx := fun a => match a with
  | ⟨0, _⟩ => ⟨0, Nat.one_pos⟩
  | ⟨1, _⟩ => ⟨0, Nat.one_pos⟩
  | ⟨2, _⟩ => ⟨0, Nat.one_pos⟩
  | ⟨3, _⟩ => ⟨0, Nat.one_pos⟩
  | ⟨4, _⟩ => ⟨(i 4).val, (i 4).isLt⟩
theorem val_main_v16_apply (i : S3x8192x32x4x254.Idx) :
    val_main_v16 (F := F) i = val_main_v14 (F := F) (idx_main_v16 i) := by
  unfold val_main_v16
  generalize val_main_v14 (F := F) = y
  exact broadcastInDim_apply _ bcast_S1x1x1x1x254_S3x8192x32x4x254_0_1_2_3_4 y i (idx_main_v16 i) (fun a => match a with
    | ⟨0, _⟩ => by show 0 = if (1 : Nat) = 1 then 0 else (i 0).val; rw [if_pos rfl]
    | ⟨1, _⟩ => by show 0 = if (1 : Nat) = 1 then 0 else (i 1).val; rw [if_pos rfl]
    | ⟨2, _⟩ => by show 0 = if (1 : Nat) = 1 then 0 else (i 2).val; rw [if_pos rfl]
    | ⟨3, _⟩ => by show 0 = if (1 : Nat) = 1 then 0 else (i 3).val; rw [if_pos rfl]
    | ⟨4, _⟩ => by show (i 4).val = if (254 : Nat) = 1 then 0 else (i 4).val; rw [if_neg (by decide)])

-- %17 = stablehlo.compare GE, %15, %16, FLOAT : (tensor<3x8192x32x4x254xf32>, tensor<3x8192x32x4x254xf32>) -> tensor<3x8192x32x4x254xi1>
def val_main_v17 (x0 : (⟨S3x8192x4096, .bf16⟩ : BufTy).Contents (Elt F)) : (⟨S3x8192x32x4x254, .i1⟩ : BufTy).Contents (Elt F) :=
  cmpf .oge (val_main_v15 (F := F) x0) (val_main_v16 (F := F))
theorem val_main_v17_apply (x0 : (⟨S3x8192x4096, .bf16⟩ : BufTy).Contents (Elt F)) (i : S3x8192x32x4x254.Idx) :
    val_main_v17 (F := F) x0 i = FloatOps.cmpf .oge (val_main_v15 (F := F) x0 i) (val_main_v16 (F := F) i) := rfl

-- %18 = stablehlo.convert %17 : (tensor<3x8192x32x4x254xi1>) -> tensor<3x8192x32x4x254xi32>
def val_main_v18 (x0 : (⟨S3x8192x4096, .bf16⟩ : BufTy).Contents (Elt F)) : (⟨S3x8192x32x4x254, .i32⟩ : BufTy).Contents (Elt F) :=
  extui 32 (val_main_v17 (F := F) x0) natLt_1_32
theorem val_main_v18_apply (x0 : (⟨S3x8192x4096, .bf16⟩ : BufTy).Contents (Elt F)) (i : S3x8192x32x4x254.Idx) :
    val_main_v18 (F := F) x0 i = (val_main_v17 (F := F) x0 i).setWidth 32 := rfl

-- %c = stablehlo.constant dense<0> : tensor<i32>
def val_main_c : (⟨S_, .i32⟩ : BufTy).Contents (Elt F) :=
  constantI S_ 32 0#32
theorem val_main_c_apply (i : S_.Idx) :
    val_main_c (F := F) i = 0#32 := rfl

-- %19 = stablehlo.reduce(%18 init: %c) applies stablehlo.add across dimensions = [4] : (tensor<3x8192x32x4x254xi32>, tensor<i32>) -> tensor<3x8192x32x4xi32> {
def val_main_v19 (x0 : (⟨S3x8192x4096, .bf16⟩ : BufTy).Contents (Elt F)) : (⟨S3x8192x32x4, .i32⟩ : BufTy).Contents (Elt F) :=
  Host.reduce IntOp.addi (val_main_v18 (F := F) x0) (val_main_c (F := F)) reducesTo_S3x8192x32x4x254_S3x8192x32x4_d4 h_S_

-- %c_3 = stablehlo.constant dense<126> : tensor<i32>
def val_main_c_3 : (⟨S_, .i32⟩ : BufTy).Contents (Elt F) :=
  constantI S_ 32 126#32
theorem val_main_c_3_apply (i : S_.Idx) :
    val_main_c_3 (F := F) i = 126#32 := rfl

-- %20 = stablehlo.broadcast_in_dim %c_3, dims = [] : (tensor<i32>) -> tensor<3x8192x32x4xi32>
def val_main_v20 : (⟨S3x8192x32x4, .i32⟩ : BufTy).Contents (Elt F) :=
  broadcastInDim S3x8192x32x4 ![] bcast_S_S3x8192x32x4 (val_main_c_3 (F := F))
abbrev idx_main_v20 (i : S3x8192x32x4.Idx) : S_.Idx := fun a => a.elim0
theorem val_main_v20_apply (i : S3x8192x32x4.Idx) :
    val_main_v20 (F := F) i = val_main_c_3 (F := F) (idx_main_v20 i) := by
  unfold val_main_v20
  generalize val_main_c_3 (F := F) = y
  exact broadcastInDim_apply _ bcast_S_S3x8192x32x4 y i (idx_main_v20 i) (fun a => a.elim0)

-- %21 = stablehlo.subtract %19, %20 : tensor<3x8192x32x4xi32>
def val_main_v21 (x0 : (⟨S3x8192x4096, .bf16⟩ : BufTy).Contents (Elt F)) : (⟨S3x8192x32x4, .i32⟩ : BufTy).Contents (Elt F) :=
  subi (val_main_v19 (F := F) x0) (val_main_v20 (F := F))
theorem val_main_v21_apply (x0 : (⟨S3x8192x4096, .bf16⟩ : BufTy).Contents (Elt F)) (i : S3x8192x32x4.Idx) :
    val_main_v21 (F := F) x0 i = IntOp.subi (val_main_v19 (F := F) x0 i) (val_main_v20 (F := F) i) := rfl

-- %cst_4 = stablehlo.constant dense<0.000000e+00> : tensor<f32>
def val_main_cst_4 : (⟨S_, .f32⟩ : BufTy).Contents (Elt F) :=
  constant S_ .f32 0x00000000#32
theorem val_main_cst_4_apply (i : S_.Idx) :
    val_main_cst_4 (F := F) i = FloatOps.ofBits .f32 0x00000000#32 := rfl

-- %22 = stablehlo.broadcast_in_dim %cst_4, dims = [] : (tensor<f32>) -> tensor<3x8192x32x4xf32>
def val_main_v22 : (⟨S3x8192x32x4, .f32⟩ : BufTy).Contents (Elt F) :=
  broadcastInDim S3x8192x32x4 ![] bcast_S_S3x8192x32x4 (val_main_cst_4 (F := F))
abbrev idx_main_v22 (i : S3x8192x32x4.Idx) : S_.Idx := fun a => a.elim0
theorem val_main_v22_apply (i : S3x8192x32x4.Idx) :
    val_main_v22 (F := F) i = val_main_cst_4 (F := F) (idx_main_v22 i) := by
  unfold val_main_v22
  generalize val_main_cst_4 (F := F) = y
  exact broadcastInDim_apply _ bcast_S_S3x8192x32x4 y i (idx_main_v22 i) (fun a => a.elim0)

-- %23 = stablehlo.compare EQ, %6, %22, FLOAT : (tensor<3x8192x32x4xf32>, tensor<3x8192x32x4xf32>) -> tensor<3x8192x32x4xi1>
def val_main_v23 (x0 : (⟨S3x8192x4096, .bf16⟩ : BufTy).Contents (Elt F)) : (⟨S3x8192x32x4, .i1⟩ : BufTy).Contents (Elt F) :=
  cmpf .oeq (val_main_v6 (F := F) x0) (val_main_v22 (F := F))
theorem val_main_v23_apply (x0 : (⟨S3x8192x4096, .bf16⟩ : BufTy).Contents (Elt F)) (i : S3x8192x32x4.Idx) :
    val_main_v23 (F := F) x0 i = FloatOps.cmpf .oeq (val_main_v6 (F := F) x0 i) (val_main_v22 (F := F) i) := rfl

-- %c_5 = stablehlo.constant dense<0> : tensor<i32>
def val_main_c_5 : (⟨S_, .i32⟩ : BufTy).Contents (Elt F) :=
  constantI S_ 32 0#32
theorem val_main_c_5_apply (i : S_.Idx) :
    val_main_c_5 (F := F) i = 0#32 := rfl

-- @_where's %0 = stablehlo.convert %arg1 : tensor<i32>, in %24 = func.call @_where(…) (record main_call0)
def val_main_call0_v0 : (⟨S_, .i32⟩ : BufTy).Contents (Elt F) :=
  id (val_main_c_5 (F := F))
theorem val_main_call0_v0_apply (i : S_.Idx) :
    val_main_call0_v0 (F := F) i = (val_main_c_5 (F := F) i) := rfl

-- @_where's %1 = stablehlo.broadcast_in_dim %0, dims = [] : (tensor<i32>) -> tensor<3x8192x32x4xi32>, in %24 = func.call @_where(…) (record main_call0)
def val_main_call0_v1 : (⟨S3x8192x32x4, .i32⟩ : BufTy).Contents (Elt F) :=
  broadcastInDim S3x8192x32x4 ![] bcast_S_S3x8192x32x4 (val_main_call0_v0 (F := F))
abbrev idx_main_call0_v1 (i : S3x8192x32x4.Idx) : S_.Idx := fun a => a.elim0
theorem val_main_call0_v1_apply (i : S3x8192x32x4.Idx) :
    val_main_call0_v1 (F := F) i = val_main_call0_v0 (F := F) (idx_main_call0_v1 i) := by
  unfold val_main_call0_v1
  generalize val_main_call0_v0 (F := F) = y
  exact broadcastInDim_apply _ bcast_S_S3x8192x32x4 y i (idx_main_call0_v1 i) (fun a => a.elim0)

-- %24 = func.call @_where(…) (record main_call0) result 0: @_where's %2 = stablehlo.select %arg0, %1, %arg2 : tensor<3x8192x32x4xi1>, tensor<3x8192x32x4xi32>
def val_main_v24 (x0 : (⟨S3x8192x4096, .bf16⟩ : BufTy).Contents (Elt F)) : (⟨S3x8192x32x4, .i32⟩ : BufTy).Contents (Elt F) :=
  select (val_main_v23 (F := F) x0) (val_main_call0_v1 (F := F)) (val_main_v21 (F := F) x0)
theorem val_main_v24_apply (x0 : (⟨S3x8192x4096, .bf16⟩ : BufTy).Contents (Elt F)) (i : S3x8192x32x4.Idx) :
    val_main_v24 (F := F) x0 i = Scalar.select (val_main_v23 (F := F) x0 i) (val_main_call0_v1 (F := F) i) (val_main_v21 (F := F) x0 i) := rfl

-- %cst_6 = stablehlo.constant dense<2.000000e+00> : tensor<f32>
def val_main_cst_6 : (⟨S_, .f32⟩ : BufTy).Contents (Elt F) :=
  constant S_ .f32 0x40000000#32
theorem val_main_cst_6_apply (i : S_.Idx) :
    val_main_cst_6 (F := F) i = FloatOps.ofBits .f32 0x40000000#32 := rfl

-- %25 = stablehlo.broadcast_in_dim %cst_6, dims = [] : (tensor<f32>) -> tensor<3x8192x32x4xf32>
def val_main_v25 : (⟨S3x8192x32x4, .f32⟩ : BufTy).Contents (Elt F) :=
  broadcastInDim S3x8192x32x4 ![] bcast_S_S3x8192x32x4 (val_main_cst_6 (F := F))
abbrev idx_main_v25 (i : S3x8192x32x4.Idx) : S_.Idx := fun a => a.elim0
theorem val_main_v25_apply (i : S3x8192x32x4.Idx) :
    val_main_v25 (F := F) i = val_main_cst_6 (F := F) (idx_main_v25 i) := by
  unfold val_main_v25
  generalize val_main_cst_6 (F := F) = y
  exact broadcastInDim_apply _ bcast_S_S3x8192x32x4 y i (idx_main_v25 i) (fun a => a.elim0)

-- %26 = stablehlo.negate %24 : tensor<3x8192x32x4xi32>
def val_main_v26 (x0 : (⟨S3x8192x4096, .bf16⟩ : BufTy).Contents (Elt F)) : (⟨S3x8192x32x4, .i32⟩ : BufTy).Contents (Elt F) :=
  negi (val_main_v24 (F := F) x0)
theorem val_main_v26_apply (x0 : (⟨S3x8192x4096, .bf16⟩ : BufTy).Contents (Elt F)) (i : S3x8192x32x4.Idx) :
    val_main_v26 (F := F) x0 i = -(val_main_v24 (F := F) x0 i) := rfl

-- %27 = stablehlo.convert %26 : (tensor<3x8192x32x4xi32>) -> tensor<3x8192x32x4xf32>
def val_main_v27 (x0 : (⟨S3x8192x4096, .bf16⟩ : BufTy).Contents (Elt F)) : (⟨S3x8192x32x4, .f32⟩ : BufTy).Contents (Elt F) :=
  sitofp .f32 (val_main_v26 (F := F) x0)
theorem val_main_v27_apply (x0 : (⟨S3x8192x4096, .bf16⟩ : BufTy).Contents (Elt F)) (i : S3x8192x32x4.Idx) :
    val_main_v27 (F := F) x0 i = FloatOps.sitofp .f32 (val_main_v26 (F := F) x0 i) := rfl

-- %28 = stablehlo.power %25, %27 : tensor<3x8192x32x4xf32>
def val_main_v28 (x0 : (⟨S3x8192x4096, .bf16⟩ : BufTy).Contents (Elt F)) : (⟨S3x8192x32x4, .f32⟩ : BufTy).Contents (Elt F) :=
  Host.powf (val_main_v25 (F := F)) (val_main_v27 (F := F) x0)
theorem val_main_v28_apply (x0 : (⟨S3x8192x4096, .bf16⟩ : BufTy).Contents (Elt F)) (i : S3x8192x32x4.Idx) :
    val_main_v28 (F := F) x0 i = FloatOps.hostPowf (val_main_v25 (F := F) i) (val_main_v27 (F := F) x0 i) := rfl

-- %29 = stablehlo.broadcast_in_dim %28, dims = [0, 1, 2, 3] : (tensor<3x8192x32x4xf32>) -> tensor<3x8192x32x4x1xf32>
def val_main_v29 (x0 : (⟨S3x8192x4096, .bf16⟩ : BufTy).Contents (Elt F)) : (⟨S3x8192x32x4x1, .f32⟩ : BufTy).Contents (Elt F) :=
  broadcastInDim S3x8192x32x4x1 ![0, 1, 2, 3] bcast_S3x8192x32x4_S3x8192x32x4x1_0_1_2_3 (val_main_v28 (F := F) x0)
abbrev idx_main_v29 (i : S3x8192x32x4x1.Idx) : S3x8192x32x4.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨(i 3).val, (i 3).isLt⟩
theorem val_main_v29_apply (x0 : (⟨S3x8192x4096, .bf16⟩ : BufTy).Contents (Elt F)) (i : S3x8192x32x4x1.Idx) :
    val_main_v29 (F := F) x0 i = val_main_v28 (F := F) x0 (idx_main_v29 i) := by
  unfold val_main_v29
  generalize val_main_v28 (F := F) x0 = y
  exact broadcastInDim_apply _ bcast_S3x8192x32x4_S3x8192x32x4x1_0_1_2_3 y i (idx_main_v29 i) (fun a => match a with
    | ⟨0, _⟩ => by show (i 0).val = if (3 : Nat) = 1 then 0 else (i 0).val; rw [if_neg (by decide)]
    | ⟨1, _⟩ => by show (i 1).val = if (8192 : Nat) = 1 then 0 else (i 1).val; rw [if_neg (by decide)]
    | ⟨2, _⟩ => by show (i 2).val = if (32 : Nat) = 1 then 0 else (i 2).val; rw [if_neg (by decide)]
    | ⟨3, _⟩ => by show (i 3).val = if (4 : Nat) = 1 then 0 else (i 3).val; rw [if_neg (by decide)])

-- %30 = stablehlo.broadcast_in_dim %29, dims = [0, 1, 2, 3, 4] : (tensor<3x8192x32x4x1xf32>) -> tensor<3x8192x32x4x32xf32>
def val_main_v30 (x0 : (⟨S3x8192x4096, .bf16⟩ : BufTy).Contents (Elt F)) : (⟨S3x8192x32x4x32, .f32⟩ : BufTy).Contents (Elt F) :=
  broadcastInDim S3x8192x32x4x32 ![0, 1, 2, 3, 4] bcast_S3x8192x32x4x1_S3x8192x32x4x32_0_1_2_3_4 (val_main_v29 (F := F) x0)
abbrev idx_main_v30 (i : S3x8192x32x4x32.Idx) : S3x8192x32x4x1.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨(i 3).val, (i 3).isLt⟩
  | ⟨4, _⟩ => ⟨0, Nat.one_pos⟩
theorem val_main_v30_apply (x0 : (⟨S3x8192x4096, .bf16⟩ : BufTy).Contents (Elt F)) (i : S3x8192x32x4x32.Idx) :
    val_main_v30 (F := F) x0 i = val_main_v29 (F := F) x0 (idx_main_v30 i) := by
  unfold val_main_v30
  generalize val_main_v29 (F := F) x0 = y
  exact broadcastInDim_apply _ bcast_S3x8192x32x4x1_S3x8192x32x4x32_0_1_2_3_4 y i (idx_main_v30 i) (fun a => match a with
    | ⟨0, _⟩ => by show (i 0).val = if (3 : Nat) = 1 then 0 else (i 0).val; rw [if_neg (by decide)]
    | ⟨1, _⟩ => by show (i 1).val = if (8192 : Nat) = 1 then 0 else (i 1).val; rw [if_neg (by decide)]
    | ⟨2, _⟩ => by show (i 2).val = if (32 : Nat) = 1 then 0 else (i 2).val; rw [if_neg (by decide)]
    | ⟨3, _⟩ => by show (i 3).val = if (4 : Nat) = 1 then 0 else (i 3).val; rw [if_neg (by decide)]
    | ⟨4, _⟩ => by show 0 = if (1 : Nat) = 1 then 0 else (i 4).val; rw [if_pos rfl])

-- %31 = stablehlo.multiply %2, %30 : tensor<3x8192x32x4x32xf32>
def val_main_v31 (x0 : (⟨S3x8192x4096, .bf16⟩ : BufTy).Contents (Elt F)) : (⟨S3x8192x32x4x32, .f32⟩ : BufTy).Contents (Elt F) :=
  mulf (val_main_v2 (F := F) x0) (val_main_v30 (F := F) x0)
theorem val_main_v31_apply (x0 : (⟨S3x8192x4096, .bf16⟩ : BufTy).Contents (Elt F)) (i : S3x8192x32x4x32.Idx) :
    val_main_v31 (F := F) x0 i = FloatOps.mulf (val_main_v2 (F := F) x0 i) (val_main_v30 (F := F) x0 i) := rfl

-- %cst_7 = stablehlo.constant dense<-4.480000e+02> : tensor<f32>
def val_main_cst_7 : (⟨S_, .f32⟩ : BufTy).Contents (Elt F) :=
  constant S_ .f32 0xC3E00000#32
theorem val_main_cst_7_apply (i : S_.Idx) :
    val_main_cst_7 (F := F) i = FloatOps.ofBits .f32 0xC3E00000#32 := rfl

-- %cst_8 = stablehlo.constant dense<4.480000e+02> : tensor<f32>
def val_main_cst_8 : (⟨S_, .f32⟩ : BufTy).Contents (Elt F) :=
  constant S_ .f32 0x43E00000#32
theorem val_main_cst_8_apply (i : S_.Idx) :
    val_main_cst_8 (F := F) i = FloatOps.ofBits .f32 0x43E00000#32 := rfl

-- @clip's %0 = stablehlo.convert %arg1 : tensor<f32>, in %32 = func.call @clip(…) (record main_call1)
def val_main_call1_v0 : (⟨S_, .f32⟩ : BufTy).Contents (Elt F) :=
  id (val_main_cst_7 (F := F))
theorem val_main_call1_v0_apply (i : S_.Idx) :
    val_main_call1_v0 (F := F) i = (val_main_cst_7 (F := F) i) := rfl

-- @clip's %1 = stablehlo.broadcast_in_dim %0, dims = [] : (tensor<f32>) -> tensor<3x8192x32x4x32xf32>, in %32 = func.call @clip(…) (record main_call1)
def val_main_call1_v1 : (⟨S3x8192x32x4x32, .f32⟩ : BufTy).Contents (Elt F) :=
  broadcastInDim S3x8192x32x4x32 ![] bcast_S_S3x8192x32x4x32 (val_main_call1_v0 (F := F))
abbrev idx_main_call1_v1 (i : S3x8192x32x4x32.Idx) : S_.Idx := fun a => a.elim0
theorem val_main_call1_v1_apply (i : S3x8192x32x4x32.Idx) :
    val_main_call1_v1 (F := F) i = val_main_call1_v0 (F := F) (idx_main_call1_v1 i) := by
  unfold val_main_call1_v1
  generalize val_main_call1_v0 (F := F) = y
  exact broadcastInDim_apply _ bcast_S_S3x8192x32x4x32 y i (idx_main_call1_v1 i) (fun a => a.elim0)

-- @clip's %2 = stablehlo.maximum %1, %arg0 : tensor<3x8192x32x4x32xf32>, in %32 = func.call @clip(…) (record main_call1)
def val_main_call1_v2 (x0 : (⟨S3x8192x4096, .bf16⟩ : BufTy).Contents (Elt F)) : (⟨S3x8192x32x4x32, .f32⟩ : BufTy).Contents (Elt F) :=
  maximumf (val_main_call1_v1 (F := F)) (val_main_v31 (F := F) x0)
theorem val_main_call1_v2_apply (x0 : (⟨S3x8192x4096, .bf16⟩ : BufTy).Contents (Elt F)) (i : S3x8192x32x4x32.Idx) :
    val_main_call1_v2 (F := F) x0 i = FloatOps.maximumf (val_main_call1_v1 (F := F) i) (val_main_v31 (F := F) x0 i) := rfl

-- @clip's %3 = stablehlo.convert %arg2 : tensor<f32>, in %32 = func.call @clip(…) (record main_call1)
def val_main_call1_v3 : (⟨S_, .f32⟩ : BufTy).Contents (Elt F) :=
  id (val_main_cst_8 (F := F))
theorem val_main_call1_v3_apply (i : S_.Idx) :
    val_main_call1_v3 (F := F) i = (val_main_cst_8 (F := F) i) := rfl

-- @clip's %4 = stablehlo.broadcast_in_dim %3, dims = [] : (tensor<f32>) -> tensor<3x8192x32x4x32xf32>, in %32 = func.call @clip(…) (record main_call1)
def val_main_call1_v4 : (⟨S3x8192x32x4x32, .f32⟩ : BufTy).Contents (Elt F) :=
  broadcastInDim S3x8192x32x4x32 ![] bcast_S_S3x8192x32x4x32 (val_main_call1_v3 (F := F))
abbrev idx_main_call1_v4 (i : S3x8192x32x4x32.Idx) : S_.Idx := fun a => a.elim0
theorem val_main_call1_v4_apply (i : S3x8192x32x4x32.Idx) :
    val_main_call1_v4 (F := F) i = val_main_call1_v3 (F := F) (idx_main_call1_v4 i) := by
  unfold val_main_call1_v4
  generalize val_main_call1_v3 (F := F) = y
  exact broadcastInDim_apply _ bcast_S_S3x8192x32x4x32 y i (idx_main_call1_v4 i) (fun a => a.elim0)

-- %32 = func.call @clip(…) (record main_call1) result 0: @clip's %5 = stablehlo.minimum %4, %2 : tensor<3x8192x32x4x32xf32>
def val_main_v32 (x0 : (⟨S3x8192x4096, .bf16⟩ : BufTy).Contents (Elt F)) : (⟨S3x8192x32x4x32, .f32⟩ : BufTy).Contents (Elt F) :=
  minimumf (val_main_call1_v4 (F := F)) (val_main_call1_v2 (F := F) x0)
theorem val_main_v32_apply (x0 : (⟨S3x8192x4096, .bf16⟩ : BufTy).Contents (Elt F)) (i : S3x8192x32x4x32.Idx) :
    val_main_v32 (F := F) x0 i = FloatOps.minimumf (val_main_call1_v4 (F := F) i) (val_main_call1_v2 (F := F) x0 i) := rfl

-- %33 = stablehlo.reshape %32 : (tensor<3x8192x32x4x32xf32>) -> tensor<3x8192x32x128xf32>
def val_main_v33 (x0 : (⟨S3x8192x4096, .bf16⟩ : BufTy).Contents (Elt F)) : (⟨S3x8192x32x128, .f32⟩ : BufTy).Contents (Elt F) :=
  shapeCast _ (val_main_v32 (F := F) x0) shapeCasts_S3x8192x32x4x32_S3x8192x32x128
abbrev idx_main_v33 (i : S3x8192x32x128.Idx) : S3x8192x32x4x32.Idx := fun a => match a with
  | ⟨0, _⟩ => ⟨((((i 0).val * 8192 + (i 1).val) * 32 + (i 2).val) * 128 + (i 3).val) / 33554432, by have h0 : (i 0).val < 3 := (i 0).isLt; have h1 : (i 1).val < 8192 := (i 1).isLt; have h2 : (i 2).val < 32 := (i 2).isLt; have h3 : (i 3).val < 128 := (i 3).isLt; show ((((i 0).val * 8192 + (i 1).val) * 32 + (i 2).val) * 128 + (i 3).val) / 33554432 < 3; omega⟩
  | ⟨1, _⟩ => ⟨((((i 0).val * 8192 + (i 1).val) * 32 + (i 2).val) * 128 + (i 3).val) / 4096 % 8192, by have h0 : (i 0).val < 3 := (i 0).isLt; have h1 : (i 1).val < 8192 := (i 1).isLt; have h2 : (i 2).val < 32 := (i 2).isLt; have h3 : (i 3).val < 128 := (i 3).isLt; show ((((i 0).val * 8192 + (i 1).val) * 32 + (i 2).val) * 128 + (i 3).val) / 4096 % 8192 < 8192; omega⟩
  | ⟨2, _⟩ => ⟨((((i 0).val * 8192 + (i 1).val) * 32 + (i 2).val) * 128 + (i 3).val) / 128 % 32, by have h0 : (i 0).val < 3 := (i 0).isLt; have h1 : (i 1).val < 8192 := (i 1).isLt; have h2 : (i 2).val < 32 := (i 2).isLt; have h3 : (i 3).val < 128 := (i 3).isLt; show ((((i 0).val * 8192 + (i 1).val) * 32 + (i 2).val) * 128 + (i 3).val) / 128 % 32 < 32; omega⟩
  | ⟨3, _⟩ => ⟨((((i 0).val * 8192 + (i 1).val) * 32 + (i 2).val) * 128 + (i 3).val) / 32 % 4, by have h0 : (i 0).val < 3 := (i 0).isLt; have h1 : (i 1).val < 8192 := (i 1).isLt; have h2 : (i 2).val < 32 := (i 2).isLt; have h3 : (i 3).val < 128 := (i 3).isLt; show ((((i 0).val * 8192 + (i 1).val) * 32 + (i 2).val) * 128 + (i 3).val) / 32 % 4 < 4; omega⟩
  | ⟨4, _⟩ => ⟨((((i 0).val * 8192 + (i 1).val) * 32 + (i 2).val) * 128 + (i 3).val) % 32, by have h0 : (i 0).val < 3 := (i 0).isLt; have h1 : (i 1).val < 8192 := (i 1).isLt; have h2 : (i 2).val < 32 := (i 2).isLt; have h3 : (i 3).val < 128 := (i 3).isLt; show ((((i 0).val * 8192 + (i 1).val) * 32 + (i 2).val) * 128 + (i 3).val) % 32 < 32; omega⟩
theorem val_main_v33_apply (x0 : (⟨S3x8192x4096, .bf16⟩ : BufTy).Contents (Elt F)) (i : S3x8192x32x128.Idx) :
    val_main_v33 (F := F) x0 i = val_main_v32 (F := F) x0 (idx_main_v33 i) := by
  unfold val_main_v33
  generalize val_main_v32 (F := F) x0 = y
  exact shapeCast_apply y shapeCasts_S3x8192x32x4x32_S3x8192x32x128 i (idx_main_v33 i)
    (by rewrite [Shape.rowMajor_val_five, Shape.rowMajor_val_four]; have h0 : (i 0).val < 3 := (i 0).isLt; have h1 : (i 1).val < 8192 := (i 1).isLt; have h2 : (i 2).val < 32 := (i 2).isLt; have h3 : (i 3).val < 128 := (i 3).isLt; show (((((((i 0).val * 8192 + (i 1).val) * 32 + (i 2).val) * 128 + (i 3).val) / 33554432 * 8192 + ((((i 0).val * 8192 + (i 1).val) * 32 + (i 2).val) * 128 + (i 3).val) / 4096 % 8192) * 32 + ((((i 0).val * 8192 + (i 1).val) * 32 + (i 2).val) * 128 + (i 3).val) / 128 % 32) * 4 + ((((i 0).val * 8192 + (i 1).val) * 32 + (i 2).val) * 128 + (i 3).val) / 32 % 4) * 32 + ((((i 0).val * 8192 + (i 1).val) * 32 + (i 2).val) * 128 + (i 3).val) % 32 = (((i 0).val * 8192 + (i 1).val) * 32 + (i 2).val) * 128 + (i 3).val; omega)

-- %34 = stablehlo.convert %arg1 : (tensor<3x8192x1024xbf16>) -> tensor<3x8192x1024xf32>
def val_main_v34 (x1 : (⟨S3x8192x1024, .bf16⟩ : BufTy).Contents (Elt F)) : (⟨S3x8192x1024, .f32⟩ : BufTy).Contents (Elt F) :=
  extf .f32 (x1) bitsLt_bf16_f32
theorem val_main_v34_apply (x1 : (⟨S3x8192x1024, .bf16⟩ : BufTy).Contents (Elt F)) (i : S3x8192x1024.Idx) :
    val_main_v34 (F := F) x1 i = FloatOps.extf .f32 bitsLt_bf16_f32 (x1 i) := rfl

-- %35 = stablehlo.reshape %34 : (tensor<3x8192x1024xf32>) -> tensor<3x8192x8x128xf32>
def val_main_v35 (x1 : (⟨S3x8192x1024, .bf16⟩ : BufTy).Contents (Elt F)) : (⟨S3x8192x8x128, .f32⟩ : BufTy).Contents (Elt F) :=
  shapeCast _ (val_main_v34 (F := F) x1) shapeCasts_S3x8192x1024_S3x8192x8x128
abbrev idx_main_v35 (i : S3x8192x8x128.Idx) : S3x8192x1024.Idx := fun a => match a with
  | ⟨0, _⟩ => ⟨((((i 0).val * 8192 + (i 1).val) * 8 + (i 2).val) * 128 + (i 3).val) / 8388608, by have h0 : (i 0).val < 3 := (i 0).isLt; have h1 : (i 1).val < 8192 := (i 1).isLt; have h2 : (i 2).val < 8 := (i 2).isLt; have h3 : (i 3).val < 128 := (i 3).isLt; show ((((i 0).val * 8192 + (i 1).val) * 8 + (i 2).val) * 128 + (i 3).val) / 8388608 < 3; omega⟩
  | ⟨1, _⟩ => ⟨((((i 0).val * 8192 + (i 1).val) * 8 + (i 2).val) * 128 + (i 3).val) / 1024 % 8192, by have h0 : (i 0).val < 3 := (i 0).isLt; have h1 : (i 1).val < 8192 := (i 1).isLt; have h2 : (i 2).val < 8 := (i 2).isLt; have h3 : (i 3).val < 128 := (i 3).isLt; show ((((i 0).val * 8192 + (i 1).val) * 8 + (i 2).val) * 128 + (i 3).val) / 1024 % 8192 < 8192; omega⟩
  | ⟨2, _⟩ => ⟨((((i 0).val * 8192 + (i 1).val) * 8 + (i 2).val) * 128 + (i 3).val) % 1024, by have h0 : (i 0).val < 3 := (i 0).isLt; have h1 : (i 1).val < 8192 := (i 1).isLt; have h2 : (i 2).val < 8 := (i 2).isLt; have h3 : (i 3).val < 128 := (i 3).isLt; show ((((i 0).val * 8192 + (i 1).val) * 8 + (i 2).val) * 128 + (i 3).val) % 1024 < 1024; omega⟩
theorem val_main_v35_apply (x1 : (⟨S3x8192x1024, .bf16⟩ : BufTy).Contents (Elt F)) (i : S3x8192x8x128.Idx) :
    val_main_v35 (F := F) x1 i = val_main_v34 (F := F) x1 (idx_main_v35 i) := by
  unfold val_main_v35
  generalize val_main_v34 (F := F) x1 = y
  exact shapeCast_apply y shapeCasts_S3x8192x1024_S3x8192x8x128 i (idx_main_v35 i)
    (by rewrite [Shape.rowMajor_val_three, Shape.rowMajor_val_four]; have h0 : (i 0).val < 3 := (i 0).isLt; have h1 : (i 1).val < 8192 := (i 1).isLt; have h2 : (i 2).val < 8 := (i 2).isLt; have h3 : (i 3).val < 128 := (i 3).isLt; show (((((i 0).val * 8192 + (i 1).val) * 8 + (i 2).val) * 128 + (i 3).val) / 8388608 * 8192 + ((((i 0).val * 8192 + (i 1).val) * 8 + (i 2).val) * 128 + (i 3).val) / 1024 % 8192) * 1024 + ((((i 0).val * 8192 + (i 1).val) * 8 + (i 2).val) * 128 + (i 3).val) % 1024 = (((i 0).val * 8192 + (i 1).val) * 8 + (i 2).val) * 128 + (i 3).val; omega)

-- %cst_9 = stablehlo.constant dense<0.000000e+00> : tensor<f32>
def val_main_cst_9 : (⟨S_, .f32⟩ : BufTy).Contents (Elt F) :=
  constant S_ .f32 0x00000000#32
theorem val_main_cst_9_apply (i : S_.Idx) :
    val_main_cst_9 (F := F) i = FloatOps.ofBits .f32 0x00000000#32 := rfl

-- %36 = stablehlo.reduce(%35 init: %cst_9) applies stablehlo.add across dimensions = [1] : (tensor<3x8192x8x128xf32>, tensor<f32>) -> tensor<3x8x128xf32> {
def val_main_v36 (x1 : (⟨S3x8192x1024, .bf16⟩ : BufTy).Contents (Elt F)) : (⟨S3x8x128, .f32⟩ : BufTy).Contents (Elt F) :=
  Host.reduceAdd (val_main_v35 (F := F) x1) (val_main_cst_9 (F := F)) reducesTo_S3x8192x8x128_S3x8x128_d1 h_S_
abbrev idx_main_v36 (i : S3x8x128.Idx) (k : Fin 8192) : S3x8192x8x128.Idx := fun a => match a with
  | ⟨0, _⟩ => ⟨(i 0).val, (i 0).isLt⟩
  | ⟨1, _⟩ => ⟨k.val, k.isLt⟩
  | ⟨2, _⟩ => ⟨(i 1).val, (i 1).isLt⟩
  | ⟨3, _⟩ => ⟨(i 2).val, (i 2).isLt⟩
/-- Stated at `F := Ideal`, where the host's float sum is this sum; at a bit-exact instance it is an opaque function of its operand. -/
theorem val_main_v36_apply (x1 : (⟨S3x8192x1024, .bf16⟩ : BufTy).Contents (Elt Ideal)) (i : S3x8x128.Idx) :
    val_main_v36 (F := Ideal) x1 i = (val_main_cst_9 (F := Ideal)) (Shape.Idx.first h_S_) + ∑ k : Fin 8192, (val_main_v35 (F := Ideal) x1) (idx_main_v36 i k) := by
  unfold val_main_v36
  generalize val_main_v35 (F := Ideal) x1 = y0
  simp only [Host.reduceAdd, Ideal.hostReduceAdd_def]
  rw [Ideal.hostReduceAdd_single reducesTo_S3x8192x8x128_S3x8x128_d1 (by decide)]
  refine congrArg (_ + ·) (Finset.sum_congr rfl fun k _ => ?_)
  exact congrArg y0 (funext fun a => Fin.ext (by match a with | ⟨0, _⟩ => rfl | ⟨1, _⟩ => rfl | ⟨2, _⟩ => rfl | ⟨3, _⟩ => rfl))

-- %37 = stablehlo.broadcast_in_dim %36, dims = [0, 2, 3] : (tensor<3x8x128xf32>) -> tensor<3x1x8x128xf32>
def val_main_v37 (x1 : (⟨S3x8192x1024, .bf16⟩ : BufTy).Contents (Elt F)) : (⟨S3x1x8x128, .f32⟩ : BufTy).Contents (Elt F) :=
  broadcastInDim S3x1x8x128 ![0, 2, 3] bcast_S3x8x128_S3x1x8x128_0_2_3 (val_main_v36 (F := F) x1)
abbrev idx_main_v37 (i : S3x1x8x128.Idx) : S3x8x128.Idx := fun a => match a with
  | ⟨0, _⟩ => ⟨(i 0).val, (i 0).isLt⟩
  | ⟨1, _⟩ => ⟨(i 2).val, (i 2).isLt⟩
  | ⟨2, _⟩ => ⟨(i 3).val, (i 3).isLt⟩
theorem val_main_v37_apply (x1 : (⟨S3x8192x1024, .bf16⟩ : BufTy).Contents (Elt F)) (i : S3x1x8x128.Idx) :
    val_main_v37 (F := F) x1 i = val_main_v36 (F := F) x1 (idx_main_v37 i) := by
  unfold val_main_v37
  generalize val_main_v36 (F := F) x1 = y
  exact broadcastInDim_apply _ bcast_S3x8x128_S3x1x8x128_0_2_3 y i (idx_main_v37 i) (fun a => match a with
    | ⟨0, _⟩ => by show (i 0).val = if (3 : Nat) = 1 then 0 else (i 0).val; rw [if_neg (by decide)]
    | ⟨1, _⟩ => by show (i 2).val = if (8 : Nat) = 1 then 0 else (i 2).val; rw [if_neg (by decide)]
    | ⟨2, _⟩ => by show (i 3).val = if (128 : Nat) = 1 then 0 else (i 3).val; rw [if_neg (by decide)])

-- %cst_10 = stablehlo.constant dense<8.192000e+03> : tensor<f32>
def val_main_cst_10 : (⟨S_, .f32⟩ : BufTy).Contents (Elt F) :=
  constant S_ .f32 0x46000000#32
theorem val_main_cst_10_apply (i : S_.Idx) :
    val_main_cst_10 (F := F) i = FloatOps.ofBits .f32 0x46000000#32 := rfl

-- %38 = stablehlo.broadcast_in_dim %cst_10, dims = [] : (tensor<f32>) -> tensor<3x1x8x128xf32>
def val_main_v38 : (⟨S3x1x8x128, .f32⟩ : BufTy).Contents (Elt F) :=
  broadcastInDim S3x1x8x128 ![] bcast_S_S3x1x8x128 (val_main_cst_10 (F := F))
abbrev idx_main_v38 (i : S3x1x8x128.Idx) : S_.Idx := fun a => a.elim0
theorem val_main_v38_apply (i : S3x1x8x128.Idx) :
    val_main_v38 (F := F) i = val_main_cst_10 (F := F) (idx_main_v38 i) := by
  unfold val_main_v38
  generalize val_main_cst_10 (F := F) = y
  exact broadcastInDim_apply _ bcast_S_S3x1x8x128 y i (idx_main_v38 i) (fun a => a.elim0)

-- %39 = stablehlo.divide %37, %38 : tensor<3x1x8x128xf32>
def val_main_v39 (x1 : (⟨S3x8192x1024, .bf16⟩ : BufTy).Contents (Elt F)) : (⟨S3x1x8x128, .f32⟩ : BufTy).Contents (Elt F) :=
  Host.divf (val_main_v37 (F := F) x1) (val_main_v38 (F := F))
theorem val_main_v39_apply (x1 : (⟨S3x8192x1024, .bf16⟩ : BufTy).Contents (Elt F)) (i : S3x1x8x128.Idx) :
    val_main_v39 (F := F) x1 i = FloatOps.hostDivf (val_main_v37 (F := F) x1 i) (val_main_v38 (F := F) i) := rfl

-- %40 = stablehlo.broadcast_in_dim %39, dims = [0, 1, 2, 3] : (tensor<3x1x8x128xf32>) -> tensor<3x8192x8x128xf32>
def val_main_v40 (x1 : (⟨S3x8192x1024, .bf16⟩ : BufTy).Contents (Elt F)) : (⟨S3x8192x8x128, .f32⟩ : BufTy).Contents (Elt F) :=
  broadcastInDim S3x8192x8x128 ![0, 1, 2, 3] bcast_S3x1x8x128_S3x8192x8x128_0_1_2_3 (val_main_v39 (F := F) x1)
abbrev idx_main_v40 (i : S3x8192x8x128.Idx) : S3x1x8x128.Idx := fun a => match a with
  | ⟨0, _⟩ => ⟨(i 0).val, (i 0).isLt⟩
  | ⟨1, _⟩ => ⟨0, Nat.one_pos⟩
  | ⟨2, _⟩ => ⟨(i 2).val, (i 2).isLt⟩
  | ⟨3, _⟩ => ⟨(i 3).val, (i 3).isLt⟩
theorem val_main_v40_apply (x1 : (⟨S3x8192x1024, .bf16⟩ : BufTy).Contents (Elt F)) (i : S3x8192x8x128.Idx) :
    val_main_v40 (F := F) x1 i = val_main_v39 (F := F) x1 (idx_main_v40 i) := by
  unfold val_main_v40
  generalize val_main_v39 (F := F) x1 = y
  exact broadcastInDim_apply _ bcast_S3x1x8x128_S3x8192x8x128_0_1_2_3 y i (idx_main_v40 i) (fun a => match a with
    | ⟨0, _⟩ => by show (i 0).val = if (3 : Nat) = 1 then 0 else (i 0).val; rw [if_neg (by decide)]
    | ⟨1, _⟩ => by show 0 = if (1 : Nat) = 1 then 0 else (i 1).val; rw [if_pos rfl]
    | ⟨2, _⟩ => by show (i 2).val = if (8 : Nat) = 1 then 0 else (i 2).val; rw [if_neg (by decide)]
    | ⟨3, _⟩ => by show (i 3).val = if (128 : Nat) = 1 then 0 else (i 3).val; rw [if_neg (by decide)])

-- %41 = stablehlo.subtract %35, %40 : tensor<3x8192x8x128xf32>
def val_main_v41 (x1 : (⟨S3x8192x1024, .bf16⟩ : BufTy).Contents (Elt F)) : (⟨S3x8192x8x128, .f32⟩ : BufTy).Contents (Elt F) :=
  subf (val_main_v35 (F := F) x1) (val_main_v40 (F := F) x1)
theorem val_main_v41_apply (x1 : (⟨S3x8192x1024, .bf16⟩ : BufTy).Contents (Elt F)) (i : S3x8192x8x128.Idx) :
    val_main_v41 (F := F) x1 i = FloatOps.subf (val_main_v35 (F := F) x1 i) (val_main_v40 (F := F) x1 i) := rfl

-- %42 = stablehlo.reshape %41 : (tensor<3x8192x8x128xf32>) -> tensor<3x8192x8x4x32xf32>
def val_main_v42 (x1 : (⟨S3x8192x1024, .bf16⟩ : BufTy).Contents (Elt F)) : (⟨S3x8192x8x4x32, .f32⟩ : BufTy).Contents (Elt F) :=
  shapeCast _ (val_main_v41 (F := F) x1) shapeCasts_S3x8192x8x128_S3x8192x8x4x32
abbrev idx_main_v42 (i : S3x8192x8x4x32.Idx) : S3x8192x8x128.Idx := fun a => match a with
  | ⟨0, _⟩ => ⟨(((((i 0).val * 8192 + (i 1).val) * 8 + (i 2).val) * 4 + (i 3).val) * 32 + (i 4).val) / 8388608, by have h0 : (i 0).val < 3 := (i 0).isLt; have h1 : (i 1).val < 8192 := (i 1).isLt; have h2 : (i 2).val < 8 := (i 2).isLt; have h3 : (i 3).val < 4 := (i 3).isLt; have h4 : (i 4).val < 32 := (i 4).isLt; show (((((i 0).val * 8192 + (i 1).val) * 8 + (i 2).val) * 4 + (i 3).val) * 32 + (i 4).val) / 8388608 < 3; omega⟩
  | ⟨1, _⟩ => ⟨(((((i 0).val * 8192 + (i 1).val) * 8 + (i 2).val) * 4 + (i 3).val) * 32 + (i 4).val) / 1024 % 8192, by have h0 : (i 0).val < 3 := (i 0).isLt; have h1 : (i 1).val < 8192 := (i 1).isLt; have h2 : (i 2).val < 8 := (i 2).isLt; have h3 : (i 3).val < 4 := (i 3).isLt; have h4 : (i 4).val < 32 := (i 4).isLt; show (((((i 0).val * 8192 + (i 1).val) * 8 + (i 2).val) * 4 + (i 3).val) * 32 + (i 4).val) / 1024 % 8192 < 8192; omega⟩
  | ⟨2, _⟩ => ⟨(((((i 0).val * 8192 + (i 1).val) * 8 + (i 2).val) * 4 + (i 3).val) * 32 + (i 4).val) / 128 % 8, by have h0 : (i 0).val < 3 := (i 0).isLt; have h1 : (i 1).val < 8192 := (i 1).isLt; have h2 : (i 2).val < 8 := (i 2).isLt; have h3 : (i 3).val < 4 := (i 3).isLt; have h4 : (i 4).val < 32 := (i 4).isLt; show (((((i 0).val * 8192 + (i 1).val) * 8 + (i 2).val) * 4 + (i 3).val) * 32 + (i 4).val) / 128 % 8 < 8; omega⟩
  | ⟨3, _⟩ => ⟨(((((i 0).val * 8192 + (i 1).val) * 8 + (i 2).val) * 4 + (i 3).val) * 32 + (i 4).val) % 128, by have h0 : (i 0).val < 3 := (i 0).isLt; have h1 : (i 1).val < 8192 := (i 1).isLt; have h2 : (i 2).val < 8 := (i 2).isLt; have h3 : (i 3).val < 4 := (i 3).isLt; have h4 : (i 4).val < 32 := (i 4).isLt; show (((((i 0).val * 8192 + (i 1).val) * 8 + (i 2).val) * 4 + (i 3).val) * 32 + (i 4).val) % 128 < 128; omega⟩
theorem val_main_v42_apply (x1 : (⟨S3x8192x1024, .bf16⟩ : BufTy).Contents (Elt F)) (i : S3x8192x8x4x32.Idx) :
    val_main_v42 (F := F) x1 i = val_main_v41 (F := F) x1 (idx_main_v42 i) := by
  unfold val_main_v42
  generalize val_main_v41 (F := F) x1 = y
  exact shapeCast_apply y shapeCasts_S3x8192x8x128_S3x8192x8x4x32 i (idx_main_v42 i)
    (by rewrite [Shape.rowMajor_val_four, Shape.rowMajor_val_five]; have h0 : (i 0).val < 3 := (i 0).isLt; have h1 : (i 1).val < 8192 := (i 1).isLt; have h2 : (i 2).val < 8 := (i 2).isLt; have h3 : (i 3).val < 4 := (i 3).isLt; have h4 : (i 4).val < 32 := (i 4).isLt; show (((((((i 0).val * 8192 + (i 1).val) * 8 + (i 2).val) * 4 + (i 3).val) * 32 + (i 4).val) / 8388608 * 8192 + (((((i 0).val * 8192 + (i 1).val) * 8 + (i 2).val) * 4 + (i 3).val) * 32 + (i 4).val) / 1024 % 8192) * 8 + (((((i 0).val * 8192 + (i 1).val) * 8 + (i 2).val) * 4 + (i 3).val) * 32 + (i 4).val) / 128 % 8) * 128 + (((((i 0).val * 8192 + (i 1).val) * 8 + (i 2).val) * 4 + (i 3).val) * 32 + (i 4).val) % 128 = ((((i 0).val * 8192 + (i 1).val) * 8 + (i 2).val) * 4 + (i 3).val) * 32 + (i 4).val; omega)

-- %43 = stablehlo.abs %42 : tensor<3x8192x8x4x32xf32>
def val_main_v43 (x1 : (⟨S3x8192x1024, .bf16⟩ : BufTy).Contents (Elt F)) : (⟨S3x8192x8x4x32, .f32⟩ : BufTy).Contents (Elt F) :=
  Host.absf (val_main_v42 (F := F) x1)
theorem val_main_v43_apply (x1 : (⟨S3x8192x1024, .bf16⟩ : BufTy).Contents (Elt F)) (i : S3x8192x8x4x32.Idx) :
    val_main_v43 (F := F) x1 i = FloatOps.hostAbsf (val_main_v42 (F := F) x1 i) := rfl

-- %cst_11 = stablehlo.constant dense<0xFF800000> : tensor<f32>
def val_main_cst_11 : (⟨S_, .f32⟩ : BufTy).Contents (Elt F) :=
  constant S_ .f32 0xFF800000#32
theorem val_main_cst_11_apply (i : S_.Idx) :
    val_main_cst_11 (F := F) i = FloatOps.ofBits .f32 0xFF800000#32 := rfl

-- %44 = stablehlo.reduce(%43 init: %cst_11) applies stablehlo.maximum across dimensions = [4] : (tensor<3x8192x8x4x32xf32>, tensor<f32>) -> tensor<3x8192x8x4xf32> {
def val_main_v44 (x1 : (⟨S3x8192x1024, .bf16⟩ : BufTy).Contents (Elt F)) : (⟨S3x8192x8x4, .f32⟩ : BufTy).Contents (Elt F) :=
  Host.reduce FloatOps.maximumf (val_main_v43 (F := F) x1) (val_main_cst_11 (F := F)) reducesTo_S3x8192x8x4x32_S3x8192x8x4_d4 h_S_

-- %cst_12 = stablehlo.constant dense<4.480000e+02> : tensor<f32>
def val_main_cst_12 : (⟨S_, .f32⟩ : BufTy).Contents (Elt F) :=
  constant S_ .f32 0x43E00000#32
theorem val_main_cst_12_apply (i : S_.Idx) :
    val_main_cst_12 (F := F) i = FloatOps.ofBits .f32 0x43E00000#32 := rfl

-- %45 = stablehlo.broadcast_in_dim %cst_12, dims = [] : (tensor<f32>) -> tensor<3x8192x8x4xf32>
def val_main_v45 : (⟨S3x8192x8x4, .f32⟩ : BufTy).Contents (Elt F) :=
  broadcastInDim S3x8192x8x4 ![] bcast_S_S3x8192x8x4 (val_main_cst_12 (F := F))
abbrev idx_main_v45 (i : S3x8192x8x4.Idx) : S_.Idx := fun a => a.elim0
theorem val_main_v45_apply (i : S3x8192x8x4.Idx) :
    val_main_v45 (F := F) i = val_main_cst_12 (F := F) (idx_main_v45 i) := by
  unfold val_main_v45
  generalize val_main_cst_12 (F := F) = y
  exact broadcastInDim_apply _ bcast_S_S3x8192x8x4 y i (idx_main_v45 i) (fun a => a.elim0)

-- %46 = stablehlo.divide %44, %45 : tensor<3x8192x8x4xf32>
def val_main_v46 (x1 : (⟨S3x8192x1024, .bf16⟩ : BufTy).Contents (Elt F)) : (⟨S3x8192x8x4, .f32⟩ : BufTy).Contents (Elt F) :=
  Host.divf (val_main_v44 (F := F) x1) (val_main_v45 (F := F))
theorem val_main_v46_apply (x1 : (⟨S3x8192x1024, .bf16⟩ : BufTy).Contents (Elt F)) (i : S3x8192x8x4.Idx) :
    val_main_v46 (F := F) x1 i = FloatOps.hostDivf (val_main_v44 (F := F) x1 i) (val_main_v45 (F := F) i) := rfl

-- %cst_13 = stablehlo.constant dense<2.000000e+00> : tensor<f32>
def val_main_cst_13 : (⟨S_, .f32⟩ : BufTy).Contents (Elt F) :=
  constant S_ .f32 0x40000000#32
theorem val_main_cst_13_apply (i : S_.Idx) :
    val_main_cst_13 (F := F) i = FloatOps.ofBits .f32 0x40000000#32 := rfl

-- %47 = stablehlo.broadcast_in_dim %cst_13, dims = [] : (tensor<f32>) -> tensor<254xf32>
def val_main_v47 : (⟨S254, .f32⟩ : BufTy).Contents (Elt F) :=
  broadcastInDim S254 ![] bcast_S_S254 (val_main_cst_13 (F := F))
abbrev idx_main_v47 (i : S254.Idx) : S_.Idx := fun a => a.elim0
theorem val_main_v47_apply (i : S254.Idx) :
    val_main_v47 (F := F) i = val_main_cst_13 (F := F) (idx_main_v47 i) := by
  unfold val_main_v47
  generalize val_main_cst_13 (F := F) = y
  exact broadcastInDim_apply _ bcast_S_S254 y i (idx_main_v47 i) (fun a => a.elim0)

-- %48 = stablehlo.iota dim = 0 : tensor<254xi32>
def val_main_v48 : (⟨S254, .i32⟩ : BufTy).Contents (Elt F) :=
  iotaInDim S254 32 0
theorem val_main_v48_apply (i : S254.Idx) :
    val_main_v48 (F := F) i = BitVec.ofNat 32 (i 0).val := rfl

-- %49 = stablehlo.convert %48 : (tensor<254xi32>) -> tensor<254xf32>
def val_main_v49 : (⟨S254, .f32⟩ : BufTy).Contents (Elt F) :=
  sitofp .f32 (val_main_v48 (F := F))
theorem val_main_v49_apply (i : S254.Idx) :
    val_main_v49 (F := F) i = FloatOps.sitofp .f32 (val_main_v48 (F := F) i) := rfl

-- %cst_14 = stablehlo.constant dense<1.260000e+02> : tensor<f32>
def val_main_cst_14 : (⟨S_, .f32⟩ : BufTy).Contents (Elt F) :=
  constant S_ .f32 0x42FC0000#32
theorem val_main_cst_14_apply (i : S_.Idx) :
    val_main_cst_14 (F := F) i = FloatOps.ofBits .f32 0x42FC0000#32 := rfl

-- %50 = stablehlo.broadcast_in_dim %cst_14, dims = [] : (tensor<f32>) -> tensor<254xf32>
def val_main_v50 : (⟨S254, .f32⟩ : BufTy).Contents (Elt F) :=
  broadcastInDim S254 ![] bcast_S_S254 (val_main_cst_14 (F := F))
abbrev idx_main_v50 (i : S254.Idx) : S_.Idx := fun a => a.elim0
theorem val_main_v50_apply (i : S254.Idx) :
    val_main_v50 (F := F) i = val_main_cst_14 (F := F) (idx_main_v50 i) := by
  unfold val_main_v50
  generalize val_main_cst_14 (F := F) = y
  exact broadcastInDim_apply _ bcast_S_S254 y i (idx_main_v50 i) (fun a => a.elim0)

-- %51 = stablehlo.subtract %49, %50 : tensor<254xf32>
def val_main_v51 : (⟨S254, .f32⟩ : BufTy).Contents (Elt F) :=
  subf (val_main_v49 (F := F)) (val_main_v50 (F := F))
theorem val_main_v51_apply (i : S254.Idx) :
    val_main_v51 (F := F) i = FloatOps.subf (val_main_v49 (F := F) i) (val_main_v50 (F := F) i) := rfl

-- %52 = stablehlo.power %47, %51 : tensor<254xf32>
def val_main_v52 : (⟨S254, .f32⟩ : BufTy).Contents (Elt F) :=
  Host.powf (val_main_v47 (F := F)) (val_main_v51 (F := F))
theorem val_main_v52_apply (i : S254.Idx) :
    val_main_v52 (F := F) i = FloatOps.hostPowf (val_main_v47 (F := F) i) (val_main_v51 (F := F) i) := rfl

-- %53 = stablehlo.broadcast_in_dim %46, dims = [0, 1, 2, 3] : (tensor<3x8192x8x4xf32>) -> tensor<3x8192x8x4x1xf32>
def val_main_v53 (x1 : (⟨S3x8192x1024, .bf16⟩ : BufTy).Contents (Elt F)) : (⟨S3x8192x8x4x1, .f32⟩ : BufTy).Contents (Elt F) :=
  broadcastInDim S3x8192x8x4x1 ![0, 1, 2, 3] bcast_S3x8192x8x4_S3x8192x8x4x1_0_1_2_3 (val_main_v46 (F := F) x1)
abbrev idx_main_v53 (i : S3x8192x8x4x1.Idx) : S3x8192x8x4.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨(i 3).val, (i 3).isLt⟩
theorem val_main_v53_apply (x1 : (⟨S3x8192x1024, .bf16⟩ : BufTy).Contents (Elt F)) (i : S3x8192x8x4x1.Idx) :
    val_main_v53 (F := F) x1 i = val_main_v46 (F := F) x1 (idx_main_v53 i) := by
  unfold val_main_v53
  generalize val_main_v46 (F := F) x1 = y
  exact broadcastInDim_apply _ bcast_S3x8192x8x4_S3x8192x8x4x1_0_1_2_3 y i (idx_main_v53 i) (fun a => match a with
    | ⟨0, _⟩ => by show (i 0).val = if (3 : Nat) = 1 then 0 else (i 0).val; rw [if_neg (by decide)]
    | ⟨1, _⟩ => by show (i 1).val = if (8192 : Nat) = 1 then 0 else (i 1).val; rw [if_neg (by decide)]
    | ⟨2, _⟩ => by show (i 2).val = if (8 : Nat) = 1 then 0 else (i 2).val; rw [if_neg (by decide)]
    | ⟨3, _⟩ => by show (i 3).val = if (4 : Nat) = 1 then 0 else (i 3).val; rw [if_neg (by decide)])

-- %54 = stablehlo.broadcast_in_dim %52, dims = [4] : (tensor<254xf32>) -> tensor<1x1x1x1x254xf32>
def val_main_v54 : (⟨S1x1x1x1x254, .f32⟩ : BufTy).Contents (Elt F) :=
  broadcastInDim S1x1x1x1x254 ![4] bcast_S254_S1x1x1x1x254_4 (val_main_v52 (F := F))
abbrev idx_main_v54 (i : S1x1x1x1x254.Idx) : S254.Idx := fun a => match a with
  | ⟨0, _⟩ => ⟨(i 4).val, (i 4).isLt⟩
theorem val_main_v54_apply (i : S1x1x1x1x254.Idx) :
    val_main_v54 (F := F) i = val_main_v52 (F := F) (idx_main_v54 i) := by
  unfold val_main_v54
  generalize val_main_v52 (F := F) = y
  exact broadcastInDim_apply _ bcast_S254_S1x1x1x1x254_4 y i (idx_main_v54 i) (fun a => match a with
    | ⟨0, _⟩ => by show (i 4).val = if (254 : Nat) = 1 then 0 else (i 4).val; rw [if_neg (by decide)])

-- %55 = stablehlo.broadcast_in_dim %53, dims = [0, 1, 2, 3, 4] : (tensor<3x8192x8x4x1xf32>) -> tensor<3x8192x8x4x254xf32>
def val_main_v55 (x1 : (⟨S3x8192x1024, .bf16⟩ : BufTy).Contents (Elt F)) : (⟨S3x8192x8x4x254, .f32⟩ : BufTy).Contents (Elt F) :=
  broadcastInDim S3x8192x8x4x254 ![0, 1, 2, 3, 4] bcast_S3x8192x8x4x1_S3x8192x8x4x254_0_1_2_3_4 (val_main_v53 (F := F) x1)
abbrev idx_main_v55 (i : S3x8192x8x4x254.Idx) : S3x8192x8x4x1.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨(i 3).val, (i 3).isLt⟩
  | ⟨4, _⟩ => ⟨0, Nat.one_pos⟩
theorem val_main_v55_apply (x1 : (⟨S3x8192x1024, .bf16⟩ : BufTy).Contents (Elt F)) (i : S3x8192x8x4x254.Idx) :
    val_main_v55 (F := F) x1 i = val_main_v53 (F := F) x1 (idx_main_v55 i) := by
  unfold val_main_v55
  generalize val_main_v53 (F := F) x1 = y
  exact broadcastInDim_apply _ bcast_S3x8192x8x4x1_S3x8192x8x4x254_0_1_2_3_4 y i (idx_main_v55 i) (fun a => match a with
    | ⟨0, _⟩ => by show (i 0).val = if (3 : Nat) = 1 then 0 else (i 0).val; rw [if_neg (by decide)]
    | ⟨1, _⟩ => by show (i 1).val = if (8192 : Nat) = 1 then 0 else (i 1).val; rw [if_neg (by decide)]
    | ⟨2, _⟩ => by show (i 2).val = if (8 : Nat) = 1 then 0 else (i 2).val; rw [if_neg (by decide)]
    | ⟨3, _⟩ => by show (i 3).val = if (4 : Nat) = 1 then 0 else (i 3).val; rw [if_neg (by decide)]
    | ⟨4, _⟩ => by show 0 = if (1 : Nat) = 1 then 0 else (i 4).val; rw [if_pos rfl])

-- %56 = stablehlo.broadcast_in_dim %54, dims = [0, 1, 2, 3, 4] : (tensor<1x1x1x1x254xf32>) -> tensor<3x8192x8x4x254xf32>
def val_main_v56 : (⟨S3x8192x8x4x254, .f32⟩ : BufTy).Contents (Elt F) :=
  broadcastInDim S3x8192x8x4x254 ![0, 1, 2, 3, 4] bcast_S1x1x1x1x254_S3x8192x8x4x254_0_1_2_3_4 (val_main_v54 (F := F))
abbrev idx_main_v56 (i : S3x8192x8x4x254.Idx) : S1x1x1x1x254.Idx := fun a => match a with
  | ⟨0, _⟩ => ⟨0, Nat.one_pos⟩
  | ⟨1, _⟩ => ⟨0, Nat.one_pos⟩
  | ⟨2, _⟩ => ⟨0, Nat.one_pos⟩
  | ⟨3, _⟩ => ⟨0, Nat.one_pos⟩
  | ⟨4, _⟩ => ⟨(i 4).val, (i 4).isLt⟩
theorem val_main_v56_apply (i : S3x8192x8x4x254.Idx) :
    val_main_v56 (F := F) i = val_main_v54 (F := F) (idx_main_v56 i) := by
  unfold val_main_v56
  generalize val_main_v54 (F := F) = y
  exact broadcastInDim_apply _ bcast_S1x1x1x1x254_S3x8192x8x4x254_0_1_2_3_4 y i (idx_main_v56 i) (fun a => match a with
    | ⟨0, _⟩ => by show 0 = if (1 : Nat) = 1 then 0 else (i 0).val; rw [if_pos rfl]
    | ⟨1, _⟩ => by show 0 = if (1 : Nat) = 1 then 0 else (i 1).val; rw [if_pos rfl]
    | ⟨2, _⟩ => by show 0 = if (1 : Nat) = 1 then 0 else (i 2).val; rw [if_pos rfl]
    | ⟨3, _⟩ => by show 0 = if (1 : Nat) = 1 then 0 else (i 3).val; rw [if_pos rfl]
    | ⟨4, _⟩ => by show (i 4).val = if (254 : Nat) = 1 then 0 else (i 4).val; rw [if_neg (by decide)])

-- %57 = stablehlo.compare GE, %55, %56, FLOAT : (tensor<3x8192x8x4x254xf32>, tensor<3x8192x8x4x254xf32>) -> tensor<3x8192x8x4x254xi1>
def val_main_v57 (x1 : (⟨S3x8192x1024, .bf16⟩ : BufTy).Contents (Elt F)) : (⟨S3x8192x8x4x254, .i1⟩ : BufTy).Contents (Elt F) :=
  cmpf .oge (val_main_v55 (F := F) x1) (val_main_v56 (F := F))
theorem val_main_v57_apply (x1 : (⟨S3x8192x1024, .bf16⟩ : BufTy).Contents (Elt F)) (i : S3x8192x8x4x254.Idx) :
    val_main_v57 (F := F) x1 i = FloatOps.cmpf .oge (val_main_v55 (F := F) x1 i) (val_main_v56 (F := F) i) := rfl

-- %58 = stablehlo.convert %57 : (tensor<3x8192x8x4x254xi1>) -> tensor<3x8192x8x4x254xi32>
def val_main_v58 (x1 : (⟨S3x8192x1024, .bf16⟩ : BufTy).Contents (Elt F)) : (⟨S3x8192x8x4x254, .i32⟩ : BufTy).Contents (Elt F) :=
  extui 32 (val_main_v57 (F := F) x1) natLt_1_32
theorem val_main_v58_apply (x1 : (⟨S3x8192x1024, .bf16⟩ : BufTy).Contents (Elt F)) (i : S3x8192x8x4x254.Idx) :
    val_main_v58 (F := F) x1 i = (val_main_v57 (F := F) x1 i).setWidth 32 := rfl

-- %c_15 = stablehlo.constant dense<0> : tensor<i32>
def val_main_c_15 : (⟨S_, .i32⟩ : BufTy).Contents (Elt F) :=
  constantI S_ 32 0#32
theorem val_main_c_15_apply (i : S_.Idx) :
    val_main_c_15 (F := F) i = 0#32 := rfl

-- %59 = stablehlo.reduce(%58 init: %c_15) applies stablehlo.add across dimensions = [4] : (tensor<3x8192x8x4x254xi32>, tensor<i32>) -> tensor<3x8192x8x4xi32> {
def val_main_v59 (x1 : (⟨S3x8192x1024, .bf16⟩ : BufTy).Contents (Elt F)) : (⟨S3x8192x8x4, .i32⟩ : BufTy).Contents (Elt F) :=
  Host.reduce IntOp.addi (val_main_v58 (F := F) x1) (val_main_c_15 (F := F)) reducesTo_S3x8192x8x4x254_S3x8192x8x4_d4 h_S_

-- %c_16 = stablehlo.constant dense<126> : tensor<i32>
def val_main_c_16 : (⟨S_, .i32⟩ : BufTy).Contents (Elt F) :=
  constantI S_ 32 126#32
theorem val_main_c_16_apply (i : S_.Idx) :
    val_main_c_16 (F := F) i = 126#32 := rfl

-- %60 = stablehlo.broadcast_in_dim %c_16, dims = [] : (tensor<i32>) -> tensor<3x8192x8x4xi32>
def val_main_v60 : (⟨S3x8192x8x4, .i32⟩ : BufTy).Contents (Elt F) :=
  broadcastInDim S3x8192x8x4 ![] bcast_S_S3x8192x8x4 (val_main_c_16 (F := F))
abbrev idx_main_v60 (i : S3x8192x8x4.Idx) : S_.Idx := fun a => a.elim0
theorem val_main_v60_apply (i : S3x8192x8x4.Idx) :
    val_main_v60 (F := F) i = val_main_c_16 (F := F) (idx_main_v60 i) := by
  unfold val_main_v60
  generalize val_main_c_16 (F := F) = y
  exact broadcastInDim_apply _ bcast_S_S3x8192x8x4 y i (idx_main_v60 i) (fun a => a.elim0)

-- %61 = stablehlo.subtract %59, %60 : tensor<3x8192x8x4xi32>
def val_main_v61 (x1 : (⟨S3x8192x1024, .bf16⟩ : BufTy).Contents (Elt F)) : (⟨S3x8192x8x4, .i32⟩ : BufTy).Contents (Elt F) :=
  subi (val_main_v59 (F := F) x1) (val_main_v60 (F := F))
theorem val_main_v61_apply (x1 : (⟨S3x8192x1024, .bf16⟩ : BufTy).Contents (Elt F)) (i : S3x8192x8x4.Idx) :
    val_main_v61 (F := F) x1 i = IntOp.subi (val_main_v59 (F := F) x1 i) (val_main_v60 (F := F) i) := rfl

-- %cst_17 = stablehlo.constant dense<0.000000e+00> : tensor<f32>
def val_main_cst_17 : (⟨S_, .f32⟩ : BufTy).Contents (Elt F) :=
  constant S_ .f32 0x00000000#32
theorem val_main_cst_17_apply (i : S_.Idx) :
    val_main_cst_17 (F := F) i = FloatOps.ofBits .f32 0x00000000#32 := rfl

-- %62 = stablehlo.broadcast_in_dim %cst_17, dims = [] : (tensor<f32>) -> tensor<3x8192x8x4xf32>
def val_main_v62 : (⟨S3x8192x8x4, .f32⟩ : BufTy).Contents (Elt F) :=
  broadcastInDim S3x8192x8x4 ![] bcast_S_S3x8192x8x4 (val_main_cst_17 (F := F))
abbrev idx_main_v62 (i : S3x8192x8x4.Idx) : S_.Idx := fun a => a.elim0
theorem val_main_v62_apply (i : S3x8192x8x4.Idx) :
    val_main_v62 (F := F) i = val_main_cst_17 (F := F) (idx_main_v62 i) := by
  unfold val_main_v62
  generalize val_main_cst_17 (F := F) = y
  exact broadcastInDim_apply _ bcast_S_S3x8192x8x4 y i (idx_main_v62 i) (fun a => a.elim0)

-- %63 = stablehlo.compare EQ, %46, %62, FLOAT : (tensor<3x8192x8x4xf32>, tensor<3x8192x8x4xf32>) -> tensor<3x8192x8x4xi1>
def val_main_v63 (x1 : (⟨S3x8192x1024, .bf16⟩ : BufTy).Contents (Elt F)) : (⟨S3x8192x8x4, .i1⟩ : BufTy).Contents (Elt F) :=
  cmpf .oeq (val_main_v46 (F := F) x1) (val_main_v62 (F := F))
theorem val_main_v63_apply (x1 : (⟨S3x8192x1024, .bf16⟩ : BufTy).Contents (Elt F)) (i : S3x8192x8x4.Idx) :
    val_main_v63 (F := F) x1 i = FloatOps.cmpf .oeq (val_main_v46 (F := F) x1 i) (val_main_v62 (F := F) i) := rfl

-- %c_18 = stablehlo.constant dense<0> : tensor<i32>
def val_main_c_18 : (⟨S_, .i32⟩ : BufTy).Contents (Elt F) :=
  constantI S_ 32 0#32
theorem val_main_c_18_apply (i : S_.Idx) :
    val_main_c_18 (F := F) i = 0#32 := rfl

-- @_where_0's %0 = stablehlo.convert %arg1 : tensor<i32>, in %64 = func.call @_where_0(…) (record main_call2)
def val_main_call2_v0 : (⟨S_, .i32⟩ : BufTy).Contents (Elt F) :=
  id (val_main_c_18 (F := F))
theorem val_main_call2_v0_apply (i : S_.Idx) :
    val_main_call2_v0 (F := F) i = (val_main_c_18 (F := F) i) := rfl

-- @_where_0's %1 = stablehlo.broadcast_in_dim %0, dims = [] : (tensor<i32>) -> tensor<3x8192x8x4xi32>, in %64 = func.call @_where_0(…) (record main_call2)
def val_main_call2_v1 : (⟨S3x8192x8x4, .i32⟩ : BufTy).Contents (Elt F) :=
  broadcastInDim S3x8192x8x4 ![] bcast_S_S3x8192x8x4 (val_main_call2_v0 (F := F))
abbrev idx_main_call2_v1 (i : S3x8192x8x4.Idx) : S_.Idx := fun a => a.elim0
theorem val_main_call2_v1_apply (i : S3x8192x8x4.Idx) :
    val_main_call2_v1 (F := F) i = val_main_call2_v0 (F := F) (idx_main_call2_v1 i) := by
  unfold val_main_call2_v1
  generalize val_main_call2_v0 (F := F) = y
  exact broadcastInDim_apply _ bcast_S_S3x8192x8x4 y i (idx_main_call2_v1 i) (fun a => a.elim0)

-- %64 = func.call @_where_0(…) (record main_call2) result 0: @_where_0's %2 = stablehlo.select %arg0, %1, %arg2 : tensor<3x8192x8x4xi1>, tensor<3x8192x8x4xi32>
def val_main_v64 (x1 : (⟨S3x8192x1024, .bf16⟩ : BufTy).Contents (Elt F)) : (⟨S3x8192x8x4, .i32⟩ : BufTy).Contents (Elt F) :=
  select (val_main_v63 (F := F) x1) (val_main_call2_v1 (F := F)) (val_main_v61 (F := F) x1)
theorem val_main_v64_apply (x1 : (⟨S3x8192x1024, .bf16⟩ : BufTy).Contents (Elt F)) (i : S3x8192x8x4.Idx) :
    val_main_v64 (F := F) x1 i = Scalar.select (val_main_v63 (F := F) x1 i) (val_main_call2_v1 (F := F) i) (val_main_v61 (F := F) x1 i) := rfl

-- %cst_19 = stablehlo.constant dense<2.000000e+00> : tensor<f32>
def val_main_cst_19 : (⟨S_, .f32⟩ : BufTy).Contents (Elt F) :=
  constant S_ .f32 0x40000000#32
theorem val_main_cst_19_apply (i : S_.Idx) :
    val_main_cst_19 (F := F) i = FloatOps.ofBits .f32 0x40000000#32 := rfl

-- %65 = stablehlo.broadcast_in_dim %cst_19, dims = [] : (tensor<f32>) -> tensor<3x8192x8x4xf32>
def val_main_v65 : (⟨S3x8192x8x4, .f32⟩ : BufTy).Contents (Elt F) :=
  broadcastInDim S3x8192x8x4 ![] bcast_S_S3x8192x8x4 (val_main_cst_19 (F := F))
abbrev idx_main_v65 (i : S3x8192x8x4.Idx) : S_.Idx := fun a => a.elim0
theorem val_main_v65_apply (i : S3x8192x8x4.Idx) :
    val_main_v65 (F := F) i = val_main_cst_19 (F := F) (idx_main_v65 i) := by
  unfold val_main_v65
  generalize val_main_cst_19 (F := F) = y
  exact broadcastInDim_apply _ bcast_S_S3x8192x8x4 y i (idx_main_v65 i) (fun a => a.elim0)

-- %66 = stablehlo.negate %64 : tensor<3x8192x8x4xi32>
def val_main_v66 (x1 : (⟨S3x8192x1024, .bf16⟩ : BufTy).Contents (Elt F)) : (⟨S3x8192x8x4, .i32⟩ : BufTy).Contents (Elt F) :=
  negi (val_main_v64 (F := F) x1)
theorem val_main_v66_apply (x1 : (⟨S3x8192x1024, .bf16⟩ : BufTy).Contents (Elt F)) (i : S3x8192x8x4.Idx) :
    val_main_v66 (F := F) x1 i = -(val_main_v64 (F := F) x1 i) := rfl

-- %67 = stablehlo.convert %66 : (tensor<3x8192x8x4xi32>) -> tensor<3x8192x8x4xf32>
def val_main_v67 (x1 : (⟨S3x8192x1024, .bf16⟩ : BufTy).Contents (Elt F)) : (⟨S3x8192x8x4, .f32⟩ : BufTy).Contents (Elt F) :=
  sitofp .f32 (val_main_v66 (F := F) x1)
theorem val_main_v67_apply (x1 : (⟨S3x8192x1024, .bf16⟩ : BufTy).Contents (Elt F)) (i : S3x8192x8x4.Idx) :
    val_main_v67 (F := F) x1 i = FloatOps.sitofp .f32 (val_main_v66 (F := F) x1 i) := rfl

-- %68 = stablehlo.power %65, %67 : tensor<3x8192x8x4xf32>
def val_main_v68 (x1 : (⟨S3x8192x1024, .bf16⟩ : BufTy).Contents (Elt F)) : (⟨S3x8192x8x4, .f32⟩ : BufTy).Contents (Elt F) :=
  Host.powf (val_main_v65 (F := F)) (val_main_v67 (F := F) x1)
theorem val_main_v68_apply (x1 : (⟨S3x8192x1024, .bf16⟩ : BufTy).Contents (Elt F)) (i : S3x8192x8x4.Idx) :
    val_main_v68 (F := F) x1 i = FloatOps.hostPowf (val_main_v65 (F := F) i) (val_main_v67 (F := F) x1 i) := rfl

-- %69 = stablehlo.broadcast_in_dim %68, dims = [0, 1, 2, 3] : (tensor<3x8192x8x4xf32>) -> tensor<3x8192x8x4x1xf32>
def val_main_v69 (x1 : (⟨S3x8192x1024, .bf16⟩ : BufTy).Contents (Elt F)) : (⟨S3x8192x8x4x1, .f32⟩ : BufTy).Contents (Elt F) :=
  broadcastInDim S3x8192x8x4x1 ![0, 1, 2, 3] bcast_S3x8192x8x4_S3x8192x8x4x1_0_1_2_3 (val_main_v68 (F := F) x1)
abbrev idx_main_v69 (i : S3x8192x8x4x1.Idx) : S3x8192x8x4.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨(i 3).val, (i 3).isLt⟩
theorem val_main_v69_apply (x1 : (⟨S3x8192x1024, .bf16⟩ : BufTy).Contents (Elt F)) (i : S3x8192x8x4x1.Idx) :
    val_main_v69 (F := F) x1 i = val_main_v68 (F := F) x1 (idx_main_v69 i) := by
  unfold val_main_v69
  generalize val_main_v68 (F := F) x1 = y
  exact broadcastInDim_apply _ bcast_S3x8192x8x4_S3x8192x8x4x1_0_1_2_3 y i (idx_main_v69 i) (fun a => match a with
    | ⟨0, _⟩ => by show (i 0).val = if (3 : Nat) = 1 then 0 else (i 0).val; rw [if_neg (by decide)]
    | ⟨1, _⟩ => by show (i 1).val = if (8192 : Nat) = 1 then 0 else (i 1).val; rw [if_neg (by decide)]
    | ⟨2, _⟩ => by show (i 2).val = if (8 : Nat) = 1 then 0 else (i 2).val; rw [if_neg (by decide)]
    | ⟨3, _⟩ => by show (i 3).val = if (4 : Nat) = 1 then 0 else (i 3).val; rw [if_neg (by decide)])

-- %70 = stablehlo.broadcast_in_dim %69, dims = [0, 1, 2, 3, 4] : (tensor<3x8192x8x4x1xf32>) -> tensor<3x8192x8x4x32xf32>
def val_main_v70 (x1 : (⟨S3x8192x1024, .bf16⟩ : BufTy).Contents (Elt F)) : (⟨S3x8192x8x4x32, .f32⟩ : BufTy).Contents (Elt F) :=
  broadcastInDim S3x8192x8x4x32 ![0, 1, 2, 3, 4] bcast_S3x8192x8x4x1_S3x8192x8x4x32_0_1_2_3_4 (val_main_v69 (F := F) x1)
abbrev idx_main_v70 (i : S3x8192x8x4x32.Idx) : S3x8192x8x4x1.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨(i 3).val, (i 3).isLt⟩
  | ⟨4, _⟩ => ⟨0, Nat.one_pos⟩
theorem val_main_v70_apply (x1 : (⟨S3x8192x1024, .bf16⟩ : BufTy).Contents (Elt F)) (i : S3x8192x8x4x32.Idx) :
    val_main_v70 (F := F) x1 i = val_main_v69 (F := F) x1 (idx_main_v70 i) := by
  unfold val_main_v70
  generalize val_main_v69 (F := F) x1 = y
  exact broadcastInDim_apply _ bcast_S3x8192x8x4x1_S3x8192x8x4x32_0_1_2_3_4 y i (idx_main_v70 i) (fun a => match a with
    | ⟨0, _⟩ => by show (i 0).val = if (3 : Nat) = 1 then 0 else (i 0).val; rw [if_neg (by decide)]
    | ⟨1, _⟩ => by show (i 1).val = if (8192 : Nat) = 1 then 0 else (i 1).val; rw [if_neg (by decide)]
    | ⟨2, _⟩ => by show (i 2).val = if (8 : Nat) = 1 then 0 else (i 2).val; rw [if_neg (by decide)]
    | ⟨3, _⟩ => by show (i 3).val = if (4 : Nat) = 1 then 0 else (i 3).val; rw [if_neg (by decide)]
    | ⟨4, _⟩ => by show 0 = if (1 : Nat) = 1 then 0 else (i 4).val; rw [if_pos rfl])

-- %71 = stablehlo.multiply %42, %70 : tensor<3x8192x8x4x32xf32>
def val_main_v71 (x1 : (⟨S3x8192x1024, .bf16⟩ : BufTy).Contents (Elt F)) : (⟨S3x8192x8x4x32, .f32⟩ : BufTy).Contents (Elt F) :=
  mulf (val_main_v42 (F := F) x1) (val_main_v70 (F := F) x1)
theorem val_main_v71_apply (x1 : (⟨S3x8192x1024, .bf16⟩ : BufTy).Contents (Elt F)) (i : S3x8192x8x4x32.Idx) :
    val_main_v71 (F := F) x1 i = FloatOps.mulf (val_main_v42 (F := F) x1 i) (val_main_v70 (F := F) x1 i) := rfl

-- %cst_20 = stablehlo.constant dense<-4.480000e+02> : tensor<f32>
def val_main_cst_20 : (⟨S_, .f32⟩ : BufTy).Contents (Elt F) :=
  constant S_ .f32 0xC3E00000#32
theorem val_main_cst_20_apply (i : S_.Idx) :
    val_main_cst_20 (F := F) i = FloatOps.ofBits .f32 0xC3E00000#32 := rfl

-- %cst_21 = stablehlo.constant dense<4.480000e+02> : tensor<f32>
def val_main_cst_21 : (⟨S_, .f32⟩ : BufTy).Contents (Elt F) :=
  constant S_ .f32 0x43E00000#32
theorem val_main_cst_21_apply (i : S_.Idx) :
    val_main_cst_21 (F := F) i = FloatOps.ofBits .f32 0x43E00000#32 := rfl

-- @clip_1's %0 = stablehlo.convert %arg1 : tensor<f32>, in %72 = func.call @clip_1(…) (record main_call3)
def val_main_call3_v0 : (⟨S_, .f32⟩ : BufTy).Contents (Elt F) :=
  id (val_main_cst_20 (F := F))
theorem val_main_call3_v0_apply (i : S_.Idx) :
    val_main_call3_v0 (F := F) i = (val_main_cst_20 (F := F) i) := rfl

-- @clip_1's %1 = stablehlo.broadcast_in_dim %0, dims = [] : (tensor<f32>) -> tensor<3x8192x8x4x32xf32>, in %72 = func.call @clip_1(…) (record main_call3)
def val_main_call3_v1 : (⟨S3x8192x8x4x32, .f32⟩ : BufTy).Contents (Elt F) :=
  broadcastInDim S3x8192x8x4x32 ![] bcast_S_S3x8192x8x4x32 (val_main_call3_v0 (F := F))
abbrev idx_main_call3_v1 (i : S3x8192x8x4x32.Idx) : S_.Idx := fun a => a.elim0
theorem val_main_call3_v1_apply (i : S3x8192x8x4x32.Idx) :
    val_main_call3_v1 (F := F) i = val_main_call3_v0 (F := F) (idx_main_call3_v1 i) := by
  unfold val_main_call3_v1
  generalize val_main_call3_v0 (F := F) = y
  exact broadcastInDim_apply _ bcast_S_S3x8192x8x4x32 y i (idx_main_call3_v1 i) (fun a => a.elim0)

-- @clip_1's %2 = stablehlo.maximum %1, %arg0 : tensor<3x8192x8x4x32xf32>, in %72 = func.call @clip_1(…) (record main_call3)
def val_main_call3_v2 (x1 : (⟨S3x8192x1024, .bf16⟩ : BufTy).Contents (Elt F)) : (⟨S3x8192x8x4x32, .f32⟩ : BufTy).Contents (Elt F) :=
  maximumf (val_main_call3_v1 (F := F)) (val_main_v71 (F := F) x1)
theorem val_main_call3_v2_apply (x1 : (⟨S3x8192x1024, .bf16⟩ : BufTy).Contents (Elt F)) (i : S3x8192x8x4x32.Idx) :
    val_main_call3_v2 (F := F) x1 i = FloatOps.maximumf (val_main_call3_v1 (F := F) i) (val_main_v71 (F := F) x1 i) := rfl

-- @clip_1's %3 = stablehlo.convert %arg2 : tensor<f32>, in %72 = func.call @clip_1(…) (record main_call3)
def val_main_call3_v3 : (⟨S_, .f32⟩ : BufTy).Contents (Elt F) :=
  id (val_main_cst_21 (F := F))
theorem val_main_call3_v3_apply (i : S_.Idx) :
    val_main_call3_v3 (F := F) i = (val_main_cst_21 (F := F) i) := rfl

-- @clip_1's %4 = stablehlo.broadcast_in_dim %3, dims = [] : (tensor<f32>) -> tensor<3x8192x8x4x32xf32>, in %72 = func.call @clip_1(…) (record main_call3)
def val_main_call3_v4 : (⟨S3x8192x8x4x32, .f32⟩ : BufTy).Contents (Elt F) :=
  broadcastInDim S3x8192x8x4x32 ![] bcast_S_S3x8192x8x4x32 (val_main_call3_v3 (F := F))
abbrev idx_main_call3_v4 (i : S3x8192x8x4x32.Idx) : S_.Idx := fun a => a.elim0
theorem val_main_call3_v4_apply (i : S3x8192x8x4x32.Idx) :
    val_main_call3_v4 (F := F) i = val_main_call3_v3 (F := F) (idx_main_call3_v4 i) := by
  unfold val_main_call3_v4
  generalize val_main_call3_v3 (F := F) = y
  exact broadcastInDim_apply _ bcast_S_S3x8192x8x4x32 y i (idx_main_call3_v4 i) (fun a => a.elim0)

-- %72 = func.call @clip_1(…) (record main_call3) result 0: @clip_1's %5 = stablehlo.minimum %4, %2 : tensor<3x8192x8x4x32xf32>
def val_main_v72 (x1 : (⟨S3x8192x1024, .bf16⟩ : BufTy).Contents (Elt F)) : (⟨S3x8192x8x4x32, .f32⟩ : BufTy).Contents (Elt F) :=
  minimumf (val_main_call3_v4 (F := F)) (val_main_call3_v2 (F := F) x1)
theorem val_main_v72_apply (x1 : (⟨S3x8192x1024, .bf16⟩ : BufTy).Contents (Elt F)) (i : S3x8192x8x4x32.Idx) :
    val_main_v72 (F := F) x1 i = FloatOps.minimumf (val_main_call3_v4 (F := F) i) (val_main_call3_v2 (F := F) x1 i) := rfl

-- %73 = stablehlo.reshape %72 : (tensor<3x8192x8x4x32xf32>) -> tensor<3x8192x8x128xf32>
def val_main_v73 (x1 : (⟨S3x8192x1024, .bf16⟩ : BufTy).Contents (Elt F)) : (⟨S3x8192x8x128, .f32⟩ : BufTy).Contents (Elt F) :=
  shapeCast _ (val_main_v72 (F := F) x1) shapeCasts_S3x8192x8x4x32_S3x8192x8x128
abbrev idx_main_v73 (i : S3x8192x8x128.Idx) : S3x8192x8x4x32.Idx := fun a => match a with
  | ⟨0, _⟩ => ⟨((((i 0).val * 8192 + (i 1).val) * 8 + (i 2).val) * 128 + (i 3).val) / 8388608, by have h0 : (i 0).val < 3 := (i 0).isLt; have h1 : (i 1).val < 8192 := (i 1).isLt; have h2 : (i 2).val < 8 := (i 2).isLt; have h3 : (i 3).val < 128 := (i 3).isLt; show ((((i 0).val * 8192 + (i 1).val) * 8 + (i 2).val) * 128 + (i 3).val) / 8388608 < 3; omega⟩
  | ⟨1, _⟩ => ⟨((((i 0).val * 8192 + (i 1).val) * 8 + (i 2).val) * 128 + (i 3).val) / 1024 % 8192, by have h0 : (i 0).val < 3 := (i 0).isLt; have h1 : (i 1).val < 8192 := (i 1).isLt; have h2 : (i 2).val < 8 := (i 2).isLt; have h3 : (i 3).val < 128 := (i 3).isLt; show ((((i 0).val * 8192 + (i 1).val) * 8 + (i 2).val) * 128 + (i 3).val) / 1024 % 8192 < 8192; omega⟩
  | ⟨2, _⟩ => ⟨((((i 0).val * 8192 + (i 1).val) * 8 + (i 2).val) * 128 + (i 3).val) / 128 % 8, by have h0 : (i 0).val < 3 := (i 0).isLt; have h1 : (i 1).val < 8192 := (i 1).isLt; have h2 : (i 2).val < 8 := (i 2).isLt; have h3 : (i 3).val < 128 := (i 3).isLt; show ((((i 0).val * 8192 + (i 1).val) * 8 + (i 2).val) * 128 + (i 3).val) / 128 % 8 < 8; omega⟩
  | ⟨3, _⟩ => ⟨((((i 0).val * 8192 + (i 1).val) * 8 + (i 2).val) * 128 + (i 3).val) / 32 % 4, by have h0 : (i 0).val < 3 := (i 0).isLt; have h1 : (i 1).val < 8192 := (i 1).isLt; have h2 : (i 2).val < 8 := (i 2).isLt; have h3 : (i 3).val < 128 := (i 3).isLt; show ((((i 0).val * 8192 + (i 1).val) * 8 + (i 2).val) * 128 + (i 3).val) / 32 % 4 < 4; omega⟩
  | ⟨4, _⟩ => ⟨((((i 0).val * 8192 + (i 1).val) * 8 + (i 2).val) * 128 + (i 3).val) % 32, by have h0 : (i 0).val < 3 := (i 0).isLt; have h1 : (i 1).val < 8192 := (i 1).isLt; have h2 : (i 2).val < 8 := (i 2).isLt; have h3 : (i 3).val < 128 := (i 3).isLt; show ((((i 0).val * 8192 + (i 1).val) * 8 + (i 2).val) * 128 + (i 3).val) % 32 < 32; omega⟩
theorem val_main_v73_apply (x1 : (⟨S3x8192x1024, .bf16⟩ : BufTy).Contents (Elt F)) (i : S3x8192x8x128.Idx) :
    val_main_v73 (F := F) x1 i = val_main_v72 (F := F) x1 (idx_main_v73 i) := by
  unfold val_main_v73
  generalize val_main_v72 (F := F) x1 = y
  exact shapeCast_apply y shapeCasts_S3x8192x8x4x32_S3x8192x8x128 i (idx_main_v73 i)
    (by rewrite [Shape.rowMajor_val_five, Shape.rowMajor_val_four]; have h0 : (i 0).val < 3 := (i 0).isLt; have h1 : (i 1).val < 8192 := (i 1).isLt; have h2 : (i 2).val < 8 := (i 2).isLt; have h3 : (i 3).val < 128 := (i 3).isLt; show (((((((i 0).val * 8192 + (i 1).val) * 8 + (i 2).val) * 128 + (i 3).val) / 8388608 * 8192 + ((((i 0).val * 8192 + (i 1).val) * 8 + (i 2).val) * 128 + (i 3).val) / 1024 % 8192) * 8 + ((((i 0).val * 8192 + (i 1).val) * 8 + (i 2).val) * 128 + (i 3).val) / 128 % 8) * 4 + ((((i 0).val * 8192 + (i 1).val) * 8 + (i 2).val) * 128 + (i 3).val) / 32 % 4) * 32 + ((((i 0).val * 8192 + (i 1).val) * 8 + (i 2).val) * 128 + (i 3).val) % 32 = (((i 0).val * 8192 + (i 1).val) * 8 + (i 2).val) * 128 + (i 3).val; omega)

-- %74 = stablehlo.convert %arg2 : (tensor<3x8192x1024xbf16>) -> tensor<3x8192x1024xf32>
def val_main_v74 (x2 : (⟨S3x8192x1024, .bf16⟩ : BufTy).Contents (Elt F)) : (⟨S3x8192x1024, .f32⟩ : BufTy).Contents (Elt F) :=
  extf .f32 (x2) bitsLt_bf16_f32
theorem val_main_v74_apply (x2 : (⟨S3x8192x1024, .bf16⟩ : BufTy).Contents (Elt F)) (i : S3x8192x1024.Idx) :
    val_main_v74 (F := F) x2 i = FloatOps.extf .f32 bitsLt_bf16_f32 (x2 i) := rfl

-- %75 = stablehlo.reshape %74 : (tensor<3x8192x1024xf32>) -> tensor<3x8192x8x128xf32>
def val_main_v75 (x2 : (⟨S3x8192x1024, .bf16⟩ : BufTy).Contents (Elt F)) : (⟨S3x8192x8x128, .f32⟩ : BufTy).Contents (Elt F) :=
  shapeCast _ (val_main_v74 (F := F) x2) shapeCasts_S3x8192x1024_S3x8192x8x128
abbrev idx_main_v75 (i : S3x8192x8x128.Idx) : S3x8192x1024.Idx := fun a => match a with
  | ⟨0, _⟩ => ⟨((((i 0).val * 8192 + (i 1).val) * 8 + (i 2).val) * 128 + (i 3).val) / 8388608, by have h0 : (i 0).val < 3 := (i 0).isLt; have h1 : (i 1).val < 8192 := (i 1).isLt; have h2 : (i 2).val < 8 := (i 2).isLt; have h3 : (i 3).val < 128 := (i 3).isLt; show ((((i 0).val * 8192 + (i 1).val) * 8 + (i 2).val) * 128 + (i 3).val) / 8388608 < 3; omega⟩
  | ⟨1, _⟩ => ⟨((((i 0).val * 8192 + (i 1).val) * 8 + (i 2).val) * 128 + (i 3).val) / 1024 % 8192, by have h0 : (i 0).val < 3 := (i 0).isLt; have h1 : (i 1).val < 8192 := (i 1).isLt; have h2 : (i 2).val < 8 := (i 2).isLt; have h3 : (i 3).val < 128 := (i 3).isLt; show ((((i 0).val * 8192 + (i 1).val) * 8 + (i 2).val) * 128 + (i 3).val) / 1024 % 8192 < 8192; omega⟩
  | ⟨2, _⟩ => ⟨((((i 0).val * 8192 + (i 1).val) * 8 + (i 2).val) * 128 + (i 3).val) % 1024, by have h0 : (i 0).val < 3 := (i 0).isLt; have h1 : (i 1).val < 8192 := (i 1).isLt; have h2 : (i 2).val < 8 := (i 2).isLt; have h3 : (i 3).val < 128 := (i 3).isLt; show ((((i 0).val * 8192 + (i 1).val) * 8 + (i 2).val) * 128 + (i 3).val) % 1024 < 1024; omega⟩
theorem val_main_v75_apply (x2 : (⟨S3x8192x1024, .bf16⟩ : BufTy).Contents (Elt F)) (i : S3x8192x8x128.Idx) :
    val_main_v75 (F := F) x2 i = val_main_v74 (F := F) x2 (idx_main_v75 i) := by
  unfold val_main_v75
  generalize val_main_v74 (F := F) x2 = y
  exact shapeCast_apply y shapeCasts_S3x8192x1024_S3x8192x8x128 i (idx_main_v75 i)
    (by rewrite [Shape.rowMajor_val_three, Shape.rowMajor_val_four]; have h0 : (i 0).val < 3 := (i 0).isLt; have h1 : (i 1).val < 8192 := (i 1).isLt; have h2 : (i 2).val < 8 := (i 2).isLt; have h3 : (i 3).val < 128 := (i 3).isLt; show (((((i 0).val * 8192 + (i 1).val) * 8 + (i 2).val) * 128 + (i 3).val) / 8388608 * 8192 + ((((i 0).val * 8192 + (i 1).val) * 8 + (i 2).val) * 128 + (i 3).val) / 1024 % 8192) * 1024 + ((((i 0).val * 8192 + (i 1).val) * 8 + (i 2).val) * 128 + (i 3).val) % 1024 = (((i 0).val * 8192 + (i 1).val) * 8 + (i 2).val) * 128 + (i 3).val; omega)

-- %76 = stablehlo.reshape %75 : (tensor<3x8192x8x128xf32>) -> tensor<3x8192x8x4x32xf32>
def val_main_v76 (x2 : (⟨S3x8192x1024, .bf16⟩ : BufTy).Contents (Elt F)) : (⟨S3x8192x8x4x32, .f32⟩ : BufTy).Contents (Elt F) :=
  shapeCast _ (val_main_v75 (F := F) x2) shapeCasts_S3x8192x8x128_S3x8192x8x4x32
abbrev idx_main_v76 (i : S3x8192x8x4x32.Idx) : S3x8192x8x128.Idx := fun a => match a with
  | ⟨0, _⟩ => ⟨(((((i 0).val * 8192 + (i 1).val) * 8 + (i 2).val) * 4 + (i 3).val) * 32 + (i 4).val) / 8388608, by have h0 : (i 0).val < 3 := (i 0).isLt; have h1 : (i 1).val < 8192 := (i 1).isLt; have h2 : (i 2).val < 8 := (i 2).isLt; have h3 : (i 3).val < 4 := (i 3).isLt; have h4 : (i 4).val < 32 := (i 4).isLt; show (((((i 0).val * 8192 + (i 1).val) * 8 + (i 2).val) * 4 + (i 3).val) * 32 + (i 4).val) / 8388608 < 3; omega⟩
  | ⟨1, _⟩ => ⟨(((((i 0).val * 8192 + (i 1).val) * 8 + (i 2).val) * 4 + (i 3).val) * 32 + (i 4).val) / 1024 % 8192, by have h0 : (i 0).val < 3 := (i 0).isLt; have h1 : (i 1).val < 8192 := (i 1).isLt; have h2 : (i 2).val < 8 := (i 2).isLt; have h3 : (i 3).val < 4 := (i 3).isLt; have h4 : (i 4).val < 32 := (i 4).isLt; show (((((i 0).val * 8192 + (i 1).val) * 8 + (i 2).val) * 4 + (i 3).val) * 32 + (i 4).val) / 1024 % 8192 < 8192; omega⟩
  | ⟨2, _⟩ => ⟨(((((i 0).val * 8192 + (i 1).val) * 8 + (i 2).val) * 4 + (i 3).val) * 32 + (i 4).val) / 128 % 8, by have h0 : (i 0).val < 3 := (i 0).isLt; have h1 : (i 1).val < 8192 := (i 1).isLt; have h2 : (i 2).val < 8 := (i 2).isLt; have h3 : (i 3).val < 4 := (i 3).isLt; have h4 : (i 4).val < 32 := (i 4).isLt; show (((((i 0).val * 8192 + (i 1).val) * 8 + (i 2).val) * 4 + (i 3).val) * 32 + (i 4).val) / 128 % 8 < 8; omega⟩
  | ⟨3, _⟩ => ⟨(((((i 0).val * 8192 + (i 1).val) * 8 + (i 2).val) * 4 + (i 3).val) * 32 + (i 4).val) % 128, by have h0 : (i 0).val < 3 := (i 0).isLt; have h1 : (i 1).val < 8192 := (i 1).isLt; have h2 : (i 2).val < 8 := (i 2).isLt; have h3 : (i 3).val < 4 := (i 3).isLt; have h4 : (i 4).val < 32 := (i 4).isLt; show (((((i 0).val * 8192 + (i 1).val) * 8 + (i 2).val) * 4 + (i 3).val) * 32 + (i 4).val) % 128 < 128; omega⟩
theorem val_main_v76_apply (x2 : (⟨S3x8192x1024, .bf16⟩ : BufTy).Contents (Elt F)) (i : S3x8192x8x4x32.Idx) :
    val_main_v76 (F := F) x2 i = val_main_v75 (F := F) x2 (idx_main_v76 i) := by
  unfold val_main_v76
  generalize val_main_v75 (F := F) x2 = y
  exact shapeCast_apply y shapeCasts_S3x8192x8x128_S3x8192x8x4x32 i (idx_main_v76 i)
    (by rewrite [Shape.rowMajor_val_four, Shape.rowMajor_val_five]; have h0 : (i 0).val < 3 := (i 0).isLt; have h1 : (i 1).val < 8192 := (i 1).isLt; have h2 : (i 2).val < 8 := (i 2).isLt; have h3 : (i 3).val < 4 := (i 3).isLt; have h4 : (i 4).val < 32 := (i 4).isLt; show (((((((i 0).val * 8192 + (i 1).val) * 8 + (i 2).val) * 4 + (i 3).val) * 32 + (i 4).val) / 8388608 * 8192 + (((((i 0).val * 8192 + (i 1).val) * 8 + (i 2).val) * 4 + (i 3).val) * 32 + (i 4).val) / 1024 % 8192) * 8 + (((((i 0).val * 8192 + (i 1).val) * 8 + (i 2).val) * 4 + (i 3).val) * 32 + (i 4).val) / 128 % 8) * 128 + (((((i 0).val * 8192 + (i 1).val) * 8 + (i 2).val) * 4 + (i 3).val) * 32 + (i 4).val) % 128 = ((((i 0).val * 8192 + (i 1).val) * 8 + (i 2).val) * 4 + (i 3).val) * 32 + (i 4).val; omega)

-- %77 = stablehlo.abs %76 : tensor<3x8192x8x4x32xf32>
def val_main_v77 (x2 : (⟨S3x8192x1024, .bf16⟩ : BufTy).Contents (Elt F)) : (⟨S3x8192x8x4x32, .f32⟩ : BufTy).Contents (Elt F) :=
  Host.absf (val_main_v76 (F := F) x2)
theorem val_main_v77_apply (x2 : (⟨S3x8192x1024, .bf16⟩ : BufTy).Contents (Elt F)) (i : S3x8192x8x4x32.Idx) :
    val_main_v77 (F := F) x2 i = FloatOps.hostAbsf (val_main_v76 (F := F) x2 i) := rfl

-- %cst_22 = stablehlo.constant dense<0xFF800000> : tensor<f32>
def val_main_cst_22 : (⟨S_, .f32⟩ : BufTy).Contents (Elt F) :=
  constant S_ .f32 0xFF800000#32
theorem val_main_cst_22_apply (i : S_.Idx) :
    val_main_cst_22 (F := F) i = FloatOps.ofBits .f32 0xFF800000#32 := rfl

-- %78 = stablehlo.reduce(%77 init: %cst_22) applies stablehlo.maximum across dimensions = [4] : (tensor<3x8192x8x4x32xf32>, tensor<f32>) -> tensor<3x8192x8x4xf32> {
def val_main_v78 (x2 : (⟨S3x8192x1024, .bf16⟩ : BufTy).Contents (Elt F)) : (⟨S3x8192x8x4, .f32⟩ : BufTy).Contents (Elt F) :=
  Host.reduce FloatOps.maximumf (val_main_v77 (F := F) x2) (val_main_cst_22 (F := F)) reducesTo_S3x8192x8x4x32_S3x8192x8x4_d4 h_S_

-- %cst_23 = stablehlo.constant dense<4.480000e+02> : tensor<f32>
def val_main_cst_23 : (⟨S_, .f32⟩ : BufTy).Contents (Elt F) :=
  constant S_ .f32 0x43E00000#32
theorem val_main_cst_23_apply (i : S_.Idx) :
    val_main_cst_23 (F := F) i = FloatOps.ofBits .f32 0x43E00000#32 := rfl

-- %79 = stablehlo.broadcast_in_dim %cst_23, dims = [] : (tensor<f32>) -> tensor<3x8192x8x4xf32>
def val_main_v79 : (⟨S3x8192x8x4, .f32⟩ : BufTy).Contents (Elt F) :=
  broadcastInDim S3x8192x8x4 ![] bcast_S_S3x8192x8x4 (val_main_cst_23 (F := F))
abbrev idx_main_v79 (i : S3x8192x8x4.Idx) : S_.Idx := fun a => a.elim0
theorem val_main_v79_apply (i : S3x8192x8x4.Idx) :
    val_main_v79 (F := F) i = val_main_cst_23 (F := F) (idx_main_v79 i) := by
  unfold val_main_v79
  generalize val_main_cst_23 (F := F) = y
  exact broadcastInDim_apply _ bcast_S_S3x8192x8x4 y i (idx_main_v79 i) (fun a => a.elim0)

-- %80 = stablehlo.divide %78, %79 : tensor<3x8192x8x4xf32>
def val_main_v80 (x2 : (⟨S3x8192x1024, .bf16⟩ : BufTy).Contents (Elt F)) : (⟨S3x8192x8x4, .f32⟩ : BufTy).Contents (Elt F) :=
  Host.divf (val_main_v78 (F := F) x2) (val_main_v79 (F := F))
theorem val_main_v80_apply (x2 : (⟨S3x8192x1024, .bf16⟩ : BufTy).Contents (Elt F)) (i : S3x8192x8x4.Idx) :
    val_main_v80 (F := F) x2 i = FloatOps.hostDivf (val_main_v78 (F := F) x2 i) (val_main_v79 (F := F) i) := rfl

-- %cst_24 = stablehlo.constant dense<2.000000e+00> : tensor<f32>
def val_main_cst_24 : (⟨S_, .f32⟩ : BufTy).Contents (Elt F) :=
  constant S_ .f32 0x40000000#32
theorem val_main_cst_24_apply (i : S_.Idx) :
    val_main_cst_24 (F := F) i = FloatOps.ofBits .f32 0x40000000#32 := rfl

-- %81 = stablehlo.broadcast_in_dim %cst_24, dims = [] : (tensor<f32>) -> tensor<254xf32>
def val_main_v81 : (⟨S254, .f32⟩ : BufTy).Contents (Elt F) :=
  broadcastInDim S254 ![] bcast_S_S254 (val_main_cst_24 (F := F))
abbrev idx_main_v81 (i : S254.Idx) : S_.Idx := fun a => a.elim0
theorem val_main_v81_apply (i : S254.Idx) :
    val_main_v81 (F := F) i = val_main_cst_24 (F := F) (idx_main_v81 i) := by
  unfold val_main_v81
  generalize val_main_cst_24 (F := F) = y
  exact broadcastInDim_apply _ bcast_S_S254 y i (idx_main_v81 i) (fun a => a.elim0)

-- %82 = stablehlo.iota dim = 0 : tensor<254xi32>
def val_main_v82 : (⟨S254, .i32⟩ : BufTy).Contents (Elt F) :=
  iotaInDim S254 32 0
theorem val_main_v82_apply (i : S254.Idx) :
    val_main_v82 (F := F) i = BitVec.ofNat 32 (i 0).val := rfl

-- %83 = stablehlo.convert %82 : (tensor<254xi32>) -> tensor<254xf32>
def val_main_v83 : (⟨S254, .f32⟩ : BufTy).Contents (Elt F) :=
  sitofp .f32 (val_main_v82 (F := F))
theorem val_main_v83_apply (i : S254.Idx) :
    val_main_v83 (F := F) i = FloatOps.sitofp .f32 (val_main_v82 (F := F) i) := rfl

-- %cst_25 = stablehlo.constant dense<1.260000e+02> : tensor<f32>
def val_main_cst_25 : (⟨S_, .f32⟩ : BufTy).Contents (Elt F) :=
  constant S_ .f32 0x42FC0000#32
theorem val_main_cst_25_apply (i : S_.Idx) :
    val_main_cst_25 (F := F) i = FloatOps.ofBits .f32 0x42FC0000#32 := rfl

-- %84 = stablehlo.broadcast_in_dim %cst_25, dims = [] : (tensor<f32>) -> tensor<254xf32>
def val_main_v84 : (⟨S254, .f32⟩ : BufTy).Contents (Elt F) :=
  broadcastInDim S254 ![] bcast_S_S254 (val_main_cst_25 (F := F))
abbrev idx_main_v84 (i : S254.Idx) : S_.Idx := fun a => a.elim0
theorem val_main_v84_apply (i : S254.Idx) :
    val_main_v84 (F := F) i = val_main_cst_25 (F := F) (idx_main_v84 i) := by
  unfold val_main_v84
  generalize val_main_cst_25 (F := F) = y
  exact broadcastInDim_apply _ bcast_S_S254 y i (idx_main_v84 i) (fun a => a.elim0)

-- %85 = stablehlo.subtract %83, %84 : tensor<254xf32>
def val_main_v85 : (⟨S254, .f32⟩ : BufTy).Contents (Elt F) :=
  subf (val_main_v83 (F := F)) (val_main_v84 (F := F))
theorem val_main_v85_apply (i : S254.Idx) :
    val_main_v85 (F := F) i = FloatOps.subf (val_main_v83 (F := F) i) (val_main_v84 (F := F) i) := rfl

-- %86 = stablehlo.power %81, %85 : tensor<254xf32>
def val_main_v86 : (⟨S254, .f32⟩ : BufTy).Contents (Elt F) :=
  Host.powf (val_main_v81 (F := F)) (val_main_v85 (F := F))
theorem val_main_v86_apply (i : S254.Idx) :
    val_main_v86 (F := F) i = FloatOps.hostPowf (val_main_v81 (F := F) i) (val_main_v85 (F := F) i) := rfl

-- %87 = stablehlo.broadcast_in_dim %80, dims = [0, 1, 2, 3] : (tensor<3x8192x8x4xf32>) -> tensor<3x8192x8x4x1xf32>
def val_main_v87 (x2 : (⟨S3x8192x1024, .bf16⟩ : BufTy).Contents (Elt F)) : (⟨S3x8192x8x4x1, .f32⟩ : BufTy).Contents (Elt F) :=
  broadcastInDim S3x8192x8x4x1 ![0, 1, 2, 3] bcast_S3x8192x8x4_S3x8192x8x4x1_0_1_2_3 (val_main_v80 (F := F) x2)
abbrev idx_main_v87 (i : S3x8192x8x4x1.Idx) : S3x8192x8x4.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨(i 3).val, (i 3).isLt⟩
theorem val_main_v87_apply (x2 : (⟨S3x8192x1024, .bf16⟩ : BufTy).Contents (Elt F)) (i : S3x8192x8x4x1.Idx) :
    val_main_v87 (F := F) x2 i = val_main_v80 (F := F) x2 (idx_main_v87 i) := by
  unfold val_main_v87
  generalize val_main_v80 (F := F) x2 = y
  exact broadcastInDim_apply _ bcast_S3x8192x8x4_S3x8192x8x4x1_0_1_2_3 y i (idx_main_v87 i) (fun a => match a with
    | ⟨0, _⟩ => by show (i 0).val = if (3 : Nat) = 1 then 0 else (i 0).val; rw [if_neg (by decide)]
    | ⟨1, _⟩ => by show (i 1).val = if (8192 : Nat) = 1 then 0 else (i 1).val; rw [if_neg (by decide)]
    | ⟨2, _⟩ => by show (i 2).val = if (8 : Nat) = 1 then 0 else (i 2).val; rw [if_neg (by decide)]
    | ⟨3, _⟩ => by show (i 3).val = if (4 : Nat) = 1 then 0 else (i 3).val; rw [if_neg (by decide)])

-- %88 = stablehlo.broadcast_in_dim %86, dims = [4] : (tensor<254xf32>) -> tensor<1x1x1x1x254xf32>
def val_main_v88 : (⟨S1x1x1x1x254, .f32⟩ : BufTy).Contents (Elt F) :=
  broadcastInDim S1x1x1x1x254 ![4] bcast_S254_S1x1x1x1x254_4 (val_main_v86 (F := F))
abbrev idx_main_v88 (i : S1x1x1x1x254.Idx) : S254.Idx := fun a => match a with
  | ⟨0, _⟩ => ⟨(i 4).val, (i 4).isLt⟩
theorem val_main_v88_apply (i : S1x1x1x1x254.Idx) :
    val_main_v88 (F := F) i = val_main_v86 (F := F) (idx_main_v88 i) := by
  unfold val_main_v88
  generalize val_main_v86 (F := F) = y
  exact broadcastInDim_apply _ bcast_S254_S1x1x1x1x254_4 y i (idx_main_v88 i) (fun a => match a with
    | ⟨0, _⟩ => by show (i 4).val = if (254 : Nat) = 1 then 0 else (i 4).val; rw [if_neg (by decide)])

-- %89 = stablehlo.broadcast_in_dim %87, dims = [0, 1, 2, 3, 4] : (tensor<3x8192x8x4x1xf32>) -> tensor<3x8192x8x4x254xf32>
def val_main_v89 (x2 : (⟨S3x8192x1024, .bf16⟩ : BufTy).Contents (Elt F)) : (⟨S3x8192x8x4x254, .f32⟩ : BufTy).Contents (Elt F) :=
  broadcastInDim S3x8192x8x4x254 ![0, 1, 2, 3, 4] bcast_S3x8192x8x4x1_S3x8192x8x4x254_0_1_2_3_4 (val_main_v87 (F := F) x2)
abbrev idx_main_v89 (i : S3x8192x8x4x254.Idx) : S3x8192x8x4x1.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨(i 3).val, (i 3).isLt⟩
  | ⟨4, _⟩ => ⟨0, Nat.one_pos⟩
theorem val_main_v89_apply (x2 : (⟨S3x8192x1024, .bf16⟩ : BufTy).Contents (Elt F)) (i : S3x8192x8x4x254.Idx) :
    val_main_v89 (F := F) x2 i = val_main_v87 (F := F) x2 (idx_main_v89 i) := by
  unfold val_main_v89
  generalize val_main_v87 (F := F) x2 = y
  exact broadcastInDim_apply _ bcast_S3x8192x8x4x1_S3x8192x8x4x254_0_1_2_3_4 y i (idx_main_v89 i) (fun a => match a with
    | ⟨0, _⟩ => by show (i 0).val = if (3 : Nat) = 1 then 0 else (i 0).val; rw [if_neg (by decide)]
    | ⟨1, _⟩ => by show (i 1).val = if (8192 : Nat) = 1 then 0 else (i 1).val; rw [if_neg (by decide)]
    | ⟨2, _⟩ => by show (i 2).val = if (8 : Nat) = 1 then 0 else (i 2).val; rw [if_neg (by decide)]
    | ⟨3, _⟩ => by show (i 3).val = if (4 : Nat) = 1 then 0 else (i 3).val; rw [if_neg (by decide)]
    | ⟨4, _⟩ => by show 0 = if (1 : Nat) = 1 then 0 else (i 4).val; rw [if_pos rfl])

-- %90 = stablehlo.broadcast_in_dim %88, dims = [0, 1, 2, 3, 4] : (tensor<1x1x1x1x254xf32>) -> tensor<3x8192x8x4x254xf32>
def val_main_v90 : (⟨S3x8192x8x4x254, .f32⟩ : BufTy).Contents (Elt F) :=
  broadcastInDim S3x8192x8x4x254 ![0, 1, 2, 3, 4] bcast_S1x1x1x1x254_S3x8192x8x4x254_0_1_2_3_4 (val_main_v88 (F := F))
abbrev idx_main_v90 (i : S3x8192x8x4x254.Idx) : S1x1x1x1x254.Idx := fun a => match a with
  | ⟨0, _⟩ => ⟨0, Nat.one_pos⟩
  | ⟨1, _⟩ => ⟨0, Nat.one_pos⟩
  | ⟨2, _⟩ => ⟨0, Nat.one_pos⟩
  | ⟨3, _⟩ => ⟨0, Nat.one_pos⟩
  | ⟨4, _⟩ => ⟨(i 4).val, (i 4).isLt⟩
theorem val_main_v90_apply (i : S3x8192x8x4x254.Idx) :
    val_main_v90 (F := F) i = val_main_v88 (F := F) (idx_main_v90 i) := by
  unfold val_main_v90
  generalize val_main_v88 (F := F) = y
  exact broadcastInDim_apply _ bcast_S1x1x1x1x254_S3x8192x8x4x254_0_1_2_3_4 y i (idx_main_v90 i) (fun a => match a with
    | ⟨0, _⟩ => by show 0 = if (1 : Nat) = 1 then 0 else (i 0).val; rw [if_pos rfl]
    | ⟨1, _⟩ => by show 0 = if (1 : Nat) = 1 then 0 else (i 1).val; rw [if_pos rfl]
    | ⟨2, _⟩ => by show 0 = if (1 : Nat) = 1 then 0 else (i 2).val; rw [if_pos rfl]
    | ⟨3, _⟩ => by show 0 = if (1 : Nat) = 1 then 0 else (i 3).val; rw [if_pos rfl]
    | ⟨4, _⟩ => by show (i 4).val = if (254 : Nat) = 1 then 0 else (i 4).val; rw [if_neg (by decide)])

-- %91 = stablehlo.compare GE, %89, %90, FLOAT : (tensor<3x8192x8x4x254xf32>, tensor<3x8192x8x4x254xf32>) -> tensor<3x8192x8x4x254xi1>
def val_main_v91 (x2 : (⟨S3x8192x1024, .bf16⟩ : BufTy).Contents (Elt F)) : (⟨S3x8192x8x4x254, .i1⟩ : BufTy).Contents (Elt F) :=
  cmpf .oge (val_main_v89 (F := F) x2) (val_main_v90 (F := F))
theorem val_main_v91_apply (x2 : (⟨S3x8192x1024, .bf16⟩ : BufTy).Contents (Elt F)) (i : S3x8192x8x4x254.Idx) :
    val_main_v91 (F := F) x2 i = FloatOps.cmpf .oge (val_main_v89 (F := F) x2 i) (val_main_v90 (F := F) i) := rfl

-- %92 = stablehlo.convert %91 : (tensor<3x8192x8x4x254xi1>) -> tensor<3x8192x8x4x254xi32>
def val_main_v92 (x2 : (⟨S3x8192x1024, .bf16⟩ : BufTy).Contents (Elt F)) : (⟨S3x8192x8x4x254, .i32⟩ : BufTy).Contents (Elt F) :=
  extui 32 (val_main_v91 (F := F) x2) natLt_1_32
theorem val_main_v92_apply (x2 : (⟨S3x8192x1024, .bf16⟩ : BufTy).Contents (Elt F)) (i : S3x8192x8x4x254.Idx) :
    val_main_v92 (F := F) x2 i = (val_main_v91 (F := F) x2 i).setWidth 32 := rfl

-- %c_26 = stablehlo.constant dense<0> : tensor<i32>
def val_main_c_26 : (⟨S_, .i32⟩ : BufTy).Contents (Elt F) :=
  constantI S_ 32 0#32
theorem val_main_c_26_apply (i : S_.Idx) :
    val_main_c_26 (F := F) i = 0#32 := rfl

-- %93 = stablehlo.reduce(%92 init: %c_26) applies stablehlo.add across dimensions = [4] : (tensor<3x8192x8x4x254xi32>, tensor<i32>) -> tensor<3x8192x8x4xi32> {
def val_main_v93 (x2 : (⟨S3x8192x1024, .bf16⟩ : BufTy).Contents (Elt F)) : (⟨S3x8192x8x4, .i32⟩ : BufTy).Contents (Elt F) :=
  Host.reduce IntOp.addi (val_main_v92 (F := F) x2) (val_main_c_26 (F := F)) reducesTo_S3x8192x8x4x254_S3x8192x8x4_d4 h_S_

-- %c_27 = stablehlo.constant dense<126> : tensor<i32>
def val_main_c_27 : (⟨S_, .i32⟩ : BufTy).Contents (Elt F) :=
  constantI S_ 32 126#32
theorem val_main_c_27_apply (i : S_.Idx) :
    val_main_c_27 (F := F) i = 126#32 := rfl

-- %94 = stablehlo.broadcast_in_dim %c_27, dims = [] : (tensor<i32>) -> tensor<3x8192x8x4xi32>
def val_main_v94 : (⟨S3x8192x8x4, .i32⟩ : BufTy).Contents (Elt F) :=
  broadcastInDim S3x8192x8x4 ![] bcast_S_S3x8192x8x4 (val_main_c_27 (F := F))
abbrev idx_main_v94 (i : S3x8192x8x4.Idx) : S_.Idx := fun a => a.elim0
theorem val_main_v94_apply (i : S3x8192x8x4.Idx) :
    val_main_v94 (F := F) i = val_main_c_27 (F := F) (idx_main_v94 i) := by
  unfold val_main_v94
  generalize val_main_c_27 (F := F) = y
  exact broadcastInDim_apply _ bcast_S_S3x8192x8x4 y i (idx_main_v94 i) (fun a => a.elim0)

-- %95 = stablehlo.subtract %93, %94 : tensor<3x8192x8x4xi32>
def val_main_v95 (x2 : (⟨S3x8192x1024, .bf16⟩ : BufTy).Contents (Elt F)) : (⟨S3x8192x8x4, .i32⟩ : BufTy).Contents (Elt F) :=
  subi (val_main_v93 (F := F) x2) (val_main_v94 (F := F))
theorem val_main_v95_apply (x2 : (⟨S3x8192x1024, .bf16⟩ : BufTy).Contents (Elt F)) (i : S3x8192x8x4.Idx) :
    val_main_v95 (F := F) x2 i = IntOp.subi (val_main_v93 (F := F) x2 i) (val_main_v94 (F := F) i) := rfl

-- %cst_28 = stablehlo.constant dense<0.000000e+00> : tensor<f32>
def val_main_cst_28 : (⟨S_, .f32⟩ : BufTy).Contents (Elt F) :=
  constant S_ .f32 0x00000000#32
theorem val_main_cst_28_apply (i : S_.Idx) :
    val_main_cst_28 (F := F) i = FloatOps.ofBits .f32 0x00000000#32 := rfl

-- %96 = stablehlo.broadcast_in_dim %cst_28, dims = [] : (tensor<f32>) -> tensor<3x8192x8x4xf32>
def val_main_v96 : (⟨S3x8192x8x4, .f32⟩ : BufTy).Contents (Elt F) :=
  broadcastInDim S3x8192x8x4 ![] bcast_S_S3x8192x8x4 (val_main_cst_28 (F := F))
abbrev idx_main_v96 (i : S3x8192x8x4.Idx) : S_.Idx := fun a => a.elim0
theorem val_main_v96_apply (i : S3x8192x8x4.Idx) :
    val_main_v96 (F := F) i = val_main_cst_28 (F := F) (idx_main_v96 i) := by
  unfold val_main_v96
  generalize val_main_cst_28 (F := F) = y
  exact broadcastInDim_apply _ bcast_S_S3x8192x8x4 y i (idx_main_v96 i) (fun a => a.elim0)

-- %97 = stablehlo.compare EQ, %80, %96, FLOAT : (tensor<3x8192x8x4xf32>, tensor<3x8192x8x4xf32>) -> tensor<3x8192x8x4xi1>
def val_main_v97 (x2 : (⟨S3x8192x1024, .bf16⟩ : BufTy).Contents (Elt F)) : (⟨S3x8192x8x4, .i1⟩ : BufTy).Contents (Elt F) :=
  cmpf .oeq (val_main_v80 (F := F) x2) (val_main_v96 (F := F))
theorem val_main_v97_apply (x2 : (⟨S3x8192x1024, .bf16⟩ : BufTy).Contents (Elt F)) (i : S3x8192x8x4.Idx) :
    val_main_v97 (F := F) x2 i = FloatOps.cmpf .oeq (val_main_v80 (F := F) x2 i) (val_main_v96 (F := F) i) := rfl

-- %c_29 = stablehlo.constant dense<0> : tensor<i32>
def val_main_c_29 : (⟨S_, .i32⟩ : BufTy).Contents (Elt F) :=
  constantI S_ 32 0#32
theorem val_main_c_29_apply (i : S_.Idx) :
    val_main_c_29 (F := F) i = 0#32 := rfl

-- @_where_0's %0 = stablehlo.convert %arg1 : tensor<i32>, in %98 = func.call @_where_0(…) (record main_call4)
def val_main_call4_v0 : (⟨S_, .i32⟩ : BufTy).Contents (Elt F) :=
  id (val_main_c_29 (F := F))
theorem val_main_call4_v0_apply (i : S_.Idx) :
    val_main_call4_v0 (F := F) i = (val_main_c_29 (F := F) i) := rfl

-- @_where_0's %1 = stablehlo.broadcast_in_dim %0, dims = [] : (tensor<i32>) -> tensor<3x8192x8x4xi32>, in %98 = func.call @_where_0(…) (record main_call4)
def val_main_call4_v1 : (⟨S3x8192x8x4, .i32⟩ : BufTy).Contents (Elt F) :=
  broadcastInDim S3x8192x8x4 ![] bcast_S_S3x8192x8x4 (val_main_call4_v0 (F := F))
abbrev idx_main_call4_v1 (i : S3x8192x8x4.Idx) : S_.Idx := fun a => a.elim0
theorem val_main_call4_v1_apply (i : S3x8192x8x4.Idx) :
    val_main_call4_v1 (F := F) i = val_main_call4_v0 (F := F) (idx_main_call4_v1 i) := by
  unfold val_main_call4_v1
  generalize val_main_call4_v0 (F := F) = y
  exact broadcastInDim_apply _ bcast_S_S3x8192x8x4 y i (idx_main_call4_v1 i) (fun a => a.elim0)

-- %98 = func.call @_where_0(…) (record main_call4) result 0: @_where_0's %2 = stablehlo.select %arg0, %1, %arg2 : tensor<3x8192x8x4xi1>, tensor<3x8192x8x4xi32>
def val_main_v98 (x2 : (⟨S3x8192x1024, .bf16⟩ : BufTy).Contents (Elt F)) : (⟨S3x8192x8x4, .i32⟩ : BufTy).Contents (Elt F) :=
  select (val_main_v97 (F := F) x2) (val_main_call4_v1 (F := F)) (val_main_v95 (F := F) x2)
theorem val_main_v98_apply (x2 : (⟨S3x8192x1024, .bf16⟩ : BufTy).Contents (Elt F)) (i : S3x8192x8x4.Idx) :
    val_main_v98 (F := F) x2 i = Scalar.select (val_main_v97 (F := F) x2 i) (val_main_call4_v1 (F := F) i) (val_main_v95 (F := F) x2 i) := rfl

-- %cst_30 = stablehlo.constant dense<2.000000e+00> : tensor<f32>
def val_main_cst_30 : (⟨S_, .f32⟩ : BufTy).Contents (Elt F) :=
  constant S_ .f32 0x40000000#32
theorem val_main_cst_30_apply (i : S_.Idx) :
    val_main_cst_30 (F := F) i = FloatOps.ofBits .f32 0x40000000#32 := rfl

-- %99 = stablehlo.broadcast_in_dim %cst_30, dims = [] : (tensor<f32>) -> tensor<3x8192x8x4xf32>
def val_main_v99 : (⟨S3x8192x8x4, .f32⟩ : BufTy).Contents (Elt F) :=
  broadcastInDim S3x8192x8x4 ![] bcast_S_S3x8192x8x4 (val_main_cst_30 (F := F))
abbrev idx_main_v99 (i : S3x8192x8x4.Idx) : S_.Idx := fun a => a.elim0
theorem val_main_v99_apply (i : S3x8192x8x4.Idx) :
    val_main_v99 (F := F) i = val_main_cst_30 (F := F) (idx_main_v99 i) := by
  unfold val_main_v99
  generalize val_main_cst_30 (F := F) = y
  exact broadcastInDim_apply _ bcast_S_S3x8192x8x4 y i (idx_main_v99 i) (fun a => a.elim0)

-- %100 = stablehlo.negate %98 : tensor<3x8192x8x4xi32>
def val_main_v100 (x2 : (⟨S3x8192x1024, .bf16⟩ : BufTy).Contents (Elt F)) : (⟨S3x8192x8x4, .i32⟩ : BufTy).Contents (Elt F) :=
  negi (val_main_v98 (F := F) x2)
theorem val_main_v100_apply (x2 : (⟨S3x8192x1024, .bf16⟩ : BufTy).Contents (Elt F)) (i : S3x8192x8x4.Idx) :
    val_main_v100 (F := F) x2 i = -(val_main_v98 (F := F) x2 i) := rfl

-- %101 = stablehlo.convert %100 : (tensor<3x8192x8x4xi32>) -> tensor<3x8192x8x4xf32>
def val_main_v101 (x2 : (⟨S3x8192x1024, .bf16⟩ : BufTy).Contents (Elt F)) : (⟨S3x8192x8x4, .f32⟩ : BufTy).Contents (Elt F) :=
  sitofp .f32 (val_main_v100 (F := F) x2)
theorem val_main_v101_apply (x2 : (⟨S3x8192x1024, .bf16⟩ : BufTy).Contents (Elt F)) (i : S3x8192x8x4.Idx) :
    val_main_v101 (F := F) x2 i = FloatOps.sitofp .f32 (val_main_v100 (F := F) x2 i) := rfl

-- %102 = stablehlo.power %99, %101 : tensor<3x8192x8x4xf32>
def val_main_v102 (x2 : (⟨S3x8192x1024, .bf16⟩ : BufTy).Contents (Elt F)) : (⟨S3x8192x8x4, .f32⟩ : BufTy).Contents (Elt F) :=
  Host.powf (val_main_v99 (F := F)) (val_main_v101 (F := F) x2)
theorem val_main_v102_apply (x2 : (⟨S3x8192x1024, .bf16⟩ : BufTy).Contents (Elt F)) (i : S3x8192x8x4.Idx) :
    val_main_v102 (F := F) x2 i = FloatOps.hostPowf (val_main_v99 (F := F) i) (val_main_v101 (F := F) x2 i) := rfl

-- %103 = stablehlo.broadcast_in_dim %102, dims = [0, 1, 2, 3] : (tensor<3x8192x8x4xf32>) -> tensor<3x8192x8x4x1xf32>
def val_main_v103 (x2 : (⟨S3x8192x1024, .bf16⟩ : BufTy).Contents (Elt F)) : (⟨S3x8192x8x4x1, .f32⟩ : BufTy).Contents (Elt F) :=
  broadcastInDim S3x8192x8x4x1 ![0, 1, 2, 3] bcast_S3x8192x8x4_S3x8192x8x4x1_0_1_2_3 (val_main_v102 (F := F) x2)
abbrev idx_main_v103 (i : S3x8192x8x4x1.Idx) : S3x8192x8x4.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨(i 3).val, (i 3).isLt⟩
theorem val_main_v103_apply (x2 : (⟨S3x8192x1024, .bf16⟩ : BufTy).Contents (Elt F)) (i : S3x8192x8x4x1.Idx) :
    val_main_v103 (F := F) x2 i = val_main_v102 (F := F) x2 (idx_main_v103 i) := by
  unfold val_main_v103
  generalize val_main_v102 (F := F) x2 = y
  exact broadcastInDim_apply _ bcast_S3x8192x8x4_S3x8192x8x4x1_0_1_2_3 y i (idx_main_v103 i) (fun a => match a with
    | ⟨0, _⟩ => by show (i 0).val = if (3 : Nat) = 1 then 0 else (i 0).val; rw [if_neg (by decide)]
    | ⟨1, _⟩ => by show (i 1).val = if (8192 : Nat) = 1 then 0 else (i 1).val; rw [if_neg (by decide)]
    | ⟨2, _⟩ => by show (i 2).val = if (8 : Nat) = 1 then 0 else (i 2).val; rw [if_neg (by decide)]
    | ⟨3, _⟩ => by show (i 3).val = if (4 : Nat) = 1 then 0 else (i 3).val; rw [if_neg (by decide)])

-- %104 = stablehlo.broadcast_in_dim %103, dims = [0, 1, 2, 3, 4] : (tensor<3x8192x8x4x1xf32>) -> tensor<3x8192x8x4x32xf32>
def val_main_v104 (x2 : (⟨S3x8192x1024, .bf16⟩ : BufTy).Contents (Elt F)) : (⟨S3x8192x8x4x32, .f32⟩ : BufTy).Contents (Elt F) :=
  broadcastInDim S3x8192x8x4x32 ![0, 1, 2, 3, 4] bcast_S3x8192x8x4x1_S3x8192x8x4x32_0_1_2_3_4 (val_main_v103 (F := F) x2)
abbrev idx_main_v104 (i : S3x8192x8x4x32.Idx) : S3x8192x8x4x1.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨(i 3).val, (i 3).isLt⟩
  | ⟨4, _⟩ => ⟨0, Nat.one_pos⟩
theorem val_main_v104_apply (x2 : (⟨S3x8192x1024, .bf16⟩ : BufTy).Contents (Elt F)) (i : S3x8192x8x4x32.Idx) :
    val_main_v104 (F := F) x2 i = val_main_v103 (F := F) x2 (idx_main_v104 i) := by
  unfold val_main_v104
  generalize val_main_v103 (F := F) x2 = y
  exact broadcastInDim_apply _ bcast_S3x8192x8x4x1_S3x8192x8x4x32_0_1_2_3_4 y i (idx_main_v104 i) (fun a => match a with
    | ⟨0, _⟩ => by show (i 0).val = if (3 : Nat) = 1 then 0 else (i 0).val; rw [if_neg (by decide)]
    | ⟨1, _⟩ => by show (i 1).val = if (8192 : Nat) = 1 then 0 else (i 1).val; rw [if_neg (by decide)]
    | ⟨2, _⟩ => by show (i 2).val = if (8 : Nat) = 1 then 0 else (i 2).val; rw [if_neg (by decide)]
    | ⟨3, _⟩ => by show (i 3).val = if (4 : Nat) = 1 then 0 else (i 3).val; rw [if_neg (by decide)]
    | ⟨4, _⟩ => by show 0 = if (1 : Nat) = 1 then 0 else (i 4).val; rw [if_pos rfl])

-- %105 = stablehlo.multiply %76, %104 : tensor<3x8192x8x4x32xf32>
def val_main_v105 (x2 : (⟨S3x8192x1024, .bf16⟩ : BufTy).Contents (Elt F)) : (⟨S3x8192x8x4x32, .f32⟩ : BufTy).Contents (Elt F) :=
  mulf (val_main_v76 (F := F) x2) (val_main_v104 (F := F) x2)
theorem val_main_v105_apply (x2 : (⟨S3x8192x1024, .bf16⟩ : BufTy).Contents (Elt F)) (i : S3x8192x8x4x32.Idx) :
    val_main_v105 (F := F) x2 i = FloatOps.mulf (val_main_v76 (F := F) x2 i) (val_main_v104 (F := F) x2 i) := rfl

-- %cst_31 = stablehlo.constant dense<-4.480000e+02> : tensor<f32>
def val_main_cst_31 : (⟨S_, .f32⟩ : BufTy).Contents (Elt F) :=
  constant S_ .f32 0xC3E00000#32
theorem val_main_cst_31_apply (i : S_.Idx) :
    val_main_cst_31 (F := F) i = FloatOps.ofBits .f32 0xC3E00000#32 := rfl

-- %cst_32 = stablehlo.constant dense<4.480000e+02> : tensor<f32>
def val_main_cst_32 : (⟨S_, .f32⟩ : BufTy).Contents (Elt F) :=
  constant S_ .f32 0x43E00000#32
theorem val_main_cst_32_apply (i : S_.Idx) :
    val_main_cst_32 (F := F) i = FloatOps.ofBits .f32 0x43E00000#32 := rfl

-- @clip_1's %0 = stablehlo.convert %arg1 : tensor<f32>, in %106 = func.call @clip_1(…) (record main_call5)
def val_main_call5_v0 : (⟨S_, .f32⟩ : BufTy).Contents (Elt F) :=
  id (val_main_cst_31 (F := F))
theorem val_main_call5_v0_apply (i : S_.Idx) :
    val_main_call5_v0 (F := F) i = (val_main_cst_31 (F := F) i) := rfl

-- @clip_1's %1 = stablehlo.broadcast_in_dim %0, dims = [] : (tensor<f32>) -> tensor<3x8192x8x4x32xf32>, in %106 = func.call @clip_1(…) (record main_call5)
def val_main_call5_v1 : (⟨S3x8192x8x4x32, .f32⟩ : BufTy).Contents (Elt F) :=
  broadcastInDim S3x8192x8x4x32 ![] bcast_S_S3x8192x8x4x32 (val_main_call5_v0 (F := F))
abbrev idx_main_call5_v1 (i : S3x8192x8x4x32.Idx) : S_.Idx := fun a => a.elim0
theorem val_main_call5_v1_apply (i : S3x8192x8x4x32.Idx) :
    val_main_call5_v1 (F := F) i = val_main_call5_v0 (F := F) (idx_main_call5_v1 i) := by
  unfold val_main_call5_v1
  generalize val_main_call5_v0 (F := F) = y
  exact broadcastInDim_apply _ bcast_S_S3x8192x8x4x32 y i (idx_main_call5_v1 i) (fun a => a.elim0)

-- @clip_1's %2 = stablehlo.maximum %1, %arg0 : tensor<3x8192x8x4x32xf32>, in %106 = func.call @clip_1(…) (record main_call5)
def val_main_call5_v2 (x2 : (⟨S3x8192x1024, .bf16⟩ : BufTy).Contents (Elt F)) : (⟨S3x8192x8x4x32, .f32⟩ : BufTy).Contents (Elt F) :=
  maximumf (val_main_call5_v1 (F := F)) (val_main_v105 (F := F) x2)
theorem val_main_call5_v2_apply (x2 : (⟨S3x8192x1024, .bf16⟩ : BufTy).Contents (Elt F)) (i : S3x8192x8x4x32.Idx) :
    val_main_call5_v2 (F := F) x2 i = FloatOps.maximumf (val_main_call5_v1 (F := F) i) (val_main_v105 (F := F) x2 i) := rfl

-- @clip_1's %3 = stablehlo.convert %arg2 : tensor<f32>, in %106 = func.call @clip_1(…) (record main_call5)
def val_main_call5_v3 : (⟨S_, .f32⟩ : BufTy).Contents (Elt F) :=
  id (val_main_cst_32 (F := F))
theorem val_main_call5_v3_apply (i : S_.Idx) :
    val_main_call5_v3 (F := F) i = (val_main_cst_32 (F := F) i) := rfl

-- @clip_1's %4 = stablehlo.broadcast_in_dim %3, dims = [] : (tensor<f32>) -> tensor<3x8192x8x4x32xf32>, in %106 = func.call @clip_1(…) (record main_call5)
def val_main_call5_v4 : (⟨S3x8192x8x4x32, .f32⟩ : BufTy).Contents (Elt F) :=
  broadcastInDim S3x8192x8x4x32 ![] bcast_S_S3x8192x8x4x32 (val_main_call5_v3 (F := F))
abbrev idx_main_call5_v4 (i : S3x8192x8x4x32.Idx) : S_.Idx := fun a => a.elim0
theorem val_main_call5_v4_apply (i : S3x8192x8x4x32.Idx) :
    val_main_call5_v4 (F := F) i = val_main_call5_v3 (F := F) (idx_main_call5_v4 i) := by
  unfold val_main_call5_v4
  generalize val_main_call5_v3 (F := F) = y
  exact broadcastInDim_apply _ bcast_S_S3x8192x8x4x32 y i (idx_main_call5_v4 i) (fun a => a.elim0)

-- %106 = func.call @clip_1(…) (record main_call5) result 0: @clip_1's %5 = stablehlo.minimum %4, %2 : tensor<3x8192x8x4x32xf32>
def val_main_v106 (x2 : (⟨S3x8192x1024, .bf16⟩ : BufTy).Contents (Elt F)) : (⟨S3x8192x8x4x32, .f32⟩ : BufTy).Contents (Elt F) :=
  minimumf (val_main_call5_v4 (F := F)) (val_main_call5_v2 (F := F) x2)
theorem val_main_v106_apply (x2 : (⟨S3x8192x1024, .bf16⟩ : BufTy).Contents (Elt F)) (i : S3x8192x8x4x32.Idx) :
    val_main_v106 (F := F) x2 i = FloatOps.minimumf (val_main_call5_v4 (F := F) i) (val_main_call5_v2 (F := F) x2 i) := rfl

-- %107 = stablehlo.reshape %106 : (tensor<3x8192x8x4x32xf32>) -> tensor<3x8192x8x128xf32>
def val_main_v107 (x2 : (⟨S3x8192x1024, .bf16⟩ : BufTy).Contents (Elt F)) : (⟨S3x8192x8x128, .f32⟩ : BufTy).Contents (Elt F) :=
  shapeCast _ (val_main_v106 (F := F) x2) shapeCasts_S3x8192x8x4x32_S3x8192x8x128
abbrev idx_main_v107 (i : S3x8192x8x128.Idx) : S3x8192x8x4x32.Idx := fun a => match a with
  | ⟨0, _⟩ => ⟨((((i 0).val * 8192 + (i 1).val) * 8 + (i 2).val) * 128 + (i 3).val) / 8388608, by have h0 : (i 0).val < 3 := (i 0).isLt; have h1 : (i 1).val < 8192 := (i 1).isLt; have h2 : (i 2).val < 8 := (i 2).isLt; have h3 : (i 3).val < 128 := (i 3).isLt; show ((((i 0).val * 8192 + (i 1).val) * 8 + (i 2).val) * 128 + (i 3).val) / 8388608 < 3; omega⟩
  | ⟨1, _⟩ => ⟨((((i 0).val * 8192 + (i 1).val) * 8 + (i 2).val) * 128 + (i 3).val) / 1024 % 8192, by have h0 : (i 0).val < 3 := (i 0).isLt; have h1 : (i 1).val < 8192 := (i 1).isLt; have h2 : (i 2).val < 8 := (i 2).isLt; have h3 : (i 3).val < 128 := (i 3).isLt; show ((((i 0).val * 8192 + (i 1).val) * 8 + (i 2).val) * 128 + (i 3).val) / 1024 % 8192 < 8192; omega⟩
  | ⟨2, _⟩ => ⟨((((i 0).val * 8192 + (i 1).val) * 8 + (i 2).val) * 128 + (i 3).val) / 128 % 8, by have h0 : (i 0).val < 3 := (i 0).isLt; have h1 : (i 1).val < 8192 := (i 1).isLt; have h2 : (i 2).val < 8 := (i 2).isLt; have h3 : (i 3).val < 128 := (i 3).isLt; show ((((i 0).val * 8192 + (i 1).val) * 8 + (i 2).val) * 128 + (i 3).val) / 128 % 8 < 8; omega⟩
  | ⟨3, _⟩ => ⟨((((i 0).val * 8192 + (i 1).val) * 8 + (i 2).val) * 128 + (i 3).val) / 32 % 4, by have h0 : (i 0).val < 3 := (i 0).isLt; have h1 : (i 1).val < 8192 := (i 1).isLt; have h2 : (i 2).val < 8 := (i 2).isLt; have h3 : (i 3).val < 128 := (i 3).isLt; show ((((i 0).val * 8192 + (i 1).val) * 8 + (i 2).val) * 128 + (i 3).val) / 32 % 4 < 4; omega⟩
  | ⟨4, _⟩ => ⟨((((i 0).val * 8192 + (i 1).val) * 8 + (i 2).val) * 128 + (i 3).val) % 32, by have h0 : (i 0).val < 3 := (i 0).isLt; have h1 : (i 1).val < 8192 := (i 1).isLt; have h2 : (i 2).val < 8 := (i 2).isLt; have h3 : (i 3).val < 128 := (i 3).isLt; show ((((i 0).val * 8192 + (i 1).val) * 8 + (i 2).val) * 128 + (i 3).val) % 32 < 32; omega⟩
theorem val_main_v107_apply (x2 : (⟨S3x8192x1024, .bf16⟩ : BufTy).Contents (Elt F)) (i : S3x8192x8x128.Idx) :
    val_main_v107 (F := F) x2 i = val_main_v106 (F := F) x2 (idx_main_v107 i) := by
  unfold val_main_v107
  generalize val_main_v106 (F := F) x2 = y
  exact shapeCast_apply y shapeCasts_S3x8192x8x4x32_S3x8192x8x128 i (idx_main_v107 i)
    (by rewrite [Shape.rowMajor_val_five, Shape.rowMajor_val_four]; have h0 : (i 0).val < 3 := (i 0).isLt; have h1 : (i 1).val < 8192 := (i 1).isLt; have h2 : (i 2).val < 8 := (i 2).isLt; have h3 : (i 3).val < 128 := (i 3).isLt; show (((((((i 0).val * 8192 + (i 1).val) * 8 + (i 2).val) * 128 + (i 3).val) / 8388608 * 8192 + ((((i 0).val * 8192 + (i 1).val) * 8 + (i 2).val) * 128 + (i 3).val) / 1024 % 8192) * 8 + ((((i 0).val * 8192 + (i 1).val) * 8 + (i 2).val) * 128 + (i 3).val) / 128 % 8) * 4 + ((((i 0).val * 8192 + (i 1).val) * 8 + (i 2).val) * 128 + (i 3).val) / 32 % 4) * 32 + ((((i 0).val * 8192 + (i 1).val) * 8 + (i 2).val) * 128 + (i 3).val) % 32 = (((i 0).val * 8192 + (i 1).val) * 8 + (i 2).val) * 128 + (i 3).val; omega)

-- %108 = stablehlo.reshape %33 : (tensor<3x8192x32x128xf32>) -> tensor<3x8192x4096xf32>
def val_main_v108 (x0 : (⟨S3x8192x4096, .bf16⟩ : BufTy).Contents (Elt F)) : (⟨S3x8192x4096, .f32⟩ : BufTy).Contents (Elt F) :=
  shapeCast _ (val_main_v33 (F := F) x0) shapeCasts_S3x8192x32x128_S3x8192x4096
abbrev idx_main_v108 (i : S3x8192x4096.Idx) : S3x8192x32x128.Idx := fun a => match a with
  | ⟨0, _⟩ => ⟨(((i 0).val * 8192 + (i 1).val) * 4096 + (i 2).val) / 33554432, by have h0 : (i 0).val < 3 := (i 0).isLt; have h1 : (i 1).val < 8192 := (i 1).isLt; have h2 : (i 2).val < 4096 := (i 2).isLt; show (((i 0).val * 8192 + (i 1).val) * 4096 + (i 2).val) / 33554432 < 3; omega⟩
  | ⟨1, _⟩ => ⟨(((i 0).val * 8192 + (i 1).val) * 4096 + (i 2).val) / 4096 % 8192, by have h0 : (i 0).val < 3 := (i 0).isLt; have h1 : (i 1).val < 8192 := (i 1).isLt; have h2 : (i 2).val < 4096 := (i 2).isLt; show (((i 0).val * 8192 + (i 1).val) * 4096 + (i 2).val) / 4096 % 8192 < 8192; omega⟩
  | ⟨2, _⟩ => ⟨(((i 0).val * 8192 + (i 1).val) * 4096 + (i 2).val) / 128 % 32, by have h0 : (i 0).val < 3 := (i 0).isLt; have h1 : (i 1).val < 8192 := (i 1).isLt; have h2 : (i 2).val < 4096 := (i 2).isLt; show (((i 0).val * 8192 + (i 1).val) * 4096 + (i 2).val) / 128 % 32 < 32; omega⟩
  | ⟨3, _⟩ => ⟨(((i 0).val * 8192 + (i 1).val) * 4096 + (i 2).val) % 128, by have h0 : (i 0).val < 3 := (i 0).isLt; have h1 : (i 1).val < 8192 := (i 1).isLt; have h2 : (i 2).val < 4096 := (i 2).isLt; show (((i 0).val * 8192 + (i 1).val) * 4096 + (i 2).val) % 128 < 128; omega⟩
theorem val_main_v108_apply (x0 : (⟨S3x8192x4096, .bf16⟩ : BufTy).Contents (Elt F)) (i : S3x8192x4096.Idx) :
    val_main_v108 (F := F) x0 i = val_main_v33 (F := F) x0 (idx_main_v108 i) := by
  unfold val_main_v108
  generalize val_main_v33 (F := F) x0 = y
  exact shapeCast_apply y shapeCasts_S3x8192x32x128_S3x8192x4096 i (idx_main_v108 i)
    (by rewrite [Shape.rowMajor_val_four, Shape.rowMajor_val_three]; have h0 : (i 0).val < 3 := (i 0).isLt; have h1 : (i 1).val < 8192 := (i 1).isLt; have h2 : (i 2).val < 4096 := (i 2).isLt; show (((((i 0).val * 8192 + (i 1).val) * 4096 + (i 2).val) / 33554432 * 8192 + (((i 0).val * 8192 + (i 1).val) * 4096 + (i 2).val) / 4096 % 8192) * 32 + (((i 0).val * 8192 + (i 1).val) * 4096 + (i 2).val) / 128 % 32) * 128 + (((i 0).val * 8192 + (i 1).val) * 4096 + (i 2).val) % 128 = ((i 0).val * 8192 + (i 1).val) * 4096 + (i 2).val; omega)

-- %109 = stablehlo.reshape %73 : (tensor<3x8192x8x128xf32>) -> tensor<3x8192x1024xf32>
def val_main_v109 (x1 : (⟨S3x8192x1024, .bf16⟩ : BufTy).Contents (Elt F)) : (⟨S3x8192x1024, .f32⟩ : BufTy).Contents (Elt F) :=
  shapeCast _ (val_main_v73 (F := F) x1) shapeCasts_S3x8192x8x128_S3x8192x1024
abbrev idx_main_v109 (i : S3x8192x1024.Idx) : S3x8192x8x128.Idx := fun a => match a with
  | ⟨0, _⟩ => ⟨(((i 0).val * 8192 + (i 1).val) * 1024 + (i 2).val) / 8388608, by have h0 : (i 0).val < 3 := (i 0).isLt; have h1 : (i 1).val < 8192 := (i 1).isLt; have h2 : (i 2).val < 1024 := (i 2).isLt; show (((i 0).val * 8192 + (i 1).val) * 1024 + (i 2).val) / 8388608 < 3; omega⟩
  | ⟨1, _⟩ => ⟨(((i 0).val * 8192 + (i 1).val) * 1024 + (i 2).val) / 1024 % 8192, by have h0 : (i 0).val < 3 := (i 0).isLt; have h1 : (i 1).val < 8192 := (i 1).isLt; have h2 : (i 2).val < 1024 := (i 2).isLt; show (((i 0).val * 8192 + (i 1).val) * 1024 + (i 2).val) / 1024 % 8192 < 8192; omega⟩
  | ⟨2, _⟩ => ⟨(((i 0).val * 8192 + (i 1).val) * 1024 + (i 2).val) / 128 % 8, by have h0 : (i 0).val < 3 := (i 0).isLt; have h1 : (i 1).val < 8192 := (i 1).isLt; have h2 : (i 2).val < 1024 := (i 2).isLt; show (((i 0).val * 8192 + (i 1).val) * 1024 + (i 2).val) / 128 % 8 < 8; omega⟩
  | ⟨3, _⟩ => ⟨(((i 0).val * 8192 + (i 1).val) * 1024 + (i 2).val) % 128, by have h0 : (i 0).val < 3 := (i 0).isLt; have h1 : (i 1).val < 8192 := (i 1).isLt; have h2 : (i 2).val < 1024 := (i 2).isLt; show (((i 0).val * 8192 + (i 1).val) * 1024 + (i 2).val) % 128 < 128; omega⟩
theorem val_main_v109_apply (x1 : (⟨S3x8192x1024, .bf16⟩ : BufTy).Contents (Elt F)) (i : S3x8192x1024.Idx) :
    val_main_v109 (F := F) x1 i = val_main_v73 (F := F) x1 (idx_main_v109 i) := by
  unfold val_main_v109
  generalize val_main_v73 (F := F) x1 = y
  exact shapeCast_apply y shapeCasts_S3x8192x8x128_S3x8192x1024 i (idx_main_v109 i)
    (by rewrite [Shape.rowMajor_val_four, Shape.rowMajor_val_three]; have h0 : (i 0).val < 3 := (i 0).isLt; have h1 : (i 1).val < 8192 := (i 1).isLt; have h2 : (i 2).val < 1024 := (i 2).isLt; show (((((i 0).val * 8192 + (i 1).val) * 1024 + (i 2).val) / 8388608 * 8192 + (((i 0).val * 8192 + (i 1).val) * 1024 + (i 2).val) / 1024 % 8192) * 8 + (((i 0).val * 8192 + (i 1).val) * 1024 + (i 2).val) / 128 % 8) * 128 + (((i 0).val * 8192 + (i 1).val) * 1024 + (i 2).val) % 128 = ((i 0).val * 8192 + (i 1).val) * 1024 + (i 2).val; omega)

-- %110 = stablehlo.reshape %107 : (tensor<3x8192x8x128xf32>) -> tensor<3x8192x1024xf32>
def val_main_v110 (x2 : (⟨S3x8192x1024, .bf16⟩ : BufTy).Contents (Elt F)) : (⟨S3x8192x1024, .f32⟩ : BufTy).Contents (Elt F) :=
  shapeCast _ (val_main_v107 (F := F) x2) shapeCasts_S3x8192x8x128_S3x8192x1024
abbrev idx_main_v110 (i : S3x8192x1024.Idx) : S3x8192x8x128.Idx := fun a => match a with
  | ⟨0, _⟩ => ⟨(((i 0).val * 8192 + (i 1).val) * 1024 + (i 2).val) / 8388608, by have h0 : (i 0).val < 3 := (i 0).isLt; have h1 : (i 1).val < 8192 := (i 1).isLt; have h2 : (i 2).val < 1024 := (i 2).isLt; show (((i 0).val * 8192 + (i 1).val) * 1024 + (i 2).val) / 8388608 < 3; omega⟩
  | ⟨1, _⟩ => ⟨(((i 0).val * 8192 + (i 1).val) * 1024 + (i 2).val) / 1024 % 8192, by have h0 : (i 0).val < 3 := (i 0).isLt; have h1 : (i 1).val < 8192 := (i 1).isLt; have h2 : (i 2).val < 1024 := (i 2).isLt; show (((i 0).val * 8192 + (i 1).val) * 1024 + (i 2).val) / 1024 % 8192 < 8192; omega⟩
  | ⟨2, _⟩ => ⟨(((i 0).val * 8192 + (i 1).val) * 1024 + (i 2).val) / 128 % 8, by have h0 : (i 0).val < 3 := (i 0).isLt; have h1 : (i 1).val < 8192 := (i 1).isLt; have h2 : (i 2).val < 1024 := (i 2).isLt; show (((i 0).val * 8192 + (i 1).val) * 1024 + (i 2).val) / 128 % 8 < 8; omega⟩
  | ⟨3, _⟩ => ⟨(((i 0).val * 8192 + (i 1).val) * 1024 + (i 2).val) % 128, by have h0 : (i 0).val < 3 := (i 0).isLt; have h1 : (i 1).val < 8192 := (i 1).isLt; have h2 : (i 2).val < 1024 := (i 2).isLt; show (((i 0).val * 8192 + (i 1).val) * 1024 + (i 2).val) % 128 < 128; omega⟩
theorem val_main_v110_apply (x2 : (⟨S3x8192x1024, .bf16⟩ : BufTy).Contents (Elt F)) (i : S3x8192x1024.Idx) :
    val_main_v110 (F := F) x2 i = val_main_v107 (F := F) x2 (idx_main_v110 i) := by
  unfold val_main_v110
  generalize val_main_v107 (F := F) x2 = y
  exact shapeCast_apply y shapeCasts_S3x8192x8x128_S3x8192x1024 i (idx_main_v110 i)
    (by rewrite [Shape.rowMajor_val_four, Shape.rowMajor_val_three]; have h0 : (i 0).val < 3 := (i 0).isLt; have h1 : (i 1).val < 8192 := (i 1).isLt; have h2 : (i 2).val < 1024 := (i 2).isLt; show (((((i 0).val * 8192 + (i 1).val) * 1024 + (i 2).val) / 8388608 * 8192 + (((i 0).val * 8192 + (i 1).val) * 1024 + (i 2).val) / 1024 % 8192) * 8 + (((i 0).val * 8192 + (i 1).val) * 1024 + (i 2).val) / 128 % 8) * 128 + (((i 0).val * 8192 + (i 1).val) * 1024 + (i 2).val) % 128 = ((i 0).val * 8192 + (i 1).val) * 1024 + (i 2).val; omega)

/-- The term the Run module states for `main_v108` is the stage. -/
theorem val_main_v108_eq (x0 : (⟨S3x8192x4096, .bf16⟩ : BufTy).Contents (Elt F)) :
    shapeCast _ (shapeCast _ (minimumf (broadcastInDim S3x8192x32x4x32 ![] bcast_S_S3x8192x32x4x32 (id (constant S_ .f32 0x43E00000#32))) (maximumf (broadcastInDim S3x8192x32x4x32 ![] bcast_S_S3x8192x32x4x32 (id (constant S_ .f32 0xC3E00000#32))) (mulf (shapeCast _ (shapeCast _ (extf .f32 (x0) bitsLt_bf16_f32) shapeCasts_S3x8192x4096_S3x8192x32x128) shapeCasts_S3x8192x32x128_S3x8192x32x4x32) (broadcastInDim S3x8192x32x4x32 ![0, 1, 2, 3, 4] bcast_S3x8192x32x4x1_S3x8192x32x4x32_0_1_2_3_4 (broadcastInDim S3x8192x32x4x1 ![0, 1, 2, 3] bcast_S3x8192x32x4_S3x8192x32x4x1_0_1_2_3 (Host.powf (broadcastInDim S3x8192x32x4 ![] bcast_S_S3x8192x32x4 (constant S_ .f32 0x40000000#32)) (sitofp .f32 (negi (select (cmpf .oeq (Host.divf (Host.reduce FloatOps.maximumf (Host.absf (shapeCast _ (shapeCast _ (extf .f32 (x0) bitsLt_bf16_f32) shapeCasts_S3x8192x4096_S3x8192x32x128) shapeCasts_S3x8192x32x128_S3x8192x32x4x32)) (constant S_ .f32 0xFF800000#32) reducesTo_S3x8192x32x4x32_S3x8192x32x4_d4 h_S_) (broadcastInDim S3x8192x32x4 ![] bcast_S_S3x8192x32x4 (constant S_ .f32 0x43E00000#32))) (broadcastInDim S3x8192x32x4 ![] bcast_S_S3x8192x32x4 (constant S_ .f32 0x00000000#32))) (broadcastInDim S3x8192x32x4 ![] bcast_S_S3x8192x32x4 (id (constantI S_ 32 0#32))) (subi (Host.reduce IntOp.addi (extui 32 (cmpf .oge (broadcastInDim S3x8192x32x4x254 ![0, 1, 2, 3, 4] bcast_S3x8192x32x4x1_S3x8192x32x4x254_0_1_2_3_4 (broadcastInDim S3x8192x32x4x1 ![0, 1, 2, 3] bcast_S3x8192x32x4_S3x8192x32x4x1_0_1_2_3 (Host.divf (Host.reduce FloatOps.maximumf (Host.absf (shapeCast _ (shapeCast _ (extf .f32 (x0) bitsLt_bf16_f32) shapeCasts_S3x8192x4096_S3x8192x32x128) shapeCasts_S3x8192x32x128_S3x8192x32x4x32)) (constant S_ .f32 0xFF800000#32) reducesTo_S3x8192x32x4x32_S3x8192x32x4_d4 h_S_) (broadcastInDim S3x8192x32x4 ![] bcast_S_S3x8192x32x4 (constant S_ .f32 0x43E00000#32))))) (broadcastInDim S3x8192x32x4x254 ![0, 1, 2, 3, 4] bcast_S1x1x1x1x254_S3x8192x32x4x254_0_1_2_3_4 (broadcastInDim S1x1x1x1x254 ![4] bcast_S254_S1x1x1x1x254_4 (Host.powf (broadcastInDim S254 ![] bcast_S_S254 (constant S_ .f32 0x40000000#32)) (subf (sitofp .f32 (iotaInDim S254 32 0)) (broadcastInDim S254 ![] bcast_S_S254 (constant S_ .f32 0x42FC0000#32))))))) natLt_1_32) (constantI S_ 32 0#32) reducesTo_S3x8192x32x4x254_S3x8192x32x4_d4 h_S_) (broadcastInDim S3x8192x32x4 ![] bcast_S_S3x8192x32x4 (constantI S_ 32 126#32)))))))))))) shapeCasts_S3x8192x32x4x32_S3x8192x32x128) shapeCasts_S3x8192x32x128_S3x8192x4096
      = val_main_v108 (F := F) x0 := rfl

/-- The term the Run module states for `main_v109` is the stage. -/
theorem val_main_v109_eq (x1 : (⟨S3x8192x1024, .bf16⟩ : BufTy).Contents (Elt F)) :
    shapeCast _ (shapeCast _ (minimumf (broadcastInDim S3x8192x8x4x32 ![] bcast_S_S3x8192x8x4x32 (id (constant S_ .f32 0x43E00000#32))) (maximumf (broadcastInDim S3x8192x8x4x32 ![] bcast_S_S3x8192x8x4x32 (id (constant S_ .f32 0xC3E00000#32))) (mulf (shapeCast _ (subf (shapeCast _ (extf .f32 (x1) bitsLt_bf16_f32) shapeCasts_S3x8192x1024_S3x8192x8x128) (broadcastInDim S3x8192x8x128 ![0, 1, 2, 3] bcast_S3x1x8x128_S3x8192x8x128_0_1_2_3 (Host.divf (broadcastInDim S3x1x8x128 ![0, 2, 3] bcast_S3x8x128_S3x1x8x128_0_2_3 (Host.reduceAdd (shapeCast _ (extf .f32 (x1) bitsLt_bf16_f32) shapeCasts_S3x8192x1024_S3x8192x8x128) (constant S_ .f32 0x00000000#32) reducesTo_S3x8192x8x128_S3x8x128_d1 h_S_)) (broadcastInDim S3x1x8x128 ![] bcast_S_S3x1x8x128 (constant S_ .f32 0x46000000#32))))) shapeCasts_S3x8192x8x128_S3x8192x8x4x32) (broadcastInDim S3x8192x8x4x32 ![0, 1, 2, 3, 4] bcast_S3x8192x8x4x1_S3x8192x8x4x32_0_1_2_3_4 (broadcastInDim S3x8192x8x4x1 ![0, 1, 2, 3] bcast_S3x8192x8x4_S3x8192x8x4x1_0_1_2_3 (Host.powf (broadcastInDim S3x8192x8x4 ![] bcast_S_S3x8192x8x4 (constant S_ .f32 0x40000000#32)) (sitofp .f32 (negi (select (cmpf .oeq (Host.divf (Host.reduce FloatOps.maximumf (Host.absf (shapeCast _ (subf (shapeCast _ (extf .f32 (x1) bitsLt_bf16_f32) shapeCasts_S3x8192x1024_S3x8192x8x128) (broadcastInDim S3x8192x8x128 ![0, 1, 2, 3] bcast_S3x1x8x128_S3x8192x8x128_0_1_2_3 (Host.divf (broadcastInDim S3x1x8x128 ![0, 2, 3] bcast_S3x8x128_S3x1x8x128_0_2_3 (Host.reduceAdd (shapeCast _ (extf .f32 (x1) bitsLt_bf16_f32) shapeCasts_S3x8192x1024_S3x8192x8x128) (constant S_ .f32 0x00000000#32) reducesTo_S3x8192x8x128_S3x8x128_d1 h_S_)) (broadcastInDim S3x1x8x128 ![] bcast_S_S3x1x8x128 (constant S_ .f32 0x46000000#32))))) shapeCasts_S3x8192x8x128_S3x8192x8x4x32)) (constant S_ .f32 0xFF800000#32) reducesTo_S3x8192x8x4x32_S3x8192x8x4_d4 h_S_) (broadcastInDim S3x8192x8x4 ![] bcast_S_S3x8192x8x4 (constant S_ .f32 0x43E00000#32))) (broadcastInDim S3x8192x8x4 ![] bcast_S_S3x8192x8x4 (constant S_ .f32 0x00000000#32))) (broadcastInDim S3x8192x8x4 ![] bcast_S_S3x8192x8x4 (id (constantI S_ 32 0#32))) (subi (Host.reduce IntOp.addi (extui 32 (cmpf .oge (broadcastInDim S3x8192x8x4x254 ![0, 1, 2, 3, 4] bcast_S3x8192x8x4x1_S3x8192x8x4x254_0_1_2_3_4 (broadcastInDim S3x8192x8x4x1 ![0, 1, 2, 3] bcast_S3x8192x8x4_S3x8192x8x4x1_0_1_2_3 (Host.divf (Host.reduce FloatOps.maximumf (Host.absf (shapeCast _ (subf (shapeCast _ (extf .f32 (x1) bitsLt_bf16_f32) shapeCasts_S3x8192x1024_S3x8192x8x128) (broadcastInDim S3x8192x8x128 ![0, 1, 2, 3] bcast_S3x1x8x128_S3x8192x8x128_0_1_2_3 (Host.divf (broadcastInDim S3x1x8x128 ![0, 2, 3] bcast_S3x8x128_S3x1x8x128_0_2_3 (Host.reduceAdd (shapeCast _ (extf .f32 (x1) bitsLt_bf16_f32) shapeCasts_S3x8192x1024_S3x8192x8x128) (constant S_ .f32 0x00000000#32) reducesTo_S3x8192x8x128_S3x8x128_d1 h_S_)) (broadcastInDim S3x1x8x128 ![] bcast_S_S3x1x8x128 (constant S_ .f32 0x46000000#32))))) shapeCasts_S3x8192x8x128_S3x8192x8x4x32)) (constant S_ .f32 0xFF800000#32) reducesTo_S3x8192x8x4x32_S3x8192x8x4_d4 h_S_) (broadcastInDim S3x8192x8x4 ![] bcast_S_S3x8192x8x4 (constant S_ .f32 0x43E00000#32))))) (broadcastInDim S3x8192x8x4x254 ![0, 1, 2, 3, 4] bcast_S1x1x1x1x254_S3x8192x8x4x254_0_1_2_3_4 (broadcastInDim S1x1x1x1x254 ![4] bcast_S254_S1x1x1x1x254_4 (Host.powf (broadcastInDim S254 ![] bcast_S_S254 (constant S_ .f32 0x40000000#32)) (subf (sitofp .f32 (iotaInDim S254 32 0)) (broadcastInDim S254 ![] bcast_S_S254 (constant S_ .f32 0x42FC0000#32))))))) natLt_1_32) (constantI S_ 32 0#32) reducesTo_S3x8192x8x4x254_S3x8192x8x4_d4 h_S_) (broadcastInDim S3x8192x8x4 ![] bcast_S_S3x8192x8x4 (constantI S_ 32 126#32)))))))))))) shapeCasts_S3x8192x8x4x32_S3x8192x8x128) shapeCasts_S3x8192x8x128_S3x8192x1024
      = val_main_v109 (F := F) x1 := rfl

/-- The term the Run module states for `main_v110` is the stage. -/
theorem val_main_v110_eq (x2 : (⟨S3x8192x1024, .bf16⟩ : BufTy).Contents (Elt F)) :
    shapeCast _ (shapeCast _ (minimumf (broadcastInDim S3x8192x8x4x32 ![] bcast_S_S3x8192x8x4x32 (id (constant S_ .f32 0x43E00000#32))) (maximumf (broadcastInDim S3x8192x8x4x32 ![] bcast_S_S3x8192x8x4x32 (id (constant S_ .f32 0xC3E00000#32))) (mulf (shapeCast _ (shapeCast _ (extf .f32 (x2) bitsLt_bf16_f32) shapeCasts_S3x8192x1024_S3x8192x8x128) shapeCasts_S3x8192x8x128_S3x8192x8x4x32) (broadcastInDim S3x8192x8x4x32 ![0, 1, 2, 3, 4] bcast_S3x8192x8x4x1_S3x8192x8x4x32_0_1_2_3_4 (broadcastInDim S3x8192x8x4x1 ![0, 1, 2, 3] bcast_S3x8192x8x4_S3x8192x8x4x1_0_1_2_3 (Host.powf (broadcastInDim S3x8192x8x4 ![] bcast_S_S3x8192x8x4 (constant S_ .f32 0x40000000#32)) (sitofp .f32 (negi (select (cmpf .oeq (Host.divf (Host.reduce FloatOps.maximumf (Host.absf (shapeCast _ (shapeCast _ (extf .f32 (x2) bitsLt_bf16_f32) shapeCasts_S3x8192x1024_S3x8192x8x128) shapeCasts_S3x8192x8x128_S3x8192x8x4x32)) (constant S_ .f32 0xFF800000#32) reducesTo_S3x8192x8x4x32_S3x8192x8x4_d4 h_S_) (broadcastInDim S3x8192x8x4 ![] bcast_S_S3x8192x8x4 (constant S_ .f32 0x43E00000#32))) (broadcastInDim S3x8192x8x4 ![] bcast_S_S3x8192x8x4 (constant S_ .f32 0x00000000#32))) (broadcastInDim S3x8192x8x4 ![] bcast_S_S3x8192x8x4 (id (constantI S_ 32 0#32))) (subi (Host.reduce IntOp.addi (extui 32 (cmpf .oge (broadcastInDim S3x8192x8x4x254 ![0, 1, 2, 3, 4] bcast_S3x8192x8x4x1_S3x8192x8x4x254_0_1_2_3_4 (broadcastInDim S3x8192x8x4x1 ![0, 1, 2, 3] bcast_S3x8192x8x4_S3x8192x8x4x1_0_1_2_3 (Host.divf (Host.reduce FloatOps.maximumf (Host.absf (shapeCast _ (shapeCast _ (extf .f32 (x2) bitsLt_bf16_f32) shapeCasts_S3x8192x1024_S3x8192x8x128) shapeCasts_S3x8192x8x128_S3x8192x8x4x32)) (constant S_ .f32 0xFF800000#32) reducesTo_S3x8192x8x4x32_S3x8192x8x4_d4 h_S_) (broadcastInDim S3x8192x8x4 ![] bcast_S_S3x8192x8x4 (constant S_ .f32 0x43E00000#32))))) (broadcastInDim S3x8192x8x4x254 ![0, 1, 2, 3, 4] bcast_S1x1x1x1x254_S3x8192x8x4x254_0_1_2_3_4 (broadcastInDim S1x1x1x1x254 ![4] bcast_S254_S1x1x1x1x254_4 (Host.powf (broadcastInDim S254 ![] bcast_S_S254 (constant S_ .f32 0x40000000#32)) (subf (sitofp .f32 (iotaInDim S254 32 0)) (broadcastInDim S254 ![] bcast_S_S254 (constant S_ .f32 0x42FC0000#32))))))) natLt_1_32) (constantI S_ 32 0#32) reducesTo_S3x8192x8x4x254_S3x8192x8x4_d4 h_S_) (broadcastInDim S3x8192x8x4 ![] bcast_S_S3x8192x8x4 (constantI S_ 32 126#32)))))))))))) shapeCasts_S3x8192x8x4x32_S3x8192x8x128) shapeCasts_S3x8192x8x128_S3x8192x1024
      = val_main_v110 (F := F) x2 := rfl

/-- The term the Run module states for `main_v24` is the stage. -/
theorem val_main_v24_eq (x0 : (⟨S3x8192x4096, .bf16⟩ : BufTy).Contents (Elt F)) :
    select (cmpf .oeq (Host.divf (Host.reduce FloatOps.maximumf (Host.absf (shapeCast _ (shapeCast _ (extf .f32 (x0) bitsLt_bf16_f32) shapeCasts_S3x8192x4096_S3x8192x32x128) shapeCasts_S3x8192x32x128_S3x8192x32x4x32)) (constant S_ .f32 0xFF800000#32) reducesTo_S3x8192x32x4x32_S3x8192x32x4_d4 h_S_) (broadcastInDim S3x8192x32x4 ![] bcast_S_S3x8192x32x4 (constant S_ .f32 0x43E00000#32))) (broadcastInDim S3x8192x32x4 ![] bcast_S_S3x8192x32x4 (constant S_ .f32 0x00000000#32))) (broadcastInDim S3x8192x32x4 ![] bcast_S_S3x8192x32x4 (id (constantI S_ 32 0#32))) (subi (Host.reduce IntOp.addi (extui 32 (cmpf .oge (broadcastInDim S3x8192x32x4x254 ![0, 1, 2, 3, 4] bcast_S3x8192x32x4x1_S3x8192x32x4x254_0_1_2_3_4 (broadcastInDim S3x8192x32x4x1 ![0, 1, 2, 3] bcast_S3x8192x32x4_S3x8192x32x4x1_0_1_2_3 (Host.divf (Host.reduce FloatOps.maximumf (Host.absf (shapeCast _ (shapeCast _ (extf .f32 (x0) bitsLt_bf16_f32) shapeCasts_S3x8192x4096_S3x8192x32x128) shapeCasts_S3x8192x32x128_S3x8192x32x4x32)) (constant S_ .f32 0xFF800000#32) reducesTo_S3x8192x32x4x32_S3x8192x32x4_d4 h_S_) (broadcastInDim S3x8192x32x4 ![] bcast_S_S3x8192x32x4 (constant S_ .f32 0x43E00000#32))))) (broadcastInDim S3x8192x32x4x254 ![0, 1, 2, 3, 4] bcast_S1x1x1x1x254_S3x8192x32x4x254_0_1_2_3_4 (broadcastInDim S1x1x1x1x254 ![4] bcast_S254_S1x1x1x1x254_4 (Host.powf (broadcastInDim S254 ![] bcast_S_S254 (constant S_ .f32 0x40000000#32)) (subf (sitofp .f32 (iotaInDim S254 32 0)) (broadcastInDim S254 ![] bcast_S_S254 (constant S_ .f32 0x42FC0000#32))))))) natLt_1_32) (constantI S_ 32 0#32) reducesTo_S3x8192x32x4x254_S3x8192x32x4_d4 h_S_) (broadcastInDim S3x8192x32x4 ![] bcast_S_S3x8192x32x4 (constantI S_ 32 126#32)))
      = val_main_v24 (F := F) x0 := rfl

/-- The term the Run module states for `main_v64` is the stage. -/
theorem val_main_v64_eq (x1 : (⟨S3x8192x1024, .bf16⟩ : BufTy).Contents (Elt F)) :
    select (cmpf .oeq (Host.divf (Host.reduce FloatOps.maximumf (Host.absf (shapeCast _ (subf (shapeCast _ (extf .f32 (x1) bitsLt_bf16_f32) shapeCasts_S3x8192x1024_S3x8192x8x128) (broadcastInDim S3x8192x8x128 ![0, 1, 2, 3] bcast_S3x1x8x128_S3x8192x8x128_0_1_2_3 (Host.divf (broadcastInDim S3x1x8x128 ![0, 2, 3] bcast_S3x8x128_S3x1x8x128_0_2_3 (Host.reduceAdd (shapeCast _ (extf .f32 (x1) bitsLt_bf16_f32) shapeCasts_S3x8192x1024_S3x8192x8x128) (constant S_ .f32 0x00000000#32) reducesTo_S3x8192x8x128_S3x8x128_d1 h_S_)) (broadcastInDim S3x1x8x128 ![] bcast_S_S3x1x8x128 (constant S_ .f32 0x46000000#32))))) shapeCasts_S3x8192x8x128_S3x8192x8x4x32)) (constant S_ .f32 0xFF800000#32) reducesTo_S3x8192x8x4x32_S3x8192x8x4_d4 h_S_) (broadcastInDim S3x8192x8x4 ![] bcast_S_S3x8192x8x4 (constant S_ .f32 0x43E00000#32))) (broadcastInDim S3x8192x8x4 ![] bcast_S_S3x8192x8x4 (constant S_ .f32 0x00000000#32))) (broadcastInDim S3x8192x8x4 ![] bcast_S_S3x8192x8x4 (id (constantI S_ 32 0#32))) (subi (Host.reduce IntOp.addi (extui 32 (cmpf .oge (broadcastInDim S3x8192x8x4x254 ![0, 1, 2, 3, 4] bcast_S3x8192x8x4x1_S3x8192x8x4x254_0_1_2_3_4 (broadcastInDim S3x8192x8x4x1 ![0, 1, 2, 3] bcast_S3x8192x8x4_S3x8192x8x4x1_0_1_2_3 (Host.divf (Host.reduce FloatOps.maximumf (Host.absf (shapeCast _ (subf (shapeCast _ (extf .f32 (x1) bitsLt_bf16_f32) shapeCasts_S3x8192x1024_S3x8192x8x128) (broadcastInDim S3x8192x8x128 ![0, 1, 2, 3] bcast_S3x1x8x128_S3x8192x8x128_0_1_2_3 (Host.divf (broadcastInDim S3x1x8x128 ![0, 2, 3] bcast_S3x8x128_S3x1x8x128_0_2_3 (Host.reduceAdd (shapeCast _ (extf .f32 (x1) bitsLt_bf16_f32) shapeCasts_S3x8192x1024_S3x8192x8x128) (constant S_ .f32 0x00000000#32) reducesTo_S3x8192x8x128_S3x8x128_d1 h_S_)) (broadcastInDim S3x1x8x128 ![] bcast_S_S3x1x8x128 (constant S_ .f32 0x46000000#32))))) shapeCasts_S3x8192x8x128_S3x8192x8x4x32)) (constant S_ .f32 0xFF800000#32) reducesTo_S3x8192x8x4x32_S3x8192x8x4_d4 h_S_) (broadcastInDim S3x8192x8x4 ![] bcast_S_S3x8192x8x4 (constant S_ .f32 0x43E00000#32))))) (broadcastInDim S3x8192x8x4x254 ![0, 1, 2, 3, 4] bcast_S1x1x1x1x254_S3x8192x8x4x254_0_1_2_3_4 (broadcastInDim S1x1x1x1x254 ![4] bcast_S254_S1x1x1x1x254_4 (Host.powf (broadcastInDim S254 ![] bcast_S_S254 (constant S_ .f32 0x40000000#32)) (subf (sitofp .f32 (iotaInDim S254 32 0)) (broadcastInDim S254 ![] bcast_S_S254 (constant S_ .f32 0x42FC0000#32))))))) natLt_1_32) (constantI S_ 32 0#32) reducesTo_S3x8192x8x4x254_S3x8192x8x4_d4 h_S_) (broadcastInDim S3x8192x8x4 ![] bcast_S_S3x8192x8x4 (constantI S_ 32 126#32)))
      = val_main_v64 (F := F) x1 := rfl

/-- The term the Run module states for `main_v98` is the stage. -/
theorem val_main_v98_eq (x2 : (⟨S3x8192x1024, .bf16⟩ : BufTy).Contents (Elt F)) :
    select (cmpf .oeq (Host.divf (Host.reduce FloatOps.maximumf (Host.absf (shapeCast _ (shapeCast _ (extf .f32 (x2) bitsLt_bf16_f32) shapeCasts_S3x8192x1024_S3x8192x8x128) shapeCasts_S3x8192x8x128_S3x8192x8x4x32)) (constant S_ .f32 0xFF800000#32) reducesTo_S3x8192x8x4x32_S3x8192x8x4_d4 h_S_) (broadcastInDim S3x8192x8x4 ![] bcast_S_S3x8192x8x4 (constant S_ .f32 0x43E00000#32))) (broadcastInDim S3x8192x8x4 ![] bcast_S_S3x8192x8x4 (constant S_ .f32 0x00000000#32))) (broadcastInDim S3x8192x8x4 ![] bcast_S_S3x8192x8x4 (id (constantI S_ 32 0#32))) (subi (Host.reduce IntOp.addi (extui 32 (cmpf .oge (broadcastInDim S3x8192x8x4x254 ![0, 1, 2, 3, 4] bcast_S3x8192x8x4x1_S3x8192x8x4x254_0_1_2_3_4 (broadcastInDim S3x8192x8x4x1 ![0, 1, 2, 3] bcast_S3x8192x8x4_S3x8192x8x4x1_0_1_2_3 (Host.divf (Host.reduce FloatOps.maximumf (Host.absf (shapeCast _ (shapeCast _ (extf .f32 (x2) bitsLt_bf16_f32) shapeCasts_S3x8192x1024_S3x8192x8x128) shapeCasts_S3x8192x8x128_S3x8192x8x4x32)) (constant S_ .f32 0xFF800000#32) reducesTo_S3x8192x8x4x32_S3x8192x8x4_d4 h_S_) (broadcastInDim S3x8192x8x4 ![] bcast_S_S3x8192x8x4 (constant S_ .f32 0x43E00000#32))))) (broadcastInDim S3x8192x8x4x254 ![0, 1, 2, 3, 4] bcast_S1x1x1x1x254_S3x8192x8x4x254_0_1_2_3_4 (broadcastInDim S1x1x1x1x254 ![4] bcast_S254_S1x1x1x1x254_4 (Host.powf (broadcastInDim S254 ![] bcast_S_S254 (constant S_ .f32 0x40000000#32)) (subf (sitofp .f32 (iotaInDim S254 32 0)) (broadcastInDim S254 ![] bcast_S_S254 (constant S_ .f32 0x42FC0000#32))))))) natLt_1_32) (constantI S_ 32 0#32) reducesTo_S3x8192x8x4x254_S3x8192x8x4_d4 h_S_) (broadcastInDim S3x8192x8x4 ![] bcast_S_S3x8192x8x4 (constantI S_ 32 126#32)))
      = val_main_v98 (F := F) x2 := rfl

end Cert.ReferenceIdeal.Pre

end
-- ==== Proof.Ref.Quant.lean ====
/- The reference's codes and exponents, one element at a time: each group's code and exponent as Cert.Quant states them. -/
module

public import proofs.«01_k».proof.Proof.Ref.PrefixRead
public import proofs.«01_k».proof.Proof.Val.RefMath
public import proofs.«01_k».proof.Proof.Val.Arr
public import Idealize.ShloMosaic.Lib.Pointwise

@[expose] public section

set_option maxRecDepth 16384

noncomputable section

namespace Cert.ReferenceIdeal.Val

open Cert.ReferenceIdeal Cert.ReferenceIdeal.Gen Idealize.ShloMosaic Idealize.SL.Sem Cert.Quant Cert.ReferenceIdeal.Pre
open Cert.ReferenceIdeal.Facts

/-! ## `q` -/

theorem q_abs (x : FVec Ideal S3x8192x4096 .bf16) (b : Fin 3) (s : Fin 8192) (h : Fin 32) (g : Fin 4) (k : Fin 32) :
    val_main_v3 (F := Ideal) x (ix5 b s h g k) = max (QG x b s ⟨h.val * 4 + g.val, by omega⟩ k) (-QG x b s ⟨h.val * 4 + g.val, by omega⟩ k) := by
  pointwise [val_main_v3, val_main_v2, val_main_v1, val_main_v0]
  have e : (⟨h.val * 128 + g.val * 32 + k.val, by omega⟩ : Fin 4096) = ⟨(h.val * 4 + g.val) * 32 + k.val, by omega⟩ :=
    Fin.ext (by show h.val * 128 + g.val * 32 + k.val = (h.val * 4 + g.val) * 32 + k.val; omega)
  simp only [QG, ← e]
  rfl
attribute [local irreducible] val_main_v3
theorem q_amax (x : FVec Ideal S3x8192x4096 .bf16) (b : Fin 3) (s : Fin 8192) (h : Fin 32) (g : Fin 4) :
    val_main_v6 (F := Ideal) x (ix4 b s h g) = amax (QG x b s ⟨h.val * 4 + g.val, by omega⟩) := by
  pointwise [val_main_v6, val_main_v5, val_main_v4, val_main_cst, val_main_cst_0]
  rw [← ramax_eq]
  unfold ramax
  simp only [q_abs]
attribute [local irreducible] val_main_v6
theorem q_ind (x : FVec Ideal S3x8192x4096 .bf16) (b : Fin 3) (s : Fin 8192) (h : Fin 32) (g : Fin 4) (k : Fin 254) :
    val_main_v18 (F := Ideal) x (ix5 b s h g k) = (ind (amax (QG x b s ⟨h.val * 4 + g.val, by omega⟩)) k).setWidth 32 := by
  pointwise [val_main_v18, val_main_v17, val_main_v16, val_main_v15, val_main_v14, val_main_v13, val_main_v12, val_main_v11, val_main_v10, val_main_v9, val_main_v8, val_main_v7, val_main_cst_1, val_main_cst_2]
  rw [q_amax]
  rfl
attribute [local irreducible] val_main_v18
theorem q_exp (x : FVec Ideal S3x8192x4096 .bf16) (b : Fin 3) (s : Fin 8192) (h : Fin 32) (g : Fin 4) :
    val_main_v24 (F := Ideal) x (ix4 b s h g) = rexp (amax (QG x b s ⟨h.val * 4 + g.val, by omega⟩)) := by
  pointwise [val_main_v24, val_main_v23, val_main_v22, val_main_v21, val_main_v20, val_main_v19, val_main_c, val_main_c_3, val_main_cst_4, val_main_c_5, val_main_call0_v0, val_main_call0_v1]
  rw [q_amax]
  simp only [q_ind]
  rfl
attribute [local irreducible] val_main_v24
theorem q_code (x : FVec Ideal S3x8192x4096 .bf16) (b : Fin 3) (s : Fin 8192) (d : Fin 4096) :
    val_main_v108 (F := Ideal) x (ix3 b s d) = rcode (QG x b s ⟨d.val / 32, by omega⟩) ⟨d.val % 32, by omega⟩ := by
  pointwise [val_main_v108, val_main_v33, val_main_v32, val_main_v31, val_main_v30, val_main_v29, val_main_v28, val_main_v27, val_main_v26, val_main_v25, val_main_cst_6, val_main_cst_7, val_main_cst_8, val_main_call1_v0, val_main_call1_v1, val_main_call1_v2, val_main_call1_v3, val_main_call1_v4, val_main_v2, val_main_v1, val_main_v0]
  rw [q_exp]
  have e : (⟨d.val / 128 * 4 + d.val % 128 / 32, by omega⟩ : Fin 128) = ⟨d.val / 32, by omega⟩ :=
    Fin.ext (by show d.val / 128 * 4 + d.val % 128 / 32 = d.val / 32; omega)
  have e2 : (⟨d.val / 32 * 32 + d.val % 32, by omega⟩ : Fin 4096) = d := Fin.ext (by show d.val / 32 * 32 + d.val % 32 = d.val; omega)
  simp only [e]
  unfold rcode
  simp only [QG, e2]
  rfl
attribute [local irreducible] val_main_v108

/-! ## `k` -/

theorem k_in (x : FVec Ideal S3x8192x1024 .bf16) (b : Fin 3) (s : Fin 8192) (d : Fin 1024) : val_main_v34 (F := Ideal) x (ix3 b s d) = x (ix3 b s d) := by
  pointwise [val_main_v34]
attribute [local irreducible] val_main_v34
theorem k_mean (x : FVec Ideal S3x8192x1024 .bf16) (b : Fin 3) (h : Fin 8) (e : Fin 128) :
    val_main_v39 (F := Ideal) x (ix4 b 0 h e) = colmean x b ⟨h.val * 128 + e.val, by omega⟩ := by
  pointwise [val_main_v39, val_main_v38, val_main_v37, val_main_v36, val_main_v35, val_main_cst_9, val_main_cst_10]
  unfold colmean
  simp only [k_in]
attribute [local irreducible] val_main_v39
theorem k_sub (x : FVec Ideal S3x8192x1024 .bf16) (b : Fin 3) (s : Fin 8192) (h : Fin 8) (e : Fin 128) (d : Fin 1024) (hd : d.val = h.val * 128 + e.val) :
    val_main_v34 (F := Ideal) x (ix3 b s d) - val_main_v39 (F := Ideal) x (ix4 b 0 h e) = KG x b s ⟨d.val / 32, by omega⟩ ⟨d.val % 32, by omega⟩ := by
  rw [k_in, k_mean]
  unfold KG
  have e1 : (⟨h.val * 128 + e.val, by omega⟩ : Fin 1024) = d := Fin.ext hd.symm
  have e2 : (⟨d.val / 32 * 32 + d.val % 32, by omega⟩ : Fin 1024) = d := Fin.ext (by show d.val / 32 * 32 + d.val % 32 = d.val; omega)
  simp only [e1, e2]
theorem k_abs (x : FVec Ideal S3x8192x1024 .bf16) (b : Fin 3) (s : Fin 8192) (h : Fin 8) (g : Fin 4) (k : Fin 32) :
    val_main_v43 (F := Ideal) x (ix5 b s h g k) = max (KG x b s ⟨h.val * 4 + g.val, by omega⟩ k) (-KG x b s ⟨h.val * 4 + g.val, by omega⟩ k) := by
  pointwise [val_main_v43, val_main_v42, val_main_v41, val_main_v40, val_main_v35]
  have e : KG x b s ⟨h.val * 4 + g.val, by omega⟩ k = KG x b s ⟨(h.val * 128 + (g.val * 32 + k.val)) / 32, by omega⟩ ⟨(h.val * 128 + (g.val * 32 + k.val)) % 32, by omega⟩ := by
    congr 1
    · exact Fin.ext (by show h.val * 4 + g.val = (h.val * 128 + (g.val * 32 + k.val)) / 32; omega)
    · exact Fin.ext (by show k.val = (h.val * 128 + (g.val * 32 + k.val)) % 32; omega)
  rw [e, ← k_sub x b s h ⟨g.val * 32 + k.val, by omega⟩ ⟨h.val * 128 + (g.val * 32 + k.val), by omega⟩ rfl]
  rfl
attribute [local irreducible] val_main_v43
theorem k_amax (x : FVec Ideal S3x8192x1024 .bf16) (b : Fin 3) (s : Fin 8192) (h : Fin 8) (g : Fin 4) :
    val_main_v46 (F := Ideal) x (ix4 b s h g) = amax (KG x b s ⟨h.val * 4 + g.val, by omega⟩) := by
  pointwise [val_main_v46, val_main_v45, val_main_v44, val_main_cst_11, val_main_cst_12]
  rw [← ramax_eq]
  unfold ramax
  simp only [k_abs]
attribute [local irreducible] val_main_v46
theorem k_ind (x : FVec Ideal S3x8192x1024 .bf16) (b : Fin 3) (s : Fin 8192) (h : Fin 8) (g : Fin 4) (k : Fin 254) :
    val_main_v58 (F := Ideal) x (ix5 b s h g k) = (ind (amax (KG x b s ⟨h.val * 4 + g.val, by omega⟩)) k).setWidth 32 := by
  pointwise [val_main_v58, val_main_v57, val_main_v56, val_main_v55, val_main_v54, val_main_v53, val_main_v52, val_main_v51, val_main_v50, val_main_v49, val_main_v48, val_main_v47, val_main_cst_13, val_main_cst_14]
  rw [k_amax]
  rfl
attribute [local irreducible] val_main_v58
theorem k_exp (x : FVec Ideal S3x8192x1024 .bf16) (b : Fin 3) (s : Fin 8192) (h : Fin 8) (g : Fin 4) :
    val_main_v64 (F := Ideal) x (ix4 b s h g) = rexp (amax (KG x b s ⟨h.val * 4 + g.val, by omega⟩)) := by
  pointwise [val_main_v64, val_main_v63, val_main_v62, val_main_v61, val_main_v60, val_main_v59, val_main_c_15, val_main_c_16, val_main_cst_17, val_main_c_18, val_main_call2_v0, val_main_call2_v1]
  rw [k_amax]
  simp only [k_ind]
  rfl
attribute [local irreducible] val_main_v64
theorem k_code (x : FVec Ideal S3x8192x1024 .bf16) (b : Fin 3) (s : Fin 8192) (d : Fin 1024) :
    val_main_v109 (F := Ideal) x (ix3 b s d) = rcode (KG x b s ⟨d.val / 32, by omega⟩) ⟨d.val % 32, by omega⟩ := by
  pointwise [val_main_v109, val_main_v73, val_main_v72, val_main_v71, val_main_v70, val_main_v69, val_main_v68, val_main_v67, val_main_v66, val_main_v65, val_main_cst_19, val_main_cst_20, val_main_cst_21, val_main_call3_v0, val_main_call3_v1, val_main_call3_v2, val_main_call3_v3, val_main_call3_v4, val_main_v42, val_main_v41, val_main_v40, val_main_v35]
  rw [k_exp]
  have e : (⟨d.val / 128 * 4 + d.val % 128 / 32, by omega⟩ : Fin 32) = ⟨d.val / 32, by omega⟩ :=
    Fin.ext (by show d.val / 128 * 4 + d.val % 128 / 32 = d.val / 32; omega)
  have e2 : (⟨d.val / 32 * 32 + d.val % 32, by omega⟩ : Fin 1024) = d := Fin.ext (by show d.val / 32 * 32 + d.val % 32 = d.val; omega)
  simp only [e]
  rw [k_sub x b s _ _ d (by show d.val = d.val / 128 * 128 + (d.val % 128 / 32 * 32 + d.val % 128 % 32); omega)]
  rfl
attribute [local irreducible] val_main_v109

/-! ## `v` -/

theorem v_abs (x : FVec Ideal S3x8192x1024 .bf16) (b : Fin 3) (s : Fin 8192) (h : Fin 8) (g : Fin 4) (k : Fin 32) :
    val_main_v77 (F := Ideal) x (ix5 b s h g k) = max (VG x b s ⟨h.val * 4 + g.val, by omega⟩ k) (-VG x b s ⟨h.val * 4 + g.val, by omega⟩ k) := by
  pointwise [val_main_v77, val_main_v76, val_main_v75, val_main_v74]
  have e : (⟨h.val * 128 + g.val * 32 + k.val, by omega⟩ : Fin 1024) = ⟨(h.val * 4 + g.val) * 32 + k.val, by omega⟩ :=
    Fin.ext (by show h.val * 128 + g.val * 32 + k.val = (h.val * 4 + g.val) * 32 + k.val; omega)
  simp only [VG, ← e]
  rfl
attribute [local irreducible] val_main_v77
theorem v_amax (x : FVec Ideal S3x8192x1024 .bf16) (b : Fin 3) (s : Fin 8192) (h : Fin 8) (g : Fin 4) :
    val_main_v80 (F := Ideal) x (ix4 b s h g) = amax (VG x b s ⟨h.val * 4 + g.val, by omega⟩) := by
  pointwise [val_main_v80, val_main_v79, val_main_v78, val_main_cst_22, val_main_cst_23]
  rw [← ramax_eq]
  unfold ramax
  simp only [v_abs]
attribute [local irreducible] val_main_v80
theorem v_ind (x : FVec Ideal S3x8192x1024 .bf16) (b : Fin 3) (s : Fin 8192) (h : Fin 8) (g : Fin 4) (k : Fin 254) :
    val_main_v92 (F := Ideal) x (ix5 b s h g k) = (ind (amax (VG x b s ⟨h.val * 4 + g.val, by omega⟩)) k).setWidth 32 := by
  pointwise [val_main_v92, val_main_v91, val_main_v90, val_main_v89, val_main_v88, val_main_v87, val_main_v86, val_main_v85, val_main_v84, val_main_v83, val_main_v82, val_main_v81, val_main_cst_24, val_main_cst_25]
  rw [v_amax]
  rfl
attribute [local irreducible] val_main_v92
theorem v_exp (x : FVec Ideal S3x8192x1024 .bf16) (b : Fin 3) (s : Fin 8192) (h : Fin 8) (g : Fin 4) :
    val_main_v98 (F := Ideal) x (ix4 b s h g) = rexp (amax (VG x b s ⟨h.val * 4 + g.val, by omega⟩)) := by
  pointwise [val_main_v98, val_main_v97, val_main_v96, val_main_v95, val_main_v94, val_main_v93, val_main_c_26, val_main_c_27, val_main_cst_28, val_main_c_29, val_main_call4_v0, val_main_call4_v1]
  rw [v_amax]
  simp only [v_ind]
  rfl
attribute [local irreducible] val_main_v98
theorem v_code (x : FVec Ideal S3x8192x1024 .bf16) (b : Fin 3) (s : Fin 8192) (d : Fin 1024) :
    val_main_v110 (F := Ideal) x (ix3 b s d) = rcode (VG x b s ⟨d.val / 32, by omega⟩) ⟨d.val % 32, by omega⟩ := by
  pointwise [val_main_v110, val_main_v107, val_main_v106, val_main_v105, val_main_v104, val_main_v103, val_main_v102, val_main_v101, val_main_v100, val_main_v99, val_main_cst_30, val_main_cst_31, val_main_cst_32, val_main_call5_v0, val_main_call5_v1, val_main_call5_v2, val_main_call5_v3, val_main_call5_v4, val_main_v76, val_main_v75, val_main_v74]
  rw [v_exp]
  have e : (⟨d.val / 128 * 4 + d.val % 128 / 32, by omega⟩ : Fin 32) = ⟨d.val / 32, by omega⟩ :=
    Fin.ext (by show d.val / 128 * 4 + d.val % 128 / 32 = d.val / 32; omega)
  have e2 : (⟨d.val / 32 * 32 + d.val % 32, by omega⟩ : Fin 1024) = d := Fin.ext (by show d.val / 32 * 32 + d.val % 32 = d.val; omega)
  simp only [e]
  unfold rcode
  simp only [VG, e2]
  rfl
attribute [local irreducible] val_main_v110

end Cert.ReferenceIdeal.Val

end
-- ==== Proof.Ref.Region.lean ====
/- The reference's kernel region only casts, and adds 127 to the exponents: what it leaves in each result array. -/
module

public import proofs.«01_k».proof.Proof.Gen.ReferenceIdeal.Run
public import Idealize.ShloMosaic.Lib.Pipeline.ValueKit
public import Idealize.ShloMosaic.PureOps.Ideal

@[expose] public section

set_option maxRecDepth 16384

noncomputable section

namespace Cert.ReferenceIdeal.Val

open Cert.ReferenceIdeal Cert.ReferenceIdeal.Gen Idealize.ShloMosaic Idealize.ShloMosaic.TcCoe Idealize.SL.Sem Idealize.ShloMosaic.Pipeline

attribute [local irreducible] StableHlo.after

variable (m : (ℓ : Loc nD τ sig) → Buf (Elt Ideal) ℓ)

theorem hi0 : ∀ t : Fin cfg0.N, win0_0.index t 0 = 0 ∧ win0_0.index t 1 = 0 ∧ win0_0.index t 2 = 0 := by decide +kernel
theorem emb0 (t : Fin cfg0.N) (y : S3x8192x4096.Idx) : (((cfg0.win 0).blk t).view.emb y : S3x8192x4096.Idx) = y := by
  obtain ⟨h0, h1, h2⟩ := hi0 t
  refine funext fun a => Fin.ext ?_
  match a with
  | ⟨0, _⟩ => blk_simp [h0]
  | ⟨1, _⟩ => blk_simp [h1]
  | ⟨2, _⟩ => blk_simp [h2]
theorem rd0 (c : Dev nD) (t : Fin cfg0.N) (W : Buf (Elt Ideal) ((c : Thread nD τ).loc (Pipeline.arrRef spec0 0))) :
    (((cfg0.win 0).blk t).view.read (Elt Ideal) W : S3x8192x4096.Idx → EReal) = W :=
  funext fun y => congrArg (W : S3x8192x4096.Idx → EReal) (emb0 t y)
theorem iblk0 (c : Dev nD) (t : Fin cfg0.N) : (iblk m c 0 t : S3x8192x4096.Idx → EReal) = V m c main_v108 := rd0 c t (V m c main_v108)

theorem hi1 : ∀ t : Fin cfg0.N, win0_1.index t 0 = 0 ∧ win0_1.index t 1 = 0 ∧ win0_1.index t 2 = 0 := by decide +kernel
theorem emb1 (t : Fin cfg0.N) (y : S3x8192x1024.Idx) : (((cfg0.win 1).blk t).view.emb y : S3x8192x1024.Idx) = y := by
  obtain ⟨h0, h1, h2⟩ := hi1 t
  refine funext fun a => Fin.ext ?_
  match a with
  | ⟨0, _⟩ => blk_simp [h0]
  | ⟨1, _⟩ => blk_simp [h1]
  | ⟨2, _⟩ => blk_simp [h2]
theorem rd1 (c : Dev nD) (t : Fin cfg0.N) (W : Buf (Elt Ideal) ((c : Thread nD τ).loc (Pipeline.arrRef spec0 1))) :
    (((cfg0.win 1).blk t).view.read (Elt Ideal) W : S3x8192x1024.Idx → EReal) = W :=
  funext fun y => congrArg (W : S3x8192x1024.Idx → EReal) (emb1 t y)
theorem iblk1 (c : Dev nD) (t : Fin cfg0.N) : (iblk m c 1 t : S3x8192x1024.Idx → EReal) = V m c main_v109 := rd1 c t (V m c main_v109)

theorem hi2 : ∀ t : Fin cfg0.N, win0_2.index t 0 = 0 ∧ win0_2.index t 1 = 0 ∧ win0_2.index t 2 = 0 := by decide +kernel
theorem emb2 (t : Fin cfg0.N) (y : S3x8192x1024.Idx) : (((cfg0.win 2).blk t).view.emb y : S3x8192x1024.Idx) = y := by
  obtain ⟨h0, h1, h2⟩ := hi2 t
  refine funext fun a => Fin.ext ?_
  match a with
  | ⟨0, _⟩ => blk_simp [h0]
  | ⟨1, _⟩ => blk_simp [h1]
  | ⟨2, _⟩ => blk_simp [h2]
theorem rd2 (c : Dev nD) (t : Fin cfg0.N) (W : Buf (Elt Ideal) ((c : Thread nD τ).loc (Pipeline.arrRef spec0 2))) :
    (((cfg0.win 2).blk t).view.read (Elt Ideal) W : S3x8192x1024.Idx → EReal) = W :=
  funext fun y => congrArg (W : S3x8192x1024.Idx → EReal) (emb2 t y)
theorem iblk2 (c : Dev nD) (t : Fin cfg0.N) : (iblk m c 2 t : S3x8192x1024.Idx → EReal) = V m c main_v110 := rd2 c t (V m c main_v110)

theorem hi3 : ∀ t : Fin cfg0.N, win0_3.index t 0 = 0 ∧ win0_3.index t 1 = 0 ∧ win0_3.index t 2 = 0 ∧ win0_3.index t 3 = 0 := by decide +kernel
theorem emb3 (t : Fin cfg0.N) (y : S3x8192x32x4.Idx) : (((cfg0.win 3).blk t).view.emb y : S3x8192x32x4.Idx) = y := by
  obtain ⟨h0, h1, h2, h3⟩ := hi3 t
  refine funext fun a => Fin.ext ?_
  match a with
  | ⟨0, _⟩ => blk_simp [h0]
  | ⟨1, _⟩ => blk_simp [h1]
  | ⟨2, _⟩ => blk_simp [h2]
  | ⟨3, _⟩ => blk_simp [h3]
theorem rd3 (c : Dev nD) (t : Fin cfg0.N) (W : Buf (Elt Ideal) ((c : Thread nD τ).loc (Pipeline.arrRef spec0 3))) :
    (((cfg0.win 3).blk t).view.read (Elt Ideal) W : IVec S3x8192x32x4 32) = W :=
  funext fun y => congrArg (W : IVec S3x8192x32x4 32) (emb3 t y)
theorem iblk3 (c : Dev nD) (t : Fin cfg0.N) : (iblk m c 3 t : IVec S3x8192x32x4 32) = V m c main_v24 := rd3 c t (V m c main_v24)

theorem hi4 : ∀ t : Fin cfg0.N, win0_4.index t 0 = 0 ∧ win0_4.index t 1 = 0 ∧ win0_4.index t 2 = 0 ∧ win0_4.index t 3 = 0 := by decide +kernel
theorem emb4 (t : Fin cfg0.N) (y : S3x8192x8x4.Idx) : (((cfg0.win 4).blk t).view.emb y : S3x8192x8x4.Idx) = y := by
  obtain ⟨h0, h1, h2, h3⟩ := hi4 t
  refine funext fun a => Fin.ext ?_
  match a with
  | ⟨0, _⟩ => blk_simp [h0]
  | ⟨1, _⟩ => blk_simp [h1]
  | ⟨2, _⟩ => blk_simp [h2]
  | ⟨3, _⟩ => blk_simp [h3]
theorem rd4 (c : Dev nD) (t : Fin cfg0.N) (W : Buf (Elt Ideal) ((c : Thread nD τ).loc (Pipeline.arrRef spec0 4))) :
    (((cfg0.win 4).blk t).view.read (Elt Ideal) W : IVec S3x8192x8x4 32) = W :=
  funext fun y => congrArg (W : IVec S3x8192x8x4 32) (emb4 t y)
theorem iblk4 (c : Dev nD) (t : Fin cfg0.N) : (iblk m c 4 t : IVec S3x8192x8x4 32) = V m c main_v64 := rd4 c t (V m c main_v64)

theorem hi5 : ∀ t : Fin cfg0.N, win0_5.index t 0 = 0 ∧ win0_5.index t 1 = 0 ∧ win0_5.index t 2 = 0 ∧ win0_5.index t 3 = 0 := by decide +kernel
theorem emb5 (t : Fin cfg0.N) (y : S3x8192x8x4.Idx) : (((cfg0.win 5).blk t).view.emb y : S3x8192x8x4.Idx) = y := by
  obtain ⟨h0, h1, h2, h3⟩ := hi5 t
  refine funext fun a => Fin.ext ?_
  match a with
  | ⟨0, _⟩ => blk_simp [h0]
  | ⟨1, _⟩ => blk_simp [h1]
  | ⟨2, _⟩ => blk_simp [h2]
  | ⟨3, _⟩ => blk_simp [h3]
theorem rd5 (c : Dev nD) (t : Fin cfg0.N) (W : Buf (Elt Ideal) ((c : Thread nD τ).loc (Pipeline.arrRef spec0 5))) :
    (((cfg0.win 5).blk t).view.read (Elt Ideal) W : IVec S3x8192x8x4 32) = W :=
  funext fun y => congrArg (W : IVec S3x8192x8x4 32) (emb5 t y)
theorem iblk5 (c : Dev nD) (t : Fin cfg0.N) : (iblk m c 5 t : IVec S3x8192x8x4 32) = V m c main_v98 := rd5 c t (V m c main_v98)

theorem hi6 : ∀ t : Fin cfg0.N, win0_6.index t 0 = 0 ∧ win0_6.index t 1 = 0 ∧ win0_6.index t 2 = 0 := by decide +kernel
theorem emb6 (t : Fin cfg0.N) (y : S3x8192x4096.Idx) : (((cfg0.win 6).blk t).view.emb y : S3x8192x4096.Idx) = y := by
  obtain ⟨h0, h1, h2⟩ := hi6 t
  refine funext fun a => Fin.ext ?_
  match a with
  | ⟨0, _⟩ => blk_simp [h0]
  | ⟨1, _⟩ => blk_simp [h1]
  | ⟨2, _⟩ => blk_simp [h2]
theorem pay6 (W : S3x8192x4096.Idx → EReal) : (k0_pay5 (F := Ideal) W : S3x8192x4096.Idx → EReal) = W := by
  unfold k0_pay5
  simp only [shapeCast_self]
  rfl
theorem fin6 (t : Fin cfg0.N) (y : S3x8192x4096.Idx) (X W : S3x8192x4096.Idx → EReal) (h : X = W) :
    (k0_pay5 (F := Ideal) X : S3x8192x4096.Idx → EReal) y = (W : S3x8192x4096.Idx → EReal) (((View.whole main_v111_0).slice (win0_6.rect t)).emb y) := by
  subst h
  exact (congrFun (pay6 X) y).trans (congrArg (X : S3x8192x4096.Idx → EReal) (emb6 t y).symm)
theorem gen_0 (c : Dev nD) (G : S3x8192x4096.Idx → EReal) (hG : ∀ t, iblk m c 0 t = G) : Value.reg_main_v111_0 m c = (G : S3x8192x4096.Idx → EReal) := by
  refine (dats m 0 c).arrAt_eq_of_covers 6 _ (by decide +kernel) fun t hf y => ?_
  rw [after0_6]
  frame_out
  rw [fin6 t y (iblk m c 0 t) G (hG t)]
  rfl
theorem reg_0 (c : Dev nD) : Value.reg_main_v111_0 m c = (V m c main_v108 : S3x8192x4096.Idx → EReal) := gen_0 m c (V m c main_v108) (iblk0 m c)

theorem hi7 : ∀ t : Fin cfg0.N, win0_7.index t 0 = 0 ∧ win0_7.index t 1 = 0 ∧ win0_7.index t 2 = 0 := by decide +kernel
theorem emb7 (t : Fin cfg0.N) (y : S3x8192x1024.Idx) : (((cfg0.win 7).blk t).view.emb y : S3x8192x1024.Idx) = y := by
  obtain ⟨h0, h1, h2⟩ := hi7 t
  refine funext fun a => Fin.ext ?_
  match a with
  | ⟨0, _⟩ => blk_simp [h0]
  | ⟨1, _⟩ => blk_simp [h1]
  | ⟨2, _⟩ => blk_simp [h2]
theorem pay7 (W : S3x8192x1024.Idx → EReal) : (k0_pay7 (F := Ideal) W : S3x8192x1024.Idx → EReal) = W := by
  unfold k0_pay7
  simp only [shapeCast_self]
  rfl
theorem fin7 (t : Fin cfg0.N) (y : S3x8192x1024.Idx) (X W : S3x8192x1024.Idx → EReal) (h : X = W) :
    (k0_pay7 (F := Ideal) X : S3x8192x1024.Idx → EReal) y = (W : S3x8192x1024.Idx → EReal) (((View.whole main_v111_1).slice (win0_7.rect t)).emb y) := by
  subst h
  exact (congrFun (pay7 X) y).trans (congrArg (X : S3x8192x1024.Idx → EReal) (emb7 t y).symm)
theorem gen_1 (c : Dev nD) (G : S3x8192x1024.Idx → EReal) (hG : ∀ t, iblk m c 1 t = G) : Value.reg_main_v111_1 m c = (G : S3x8192x1024.Idx → EReal) := by
  refine (dats m 0 c).arrAt_eq_of_covers 7 _ (by decide +kernel) fun t hf y => ?_
  rw [after0_7]
  frame_out
  rw [fin7 t y (iblk m c 1 t) G (hG t)]
  rfl
theorem reg_1 (c : Dev nD) : Value.reg_main_v111_1 m c = (V m c main_v109 : S3x8192x1024.Idx → EReal) := gen_1 m c (V m c main_v109) (iblk1 m c)

theorem hi8 : ∀ t : Fin cfg0.N, win0_8.index t 0 = 0 ∧ win0_8.index t 1 = 0 ∧ win0_8.index t 2 = 0 := by decide +kernel
theorem emb8 (t : Fin cfg0.N) (y : S3x8192x1024.Idx) : (((cfg0.win 8).blk t).view.emb y : S3x8192x1024.Idx) = y := by
  obtain ⟨h0, h1, h2⟩ := hi8 t
  refine funext fun a => Fin.ext ?_
  match a with
  | ⟨0, _⟩ => blk_simp [h0]
  | ⟨1, _⟩ => blk_simp [h1]
  | ⟨2, _⟩ => blk_simp [h2]
theorem pay8 (W : S3x8192x1024.Idx → EReal) : (k0_pay9 (F := Ideal) W : S3x8192x1024.Idx → EReal) = W := by
  unfold k0_pay9
  simp only [shapeCast_self]
  rfl
theorem fin8 (t : Fin cfg0.N) (y : S3x8192x1024.Idx) (X W : S3x8192x1024.Idx → EReal) (h : X = W) :
    (k0_pay9 (F := Ideal) X : S3x8192x1024.Idx → EReal) y = (W : S3x8192x1024.Idx → EReal) (((View.whole main_v111_2).slice (win0_8.rect t)).emb y) := by
  subst h
  exact (congrFun (pay8 X) y).trans (congrArg (X : S3x8192x1024.Idx → EReal) (emb8 t y).symm)
theorem gen_2 (c : Dev nD) (G : S3x8192x1024.Idx → EReal) (hG : ∀ t, iblk m c 2 t = G) : Value.reg_main_v111_2 m c = (G : S3x8192x1024.Idx → EReal) := by
  refine (dats m 0 c).arrAt_eq_of_covers 8 _ (by decide +kernel) fun t hf y => ?_
  rw [after0_8]
  frame_out
  rw [fin8 t y (iblk m c 2 t) G (hG t)]
  rfl
theorem reg_2 (c : Dev nD) : Value.reg_main_v111_2 m c = (V m c main_v110 : S3x8192x1024.Idx → EReal) := gen_2 m c (V m c main_v110) (iblk2 m c)

theorem hi9 : ∀ t : Fin cfg0.N, win0_9.index t 0 = 0 ∧ win0_9.index t 1 = 0 ∧ win0_9.index t 2 = 0 := by decide +kernel
theorem emb9 (t : Fin cfg0.N) (y : S3x8192x4096.Idx) : (((cfg0.win 9).blk t).view.emb y : S3x8192x4096.Idx) = y := by
  obtain ⟨h0, h1, h2⟩ := hi9 t
  refine funext fun a => Fin.ext ?_
  match a with
  | ⟨0, _⟩ => blk_simp [h0]
  | ⟨1, _⟩ => blk_simp [h1]
  | ⟨2, _⟩ => blk_simp [h2]
theorem pay9 (W : S3x8192x4096.Idx → EReal) : (k0_pay6 (F := Ideal) W : S3x8192x4096.Idx → EReal) = W := by
  unfold k0_pay6
  simp only [shapeCast_self]
  rfl
theorem fin9 (t : Fin cfg0.N) (y : S3x8192x4096.Idx) (X W : S3x8192x4096.Idx → EReal) (h : X = W) :
    (k0_pay6 (F := Ideal) X : S3x8192x4096.Idx → EReal) y = (W : S3x8192x4096.Idx → EReal) (((View.whole main_v111_3).slice (win0_9.rect t)).emb y) := by
  subst h
  exact (congrFun (pay9 X) y).trans (congrArg (X : S3x8192x4096.Idx → EReal) (emb9 t y).symm)
theorem gen_3 (c : Dev nD) (G : S3x8192x4096.Idx → EReal) (hG : ∀ t, iblk m c 0 t = G) : Value.reg_main_v111_3 m c = (G : S3x8192x4096.Idx → EReal) := by
  refine (dats m 0 c).arrAt_eq_of_covers 9 _ (by decide +kernel) fun t hf y => ?_
  rw [after0_9]
  frame_out
  rw [fin9 t y (iblk m c 0 t) G (hG t)]
  rfl
theorem reg_3 (c : Dev nD) : Value.reg_main_v111_3 m c = (V m c main_v108 : S3x8192x4096.Idx → EReal) := gen_3 m c (V m c main_v108) (iblk0 m c)

theorem hi10 : ∀ t : Fin cfg0.N, win0_10.index t 0 = 0 ∧ win0_10.index t 1 = 0 ∧ win0_10.index t 2 = 0 := by decide +kernel
theorem emb10 (t : Fin cfg0.N) (y : S3x8192x1024.Idx) : (((cfg0.win 10).blk t).view.emb y : S3x8192x1024.Idx) = y := by
  obtain ⟨h0, h1, h2⟩ := hi10 t
  refine funext fun a => Fin.ext ?_
  match a with
  | ⟨0, _⟩ => blk_simp [h0]
  | ⟨1, _⟩ => blk_simp [h1]
  | ⟨2, _⟩ => blk_simp [h2]
theorem pay10 (W : S3x8192x1024.Idx → EReal) : (k0_pay8 (F := Ideal) W : S3x8192x1024.Idx → EReal) = W := by
  unfold k0_pay8
  simp only [shapeCast_self]
  rfl
theorem fin10 (t : Fin cfg0.N) (y : S3x8192x1024.Idx) (X W : S3x8192x1024.Idx → EReal) (h : X = W) :
    (k0_pay8 (F := Ideal) X : S3x8192x1024.Idx → EReal) y = (W : S3x8192x1024.Idx → EReal) (((View.whole main_v111_4).slice (win0_10.rect t)).emb y) := by
  subst h
  exact (congrFun (pay10 X) y).trans (congrArg (X : S3x8192x1024.Idx → EReal) (emb10 t y).symm)
theorem gen_4 (c : Dev nD) (G : S3x8192x1024.Idx → EReal) (hG : ∀ t, iblk m c 1 t = G) : Value.reg_main_v111_4 m c = (G : S3x8192x1024.Idx → EReal) := by
  refine (dats m 0 c).arrAt_eq_of_covers 10 _ (by decide +kernel) fun t hf y => ?_
  rw [after0_10]
  frame_out
  rw [fin10 t y (iblk m c 1 t) G (hG t)]
  rfl
theorem reg_4 (c : Dev nD) : Value.reg_main_v111_4 m c = (V m c main_v109 : S3x8192x1024.Idx → EReal) := gen_4 m c (V m c main_v109) (iblk1 m c)

theorem hi11 : ∀ t : Fin cfg0.N, win0_11.index t 0 = 0 ∧ win0_11.index t 1 = 0 ∧ win0_11.index t 2 = 0 := by decide +kernel
theorem emb11 (t : Fin cfg0.N) (y : S3x8192x1024.Idx) : (((cfg0.win 11).blk t).view.emb y : S3x8192x1024.Idx) = y := by
  obtain ⟨h0, h1, h2⟩ := hi11 t
  refine funext fun a => Fin.ext ?_
  match a with
  | ⟨0, _⟩ => blk_simp [h0]
  | ⟨1, _⟩ => blk_simp [h1]
  | ⟨2, _⟩ => blk_simp [h2]
theorem pay11 (W : S3x8192x1024.Idx → EReal) : (k0_pay1 (F := Ideal) W : S3x8192x1024.Idx → EReal) = W := by
  unfold k0_pay1
  simp only [shapeCast_self]
  rfl
theorem fin11 (t : Fin cfg0.N) (y : S3x8192x1024.Idx) (X W : S3x8192x1024.Idx → EReal) (h : X = W) :
    (k0_pay1 (F := Ideal) X : S3x8192x1024.Idx → EReal) y = (W : S3x8192x1024.Idx → EReal) (((View.whole main_v111_5).slice (win0_11.rect t)).emb y) := by
  subst h
  exact (congrFun (pay11 X) y).trans (congrArg (X : S3x8192x1024.Idx → EReal) (emb11 t y).symm)
theorem gen_5 (c : Dev nD) (G : S3x8192x1024.Idx → EReal) (hG : ∀ t, iblk m c 2 t = G) : Value.reg_main_v111_5 m c = (G : S3x8192x1024.Idx → EReal) := by
  refine (dats m 0 c).arrAt_eq_of_covers 11 _ (by decide +kernel) fun t hf y => ?_
  rw [after0_11]
  frame_out
  rw [fin11 t y (iblk m c 2 t) G (hG t)]
  rfl
theorem reg_5 (c : Dev nD) : Value.reg_main_v111_5 m c = (V m c main_v110 : S3x8192x1024.Idx → EReal) := gen_5 m c (V m c main_v110) (iblk2 m c)

theorem hi12 : ∀ t : Fin cfg0.N, win0_12.index t 0 = 0 ∧ win0_12.index t 1 = 0 ∧ win0_12.index t 2 = 0 ∧ win0_12.index t 3 = 0 := by decide +kernel
theorem emb12 (t : Fin cfg0.N) (y : S3x8192x32x4.Idx) : (((cfg0.win 12).blk t).view.emb y : S3x8192x32x4.Idx) = y := by
  obtain ⟨h0, h1, h2, h3⟩ := hi12 t
  refine funext fun a => Fin.ext ?_
  match a with
  | ⟨0, _⟩ => blk_simp [h0]
  | ⟨1, _⟩ => blk_simp [h1]
  | ⟨2, _⟩ => blk_simp [h2]
  | ⟨3, _⟩ => blk_simp [h3]
theorem pay12 (W : IVec S3x8192x32x4 32) : (k0_pay2 (F := Ideal) W : IVec S3x8192x32x4 32) = addi W (fun _ => 127#32) := by
  unfold k0_pay2
  simp only [shapeCast_self]
  rfl
theorem fin12 (t : Fin cfg0.N) (y : S3x8192x32x4.Idx) (X W : IVec S3x8192x32x4 32) (h : X = W) :
    (k0_pay2 (F := Ideal) X : IVec S3x8192x32x4 32) y = (addi W (fun _ => 127#32) : IVec S3x8192x32x4 32) (((View.whole main_v111_6).slice (win0_12.rect t)).emb y) := by
  subst h
  exact (congrFun (pay12 X) y).trans (congrArg (addi X (fun _ => 127#32) : IVec S3x8192x32x4 32) (emb12 t y).symm)
theorem gen_6 (c : Dev nD) (G : IVec S3x8192x32x4 32) (hG : ∀ t, iblk m c 3 t = G) : Value.reg_main_v111_6 m c = (addi G (fun _ => 127#32) : IVec S3x8192x32x4 32) := by
  refine (dats m 0 c).arrAt_eq_of_covers 12 _ (by decide +kernel) fun t hf y => ?_
  rw [after0_12]
  frame_out
  rw [fin12 t y (iblk m c 3 t) G (hG t)]
  rfl
theorem reg_6 (c : Dev nD) : Value.reg_main_v111_6 m c = addi (V m c main_v24 : IVec S3x8192x32x4 32) (fun _ => 127#32) := gen_6 m c (V m c main_v24) (iblk3 m c)

theorem hi13 : ∀ t : Fin cfg0.N, win0_13.index t 0 = 0 ∧ win0_13.index t 1 = 0 ∧ win0_13.index t 2 = 0 ∧ win0_13.index t 3 = 0 := by decide +kernel
theorem emb13 (t : Fin cfg0.N) (y : S3x8192x8x4.Idx) : (((cfg0.win 13).blk t).view.emb y : S3x8192x8x4.Idx) = y := by
  obtain ⟨h0, h1, h2, h3⟩ := hi13 t
  refine funext fun a => Fin.ext ?_
  match a with
  | ⟨0, _⟩ => blk_simp [h0]
  | ⟨1, _⟩ => blk_simp [h1]
  | ⟨2, _⟩ => blk_simp [h2]
  | ⟨3, _⟩ => blk_simp [h3]
theorem pay13 (W : IVec S3x8192x8x4 32) : (k0_pay3 (F := Ideal) W : IVec S3x8192x8x4 32) = addi W (fun _ => 127#32) := by
  unfold k0_pay3
  simp only [shapeCast_self]
  rfl
theorem fin13 (t : Fin cfg0.N) (y : S3x8192x8x4.Idx) (X W : IVec S3x8192x8x4 32) (h : X = W) :
    (k0_pay3 (F := Ideal) X : IVec S3x8192x8x4 32) y = (addi W (fun _ => 127#32) : IVec S3x8192x8x4 32) (((View.whole main_v111_7).slice (win0_13.rect t)).emb y) := by
  subst h
  exact (congrFun (pay13 X) y).trans (congrArg (addi X (fun _ => 127#32) : IVec S3x8192x8x4 32) (emb13 t y).symm)
theorem gen_7 (c : Dev nD) (G : IVec S3x8192x8x4 32) (hG : ∀ t, iblk m c 4 t = G) : Value.reg_main_v111_7 m c = (addi G (fun _ => 127#32) : IVec S3x8192x8x4 32) := by
  refine (dats m 0 c).arrAt_eq_of_covers 13 _ (by decide +kernel) fun t hf y => ?_
  rw [after0_13]
  frame_out
  rw [fin13 t y (iblk m c 4 t) G (hG t)]
  rfl
theorem reg_7 (c : Dev nD) : Value.reg_main_v111_7 m c = addi (V m c main_v64 : IVec S3x8192x8x4 32) (fun _ => 127#32) := gen_7 m c (V m c main_v64) (iblk4 m c)

theorem hi14 : ∀ t : Fin cfg0.N, win0_14.index t 0 = 0 ∧ win0_14.index t 1 = 0 ∧ win0_14.index t 2 = 0 ∧ win0_14.index t 3 = 0 := by decide +kernel
theorem emb14 (t : Fin cfg0.N) (y : S3x8192x8x4.Idx) : (((cfg0.win 14).blk t).view.emb y : S3x8192x8x4.Idx) = y := by
  obtain ⟨h0, h1, h2, h3⟩ := hi14 t
  refine funext fun a => Fin.ext ?_
  match a with
  | ⟨0, _⟩ => blk_simp [h0]
  | ⟨1, _⟩ => blk_simp [h1]
  | ⟨2, _⟩ => blk_simp [h2]
  | ⟨3, _⟩ => blk_simp [h3]
theorem pay14 (W : IVec S3x8192x8x4 32) : (k0_pay4 (F := Ideal) W : IVec S3x8192x8x4 32) = addi W (fun _ => 127#32) := by
  unfold k0_pay4
  simp only [shapeCast_self]
  rfl
theorem fin14 (t : Fin cfg0.N) (y : S3x8192x8x4.Idx) (X W : IVec S3x8192x8x4 32) (h : X = W) :
    (k0_pay4 (F := Ideal) X : IVec S3x8192x8x4 32) y = (addi W (fun _ => 127#32) : IVec S3x8192x8x4 32) (((View.whole main_v111_8).slice (win0_14.rect t)).emb y) := by
  subst h
  exact (congrFun (pay14 X) y).trans (congrArg (addi X (fun _ => 127#32) : IVec S3x8192x8x4 32) (emb14 t y).symm)
theorem gen_8 (c : Dev nD) (G : IVec S3x8192x8x4 32) (hG : ∀ t, iblk m c 5 t = G) : Value.reg_main_v111_8 m c = (addi G (fun _ => 127#32) : IVec S3x8192x8x4 32) := by
  refine (dats m 0 c).arrAt_eq_of_covers 14 _ (by decide +kernel) fun t hf y => ?_
  rw [after0_14]
  frame_out
  rw [fin14 t y (iblk m c 5 t) G (hG t)]
  rfl
theorem reg_8 (c : Dev nD) : Value.reg_main_v111_8 m c = addi (V m c main_v98 : IVec S3x8192x8x4 32) (fun _ => 127#32) := gen_8 m c (V m c main_v98) (iblk5 m c)

end Cert.ReferenceIdeal.Val
-- ==== Proof.Ref.Prefix.lean ====
/- The host operations the reference runs before its kernel region, as one list, and what they leave in the region's
   six input arrays: the clipped values and the exponents of q, k and v, each as one term of the arguments. -/
module

public import proofs.«01_k».proof.Proof.Gen.ReferenceIdeal.Frame
public import Idealize.ShloMosaic.Lib.StableHlo.Run

@[expose] public section

noncomputable section

namespace Cert.ReferenceIdeal.Pre

open Cert.ReferenceIdeal Cert.ReferenceIdeal.Gen Idealize.ShloMosaic Idealize.ShloMosaic.TcCoe Idealize.SL.Sem Idealize.ShloMosaic.StableHlo

variable {F : FTy → Type} [FloatOps F]

/-- @main's 167 operations, in order (a called function's operations stand in its call's place, spelt `TRef.…`). -/
abbrev ops : List (HloOp τ sig (Elt F)) :=
  [ unary main_arg0 main_v0 ((extf .f32 · bitsLt_bf16_f32) : (⟨S3x8192x4096, .bf16⟩ : BufTy).Contents (Elt F) → (⟨S3x8192x4096, .f32⟩ : BufTy).Contents (Elt F)),
    reshape main_v0 main_v1 (rfl : (.f32 : EltTy) = .f32) shapeCasts_S3x8192x4096_S3x8192x32x128,
    reshape main_v1 main_v2 (rfl : (.f32 : EltTy) = .f32) shapeCasts_S3x8192x32x128_S3x8192x32x4x32,
    unary main_v2 main_v3 (Host.absf : (⟨S3x8192x32x4x32, .f32⟩ : BufTy).Contents (Elt F) → (⟨S3x8192x32x4x32, .f32⟩ : BufTy).Contents (Elt F)),
    nullary main_cst (constant S_ .f32 0xFF800000#32),
    binary main_v3 main_cst main_v4 ((fun x v => Host.reduce FloatOps.maximumf x v reducesTo_S3x8192x32x4x32_S3x8192x32x4_d4 h_S_) : (⟨S3x8192x32x4x32, .f32⟩ : BufTy).Contents (Elt F) → (⟨S_, .f32⟩ : BufTy).Contents (Elt F) → (⟨S3x8192x32x4, .f32⟩ : BufTy).Contents (Elt F)),
    nullary main_cst_0 (constant S_ .f32 0x43E00000#32),
    unary main_cst_0 main_v5 (broadcastInDim S3x8192x32x4 ![] bcast_S_S3x8192x32x4 : (⟨S_, .f32⟩ : BufTy).Contents (Elt F) → (⟨S3x8192x32x4, .f32⟩ : BufTy).Contents (Elt F)),
    binary main_v4 main_v5 main_v6 (Host.divf : (⟨S3x8192x32x4, .f32⟩ : BufTy).Contents (Elt F) → (⟨S3x8192x32x4, .f32⟩ : BufTy).Contents (Elt F) → (⟨S3x8192x32x4, .f32⟩ : BufTy).Contents (Elt F)),
    nullary main_cst_1 (constant S_ .f32 0x40000000#32),
    unary main_cst_1 main_v7 (broadcastInDim S254 ![] bcast_S_S254 : (⟨S_, .f32⟩ : BufTy).Contents (Elt F) → (⟨S254, .f32⟩ : BufTy).Contents (Elt F)),
    nullary main_v8 (iotaInDim S254 32 0),
    unary main_v8 main_v9 (sitofp .f32 : (⟨S254, .i32⟩ : BufTy).Contents (Elt F) → (⟨S254, .f32⟩ : BufTy).Contents (Elt F)),
    nullary main_cst_2 (constant S_ .f32 0x42FC0000#32),
    unary main_cst_2 main_v10 (broadcastInDim S254 ![] bcast_S_S254 : (⟨S_, .f32⟩ : BufTy).Contents (Elt F) → (⟨S254, .f32⟩ : BufTy).Contents (Elt F)),
    binary main_v9 main_v10 main_v11 (subf : (⟨S254, .f32⟩ : BufTy).Contents (Elt F) → (⟨S254, .f32⟩ : BufTy).Contents (Elt F) → (⟨S254, .f32⟩ : BufTy).Contents (Elt F)),
    binary main_v7 main_v11 main_v12 (Host.powf : (⟨S254, .f32⟩ : BufTy).Contents (Elt F) → (⟨S254, .f32⟩ : BufTy).Contents (Elt F) → (⟨S254, .f32⟩ : BufTy).Contents (Elt F)),
    unary main_v6 main_v13 (broadcastInDim S3x8192x32x4x1 ![0, 1, 2, 3] bcast_S3x8192x32x4_S3x8192x32x4x1_0_1_2_3 : (⟨S3x8192x32x4, .f32⟩ : BufTy).Contents (Elt F) → (⟨S3x8192x32x4x1, .f32⟩ : BufTy).Contents (Elt F)),
    unary main_v12 main_v14 (broadcastInDim S1x1x1x1x254 ![4] bcast_S254_S1x1x1x1x254_4 : (⟨S254, .f32⟩ : BufTy).Contents (Elt F) → (⟨S1x1x1x1x254, .f32⟩ : BufTy).Contents (Elt F)),
    unary main_v13 main_v15 (broadcastInDim S3x8192x32x4x254 ![0, 1, 2, 3, 4] bcast_S3x8192x32x4x1_S3x8192x32x4x254_0_1_2_3_4 : (⟨S3x8192x32x4x1, .f32⟩ : BufTy).Contents (Elt F) → (⟨S3x8192x32x4x254, .f32⟩ : BufTy).Contents (Elt F)),
    unary main_v14 main_v16 (broadcastInDim S3x8192x32x4x254 ![0, 1, 2, 3, 4] bcast_S1x1x1x1x254_S3x8192x32x4x254_0_1_2_3_4 : (⟨S1x1x1x1x254, .f32⟩ : BufTy).Contents (Elt F) → (⟨S3x8192x32x4x254, .f32⟩ : BufTy).Contents (Elt F)),
    binary main_v15 main_v16 main_v17 (cmpf .oge : (⟨S3x8192x32x4x254, .f32⟩ : BufTy).Contents (Elt F) → (⟨S3x8192x32x4x254, .f32⟩ : BufTy).Contents (Elt F) → (⟨S3x8192x32x4x254, .i1⟩ : BufTy).Contents (Elt F)),
    unary main_v17 main_v18 ((extui 32 · natLt_1_32) : (⟨S3x8192x32x4x254, .i1⟩ : BufTy).Contents (Elt F) → (⟨S3x8192x32x4x254, .i32⟩ : BufTy).Contents (Elt F)),
    nullary main_c (constantI S_ 32 0#32),
    binary main_v18 main_c main_v19 ((fun x v => Host.reduce IntOp.addi x v reducesTo_S3x8192x32x4x254_S3x8192x32x4_d4 h_S_) : (⟨S3x8192x32x4x254, .i32⟩ : BufTy).Contents (Elt F) → (⟨S_, .i32⟩ : BufTy).Contents (Elt F) → (⟨S3x8192x32x4, .i32⟩ : BufTy).Contents (Elt F)),
    nullary main_c_3 (constantI S_ 32 126#32),
    unary main_c_3 main_v20 (broadcastInDim S3x8192x32x4 ![] bcast_S_S3x8192x32x4 : (⟨S_, .i32⟩ : BufTy).Contents (Elt F) → (⟨S3x8192x32x4, .i32⟩ : BufTy).Contents (Elt F)),
    binary main_v19 main_v20 main_v21 (subi : (⟨S3x8192x32x4, .i32⟩ : BufTy).Contents (Elt F) → (⟨S3x8192x32x4, .i32⟩ : BufTy).Contents (Elt F) → (⟨S3x8192x32x4, .i32⟩ : BufTy).Contents (Elt F)),
    nullary main_cst_4 (constant S_ .f32 0x00000000#32),
    unary main_cst_4 main_v22 (broadcastInDim S3x8192x32x4 ![] bcast_S_S3x8192x32x4 : (⟨S_, .f32⟩ : BufTy).Contents (Elt F) → (⟨S3x8192x32x4, .f32⟩ : BufTy).Contents (Elt F)),
    binary main_v6 main_v22 main_v23 (cmpf .oeq : (⟨S3x8192x32x4, .f32⟩ : BufTy).Contents (Elt F) → (⟨S3x8192x32x4, .f32⟩ : BufTy).Contents (Elt F) → (⟨S3x8192x32x4, .i1⟩ : BufTy).Contents (Elt F)),
    nullary main_c_5 (constantI S_ 32 0#32),
    TRef.unary (TRef.of (T := ⟨S_, .i32⟩) main_c_5) (TRef.of (T := ⟨S_, .i32⟩) main_call0_v0) id,
    TRef.unary (TRef.of (T := ⟨S_, .i32⟩) main_call0_v0) (TRef.of (T := ⟨S3x8192x32x4, .i32⟩) main_call0_v1) (broadcastInDim S3x8192x32x4 ![] bcast_S_S3x8192x32x4),
    TRef.ternary (TRef.of (T := ⟨S3x8192x32x4, .i1⟩) main_v23) (TRef.of (T := ⟨S3x8192x32x4, .i32⟩) main_call0_v1) (TRef.of (T := ⟨S3x8192x32x4, .i32⟩) main_v21) (TRef.of (T := ⟨S3x8192x32x4, .i32⟩) main_v24) select,
    nullary main_cst_6 (constant S_ .f32 0x40000000#32),
    unary main_cst_6 main_v25 (broadcastInDim S3x8192x32x4 ![] bcast_S_S3x8192x32x4 : (⟨S_, .f32⟩ : BufTy).Contents (Elt F) → (⟨S3x8192x32x4, .f32⟩ : BufTy).Contents (Elt F)),
    unary main_v24 main_v26 (negi : (⟨S3x8192x32x4, .i32⟩ : BufTy).Contents (Elt F) → (⟨S3x8192x32x4, .i32⟩ : BufTy).Contents (Elt F)),
    unary main_v26 main_v27 (sitofp .f32 : (⟨S3x8192x32x4, .i32⟩ : BufTy).Contents (Elt F) → (⟨S3x8192x32x4, .f32⟩ : BufTy).Contents (Elt F)),
    binary main_v25 main_v27 main_v28 (Host.powf : (⟨S3x8192x32x4, .f32⟩ : BufTy).Contents (Elt F) → (⟨S3x8192x32x4, .f32⟩ : BufTy).Contents (Elt F) → (⟨S3x8192x32x4, .f32⟩ : BufTy).Contents (Elt F)),
    unary main_v28 main_v29 (broadcastInDim S3x8192x32x4x1 ![0, 1, 2, 3] bcast_S3x8192x32x4_S3x8192x32x4x1_0_1_2_3 : (⟨S3x8192x32x4, .f32⟩ : BufTy).Contents (Elt F) → (⟨S3x8192x32x4x1, .f32⟩ : BufTy).Contents (Elt F)),
    unary main_v29 main_v30 (broadcastInDim S3x8192x32x4x32 ![0, 1, 2, 3, 4] bcast_S3x8192x32x4x1_S3x8192x32x4x32_0_1_2_3_4 : (⟨S3x8192x32x4x1, .f32⟩ : BufTy).Contents (Elt F) → (⟨S3x8192x32x4x32, .f32⟩ : BufTy).Contents (Elt F)),
    binary main_v2 main_v30 main_v31 (mulf : (⟨S3x8192x32x4x32, .f32⟩ : BufTy).Contents (Elt F) → (⟨S3x8192x32x4x32, .f32⟩ : BufTy).Contents (Elt F) → (⟨S3x8192x32x4x32, .f32⟩ : BufTy).Contents (Elt F)),
    nullary main_cst_7 (constant S_ .f32 0xC3E00000#32),
    nullary main_cst_8 (constant S_ .f32 0x43E00000#32),
    TRef.unary (TRef.of (T := ⟨S_, .f32⟩) main_cst_7) (TRef.of (T := ⟨S_, .f32⟩) main_call1_v0) id,
    TRef.unary (TRef.of (T := ⟨S_, .f32⟩) main_call1_v0) (TRef.of (T := ⟨S3x8192x32x4x32, .f32⟩) main_call1_v1) (broadcastInDim S3x8192x32x4x32 ![] bcast_S_S3x8192x32x4x32),
    TRef.binary (TRef.of (T := ⟨S3x8192x32x4x32, .f32⟩) main_call1_v1) (TRef.of (T := ⟨S3x8192x32x4x32, .f32⟩) main_v31) (TRef.of (T := ⟨S3x8192x32x4x32, .f32⟩) main_call1_v2) maximumf,
    TRef.unary (TRef.of (T := ⟨S_, .f32⟩) main_cst_8) (TRef.of (T := ⟨S_, .f32⟩) main_call1_v3) id,
    TRef.unary (TRef.of (T := ⟨S_, .f32⟩) main_call1_v3) (TRef.of (T := ⟨S3x8192x32x4x32, .f32⟩) main_call1_v4) (broadcastInDim S3x8192x32x4x32 ![] bcast_S_S3x8192x32x4x32),
    TRef.binary (TRef.of (T := ⟨S3x8192x32x4x32, .f32⟩) main_call1_v4) (TRef.of (T := ⟨S3x8192x32x4x32, .f32⟩) main_call1_v2) (TRef.of (T := ⟨S3x8192x32x4x32, .f32⟩) main_v32) minimumf,
    reshape main_v32 main_v33 (rfl : (.f32 : EltTy) = .f32) shapeCasts_S3x8192x32x4x32_S3x8192x32x128,
    unary main_arg1 main_v34 ((extf .f32 · bitsLt_bf16_f32) : (⟨S3x8192x1024, .bf16⟩ : BufTy).Contents (Elt F) → (⟨S3x8192x1024, .f32⟩ : BufTy).Contents (Elt F)),
    reshape main_v34 main_v35 (rfl : (.f32 : EltTy) = .f32) shapeCasts_S3x8192x1024_S3x8192x8x128,
    nullary main_cst_9 (constant S_ .f32 0x00000000#32),
    binary main_v35 main_cst_9 main_v36 ((fun x v => Host.reduceAdd x v reducesTo_S3x8192x8x128_S3x8x128_d1 h_S_) : (⟨S3x8192x8x128, .f32⟩ : BufTy).Contents (Elt F) → (⟨S_, .f32⟩ : BufTy).Contents (Elt F) → (⟨S3x8x128, .f32⟩ : BufTy).Contents (Elt F)),
    unary main_v36 main_v37 (broadcastInDim S3x1x8x128 ![0, 2, 3] bcast_S3x8x128_S3x1x8x128_0_2_3 : (⟨S3x8x128, .f32⟩ : BufTy).Contents (Elt F) → (⟨S3x1x8x128, .f32⟩ : BufTy).Contents (Elt F)),
    nullary main_cst_10 (constant S_ .f32 0x46000000#32),
    unary main_cst_10 main_v38 (broadcastInDim S3x1x8x128 ![] bcast_S_S3x1x8x128 : (⟨S_, .f32⟩ : BufTy).Contents (Elt F) → (⟨S3x1x8x128, .f32⟩ : BufTy).Contents (Elt F)),
    binary main_v37 main_v38 main_v39 (Host.divf : (⟨S3x1x8x128, .f32⟩ : BufTy).Contents (Elt F) → (⟨S3x1x8x128, .f32⟩ : BufTy).Contents (Elt F) → (⟨S3x1x8x128, .f32⟩ : BufTy).Contents (Elt F)),
    unary main_v39 main_v40 (broadcastInDim S3x8192x8x128 ![0, 1, 2, 3] bcast_S3x1x8x128_S3x8192x8x128_0_1_2_3 : (⟨S3x1x8x128, .f32⟩ : BufTy).Contents (Elt F) → (⟨S3x8192x8x128, .f32⟩ : BufTy).Contents (Elt F)),
    binary main_v35 main_v40 main_v41 (subf : (⟨S3x8192x8x128, .f32⟩ : BufTy).Contents (Elt F) → (⟨S3x8192x8x128, .f32⟩ : BufTy).Contents (Elt F) → (⟨S3x8192x8x128, .f32⟩ : BufTy).Contents (Elt F)),
    reshape main_v41 main_v42 (rfl : (.f32 : EltTy) = .f32) shapeCasts_S3x8192x8x128_S3x8192x8x4x32,
    unary main_v42 main_v43 (Host.absf : (⟨S3x8192x8x4x32, .f32⟩ : BufTy).Contents (Elt F) → (⟨S3x8192x8x4x32, .f32⟩ : BufTy).Contents (Elt F)),
    nullary main_cst_11 (constant S_ .f32 0xFF800000#32),
    binary main_v43 main_cst_11 main_v44 ((fun x v => Host.reduce FloatOps.maximumf x v reducesTo_S3x8192x8x4x32_S3x8192x8x4_d4 h_S_) : (⟨S3x8192x8x4x32, .f32⟩ : BufTy).Contents (Elt F) → (⟨S_, .f32⟩ : BufTy).Contents (Elt F) → (⟨S3x8192x8x4, .f32⟩ : BufTy).Contents (Elt F)),
    nullary main_cst_12 (constant S_ .f32 0x43E00000#32),
    unary main_cst_12 main_v45 (broadcastInDim S3x8192x8x4 ![] bcast_S_S3x8192x8x4 : (⟨S_, .f32⟩ : BufTy).Contents (Elt F) → (⟨S3x8192x8x4, .f32⟩ : BufTy).Contents (Elt F)),
    binary main_v44 main_v45 main_v46 (Host.divf : (⟨S3x8192x8x4, .f32⟩ : BufTy).Contents (Elt F) → (⟨S3x8192x8x4, .f32⟩ : BufTy).Contents (Elt F) → (⟨S3x8192x8x4, .f32⟩ : BufTy).Contents (Elt F)),
    nullary main_cst_13 (constant S_ .f32 0x40000000#32),
    unary main_cst_13 main_v47 (broadcastInDim S254 ![] bcast_S_S254 : (⟨S_, .f32⟩ : BufTy).Contents (Elt F) → (⟨S254, .f32⟩ : BufTy).Contents (Elt F)),
    nullary main_v48 (iotaInDim S254 32 0),
    unary main_v48 main_v49 (sitofp .f32 : (⟨S254, .i32⟩ : BufTy).Contents (Elt F) → (⟨S254, .f32⟩ : BufTy).Contents (Elt F)),
    nullary main_cst_14 (constant S_ .f32 0x42FC0000#32),
    unary main_cst_14 main_v50 (broadcastInDim S254 ![] bcast_S_S254 : (⟨S_, .f32⟩ : BufTy).Contents (Elt F) → (⟨S254, .f32⟩ : BufTy).Contents (Elt F)),
    binary main_v49 main_v50 main_v51 (subf : (⟨S254, .f32⟩ : BufTy).Contents (Elt F) → (⟨S254, .f32⟩ : BufTy).Contents (Elt F) → (⟨S254, .f32⟩ : BufTy).Contents (Elt F)),
    binary main_v47 main_v51 main_v52 (Host.powf : (⟨S254, .f32⟩ : BufTy).Contents (Elt F) → (⟨S254, .f32⟩ : BufTy).Contents (Elt F) → (⟨S254, .f32⟩ : BufTy).Contents (Elt F)),
    unary main_v46 main_v53 (broadcastInDim S3x8192x8x4x1 ![0, 1, 2, 3] bcast_S3x8192x8x4_S3x8192x8x4x1_0_1_2_3 : (⟨S3x8192x8x4, .f32⟩ : BufTy).Contents (Elt F) → (⟨S3x8192x8x4x1, .f32⟩ : BufTy).Contents (Elt F)),
    unary main_v52 main_v54 (broadcastInDim S1x1x1x1x254 ![4] bcast_S254_S1x1x1x1x254_4 : (⟨S254, .f32⟩ : BufTy).Contents (Elt F) → (⟨S1x1x1x1x254, .f32⟩ : BufTy).Contents (Elt F)),
    unary main_v53 main_v55 (broadcastInDim S3x8192x8x4x254 ![0, 1, 2, 3, 4] bcast_S3x8192x8x4x1_S3x8192x8x4x254_0_1_2_3_4 : (⟨S3x8192x8x4x1, .f32⟩ : BufTy).Contents (Elt F) → (⟨S3x8192x8x4x254, .f32⟩ : BufTy).Contents (Elt F)),
    unary main_v54 main_v56 (broadcastInDim S3x8192x8x4x254 ![0, 1, 2, 3, 4] bcast_S1x1x1x1x254_S3x8192x8x4x254_0_1_2_3_4 : (⟨S1x1x1x1x254, .f32⟩ : BufTy).Contents (Elt F) → (⟨S3x8192x8x4x254, .f32⟩ : BufTy).Contents (Elt F)),
    binary main_v55 main_v56 main_v57 (cmpf .oge : (⟨S3x8192x8x4x254, .f32⟩ : BufTy).Contents (Elt F) → (⟨S3x8192x8x4x254, .f32⟩ : BufTy).Contents (Elt F) → (⟨S3x8192x8x4x254, .i1⟩ : BufTy).Contents (Elt F)),
    unary main_v57 main_v58 ((extui 32 · natLt_1_32) : (⟨S3x8192x8x4x254, .i1⟩ : BufTy).Contents (Elt F) → (⟨S3x8192x8x4x254, .i32⟩ : BufTy).Contents (Elt F)),
    nullary main_c_15 (constantI S_ 32 0#32),
    binary main_v58 main_c_15 main_v59 ((fun x v => Host.reduce IntOp.addi x v reducesTo_S3x8192x8x4x254_S3x8192x8x4_d4 h_S_) : (⟨S3x8192x8x4x254, .i32⟩ : BufTy).Contents (Elt F) → (⟨S_, .i32⟩ : BufTy).Contents (Elt F) → (⟨S3x8192x8x4, .i32⟩ : BufTy).Contents (Elt F)),
    nullary main_c_16 (constantI S_ 32 126#32),
    unary main_c_16 main_v60 (broadcastInDim S3x8192x8x4 ![] bcast_S_S3x8192x8x4 : (⟨S_, .i32⟩ : BufTy).Contents (Elt F) → (⟨S3x8192x8x4, .i32⟩ : BufTy).Contents (Elt F)),
    binary main_v59 main_v60 main_v61 (subi : (⟨S3x8192x8x4, .i32⟩ : BufTy).Contents (Elt F) → (⟨S3x8192x8x4, .i32⟩ : BufTy).Contents (Elt F) → (⟨S3x8192x8x4, .i32⟩ : BufTy).Contents (Elt F)),
    nullary main_cst_17 (constant S_ .f32 0x00000000#32),
    unary main_cst_17 main_v62 (broadcastInDim S3x8192x8x4 ![] bcast_S_S3x8192x8x4 : (⟨S_, .f32⟩ : BufTy).Contents (Elt F) → (⟨S3x8192x8x4, .f32⟩ : BufTy).Contents (Elt F)),
    binary main_v46 main_v62 main_v63 (cmpf .oeq : (⟨S3x8192x8x4, .f32⟩ : BufTy).Contents (Elt F) → (⟨S3x8192x8x4, .f32⟩ : BufTy).Contents (Elt F) → (⟨S3x8192x8x4, .i1⟩ : BufTy).Contents (Elt F)),
    nullary main_c_18 (constantI S_ 32 0#32),
    TRef.unary (TRef.of (T := ⟨S_, .i32⟩) main_c_18) (TRef.of (T := ⟨S_, .i32⟩) main_call2_v0) id,
    TRef.unary (TRef.of (T := ⟨S_, .i32⟩) main_call2_v0) (TRef.of (T := ⟨S3x8192x8x4, .i32⟩) main_call2_v1) (broadcastInDim S3x8192x8x4 ![] bcast_S_S3x8192x8x4),
    TRef.ternary (TRef.of (T := ⟨S3x8192x8x4, .i1⟩) main_v63) (TRef.of (T := ⟨S3x8192x8x4, .i32⟩) main_call2_v1) (TRef.of (T := ⟨S3x8192x8x4, .i32⟩) main_v61) (TRef.of (T := ⟨S3x8192x8x4, .i32⟩) main_v64) select,
    nullary main_cst_19 (constant S_ .f32 0x40000000#32),
    unary main_cst_19 main_v65 (broadcastInDim S3x8192x8x4 ![] bcast_S_S3x8192x8x4 : (⟨S_, .f32⟩ : BufTy).Contents (Elt F) → (⟨S3x8192x8x4, .f32⟩ : BufTy).Contents (Elt F)),
    unary main_v64 main_v66 (negi : (⟨S3x8192x8x4, .i32⟩ : BufTy).Contents (Elt F) → (⟨S3x8192x8x4, .i32⟩ : BufTy).Contents (Elt F)),
    unary main_v66 main_v67 (sitofp .f32 : (⟨S3x8192x8x4, .i32⟩ : BufTy).Contents (Elt F) → (⟨S3x8192x8x4, .f32⟩ : BufTy).Contents (Elt F)),
    binary main_v65 main_v67 main_v68 (Host.powf : (⟨S3x8192x8x4, .f32⟩ : BufTy).Contents (Elt F) → (⟨S3x8192x8x4, .f32⟩ : BufTy).Contents (Elt F) → (⟨S3x8192x8x4, .f32⟩ : BufTy).Contents (Elt F)),
    unary main_v68 main_v69 (broadcastInDim S3x8192x8x4x1 ![0, 1, 2, 3] bcast_S3x8192x8x4_S3x8192x8x4x1_0_1_2_3 : (⟨S3x8192x8x4, .f32⟩ : BufTy).Contents (Elt F) → (⟨S3x8192x8x4x1, .f32⟩ : BufTy).Contents (Elt F)),
    unary main_v69 main_v70 (broadcastInDim S3x8192x8x4x32 ![0, 1, 2, 3, 4] bcast_S3x8192x8x4x1_S3x8192x8x4x32_0_1_2_3_4 : (⟨S3x8192x8x4x1, .f32⟩ : BufTy).Contents (Elt F) → (⟨S3x8192x8x4x32, .f32⟩ : BufTy).Contents (Elt F)),
    binary main_v42 main_v70 main_v71 (mulf : (⟨S3x8192x8x4x32, .f32⟩ : BufTy).Contents (Elt F) → (⟨S3x8192x8x4x32, .f32⟩ : BufTy).Contents (Elt F) → (⟨S3x8192x8x4x32, .f32⟩ : BufTy).Contents (Elt F)),
    nullary main_cst_20 (constant S_ .f32 0xC3E00000#32),
    nullary main_cst_21 (constant S_ .f32 0x43E00000#32),
    TRef.unary (TRef.of (T := ⟨S_, .f32⟩) main_cst_20) (TRef.of (T := ⟨S_, .f32⟩) main_call3_v0) id,
    TRef.unary (TRef.of (T := ⟨S_, .f32⟩) main_call3_v0) (TRef.of (T := ⟨S3x8192x8x4x32, .f32⟩) main_call3_v1) (broadcastInDim S3x8192x8x4x32 ![] bcast_S_S3x8192x8x4x32),
    TRef.binary (TRef.of (T := ⟨S3x8192x8x4x32, .f32⟩) main_call3_v1) (TRef.of (T := ⟨S3x8192x8x4x32, .f32⟩) main_v71) (TRef.of (T := ⟨S3x8192x8x4x32, .f32⟩) main_call3_v2) maximumf,
    TRef.unary (TRef.of (T := ⟨S_, .f32⟩) main_cst_21) (TRef.of (T := ⟨S_, .f32⟩) main_call3_v3) id,
    TRef.unary (TRef.of (T := ⟨S_, .f32⟩) main_call3_v3) (TRef.of (T := ⟨S3x8192x8x4x32, .f32⟩) main_call3_v4) (broadcastInDim S3x8192x8x4x32 ![] bcast_S_S3x8192x8x4x32),
    TRef.binary (TRef.of (T := ⟨S3x8192x8x4x32, .f32⟩) main_call3_v4) (TRef.of (T := ⟨S3x8192x8x4x32, .f32⟩) main_call3_v2) (TRef.of (T := ⟨S3x8192x8x4x32, .f32⟩) main_v72) minimumf,
    reshape main_v72 main_v73 (rfl : (.f32 : EltTy) = .f32) shapeCasts_S3x8192x8x4x32_S3x8192x8x128,
    unary main_arg2 main_v74 ((extf .f32 · bitsLt_bf16_f32) : (⟨S3x8192x1024, .bf16⟩ : BufTy).Contents (Elt F) → (⟨S3x8192x1024, .f32⟩ : BufTy).Contents (Elt F)),
    reshape main_v74 main_v75 (rfl : (.f32 : EltTy) = .f32) shapeCasts_S3x8192x1024_S3x8192x8x128,
    reshape main_v75 main_v76 (rfl : (.f32 : EltTy) = .f32) shapeCasts_S3x8192x8x128_S3x8192x8x4x32,
    unary main_v76 main_v77 (Host.absf : (⟨S3x8192x8x4x32, .f32⟩ : BufTy).Contents (Elt F) → (⟨S3x8192x8x4x32, .f32⟩ : BufTy).Contents (Elt F)),
    nullary main_cst_22 (constant S_ .f32 0xFF800000#32),
    binary main_v77 main_cst_22 main_v78 ((fun x v => Host.reduce FloatOps.maximumf x v reducesTo_S3x8192x8x4x32_S3x8192x8x4_d4 h_S_) : (⟨S3x8192x8x4x32, .f32⟩ : BufTy).Contents (Elt F) → (⟨S_, .f32⟩ : BufTy).Contents (Elt F) → (⟨S3x8192x8x4, .f32⟩ : BufTy).Contents (Elt F)),
    nullary main_cst_23 (constant S_ .f32 0x43E00000#32),
    unary main_cst_23 main_v79 (broadcastInDim S3x8192x8x4 ![] bcast_S_S3x8192x8x4 : (⟨S_, .f32⟩ : BufTy).Contents (Elt F) → (⟨S3x8192x8x4, .f32⟩ : BufTy).Contents (Elt F)),
    binary main_v78 main_v79 main_v80 (Host.divf : (⟨S3x8192x8x4, .f32⟩ : BufTy).Contents (Elt F) → (⟨S3x8192x8x4, .f32⟩ : BufTy).Contents (Elt F) → (⟨S3x8192x8x4, .f32⟩ : BufTy).Contents (Elt F)),
    nullary main_cst_24 (constant S_ .f32 0x40000000#32),
    unary main_cst_24 main_v81 (broadcastInDim S254 ![] bcast_S_S254 : (⟨S_, .f32⟩ : BufTy).Contents (Elt F) → (⟨S254, .f32⟩ : BufTy).Contents (Elt F)),
    nullary main_v82 (iotaInDim S254 32 0),
    unary main_v82 main_v83 (sitofp .f32 : (⟨S254, .i32⟩ : BufTy).Contents (Elt F) → (⟨S254, .f32⟩ : BufTy).Contents (Elt F)),
    nullary main_cst_25 (constant S_ .f32 0x42FC0000#32),
    unary main_cst_25 main_v84 (broadcastInDim S254 ![] bcast_S_S254 : (⟨S_, .f32⟩ : BufTy).Contents (Elt F) → (⟨S254, .f32⟩ : BufTy).Contents (Elt F)),
    binary main_v83 main_v84 main_v85 (subf : (⟨S254, .f32⟩ : BufTy).Contents (Elt F) → (⟨S254, .f32⟩ : BufTy).Contents (Elt F) → (⟨S254, .f32⟩ : BufTy).Contents (Elt F)),
    binary main_v81 main_v85 main_v86 (Host.powf : (⟨S254, .f32⟩ : BufTy).Contents (Elt F) → (⟨S254, .f32⟩ : BufTy).Contents (Elt F) → (⟨S254, .f32⟩ : BufTy).Contents (Elt F)),
    unary main_v80 main_v87 (broadcastInDim S3x8192x8x4x1 ![0, 1, 2, 3] bcast_S3x8192x8x4_S3x8192x8x4x1_0_1_2_3 : (⟨S3x8192x8x4, .f32⟩ : BufTy).Contents (Elt F) → (⟨S3x8192x8x4x1, .f32⟩ : BufTy).Contents (Elt F)),
    unary main_v86 main_v88 (broadcastInDim S1x1x1x1x254 ![4] bcast_S254_S1x1x1x1x254_4 : (⟨S254, .f32⟩ : BufTy).Contents (Elt F) → (⟨S1x1x1x1x254, .f32⟩ : BufTy).Contents (Elt F)),
    unary main_v87 main_v89 (broadcastInDim S3x8192x8x4x254 ![0, 1, 2, 3, 4] bcast_S3x8192x8x4x1_S3x8192x8x4x254_0_1_2_3_4 : (⟨S3x8192x8x4x1, .f32⟩ : BufTy).Contents (Elt F) → (⟨S3x8192x8x4x254, .f32⟩ : BufTy).Contents (Elt F)),
    unary main_v88 main_v90 (broadcastInDim S3x8192x8x4x254 ![0, 1, 2, 3, 4] bcast_S1x1x1x1x254_S3x8192x8x4x254_0_1_2_3_4 : (⟨S1x1x1x1x254, .f32⟩ : BufTy).Contents (Elt F) → (⟨S3x8192x8x4x254, .f32⟩ : BufTy).Contents (Elt F)),
    binary main_v89 main_v90 main_v91 (cmpf .oge : (⟨S3x8192x8x4x254, .f32⟩ : BufTy).Contents (Elt F) → (⟨S3x8192x8x4x254, .f32⟩ : BufTy).Contents (Elt F) → (⟨S3x8192x8x4x254, .i1⟩ : BufTy).Contents (Elt F)),
    unary main_v91 main_v92 ((extui 32 · natLt_1_32) : (⟨S3x8192x8x4x254, .i1⟩ : BufTy).Contents (Elt F) → (⟨S3x8192x8x4x254, .i32⟩ : BufTy).Contents (Elt F)),
    nullary main_c_26 (constantI S_ 32 0#32),
    binary main_v92 main_c_26 main_v93 ((fun x v => Host.reduce IntOp.addi x v reducesTo_S3x8192x8x4x254_S3x8192x8x4_d4 h_S_) : (⟨S3x8192x8x4x254, .i32⟩ : BufTy).Contents (Elt F) → (⟨S_, .i32⟩ : BufTy).Contents (Elt F) → (⟨S3x8192x8x4, .i32⟩ : BufTy).Contents (Elt F)),
    nullary main_c_27 (constantI S_ 32 126#32),
    unary main_c_27 main_v94 (broadcastInDim S3x8192x8x4 ![] bcast_S_S3x8192x8x4 : (⟨S_, .i32⟩ : BufTy).Contents (Elt F) → (⟨S3x8192x8x4, .i32⟩ : BufTy).Contents (Elt F)),
    binary main_v93 main_v94 main_v95 (subi : (⟨S3x8192x8x4, .i32⟩ : BufTy).Contents (Elt F) → (⟨S3x8192x8x4, .i32⟩ : BufTy).Contents (Elt F) → (⟨S3x8192x8x4, .i32⟩ : BufTy).Contents (Elt F)),
    nullary main_cst_28 (constant S_ .f32 0x00000000#32),
    unary main_cst_28 main_v96 (broadcastInDim S3x8192x8x4 ![] bcast_S_S3x8192x8x4 : (⟨S_, .f32⟩ : BufTy).Contents (Elt F) → (⟨S3x8192x8x4, .f32⟩ : BufTy).Contents (Elt F)),
    binary main_v80 main_v96 main_v97 (cmpf .oeq : (⟨S3x8192x8x4, .f32⟩ : BufTy).Contents (Elt F) → (⟨S3x8192x8x4, .f32⟩ : BufTy).Contents (Elt F) → (⟨S3x8192x8x4, .i1⟩ : BufTy).Contents (Elt F)),
    nullary main_c_29 (constantI S_ 32 0#32),
    TRef.unary (TRef.of (T := ⟨S_, .i32⟩) main_c_29) (TRef.of (T := ⟨S_, .i32⟩) main_call4_v0) id,
    TRef.unary (TRef.of (T := ⟨S_, .i32⟩) main_call4_v0) (TRef.of (T := ⟨S3x8192x8x4, .i32⟩) main_call4_v1) (broadcastInDim S3x8192x8x4 ![] bcast_S_S3x8192x8x4),
    TRef.ternary (TRef.of (T := ⟨S3x8192x8x4, .i1⟩) main_v97) (TRef.of (T := ⟨S3x8192x8x4, .i32⟩) main_call4_v1) (TRef.of (T := ⟨S3x8192x8x4, .i32⟩) main_v95) (TRef.of (T := ⟨S3x8192x8x4, .i32⟩) main_v98) select,
    nullary main_cst_30 (constant S_ .f32 0x40000000#32),
    unary main_cst_30 main_v99 (broadcastInDim S3x8192x8x4 ![] bcast_S_S3x8192x8x4 : (⟨S_, .f32⟩ : BufTy).Contents (Elt F) → (⟨S3x8192x8x4, .f32⟩ : BufTy).Contents (Elt F)),
    unary main_v98 main_v100 (negi : (⟨S3x8192x8x4, .i32⟩ : BufTy).Contents (Elt F) → (⟨S3x8192x8x4, .i32⟩ : BufTy).Contents (Elt F)),
    unary main_v100 main_v101 (sitofp .f32 : (⟨S3x8192x8x4, .i32⟩ : BufTy).Contents (Elt F) → (⟨S3x8192x8x4, .f32⟩ : BufTy).Contents (Elt F)),
    binary main_v99 main_v101 main_v102 (Host.powf : (⟨S3x8192x8x4, .f32⟩ : BufTy).Contents (Elt F) → (⟨S3x8192x8x4, .f32⟩ : BufTy).Contents (Elt F) → (⟨S3x8192x8x4, .f32⟩ : BufTy).Contents (Elt F)),
    unary main_v102 main_v103 (broadcastInDim S3x8192x8x4x1 ![0, 1, 2, 3] bcast_S3x8192x8x4_S3x8192x8x4x1_0_1_2_3 : (⟨S3x8192x8x4, .f32⟩ : BufTy).Contents (Elt F) → (⟨S3x8192x8x4x1, .f32⟩ : BufTy).Contents (Elt F)),
    unary main_v103 main_v104 (broadcastInDim S3x8192x8x4x32 ![0, 1, 2, 3, 4] bcast_S3x8192x8x4x1_S3x8192x8x4x32_0_1_2_3_4 : (⟨S3x8192x8x4x1, .f32⟩ : BufTy).Contents (Elt F) → (⟨S3x8192x8x4x32, .f32⟩ : BufTy).Contents (Elt F)),
    binary main_v76 main_v104 main_v105 (mulf : (⟨S3x8192x8x4x32, .f32⟩ : BufTy).Contents (Elt F) → (⟨S3x8192x8x4x32, .f32⟩ : BufTy).Contents (Elt F) → (⟨S3x8192x8x4x32, .f32⟩ : BufTy).Contents (Elt F)),
    nullary main_cst_31 (constant S_ .f32 0xC3E00000#32),
    nullary main_cst_32 (constant S_ .f32 0x43E00000#32),
    TRef.unary (TRef.of (T := ⟨S_, .f32⟩) main_cst_31) (TRef.of (T := ⟨S_, .f32⟩) main_call5_v0) id,
    TRef.unary (TRef.of (T := ⟨S_, .f32⟩) main_call5_v0) (TRef.of (T := ⟨S3x8192x8x4x32, .f32⟩) main_call5_v1) (broadcastInDim S3x8192x8x4x32 ![] bcast_S_S3x8192x8x4x32),
    TRef.binary (TRef.of (T := ⟨S3x8192x8x4x32, .f32⟩) main_call5_v1) (TRef.of (T := ⟨S3x8192x8x4x32, .f32⟩) main_v105) (TRef.of (T := ⟨S3x8192x8x4x32, .f32⟩) main_call5_v2) maximumf,
    TRef.unary (TRef.of (T := ⟨S_, .f32⟩) main_cst_32) (TRef.of (T := ⟨S_, .f32⟩) main_call5_v3) id,
    TRef.unary (TRef.of (T := ⟨S_, .f32⟩) main_call5_v3) (TRef.of (T := ⟨S3x8192x8x4x32, .f32⟩) main_call5_v4) (broadcastInDim S3x8192x8x4x32 ![] bcast_S_S3x8192x8x4x32),
    TRef.binary (TRef.of (T := ⟨S3x8192x8x4x32, .f32⟩) main_call5_v4) (TRef.of (T := ⟨S3x8192x8x4x32, .f32⟩) main_call5_v2) (TRef.of (T := ⟨S3x8192x8x4x32, .f32⟩) main_v106) minimumf,
    reshape main_v106 main_v107 (rfl : (.f32 : EltTy) = .f32) shapeCasts_S3x8192x8x4x32_S3x8192x8x128,
    reshape main_v33 main_v108 (rfl : (.f32 : EltTy) = .f32) shapeCasts_S3x8192x32x128_S3x8192x4096,
    reshape main_v73 main_v109 (rfl : (.f32 : EltTy) = .f32) shapeCasts_S3x8192x8x128_S3x8192x1024,
    reshape main_v107 main_v110 (rfl : (.f32 : EltTy) = .f32) shapeCasts_S3x8192x8x128_S3x8192x1024 ]

set_option maxRecDepth 8192 in
set_option maxHeartbeats 4000000 in
theorem ops_flat : List.flatten [hostOps0, hostOps0_1, hostOps0_2, hostOps0_3, hostOps0_4, hostOps0_5, hostOps0_6, hostOps0_7, hostOps0_8, hostOps0_9, hostOps0_10, hostOps0_11, hostOps0_12] = (ops : List (HloOp τ sig (Elt F))) := rfl

variable (m : (ℓ : Loc nD τ sig) → Buf (Elt F) ℓ)

set_option maxRecDepth 8192 in
set_option maxHeartbeats 66800000 in
theorem V0_main_v108 (c : Dev nD) : V0 m c (Proc.devRef .tc main_v108) = shapeCast _ (shapeCast _ (minimumf (broadcastInDim S3x8192x32x4x32 ![] bcast_S_S3x8192x32x4x32 (id (constant S_ .f32 0x43E00000#32))) (maximumf (broadcastInDim S3x8192x32x4x32 ![] bcast_S_S3x8192x32x4x32 (id (constant S_ .f32 0xC3E00000#32))) (mulf (shapeCast _ (shapeCast _ (extf .f32 (m ((c.tc : Thread nD τ).loc main_arg0)) bitsLt_bf16_f32) shapeCasts_S3x8192x4096_S3x8192x32x128) shapeCasts_S3x8192x32x128_S3x8192x32x4x32) (broadcastInDim S3x8192x32x4x32 ![0, 1, 2, 3, 4] bcast_S3x8192x32x4x1_S3x8192x32x4x32_0_1_2_3_4 (broadcastInDim S3x8192x32x4x1 ![0, 1, 2, 3] bcast_S3x8192x32x4_S3x8192x32x4x1_0_1_2_3 (Host.powf (broadcastInDim S3x8192x32x4 ![] bcast_S_S3x8192x32x4 (constant S_ .f32 0x40000000#32)) (sitofp .f32 (negi (select (cmpf .oeq (Host.divf (Host.reduce FloatOps.maximumf (Host.absf (shapeCast _ (shapeCast _ (extf .f32 (m ((c.tc : Thread nD τ).loc main_arg0)) bitsLt_bf16_f32) shapeCasts_S3x8192x4096_S3x8192x32x128) shapeCasts_S3x8192x32x128_S3x8192x32x4x32)) (constant S_ .f32 0xFF800000#32) reducesTo_S3x8192x32x4x32_S3x8192x32x4_d4 h_S_) (broadcastInDim S3x8192x32x4 ![] bcast_S_S3x8192x32x4 (constant S_ .f32 0x43E00000#32))) (broadcastInDim S3x8192x32x4 ![] bcast_S_S3x8192x32x4 (constant S_ .f32 0x00000000#32))) (broadcastInDim S3x8192x32x4 ![] bcast_S_S3x8192x32x4 (id (constantI S_ 32 0#32))) (subi (Host.reduce IntOp.addi (extui 32 (cmpf .oge (broadcastInDim S3x8192x32x4x254 ![0, 1, 2, 3, 4] bcast_S3x8192x32x4x1_S3x8192x32x4x254_0_1_2_3_4 (broadcastInDim S3x8192x32x4x1 ![0, 1, 2, 3] bcast_S3x8192x32x4_S3x8192x32x4x1_0_1_2_3 (Host.divf (Host.reduce FloatOps.maximumf (Host.absf (shapeCast _ (shapeCast _ (extf .f32 (m ((c.tc : Thread nD τ).loc main_arg0)) bitsLt_bf16_f32) shapeCasts_S3x8192x4096_S3x8192x32x128) shapeCasts_S3x8192x32x128_S3x8192x32x4x32)) (constant S_ .f32 0xFF800000#32) reducesTo_S3x8192x32x4x32_S3x8192x32x4_d4 h_S_) (broadcastInDim S3x8192x32x4 ![] bcast_S_S3x8192x32x4 (constant S_ .f32 0x43E00000#32))))) (broadcastInDim S3x8192x32x4x254 ![0, 1, 2, 3, 4] bcast_S1x1x1x1x254_S3x8192x32x4x254_0_1_2_3_4 (broadcastInDim S1x1x1x1x254 ![4] bcast_S254_S1x1x1x1x254_4 (Host.powf (broadcastInDim S254 ![] bcast_S_S254 (constant S_ .f32 0x40000000#32)) (subf (sitofp .f32 (iotaInDim S254 32 0)) (broadcastInDim S254 ![] bcast_S_S254 (constant S_ .f32 0x42FC0000#32))))))) natLt_1_32) (constantI S_ 32 0#32) reducesTo_S3x8192x32x4x254_S3x8192x32x4_d4 h_S_) (broadcastInDim S3x8192x32x4 ![] bcast_S_S3x8192x32x4 (constantI S_ 32 126#32)))))))))))) shapeCasts_S3x8192x32x4x32_S3x8192x32x128) shapeCasts_S3x8192x32x128_S3x8192x4096 := by
  show after (List.flatten [hostOps0, hostOps0_1, hostOps0_2, hostOps0_3, hostOps0_4, hostOps0_5, hostOps0_6, hostOps0_7, hostOps0_8, hostOps0_9, hostOps0_10, hostOps0_11, hostOps0_12]) (fun b => m (c, b)) (Proc.devRef .tc main_v108) = _
  rw [ops_flat]
  simp only [ops, TRef.binary, TRef.ternary, TRef.unary, TRef.toBuf, TRef.ofBuf, cast_eq]
  after_results_simp <;> rfl

set_option maxRecDepth 8192 in
set_option maxHeartbeats 66800000 in
theorem V0_main_v109 (c : Dev nD) : V0 m c (Proc.devRef .tc main_v109) = shapeCast _ (shapeCast _ (minimumf (broadcastInDim S3x8192x8x4x32 ![] bcast_S_S3x8192x8x4x32 (id (constant S_ .f32 0x43E00000#32))) (maximumf (broadcastInDim S3x8192x8x4x32 ![] bcast_S_S3x8192x8x4x32 (id (constant S_ .f32 0xC3E00000#32))) (mulf (shapeCast _ (subf (shapeCast _ (extf .f32 (m ((c.tc : Thread nD τ).loc main_arg1)) bitsLt_bf16_f32) shapeCasts_S3x8192x1024_S3x8192x8x128) (broadcastInDim S3x8192x8x128 ![0, 1, 2, 3] bcast_S3x1x8x128_S3x8192x8x128_0_1_2_3 (Host.divf (broadcastInDim S3x1x8x128 ![0, 2, 3] bcast_S3x8x128_S3x1x8x128_0_2_3 (Host.reduceAdd (shapeCast _ (extf .f32 (m ((c.tc : Thread nD τ).loc main_arg1)) bitsLt_bf16_f32) shapeCasts_S3x8192x1024_S3x8192x8x128) (constant S_ .f32 0x00000000#32) reducesTo_S3x8192x8x128_S3x8x128_d1 h_S_)) (broadcastInDim S3x1x8x128 ![] bcast_S_S3x1x8x128 (constant S_ .f32 0x46000000#32))))) shapeCasts_S3x8192x8x128_S3x8192x8x4x32) (broadcastInDim S3x8192x8x4x32 ![0, 1, 2, 3, 4] bcast_S3x8192x8x4x1_S3x8192x8x4x32_0_1_2_3_4 (broadcastInDim S3x8192x8x4x1 ![0, 1, 2, 3] bcast_S3x8192x8x4_S3x8192x8x4x1_0_1_2_3 (Host.powf (broadcastInDim S3x8192x8x4 ![] bcast_S_S3x8192x8x4 (constant S_ .f32 0x40000000#32)) (sitofp .f32 (negi (select (cmpf .oeq (Host.divf (Host.reduce FloatOps.maximumf (Host.absf (shapeCast _ (subf (shapeCast _ (extf .f32 (m ((c.tc : Thread nD τ).loc main_arg1)) bitsLt_bf16_f32) shapeCasts_S3x8192x1024_S3x8192x8x128) (broadcastInDim S3x8192x8x128 ![0, 1, 2, 3] bcast_S3x1x8x128_S3x8192x8x128_0_1_2_3 (Host.divf (broadcastInDim S3x1x8x128 ![0, 2, 3] bcast_S3x8x128_S3x1x8x128_0_2_3 (Host.reduceAdd (shapeCast _ (extf .f32 (m ((c.tc : Thread nD τ).loc main_arg1)) bitsLt_bf16_f32) shapeCasts_S3x8192x1024_S3x8192x8x128) (constant S_ .f32 0x00000000#32) reducesTo_S3x8192x8x128_S3x8x128_d1 h_S_)) (broadcastInDim S3x1x8x128 ![] bcast_S_S3x1x8x128 (constant S_ .f32 0x46000000#32))))) shapeCasts_S3x8192x8x128_S3x8192x8x4x32)) (constant S_ .f32 0xFF800000#32) reducesTo_S3x8192x8x4x32_S3x8192x8x4_d4 h_S_) (broadcastInDim S3x8192x8x4 ![] bcast_S_S3x8192x8x4 (constant S_ .f32 0x43E00000#32))) (broadcastInDim S3x8192x8x4 ![] bcast_S_S3x8192x8x4 (constant S_ .f32 0x00000000#32))) (broadcastInDim S3x8192x8x4 ![] bcast_S_S3x8192x8x4 (id (constantI S_ 32 0#32))) (subi (Host.reduce IntOp.addi (extui 32 (cmpf .oge (broadcastInDim S3x8192x8x4x254 ![0, 1, 2, 3, 4] bcast_S3x8192x8x4x1_S3x8192x8x4x254_0_1_2_3_4 (broadcastInDim S3x8192x8x4x1 ![0, 1, 2, 3] bcast_S3x8192x8x4_S3x8192x8x4x1_0_1_2_3 (Host.divf (Host.reduce FloatOps.maximumf (Host.absf (shapeCast _ (subf (shapeCast _ (extf .f32 (m ((c.tc : Thread nD τ).loc main_arg1)) bitsLt_bf16_f32) shapeCasts_S3x8192x1024_S3x8192x8x128) (broadcastInDim S3x8192x8x128 ![0, 1, 2, 3] bcast_S3x1x8x128_S3x8192x8x128_0_1_2_3 (Host.divf (broadcastInDim S3x1x8x128 ![0, 2, 3] bcast_S3x8x128_S3x1x8x128_0_2_3 (Host.reduceAdd (shapeCast _ (extf .f32 (m ((c.tc : Thread nD τ).loc main_arg1)) bitsLt_bf16_f32) shapeCasts_S3x8192x1024_S3x8192x8x128) (constant S_ .f32 0x00000000#32) reducesTo_S3x8192x8x128_S3x8x128_d1 h_S_)) (broadcastInDim S3x1x8x128 ![] bcast_S_S3x1x8x128 (constant S_ .f32 0x46000000#32))))) shapeCasts_S3x8192x8x128_S3x8192x8x4x32)) (constant S_ .f32 0xFF800000#32) reducesTo_S3x8192x8x4x32_S3x8192x8x4_d4 h_S_) (broadcastInDim S3x8192x8x4 ![] bcast_S_S3x8192x8x4 (constant S_ .f32 0x43E00000#32))))) (broadcastInDim S3x8192x8x4x254 ![0, 1, 2, 3, 4] bcast_S1x1x1x1x254_S3x8192x8x4x254_0_1_2_3_4 (broadcastInDim S1x1x1x1x254 ![4] bcast_S254_S1x1x1x1x254_4 (Host.powf (broadcastInDim S254 ![] bcast_S_S254 (constant S_ .f32 0x40000000#32)) (subf (sitofp .f32 (iotaInDim S254 32 0)) (broadcastInDim S254 ![] bcast_S_S254 (constant S_ .f32 0x42FC0000#32))))))) natLt_1_32) (constantI S_ 32 0#32) reducesTo_S3x8192x8x4x254_S3x8192x8x4_d4 h_S_) (broadcastInDim S3x8192x8x4 ![] bcast_S_S3x8192x8x4 (constantI S_ 32 126#32)))))))))))) shapeCasts_S3x8192x8x4x32_S3x8192x8x128) shapeCasts_S3x8192x8x128_S3x8192x1024 := by
  show after (List.flatten [hostOps0, hostOps0_1, hostOps0_2, hostOps0_3, hostOps0_4, hostOps0_5, hostOps0_6, hostOps0_7, hostOps0_8, hostOps0_9, hostOps0_10, hostOps0_11, hostOps0_12]) (fun b => m (c, b)) (Proc.devRef .tc main_v109) = _
  rw [ops_flat]
  simp only [ops, TRef.binary, TRef.ternary, TRef.unary, TRef.toBuf, TRef.ofBuf, cast_eq]
  after_results_simp <;> rfl

set_option maxRecDepth 8192 in
set_option maxHeartbeats 66800000 in
theorem V0_main_v110 (c : Dev nD) : V0 m c (Proc.devRef .tc main_v110) = shapeCast _ (shapeCast _ (minimumf (broadcastInDim S3x8192x8x4x32 ![] bcast_S_S3x8192x8x4x32 (id (constant S_ .f32 0x43E00000#32))) (maximumf (broadcastInDim S3x8192x8x4x32 ![] bcast_S_S3x8192x8x4x32 (id (constant S_ .f32 0xC3E00000#32))) (mulf (shapeCast _ (shapeCast _ (extf .f32 (m ((c.tc : Thread nD τ).loc main_arg2)) bitsLt_bf16_f32) shapeCasts_S3x8192x1024_S3x8192x8x128) shapeCasts_S3x8192x8x128_S3x8192x8x4x32) (broadcastInDim S3x8192x8x4x32 ![0, 1, 2, 3, 4] bcast_S3x8192x8x4x1_S3x8192x8x4x32_0_1_2_3_4 (broadcastInDim S3x8192x8x4x1 ![0, 1, 2, 3] bcast_S3x8192x8x4_S3x8192x8x4x1_0_1_2_3 (Host.powf (broadcastInDim S3x8192x8x4 ![] bcast_S_S3x8192x8x4 (constant S_ .f32 0x40000000#32)) (sitofp .f32 (negi (select (cmpf .oeq (Host.divf (Host.reduce FloatOps.maximumf (Host.absf (shapeCast _ (shapeCast _ (extf .f32 (m ((c.tc : Thread nD τ).loc main_arg2)) bitsLt_bf16_f32) shapeCasts_S3x8192x1024_S3x8192x8x128) shapeCasts_S3x8192x8x128_S3x8192x8x4x32)) (constant S_ .f32 0xFF800000#32) reducesTo_S3x8192x8x4x32_S3x8192x8x4_d4 h_S_) (broadcastInDim S3x8192x8x4 ![] bcast_S_S3x8192x8x4 (constant S_ .f32 0x43E00000#32))) (broadcastInDim S3x8192x8x4 ![] bcast_S_S3x8192x8x4 (constant S_ .f32 0x00000000#32))) (broadcastInDim S3x8192x8x4 ![] bcast_S_S3x8192x8x4 (id (constantI S_ 32 0#32))) (subi (Host.reduce IntOp.addi (extui 32 (cmpf .oge (broadcastInDim S3x8192x8x4x254 ![0, 1, 2, 3, 4] bcast_S3x8192x8x4x1_S3x8192x8x4x254_0_1_2_3_4 (broadcastInDim S3x8192x8x4x1 ![0, 1, 2, 3] bcast_S3x8192x8x4_S3x8192x8x4x1_0_1_2_3 (Host.divf (Host.reduce FloatOps.maximumf (Host.absf (shapeCast _ (shapeCast _ (extf .f32 (m ((c.tc : Thread nD τ).loc main_arg2)) bitsLt_bf16_f32) shapeCasts_S3x8192x1024_S3x8192x8x128) shapeCasts_S3x8192x8x128_S3x8192x8x4x32)) (constant S_ .f32 0xFF800000#32) reducesTo_S3x8192x8x4x32_S3x8192x8x4_d4 h_S_) (broadcastInDim S3x8192x8x4 ![] bcast_S_S3x8192x8x4 (constant S_ .f32 0x43E00000#32))))) (broadcastInDim S3x8192x8x4x254 ![0, 1, 2, 3, 4] bcast_S1x1x1x1x254_S3x8192x8x4x254_0_1_2_3_4 (broadcastInDim S1x1x1x1x254 ![4] bcast_S254_S1x1x1x1x254_4 (Host.powf (broadcastInDim S254 ![] bcast_S_S254 (constant S_ .f32 0x40000000#32)) (subf (sitofp .f32 (iotaInDim S254 32 0)) (broadcastInDim S254 ![] bcast_S_S254 (constant S_ .f32 0x42FC0000#32))))))) natLt_1_32) (constantI S_ 32 0#32) reducesTo_S3x8192x8x4x254_S3x8192x8x4_d4 h_S_) (broadcastInDim S3x8192x8x4 ![] bcast_S_S3x8192x8x4 (constantI S_ 32 126#32)))))))))))) shapeCasts_S3x8192x8x4x32_S3x8192x8x128) shapeCasts_S3x8192x8x128_S3x8192x1024 := by
  show after (List.flatten [hostOps0, hostOps0_1, hostOps0_2, hostOps0_3, hostOps0_4, hostOps0_5, hostOps0_6, hostOps0_7, hostOps0_8, hostOps0_9, hostOps0_10, hostOps0_11, hostOps0_12]) (fun b => m (c, b)) (Proc.devRef .tc main_v110) = _
  rw [ops_flat]
  simp only [ops, TRef.binary, TRef.ternary, TRef.unary, TRef.toBuf, TRef.ofBuf, cast_eq]
  after_results_simp <;> rfl

set_option maxRecDepth 8192 in
set_option maxHeartbeats 66800000 in
theorem V0_main_v24 (c : Dev nD) : V0 m c (Proc.devRef .tc main_v24) = select (cmpf .oeq (Host.divf (Host.reduce FloatOps.maximumf (Host.absf (shapeCast _ (shapeCast _ (extf .f32 (m ((c.tc : Thread nD τ).loc main_arg0)) bitsLt_bf16_f32) shapeCasts_S3x8192x4096_S3x8192x32x128) shapeCasts_S3x8192x32x128_S3x8192x32x4x32)) (constant S_ .f32 0xFF800000#32) reducesTo_S3x8192x32x4x32_S3x8192x32x4_d4 h_S_) (broadcastInDim S3x8192x32x4 ![] bcast_S_S3x8192x32x4 (constant S_ .f32 0x43E00000#32))) (broadcastInDim S3x8192x32x4 ![] bcast_S_S3x8192x32x4 (constant S_ .f32 0x00000000#32))) (broadcastInDim S3x8192x32x4 ![] bcast_S_S3x8192x32x4 (id (constantI S_ 32 0#32))) (subi (Host.reduce IntOp.addi (extui 32 (cmpf .oge (broadcastInDim S3x8192x32x4x254 ![0, 1, 2, 3, 4] bcast_S3x8192x32x4x1_S3x8192x32x4x254_0_1_2_3_4 (broadcastInDim S3x8192x32x4x1 ![0, 1, 2, 3] bcast_S3x8192x32x4_S3x8192x32x4x1_0_1_2_3 (Host.divf (Host.reduce FloatOps.maximumf (Host.absf (shapeCast _ (shapeCast _ (extf .f32 (m ((c.tc : Thread nD τ).loc main_arg0)) bitsLt_bf16_f32) shapeCasts_S3x8192x4096_S3x8192x32x128) shapeCasts_S3x8192x32x128_S3x8192x32x4x32)) (constant S_ .f32 0xFF800000#32) reducesTo_S3x8192x32x4x32_S3x8192x32x4_d4 h_S_) (broadcastInDim S3x8192x32x4 ![] bcast_S_S3x8192x32x4 (constant S_ .f32 0x43E00000#32))))) (broadcastInDim S3x8192x32x4x254 ![0, 1, 2, 3, 4] bcast_S1x1x1x1x254_S3x8192x32x4x254_0_1_2_3_4 (broadcastInDim S1x1x1x1x254 ![4] bcast_S254_S1x1x1x1x254_4 (Host.powf (broadcastInDim S254 ![] bcast_S_S254 (constant S_ .f32 0x40000000#32)) (subf (sitofp .f32 (iotaInDim S254 32 0)) (broadcastInDim S254 ![] bcast_S_S254 (constant S_ .f32 0x42FC0000#32))))))) natLt_1_32) (constantI S_ 32 0#32) reducesTo_S3x8192x32x4x254_S3x8192x32x4_d4 h_S_) (broadcastInDim S3x8192x32x4 ![] bcast_S_S3x8192x32x4 (constantI S_ 32 126#32))) := by
  show after (List.flatten [hostOps0, hostOps0_1, hostOps0_2, hostOps0_3, hostOps0_4, hostOps0_5, hostOps0_6, hostOps0_7, hostOps0_8, hostOps0_9, hostOps0_10, hostOps0_11, hostOps0_12]) (fun b => m (c, b)) (Proc.devRef .tc main_v24) = _
  rw [ops_flat]
  simp only [ops, TRef.binary, TRef.ternary, TRef.unary, TRef.toBuf, TRef.ofBuf, cast_eq]
  after_results_simp <;> rfl

set_option maxRecDepth 8192 in
set_option maxHeartbeats 66800000 in
theorem V0_main_v64 (c : Dev nD) : V0 m c (Proc.devRef .tc main_v64) = select (cmpf .oeq (Host.divf (Host.reduce FloatOps.maximumf (Host.absf (shapeCast _ (subf (shapeCast _ (extf .f32 (m ((c.tc : Thread nD τ).loc main_arg1)) bitsLt_bf16_f32) shapeCasts_S3x8192x1024_S3x8192x8x128) (broadcastInDim S3x8192x8x128 ![0, 1, 2, 3] bcast_S3x1x8x128_S3x8192x8x128_0_1_2_3 (Host.divf (broadcastInDim S3x1x8x128 ![0, 2, 3] bcast_S3x8x128_S3x1x8x128_0_2_3 (Host.reduceAdd (shapeCast _ (extf .f32 (m ((c.tc : Thread nD τ).loc main_arg1)) bitsLt_bf16_f32) shapeCasts_S3x8192x1024_S3x8192x8x128) (constant S_ .f32 0x00000000#32) reducesTo_S3x8192x8x128_S3x8x128_d1 h_S_)) (broadcastInDim S3x1x8x128 ![] bcast_S_S3x1x8x128 (constant S_ .f32 0x46000000#32))))) shapeCasts_S3x8192x8x128_S3x8192x8x4x32)) (constant S_ .f32 0xFF800000#32) reducesTo_S3x8192x8x4x32_S3x8192x8x4_d4 h_S_) (broadcastInDim S3x8192x8x4 ![] bcast_S_S3x8192x8x4 (constant S_ .f32 0x43E00000#32))) (broadcastInDim S3x8192x8x4 ![] bcast_S_S3x8192x8x4 (constant S_ .f32 0x00000000#32))) (broadcastInDim S3x8192x8x4 ![] bcast_S_S3x8192x8x4 (id (constantI S_ 32 0#32))) (subi (Host.reduce IntOp.addi (extui 32 (cmpf .oge (broadcastInDim S3x8192x8x4x254 ![0, 1, 2, 3, 4] bcast_S3x8192x8x4x1_S3x8192x8x4x254_0_1_2_3_4 (broadcastInDim S3x8192x8x4x1 ![0, 1, 2, 3] bcast_S3x8192x8x4_S3x8192x8x4x1_0_1_2_3 (Host.divf (Host.reduce FloatOps.maximumf (Host.absf (shapeCast _ (subf (shapeCast _ (extf .f32 (m ((c.tc : Thread nD τ).loc main_arg1)) bitsLt_bf16_f32) shapeCasts_S3x8192x1024_S3x8192x8x128) (broadcastInDim S3x8192x8x128 ![0, 1, 2, 3] bcast_S3x1x8x128_S3x8192x8x128_0_1_2_3 (Host.divf (broadcastInDim S3x1x8x128 ![0, 2, 3] bcast_S3x8x128_S3x1x8x128_0_2_3 (Host.reduceAdd (shapeCast _ (extf .f32 (m ((c.tc : Thread nD τ).loc main_arg1)) bitsLt_bf16_f32) shapeCasts_S3x8192x1024_S3x8192x8x128) (constant S_ .f32 0x00000000#32) reducesTo_S3x8192x8x128_S3x8x128_d1 h_S_)) (broadcastInDim S3x1x8x128 ![] bcast_S_S3x1x8x128 (constant S_ .f32 0x46000000#32))))) shapeCasts_S3x8192x8x128_S3x8192x8x4x32)) (constant S_ .f32 0xFF800000#32) reducesTo_S3x8192x8x4x32_S3x8192x8x4_d4 h_S_) (broadcastInDim S3x8192x8x4 ![] bcast_S_S3x8192x8x4 (constant S_ .f32 0x43E00000#32))))) (broadcastInDim S3x8192x8x4x254 ![0, 1, 2, 3, 4] bcast_S1x1x1x1x254_S3x8192x8x4x254_0_1_2_3_4 (broadcastInDim S1x1x1x1x254 ![4] bcast_S254_S1x1x1x1x254_4 (Host.powf (broadcastInDim S254 ![] bcast_S_S254 (constant S_ .f32 0x40000000#32)) (subf (sitofp .f32 (iotaInDim S254 32 0)) (broadcastInDim S254 ![] bcast_S_S254 (constant S_ .f32 0x42FC0000#32))))))) natLt_1_32) (constantI S_ 32 0#32) reducesTo_S3x8192x8x4x254_S3x8192x8x4_d4 h_S_) (broadcastInDim S3x8192x8x4 ![] bcast_S_S3x8192x8x4 (constantI S_ 32 126#32))) := by
  show after (List.flatten [hostOps0, hostOps0_1, hostOps0_2, hostOps0_3, hostOps0_4, hostOps0_5, hostOps0_6, hostOps0_7, hostOps0_8, hostOps0_9, hostOps0_10, hostOps0_11, hostOps0_12]) (fun b => m (c, b)) (Proc.devRef .tc main_v64) = _
  rw [ops_flat]
  simp only [ops, TRef.binary, TRef.ternary, TRef.unary, TRef.toBuf, TRef.ofBuf, cast_eq]
  after_results_simp <;> rfl

set_option maxRecDepth 8192 in
set_option maxHeartbeats 66800000 in
theorem V0_main_v98 (c : Dev nD) : V0 m c (Proc.devRef .tc main_v98) = select (cmpf .oeq (Host.divf (Host.reduce FloatOps.maximumf (Host.absf (shapeCast _ (shapeCast _ (extf .f32 (m ((c.tc : Thread nD τ).loc main_arg2)) bitsLt_bf16_f32) shapeCasts_S3x8192x1024_S3x8192x8x128) shapeCasts_S3x8192x8x128_S3x8192x8x4x32)) (constant S_ .f32 0xFF800000#32) reducesTo_S3x8192x8x4x32_S3x8192x8x4_d4 h_S_) (broadcastInDim S3x8192x8x4 ![] bcast_S_S3x8192x8x4 (constant S_ .f32 0x43E00000#32))) (broadcastInDim S3x8192x8x4 ![] bcast_S_S3x8192x8x4 (constant S_ .f32 0x00000000#32))) (broadcastInDim S3x8192x8x4 ![] bcast_S_S3x8192x8x4 (id (constantI S_ 32 0#32))) (subi (Host.reduce IntOp.addi (extui 32 (cmpf .oge (broadcastInDim S3x8192x8x4x254 ![0, 1, 2, 3, 4] bcast_S3x8192x8x4x1_S3x8192x8x4x254_0_1_2_3_4 (broadcastInDim S3x8192x8x4x1 ![0, 1, 2, 3] bcast_S3x8192x8x4_S3x8192x8x4x1_0_1_2_3 (Host.divf (Host.reduce FloatOps.maximumf (Host.absf (shapeCast _ (shapeCast _ (extf .f32 (m ((c.tc : Thread nD τ).loc main_arg2)) bitsLt_bf16_f32) shapeCasts_S3x8192x1024_S3x8192x8x128) shapeCasts_S3x8192x8x128_S3x8192x8x4x32)) (constant S_ .f32 0xFF800000#32) reducesTo_S3x8192x8x4x32_S3x8192x8x4_d4 h_S_) (broadcastInDim S3x8192x8x4 ![] bcast_S_S3x8192x8x4 (constant S_ .f32 0x43E00000#32))))) (broadcastInDim S3x8192x8x4x254 ![0, 1, 2, 3, 4] bcast_S1x1x1x1x254_S3x8192x8x4x254_0_1_2_3_4 (broadcastInDim S1x1x1x1x254 ![4] bcast_S254_S1x1x1x1x254_4 (Host.powf (broadcastInDim S254 ![] bcast_S_S254 (constant S_ .f32 0x40000000#32)) (subf (sitofp .f32 (iotaInDim S254 32 0)) (broadcastInDim S254 ![] bcast_S_S254 (constant S_ .f32 0x42FC0000#32))))))) natLt_1_32) (constantI S_ 32 0#32) reducesTo_S3x8192x8x4x254_S3x8192x8x4_d4 h_S_) (broadcastInDim S3x8192x8x4 ![] bcast_S_S3x8192x8x4 (constantI S_ 32 126#32))) := by
  show after (List.flatten [hostOps0, hostOps0_1, hostOps0_2, hostOps0_3, hostOps0_4, hostOps0_5, hostOps0_6, hostOps0_7, hostOps0_8, hostOps0_9, hostOps0_10, hostOps0_11, hostOps0_12]) (fun b => m (c, b)) (Proc.devRef .tc main_v98) = _
  rw [ops_flat]
  simp only [ops, TRef.binary, TRef.ternary, TRef.unary, TRef.toBuf, TRef.ofBuf, cast_eq]
  after_results_simp <;> rfl

end Cert.ReferenceIdeal.Pre

end
-- ==== Proof.Ref.Stages.lean ====
/- The arrays the reference's region is launched on, as the stages of the arguments. -/
module

public import proofs.«01_k».proof.Proof.Ref.Prefix
public import proofs.«01_k».proof.Proof.Ref.PrefixRead

@[expose] public section

set_option maxRecDepth 100000

noncomputable section

namespace Cert.ReferenceIdeal.Val

open Cert.ReferenceIdeal Cert.ReferenceIdeal.Gen Idealize.ShloMosaic Idealize.ShloMosaic.TcCoe Idealize.SL.Sem Cert.ReferenceIdeal.Pre
open Cert.ReferenceIdeal.Facts

variable (m : (ℓ : Loc nD τ sig) → Buf (Elt Ideal) ℓ)

theorem S108 (c : Dev nD) : V0 m c (Proc.devRef .tc main_v108) = val_main_v108 (F := Ideal) (m ((c.tc : Thread nD τ).loc main_arg0)) := by
  rw [V0_main_v108]
  exact val_main_v108_eq (F := Ideal) (m ((c.tc : Thread nD τ).loc main_arg0))
theorem S109 (c : Dev nD) : V0 m c (Proc.devRef .tc main_v109) = val_main_v109 (F := Ideal) (m ((c.tc : Thread nD τ).loc main_arg1)) := by
  rw [V0_main_v109]
  exact val_main_v109_eq (F := Ideal) (m ((c.tc : Thread nD τ).loc main_arg1))
theorem S110 (c : Dev nD) : V0 m c (Proc.devRef .tc main_v110) = val_main_v110 (F := Ideal) (m ((c.tc : Thread nD τ).loc main_arg2)) := by
  rw [V0_main_v110]
  exact val_main_v110_eq (F := Ideal) (m ((c.tc : Thread nD τ).loc main_arg2))
theorem S24 (c : Dev nD) : V0 m c (Proc.devRef .tc main_v24) = val_main_v24 (F := Ideal) (m ((c.tc : Thread nD τ).loc main_arg0)) := by
  rw [V0_main_v24]
  exact val_main_v24_eq (F := Ideal) (m ((c.tc : Thread nD τ).loc main_arg0))
theorem S64 (c : Dev nD) : V0 m c (Proc.devRef .tc main_v64) = val_main_v64 (F := Ideal) (m ((c.tc : Thread nD τ).loc main_arg1)) := by
  rw [V0_main_v64]
  exact val_main_v64_eq (F := Ideal) (m ((c.tc : Thread nD τ).loc main_arg1))
theorem S98 (c : Dev nD) : V0 m c (Proc.devRef .tc main_v98) = val_main_v98 (F := Ideal) (m ((c.tc : Thread nD τ).loc main_arg2)) := by
  rw [V0_main_v98]
  exact val_main_v98_eq (F := Ideal) (m ((c.tc : Thread nD τ).loc main_arg2))

end Cert.ReferenceIdeal.Val

end
-- ==== Proof.Ref.Codes.lean ====
/- The reference's codes and exponents as whole arrays: what the kernel leaves. -/
module

public import proofs.«01_k».proof.Proof.Ref.Quant
public import proofs.«01_k».proof.Proof.Ref.Region
public import proofs.«01_k».proof.Proof.Ref.Stages
public import proofs.«01_k».proof.Proof.Val.Bounds
public import proofs.«01_k».proof.Proof.Gen.ReferenceIdeal.Read
public import Idealize.ShloMosaic.Lib.Pointwise

@[expose] public section

set_option maxRecDepth 16384

noncomputable section

namespace Cert.ReferenceIdeal.Val

open Cert.ReferenceIdeal Cert.ReferenceIdeal.Gen Idealize.ShloMosaic Idealize.ShloMosaic.TcCoe Idealize.SL.Sem Cert.Quant Cert.ReferenceIdeal.Pre
open Cert.ReferenceIdeal.Facts
open Cert.KernelIdeal.Val (GQC GKC GVC GQS GKS GVS)

attribute [local irreducible] StableHlo.after val_main_v108 val_main_v109 val_main_v110 val_main_v24 val_main_v64 val_main_v98

variable (m : (ℓ : Loc nD τ sig) → Buf (Elt Ideal) ℓ)

/-- The three arguments. -/
abbrev R0 (c : Dev nD) : FVec Ideal S3x8192x4096 .bf16 := m ((c.tc : Thread nD τ).loc main_arg0)
abbrev R1 (c : Dev nD) : FVec Ideal S3x8192x1024 .bf16 := m ((c.tc : Thread nD τ).loc main_arg1)
abbrev R2 (c : Dev nD) : FVec Ideal S3x8192x1024 .bf16 := m ((c.tc : Thread nD τ).loc main_arg2)

/-! ## `q` -/

theorem q_codes (x : FVec Ideal S3x8192x4096 .bf16) (h : Bnd x) : (val_main_v108 (F := Ideal) x : S3x8192x4096.Idx → EReal) = GQC x := by
  funext (i : S3x8192x4096.Idx)
  obtain ⟨b, s, d, rfl⟩ : ∃ (b : Fin 3) (s : Fin 8192) (d : Fin 4096), i = ix3 b s d := ⟨i 0, i 1, i 2, eq_ix3 i⟩
  rw [q_code x b s d, small_code _ (QG_small x h _ _ _)]
  rfl
theorem q_field (x : FVec Ideal S3x8192x4096 .bf16) (h : Bnd x) (b : Fin 3) (s : Fin 8192) (hh : Fin 32) (g : Fin 4) :
    BitVec.setWidth 32 (BitVec.setWidth 8 ((addi (val_main_v24 (F := Ideal) x) (fun _ => 127#32) : IVec S3x8192x32x4 32) (ix4 b s hh g)))
      = ksc (QG x b s ⟨hh.val * 4 + g.val, by omega⟩) := by
  show BitVec.setWidth 32 (BitVec.setWidth 8 (IntOp.addi (val_main_v24 (F := Ideal) x (ix4 b s hh g)) 127#32)) = _
  rw [q_exp, small_ksc _ (QG_small x h _ _ _)]
theorem q_read (r : IVec S3x8192x32x4 32) (b : Fin 3) (h : Fin 8) (g : Fin 16) (s : Fin 8192) :
    Read.val_main_v187 (F := Ideal) r (ix4 b h g s) = BitVec.setWidth 32 (BitVec.setWidth 8 (r (ix4 b s ⟨h.val * 4 + g.val / 4, by omega⟩ ⟨g.val % 4, by omega⟩))) := by
  pointwise [Read.val_main_v187, Read.val_main_v186, Read.val_main_v113, Read.val_main_v112]
attribute [local irreducible] Read.val_main_v187
theorem q_fields (x : FVec Ideal S3x8192x4096 .bf16) (h : Bnd x) :
    (Read.val_main_v187 (F := Ideal) (addi (val_main_v24 (F := Ideal) x) (fun _ => 127#32) : IVec S3x8192x32x4 32) : IVec S3x8x16x8192 32) = GQS x := by
  funext (i : S3x8x16x8192.Idx)
  obtain ⟨b, hh, g, s, rfl⟩ : ∃ (b : Fin 3) (hh : Fin 8) (g : Fin 16) (s : Fin 8192), i = ix4 b hh g s := ⟨i 0, i 1, i 2, i 3, eq_ix4 i⟩
  rw [q_read _ b hh g s, q_field x h]
  have e : ∀ (a : Fin 8) (b : Fin 16), (⟨(a.val * 4 + b.val / 4) * 4 + b.val % 4, by omega⟩ : Fin 128) = ⟨a.val * 16 + b.val, by omega⟩ :=
    fun a b => Fin.ext (by show (a.val * 4 + b.val / 4) * 4 + b.val % 4 = a.val * 16 + b.val; omega)
  exact congrArg (fun z => ksc (QG x b s z)) (e hh g)
theorem V_q (c : Dev nD) : (V m c main_v108 : S3x8192x4096.Idx → EReal) = val_main_v108 (F := Ideal) (R0 m c) := S108 m c
theorem W_q (c : Dev nD) : (V m c main_v24 : IVec S3x8192x32x4 32) = val_main_v24 (F := Ideal) (R0 m c) := S24 m c
theorem ref_q (c : Dev nD) (h : Bnd (R0 m c)) : Value.reg_main_v111_0 m c = GQC (R0 m c) :=
  ((reg_0 m c).trans (V_q m c)).trans (q_codes _ h)
theorem refb_q (c : Dev nD) (h : Bnd (R0 m c)) : Value.reg_main_v111_3 m c = GQC (R0 m c) :=
  ((reg_3 m c).trans (V_q m c)).trans (q_codes _ h)
theorem reg_q (c : Dev nD) : Value.reg_main_v111_6 m c = addi (val_main_v24 (F := Ideal) (R0 m c) : IVec S3x8192x32x4 32) (fun _ => 127#32) :=
  (reg_6 m c).trans (congrArg (fun z : IVec S3x8192x32x4 32 => addi z (fun _ => 127#32)) (W_q m c))
theorem refs_q (c : Dev nD) (h : Bnd (R0 m c)) : Read.val_main_v187 (F := Ideal) (Value.reg_main_v111_6 m c) = GQS (R0 m c) := by
  rw [reg_q]
  exact q_fields _ h

/-! ## `k` -/

theorem k_codes (x : FVec Ideal S3x8192x1024 .bf16) (h : Bnd x) : (val_main_v109 (F := Ideal) x : S3x8192x1024.Idx → EReal) = GKC x := by
  funext (i : S3x8192x1024.Idx)
  obtain ⟨b, s, d, rfl⟩ : ∃ (b : Fin 3) (s : Fin 8192) (d : Fin 1024), i = ix3 b s d := ⟨i 0, i 1, i 2, eq_ix3 i⟩
  rw [k_code x b s d, small_code _ (KG_small x h _ _ _)]
  rfl
theorem k_field (x : FVec Ideal S3x8192x1024 .bf16) (h : Bnd x) (b : Fin 3) (s : Fin 8192) (hh : Fin 8) (g : Fin 4) :
    BitVec.setWidth 32 (BitVec.setWidth 8 ((addi (val_main_v64 (F := Ideal) x) (fun _ => 127#32) : IVec S3x8192x8x4 32) (ix4 b s hh g)))
      = ksc (KG x b s ⟨hh.val * 4 + g.val, by omega⟩) := by
  show BitVec.setWidth 32 (BitVec.setWidth 8 (IntOp.addi (val_main_v64 (F := Ideal) x (ix4 b s hh g)) 127#32)) = _
  rw [k_exp, small_ksc _ (KG_small x h _ _ _)]
theorem k_read (r : IVec S3x8192x8x4 32) (b : Fin 3) (h : Fin 8) (g : Fin 4) (s : Fin 8192) :
    Read.val_main_v188 (F := Ideal) r (ix4 b h g s) = BitVec.setWidth 32 (BitVec.setWidth 8 (r (ix4 b s h g))) := by
  pointwise [Read.val_main_v188, Read.val_main_v115, Read.val_main_v114]
attribute [local irreducible] Read.val_main_v188
theorem k_fields (x : FVec Ideal S3x8192x1024 .bf16) (h : Bnd x) :
    (Read.val_main_v188 (F := Ideal) (addi (val_main_v64 (F := Ideal) x) (fun _ => 127#32) : IVec S3x8192x8x4 32) : IVec S3x8x4x8192 32) = GKS x := by
  funext (i : S3x8x4x8192.Idx)
  obtain ⟨b, hh, g, s, rfl⟩ : ∃ (b : Fin 3) (hh : Fin 8) (g : Fin 4) (s : Fin 8192), i = ix4 b hh g s := ⟨i 0, i 1, i 2, i 3, eq_ix4 i⟩
  rw [k_read _ b hh g s, k_field x h]
  rfl
theorem V_k (c : Dev nD) : (V m c main_v109 : S3x8192x1024.Idx → EReal) = val_main_v109 (F := Ideal) (R1 m c) := S109 m c
theorem W_k (c : Dev nD) : (V m c main_v64 : IVec S3x8192x8x4 32) = val_main_v64 (F := Ideal) (R1 m c) := S64 m c
theorem ref_k (c : Dev nD) (h : Bnd (R1 m c)) : Value.reg_main_v111_1 m c = GKC (R1 m c) :=
  ((reg_1 m c).trans (V_k m c)).trans (k_codes _ h)
theorem refb_k (c : Dev nD) (h : Bnd (R1 m c)) : Value.reg_main_v111_4 m c = GKC (R1 m c) :=
  ((reg_4 m c).trans (V_k m c)).trans (k_codes _ h)
theorem reg_k (c : Dev nD) : Value.reg_main_v111_7 m c = addi (val_main_v64 (F := Ideal) (R1 m c) : IVec S3x8192x8x4 32) (fun _ => 127#32) :=
  (reg_7 m c).trans (congrArg (fun z : IVec S3x8192x8x4 32 => addi z (fun _ => 127#32)) (W_k m c))
theorem refs_k (c : Dev nD) (h : Bnd (R1 m c)) : Read.val_main_v188 (F := Ideal) (Value.reg_main_v111_7 m c) = GKS (R1 m c) := by
  rw [reg_k]
  exact k_fields _ h

/-! ## `v` -/

theorem v_codes (x : FVec Ideal S3x8192x1024 .bf16) (h : Bnd x) : (val_main_v110 (F := Ideal) x : S3x8192x1024.Idx → EReal) = GVC x := by
  funext (i : S3x8192x1024.Idx)
  obtain ⟨b, s, d, rfl⟩ : ∃ (b : Fin 3) (s : Fin 8192) (d : Fin 1024), i = ix3 b s d := ⟨i 0, i 1, i 2, eq_ix3 i⟩
  rw [v_code x b s d, small_code _ (VG_small x h _ _ _)]
  rfl
theorem v_field (x : FVec Ideal S3x8192x1024 .bf16) (h : Bnd x) (b : Fin 3) (s : Fin 8192) (hh : Fin 8) (g : Fin 4) :
    BitVec.setWidth 32 (BitVec.setWidth 8 ((addi (val_main_v98 (F := Ideal) x) (fun _ => 127#32) : IVec S3x8192x8x4 32) (ix4 b s hh g)))
      = ksc (VG x b s ⟨hh.val * 4 + g.val, by omega⟩) := by
  show BitVec.setWidth 32 (BitVec.setWidth 8 (IntOp.addi (val_main_v98 (F := Ideal) x (ix4 b s hh g)) 127#32)) = _
  rw [v_exp, small_ksc _ (VG_small x h _ _ _)]
theorem v_read (r : IVec S3x8192x8x4 32) (b : Fin 3) (h : Fin 8) (g : Fin 4) (s : Fin 8192) :
    Read.val_main_v189 (F := Ideal) r (ix4 b h g s) = BitVec.setWidth 32 (BitVec.setWidth 8 (r (ix4 b s h g))) := by
  pointwise [Read.val_main_v189, Read.val_main_v117, Read.val_main_v116]
attribute [local irreducible] Read.val_main_v189
theorem v_fields (x : FVec Ideal S3x8192x1024 .bf16) (h : Bnd x) :
    (Read.val_main_v189 (F := Ideal) (addi (val_main_v98 (F := Ideal) x) (fun _ => 127#32) : IVec S3x8192x8x4 32) : IVec S3x8x4x8192 32) = GVS x := by
  funext (i : S3x8x4x8192.Idx)
  obtain ⟨b, hh, g, s, rfl⟩ : ∃ (b : Fin 3) (hh : Fin 8) (g : Fin 4) (s : Fin 8192), i = ix4 b hh g s := ⟨i 0, i 1, i 2, i 3, eq_ix4 i⟩
  rw [v_read _ b hh g s, v_field x h]
  rfl
theorem V_v (c : Dev nD) : (V m c main_v110 : S3x8192x1024.Idx → EReal) = val_main_v110 (F := Ideal) (R2 m c) := S110 m c
theorem W_v (c : Dev nD) : (V m c main_v98 : IVec S3x8192x8x4 32) = val_main_v98 (F := Ideal) (R2 m c) := S98 m c
theorem ref_v (c : Dev nD) (h : Bnd (R2 m c)) : Value.reg_main_v111_2 m c = GVC (R2 m c) :=
  ((reg_2 m c).trans (V_v m c)).trans (v_codes _ h)
theorem refb_v (c : Dev nD) (h : Bnd (R2 m c)) : Value.reg_main_v111_5 m c = GVC (R2 m c) :=
  ((reg_5 m c).trans (V_v m c)).trans (v_codes _ h)
theorem reg_v (c : Dev nD) : Value.reg_main_v111_8 m c = addi (val_main_v98 (F := Ideal) (R2 m c) : IVec S3x8192x8x4 32) (fun _ => 127#32) :=
  (reg_8 m c).trans (congrArg (fun z : IVec S3x8192x8x4 32 => addi z (fun _ => 127#32)) (W_v m c))
theorem refs_v (c : Dev nD) (h : Bnd (R2 m c)) : Read.val_main_v189 (F := Ideal) (Value.reg_main_v111_8 m c) = GVS (R2 m c) := by
  rw [reg_v]
  exact v_fields _ h

end Cert.ReferenceIdeal.Val

end
-- ==== Proof.Att.Kern.lean ====
/- The attention block the kernel computes: each element the numerator over the denominator, both sums over every key, the
   masked ones weighing nothing. -/
module

public import proofs.«01_k».proof.Proof.Val.Whole
public import proofs.«01_k».proof.Proof.Val.RefMath
public import Idealize.ShloMosaic.Lib.Pointwise

@[expose] public section

set_option maxRecDepth 16384

noncomputable section

namespace Cert.KernelIdeal.Val

open Cert.KernelIdeal Cert.KernelIdeal.Gen Idealize.ShloMosaic Idealize.SL.Sem Cert.Quant
open Cert.KernelIdeal.Facts Cert.KernelIdeal.Spec

/-! ## The attention of one query column -/

/-- A score, the masked scores of a query at position `s`, their largest, and the weights scaled by 448. -/
def S (k : Fin 8192 → Fin 128 → EReal) (q : Fin 128 → EReal) (t : Fin 8192) : EReal := ∑ x, k t x * q x
def MS (k : Fin 8192 → Fin 128 → EReal) (q : Fin 128 → EReal) (s : ℕ) (t : Fin 8192) : EReal := if t.val ≤ s then S k q t else ⊥
def MX (k : Fin 8192 → Fin 128 → EReal) (q : Fin 128 → EReal) (s : ℕ) : EReal := Finset.univ.fold max ⊥ (MS k q s)
def cC : EReal := (((Real.sqrt 128)⁻¹ * (Real.log 2)⁻¹ : ℝ) : EReal)
def cL : EReal := (((Real.log 448) * (Real.log 2)⁻¹ : ℝ) : EReal)
def PK (k : Fin 8192 → Fin 128 → EReal) (q : Fin 128 → EReal) (s : ℕ) (t : Fin 8192) : EReal :=
  Ideal.exp2 (MS k q s t * cC - (MX k q s * cC - cL))
def clip0 (x : EReal) : EReal := min (Ideal.ofBits .f32 0x43E00000#32) (max 0 x)
def OK (k : Fin 8192 → Fin 128 → EReal) (q : Fin 128 → EReal) (v : Fin 8192 → EReal) (s : ℕ) : EReal :=
  Ideal.div (∑ t, v t * clip0 (PK k q s t)) (∑ t, PK k q s t)

/-! ## The payloads -/

theorem wordNegInf : Ideal.ofBits .f32 0xFF800000#32 = ⊥ := by
  simp [Ideal.ofBits, Ideal.ieee]

section pay
variable (kb : Vec Ideal S256x128 .bf16) (qt : Vec Ideal S128x1024 .bf16)

theorem pay50 (w : Fin 256) (c : Fin 1024) : k0_pay50 (F := Ideal) kb qt (ix2 w c) = ∑ x, kb (ix2 w x) * qt (ix2 x c) := by
  pointwise [k0_pay50, k0_pay49]
theorem pay51 (M : FVec Ideal S8x1024 .f32) (a : Fin 8) (c : Fin 1024) : k0_pay51 (F := Ideal) M kb qt (ix2 a c)
    = max (M (ix2 a c)) (Finset.univ.fold max (Ideal.ofBits .f32 0xFF800000#32) fun u : Fin 32 => ∑ x, kb (ix2 ⟨u.val * 8 + a.val, by omega⟩ x) * qt (ix2 x c)) := by
  pointwise [k0_pay51, k0_pay49]
theorem tok_eq : ∀ c : Fin 1024, (Scalar.select
          (IntOp.andi
            (IntOp.xori
              (IntOp.cmpi CmpIPredicate.slt
                (IntOp.remsi ArithUnit.vector (BitVec.ofNat 32 c.val)
                  (Scalar.select (Scalar.cmpi CmpIPredicate.eq 256#32 0#32) 1#32 256#32))
                0#32)
              (Scalar.cmpi CmpIPredicate.slt (Scalar.select (Scalar.cmpi CmpIPredicate.eq 256#32 0#32) 1#32 256#32) 0#32))
            (IntOp.cmpi CmpIPredicate.ne
              (IntOp.remsi ArithUnit.vector (BitVec.ofNat 32 c.val)
                (Scalar.select (Scalar.cmpi CmpIPredicate.eq 256#32 0#32) 1#32 256#32))
              0#32))
          (IntOp.addi
            (IntOp.remsi ArithUnit.vector (BitVec.ofNat 32 c.val)
              (Scalar.select (Scalar.cmpi CmpIPredicate.eq 256#32 0#32) 1#32 256#32))
            (Scalar.select (Scalar.cmpi CmpIPredicate.eq 256#32 0#32) 1#32 256#32))
          (IntOp.remsi ArithUnit.vector (BitVec.ofNat 32 c.val)
            (Scalar.select (Scalar.cmpi CmpIPredicate.eq 256#32 0#32) 1#32 256#32))) = BitVec.ofNat 32 (c.val % 256) := by decide +kernel
theorem sle_eq (a b : ℕ) (ha : a < 256) (hb : b < 256) : IntOp.cmpi CmpIPredicate.sle (BitVec.ofNat 32 a) (BitVec.ofNat 32 b) = BitVec.ofBool (decide (a ≤ b)) := by
  have := (by decide +kernel : ∀ a b : Fin 256, IntOp.cmpi CmpIPredicate.sle (BitVec.ofNat 32 a.val) (BitVec.ofNat 32 b.val) = BitVec.ofBool (decide (a.val ≤ b.val)))
  exact this ⟨a, ha⟩ ⟨b, hb⟩
theorem pay55 (w : Fin 256) (c : Fin 1024) : k0_pay55 (F := Ideal) kb qt (ix2 w c)
    = if w.val ≤ c.val % 256 then ∑ x, kb (ix2 w x) * qt (ix2 x c) else ⊥ := by
  pointwise [k0_pay55]
  rw [tok_eq c, sle_eq _ _ w.isLt (Nat.mod_lt _ (by norm_num))]
  unfold Scalar.select
  rw [wordNegInf]
  by_cases h : w.val ≤ c.val % 256 <;> simp [h]
theorem pay57 (M : FVec Ideal S8x1024 .f32) (d : FVec Ideal S256x1024 .f32) (c : Fin 1024) : k0_pay57 (F := Ideal) M d (ix2 0 c)
    = (Finset.univ.fold max (Ideal.ofBits .f32 0xFF800000#32) fun a : Fin 8 => max (M (ix2 a c))
        (Finset.univ.fold max (Ideal.ofBits .f32 0xFF800000#32) fun u : Fin 32 => d (ix2 ⟨u.val * 8 + a.val, by omega⟩ c))) * cC - cL := by
  pointwise [k0_pay57]
  rfl
attribute [local irreducible] k0_pay57
theorem pay60 (M : FVec Ideal S8x1024 .f32) (d s : FVec Ideal S256x1024 .f32) (w : Fin 256) (c : Fin 1024) : k0_pay60 (F := Ideal) M d s (ix2 w c)
    = Ideal.exp2 (s (ix2 w c) * cC - k0_pay57 (F := Ideal) M d (ix2 0 c)) := by
  pointwise [k0_pay60]
  rfl
attribute [local irreducible] k0_pay60
theorem pay61 (M l : FVec Ideal S8x1024 .f32) (d s : FVec Ideal S256x1024 .f32) (a : Fin 8) (c : Fin 1024) : k0_pay61 (F := Ideal) M d l s (ix2 a c)
    = l (ix2 a c) + ∑ u : Fin 32, k0_pay60 (F := Ideal) M d s (ix2 ⟨u.val * 8 + a.val, by omega⟩ c) := by
  pointwise [k0_pay61]
theorem pay62 (M : FVec Ideal S8x1024 .f32) (acc : FVec Ideal S128x1024 .f32) (d s : FVec Ideal S256x1024 .f32) (v : Vec Ideal S128x256 .bf16) (e : Fin 128) (c : Fin 1024) :
    k0_pay62 (F := Ideal) M d acc s v (ix2 e c) = acc (ix2 e c) + ∑ w, v (ix2 e w) * clip0 (k0_pay60 (F := Ideal) M d s (ix2 w c)) := by
  pointwise [k0_pay62]
  rfl
theorem pay66 (l : FVec Ideal S8x1024 .f32) (acc : FVec Ideal S128x1024 .f32)  (e : Fin 128) (c : Fin 1024) : k0_pay66 (F := Ideal) l acc (ix2 e c)
    = Ideal.div (acc (ix2 e c)) (∑ a, l (ix2 a c)) := by
  pointwise [k0_pay66]
attribute [local irreducible] k0_pay66
theorem out0 (l : FVec Ideal S8x1024 .f32) (acc : FVec Ideal S128x1024 .f32)  (r : Fin 256) (e : Fin 128) : k0_pay67 (F := Ideal) l acc (ix3 0 r e) = k0_pay66 (F := Ideal) l acc (ix2 e ⟨r.val, by omega⟩) := by
  pointwise [k0_pay67]
theorem out1 (l : FVec Ideal S8x1024 .f32) (acc : FVec Ideal S128x1024 .f32)  (r : Fin 256) (e : Fin 128) : k0_pay68 (F := Ideal) l acc (ix3 0 r e) = k0_pay66 (F := Ideal) l acc (ix2 e ⟨256 + r.val, by omega⟩) := by
  pointwise [k0_pay68]
theorem out2 (l : FVec Ideal S8x1024 .f32) (acc : FVec Ideal S128x1024 .f32)  (r : Fin 256) (e : Fin 128) : k0_pay1 (F := Ideal) (k0_pay69 l acc) (ix3 0 r e) = k0_pay66 (F := Ideal) l acc (ix2 e ⟨512 + r.val, by omega⟩) := by
  pointwise [k0_pay1, k0_pay69]
theorem out3 (l : FVec Ideal S8x1024 .f32) (acc : FVec Ideal S128x1024 .f32)  (r : Fin 256) (e : Fin 128) : k0_pay2 (F := Ideal) (k0_pay66 l acc) (ix3 0 r e) = k0_pay66 (F := Ideal) l acc (ix2 e ⟨768 + r.val, by omega⟩) := by
  pointwise [k0_pay2]
end pay

end Cert.KernelIdeal.Val

end
-- ==== Proof.Att.Math.lean ====
/- One row of attention: the kernel's base two, shifted by the logarithm of 448, against the reference's base e. -/
module

public import proofs.«01_k».proof.Proof.Att.Kern
public import proofs.«01_k».proof.Proof.Val.Bounds

@[expose] public section

set_option maxRecDepth 16384

noncomputable section

namespace Cert.KernelIdeal.Val

open Idealize.ShloMosaic Cert.Quant

/-! ## The reference's row -/

def RS (k : Fin 8192 → Fin 128 → EReal) (q : Fin 128 → EReal) (s : ℕ) (t : Fin 8192) : EReal :=
  if t.val ≤ s then Ideal.div (S k q t) (Ideal.sqrt (Ideal.ofBits .f32 0x43000000#32)) else ⊥
def RP (k : Fin 8192 → Fin 128 → EReal) (q : Fin 128 → EReal) (s : ℕ) (t : Fin 8192) : EReal :=
  Ideal.exp (RS k q s t - Finset.univ.fold max ⊥ (RS k q s))
def OR (k : Fin 8192 → Fin 128 → EReal) (q : Fin 128 → EReal) (v : Fin 8192 → EReal) (s : ℕ) : EReal :=
  Ideal.div (Ideal.div (∑ t, clip0 (RP k q s t * Ideal.ofBits .f32 0x43E00000#32) * v t) (Ideal.ofBits .f32 0x43E00000#32)) (∑ t, RP k q s t)

theorem word128 : Ideal.ofBits .f32 0x43000000#32 = ((128 : ℝ) : EReal) := by
  simp [Ideal.ofBits, Ideal.ieee]
  rw [← EReal.coe_mul]
  norm_num

theorem sqrt128 : Ideal.sqrt (Ideal.ofBits .f32 0x43000000#32) = ((Real.sqrt 128 : ℝ) : EReal) := by
  rw [word128]
  show (if (128 : ℝ) < 0 then (⊥ : EReal) else ((Real.sqrt 128 : ℝ) : EReal)) = _
  rw [if_neg (by norm_num)]

theorem fold_max_eq (f : Fin 8192 → EReal) (t0 : Fin 8192) (z : EReal) (h0 : f t0 = z) (h : ∀ t, f t ≤ z) : Finset.univ.fold max ⊥ f = z := by
  refine le_antisymm ((Finset.fold_max_le _).2 ⟨bot_le, fun t _ => h t⟩) ?_
  rw [Finset.le_fold_max]
  exact Or.inr ⟨t0, Finset.mem_univ _, h0.ge⟩

theorem exp2_shift (a b : ℝ) : Real.rpow 2 (a * ((Real.sqrt 128)⁻¹ * (Real.log 2)⁻¹) - (b * ((Real.sqrt 128)⁻¹ * (Real.log 2)⁻¹) - Real.log 448 * (Real.log 2)⁻¹))
    = 448 * Real.exp (a * (1 / Real.sqrt 128) - b * (1 / Real.sqrt 128)) := by
  have hl : Real.log 2 ≠ 0 := (Real.log_pos (by norm_num)).ne'
  show (2 : ℝ) ^ (_ : ℝ) = _
  rw [Real.rpow_def_of_pos (by norm_num)]
  have e : Real.log 2 * (a * ((Real.sqrt 128)⁻¹ * (Real.log 2)⁻¹) - (b * ((Real.sqrt 128)⁻¹ * (Real.log 2)⁻¹) - Real.log 448 * (Real.log 2)⁻¹))
      = Real.log 448 + (a * (1 / Real.sqrt 128) - b * (1 / Real.sqrt 128)) := by
    field_simp
    ring
  rw [e, Real.exp_add, Real.exp_log (by norm_num)]

theorem clip0_coe (r : ℝ) : clip0 (r : EReal) = ((min 448 (max 0 r) : ℝ) : EReal) := by
  unfold clip0
  rw [word448, EReal.coe_strictMono.monotone.map_min, EReal.coe_strictMono.monotone.map_max]
  rfl

theorem att_row (k : Fin 8192 → Fin 128 → EReal) (q : Fin 128 → EReal) (v : Fin 8192 → EReal) (s : ℕ)
    (hk : ∀ t x, ∃ r : ℝ, k t x = r) (hq : ∀ x, ∃ r : ℝ, q x = r) (hv : ∀ t, ∃ r : ℝ, v t = r) : OK k q v s = OR k q v s := by
  choose k' hk using hk
  choose q' hq using hq
  choose v' hv using hv
  obtain ⟨σ, hσ⟩ : ∃ σ : Fin 8192 → ℝ, ∀ t, S k q t = ((σ t : ℝ) : EReal) := by
    refine ⟨fun t => ∑ x, k' t x * q' x, fun t => ?_⟩
    unfold S
    rw [← coe_sum']
    exact Finset.sum_congr rfl fun x _ => by rw [hk, hq, EReal.coe_mul]
  have h128 : (0 : ℝ) < Real.sqrt 128 := Real.sqrt_pos.2 (by norm_num)
  obtain ⟨t0, ht0, hmax⟩ := Finset.exists_max_image (Finset.univ.filter fun t : Fin 8192 => t.val ≤ s) σ
    ⟨⟨0, by norm_num⟩, Finset.mem_filter.2 ⟨Finset.mem_univ _, Nat.zero_le _⟩⟩
  have ht0 : t0.val ≤ s := (Finset.mem_filter.1 ht0).2
  have hmax : ∀ t : Fin 8192, t.val ≤ s → σ t ≤ σ t0 := fun t ht => hmax t (Finset.mem_filter.2 ⟨Finset.mem_univ _, ht⟩)
  have hMS : ∀ t, MS k q s t = if t.val ≤ s then ((σ t : ℝ) : EReal) else ⊥ := fun t => by unfold MS; rw [hσ]
  have hRS : ∀ t, RS k q s t = if t.val ≤ s then ((σ t * (1 / Real.sqrt 128) : ℝ) : EReal) else ⊥ := fun t => by
    unfold RS; rw [hσ, sqrt128, Ideal.div_coe h128.ne', ← EReal.coe_mul]
  have hMX : MX k q s = ((σ t0 : ℝ) : EReal) := by
    refine fold_max_eq _ t0 _ ((hMS t0).trans (if_pos ht0)) fun t => ?_
    rw [hMS]
    split
    · exact EReal.coe_le_coe_iff.2 (hmax t (by assumption))
    · exact bot_le
  have hRX : Finset.univ.fold max ⊥ (RS k q s) = ((σ t0 * (1 / Real.sqrt 128) : ℝ) : EReal) := by
    refine fold_max_eq _ t0 _ ((hRS t0).trans (if_pos ht0)) fun t => ?_
    rw [hRS]
    split
    · exact EReal.coe_le_coe_iff.2 (mul_le_mul_of_nonneg_right (hmax t (by assumption)) (by positivity))
    · exact bot_le
  obtain ⟨p, hp⟩ : ∃ p : Fin 8192 → ℝ, p = fun t => if t.val ≤ s then Real.exp (σ t * (1 / Real.sqrt 128) - σ t0 * (1 / Real.sqrt 128)) else 0 := ⟨_, rfl⟩
  have hp0 : ∀ t, 0 ≤ p t := fun t => by rw [hp]; dsimp only; split; exacts [(Real.exp_pos _).le, le_refl _]
  have hpt : p t0 = 1 := by rw [hp]; dsimp only; rw [if_pos ht0, sub_self, Real.exp_zero]
  have hPK : ∀ t, PK k q s t = ((448 * p t : ℝ) : EReal) := fun t => by
    unfold PK
    rw [hMX, hMS, hp]
    dsimp only
    split
    · unfold cC cL
      rw [← EReal.coe_mul, ← EReal.coe_mul, ← EReal.coe_sub, ← EReal.coe_sub, ← exp2_shift]
      rfl
    · unfold cC cL
      rw [EReal.bot_mul_coe_of_pos (by have := Real.log_pos (by norm_num : (1 : ℝ) < 2); positivity), ← EReal.coe_mul, ← EReal.coe_sub, EReal.bot_sub, mul_zero]
      rfl
  have hRP : ∀ t, RP k q s t = ((p t : ℝ) : EReal) := fun t => by
    unfold RP
    rw [hRX, hRS, hp]
    dsimp only
    split
    · rw [← EReal.coe_sub]
      rfl
    · rw [EReal.bot_sub]
      rfl
  have hl : (∑ t, p t) ≠ 0 := by
    have := Finset.single_le_sum (f := p) (fun t _ => hp0 t) (Finset.mem_univ t0)
    rw [hpt] at this
    linarith
  have e1 : (∑ t, v t * clip0 (PK k q s t)) = ((∑ t, v' t * min 448 (max 0 (448 * p t)) : ℝ) : EReal) := by
    rw [← coe_sum']
    exact Finset.sum_congr rfl fun t _ => by rw [hPK, hv, clip0_coe, EReal.coe_mul]
  have e2 : (∑ t, clip0 (RP k q s t * Ideal.ofBits .f32 0x43E00000#32) * v t) = ((∑ t, v' t * min 448 (max 0 (448 * p t)) : ℝ) : EReal) := by
    rw [← coe_sum']
    exact Finset.sum_congr rfl fun t _ => by rw [hRP, hv, word448, ← EReal.coe_mul, clip0_coe, ← EReal.coe_mul, mul_comm (p t), mul_comm (min _ _)]
  have e3 : (∑ t, PK k q s t) = ((448 * ∑ t, p t : ℝ) : EReal) := by
    rw [Finset.mul_sum, ← coe_sum']
    exact Finset.sum_congr rfl fun t _ => hPK t
  have e4 : (∑ t, RP k q s t) = ((∑ t, p t : ℝ) : EReal) := by
    rw [← coe_sum']
    exact Finset.sum_congr rfl fun t _ => hRP t
  unfold OK OR
  rw [e1, e2, e3, e4, word448, Ideal.div_coe (y := 448 * ∑ t, p t) (mul_ne_zero (by norm_num) hl), Ideal.div_coe (y := 448) (by norm_num), Ideal.div_coe (y := ∑ t, p t) hl, ← EReal.coe_mul, ← EReal.coe_mul, ← EReal.coe_mul]
  congr 1
  field_simp

/-! ## The codes times the scales are real -/

theorem clip_real (x : EReal) : ∃ r : ℝ, clip x = r := by
  have hlo : Ideal.ofBits .f32 0xC3E00000#32 = ((-448 : ℝ) : EReal) := by
    simp [Ideal.ofBits, Ideal.ieee]
    rw [← EReal.coe_mul]
    norm_num
  have h1 : clip x ≤ ((448 : ℝ) : EReal) := by unfold clip; rw [word448]; exact min_le_right _ _
  have h2 : ((-448 : ℝ) : EReal) ≤ clip x := by
    unfold clip
    rw [word448, hlo]
    exact le_min (le_max_right _ _) (EReal.coe_le_coe_iff.2 (by norm_num))
  refine ⟨(clip x).toReal, (EReal.coe_toReal ?_ ?_).symm⟩
  · exact (h1.trans_lt (EReal.coe_lt_top _)).ne
  · exact ((EReal.bot_lt_coe _).trans_le h2).ne'

theorem small_scale (f : Fin 32 → EReal) (hf : Small f) : kscale f = (((2 : ℝ) ^ ex (amax f) : ℝ) : EReal) := by
  unfold kscale
  rw [bexp_eq _ (amax_nonneg f) (amax_lt_top f hf), scale_eq _ (E_le _ (amax_lt f hf))]

theorem deq_real (f : Fin 32 → EReal) (hf : Small f) (k : Fin 32) : ∃ r : ℝ, kcode f k * kscale f = r := by
  obtain ⟨a, ha⟩ := clip_real (f k * fv (IntOp.subi 253#32 (bexp (amax f))))
  refine ⟨a * 2 ^ ex (amax f), ?_⟩
  rw [small_scale f hf, EReal.coe_mul]
  exact congrArg (· * _) ha

/-- The scale as the reference builds it from its stored exponent. -/
def rscale (w : BitVec 32) : EReal := Ideal.pow (Ideal.ofBits .f32 0x40000000#32) ((((IntOp.subi w 127#32).toInt : ℝ)) : EReal)

theorem rscale_eq (f : Fin 32 → EReal) (hf : Small f) : rscale (ksc f) = kscale f := by
  have hE := E_le _ (amax_lt f hf)
  have h : (IntOp.subi (ksc f) 127#32).toInt = ex (amax f) := by
    unfold ksc ex
    rw [bexp_eq _ (amax_nonneg f) (amax_lt_top f hf)]
    exact (by decide +kernel : ∀ n : Fin 253, (IntOp.subi (IntOp.addi (BitVec.ofNat 32 n.val) 1#32) 127#32).toInt = (n.val : ℤ) - 126) ⟨E (amax f), by omega⟩
  unfold rscale
  rw [h, pow_two, small_scale f hf]

end Cert.KernelIdeal.Val

end
-- ==== Proof.Ref.Attn.lean ====
/- The reference's attention, stage by stage. -/
module

public import proofs.«01_k».proof.Proof.Gen.ReferenceIdeal.Read
public import proofs.«01_k».proof.Proof.Att.Math
public import Idealize.ShloMosaic.Lib.Pointwise

@[expose] public section

set_option maxRecDepth 16384

noncomputable section

namespace Cert.ReferenceIdeal.Att

open Cert.ReferenceIdeal Cert.ReferenceIdeal.Gen Cert.ReferenceIdeal.Read Idealize.ShloMosaic Idealize.ShloMosaic.TcCoe Idealize.SL.Sem Cert.Quant
open Cert.ReferenceIdeal.Facts
open Cert.KernelIdeal.Val (rscale clip0)

variable (r3 : FVec Ideal S3x8192x4096 .bf16) (r4 r5 : FVec Ideal S3x8192x1024 .bf16) (r6 : IVec S3x8192x32x4 32) (r7 r8 : IVec S3x8192x8x4 32)

/-- A stored exponent field. -/
def fld (w : BitVec 32) : BitVec 32 := BitVec.setWidth 32 (BitVec.setWidth 8 w)

theorem d124 (b : Fin 3) (s : Fin 8192) (n : Fin 32) (j : Fin 4) : val_main_v124 (F := Ideal) r6 (ix4 b s n j) = rscale (fld (r6 (ix4 b s n j))) := by
  pointwise [val_main_v124, val_main_v123, val_main_v122, val_main_v121, val_main_v120, val_main_v119, val_main_v113, val_main_v112, val_main_cst_33, val_main_c_34]
  rfl
theorem d137 (b : Fin 3) (s : Fin 8192) (n : Fin 8) (j : Fin 4) : val_main_v137 (F := Ideal) r7 (ix4 b s n j) = rscale (fld (r7 (ix4 b s n j))) := by
  pointwise [val_main_v137, val_main_v136, val_main_v135, val_main_v134, val_main_v133, val_main_v132, val_main_v115, val_main_v114, val_main_cst_35, val_main_c_36]
  rfl
theorem d149 (b : Fin 3) (s : Fin 8192) (n : Fin 8) (j : Fin 4) : val_main_v149 (F := Ideal) r8 (ix4 b s n j) = rscale (fld (r8 (ix4 b s n j))) := by
  pointwise [val_main_v149, val_main_v148, val_main_v147, val_main_v146, val_main_v145, val_main_v144, val_main_v117, val_main_v116, val_main_cst_37, val_main_c_38]
  rfl
attribute [local irreducible] val_main_v124 val_main_v137 val_main_v149

theorem d130 (b : Fin 3) (s : Fin 8192) (h : Fin 8) (g : Fin 4) (d : Fin 128) : val_main_v130 (F := Ideal) r3 r6 (ix5 b s h g d)
    = r3 (ix3 b s ⟨(h.val * 4 + g.val) * 128 + d.val, by omega⟩) * rscale (fld (r6 (ix4 b s ⟨h.val * 4 + g.val, by omega⟩ ⟨d.val / 32, by omega⟩))) := by
  pointwise [val_main_v130, val_main_v129, val_main_v128, val_main_v127, val_main_v126, val_main_v125, val_main_v118]
  rw [d124]
  refine congrArg (fun z => r3 (ix3 b s z) * _) (Fin.ext ?_)
  show (h.val * 4 + g.val) * 128 + d.val / 32 * 32 + d.val % 32 = (h.val * 4 + g.val) * 128 + d.val
  omega
theorem d142 (b : Fin 3) (s : Fin 8192) (h : Fin 8) (d : Fin 128) : val_main_v142 (F := Ideal) r4 r7 (ix4 b s h d)
    = r4 (ix3 b s ⟨h.val * 128 + d.val, by omega⟩) * rscale (fld (r7 (ix4 b s h ⟨d.val / 32, by omega⟩))) := by
  pointwise [val_main_v142, val_main_v141, val_main_v140, val_main_v139, val_main_v138, val_main_v131]
  rw [d137]
  refine congrArg (fun z => r4 (ix3 b s z) * _) (Fin.ext ?_)
  show h.val * 128 + d.val / 32 * 32 + d.val % 32 = h.val * 128 + d.val
  omega
theorem d154 (b : Fin 3) (s : Fin 8192) (h : Fin 8) (d : Fin 128) : val_main_v154 (F := Ideal) r5 r8 (ix4 b s h d)
    = r5 (ix3 b s ⟨h.val * 128 + d.val, by omega⟩) * rscale (fld (r8 (ix4 b s h ⟨d.val / 32, by omega⟩))) := by
  pointwise [val_main_v154, val_main_v153, val_main_v152, val_main_v151, val_main_v150, val_main_v143]
  rw [d149]
  refine congrArg (fun z => r5 (ix3 b s z) * _) (Fin.ext ?_)
  show h.val * 128 + d.val / 32 * 32 + d.val % 32 = h.val * 128 + d.val
  omega
attribute [local irreducible] val_main_v130 val_main_v142 val_main_v154

theorem sle8192 (t s : Fin 8192) : IntOp.cmpi CmpIPredicate.sle (BitVec.ofNat 32 t.val) (BitVec.ofNat 32 s.val) = BitVec.ofBool (decide (t.val ≤ s.val)) := by
  have ht := t.isLt
  have hs := s.isLt
  have e (n : ℕ) (h : n < 8192) : (BitVec.ofNat 32 n).toInt = (n : ℤ) := by
    rw [BitVec.toInt_eq_toNat_of_lt] <;> rw [BitVec.toNat_ofNat, Nat.mod_eq_of_lt (by omega)]
    omega
  show BitVec.ofBool ((BitVec.ofNat 32 t.val).sle (BitVec.ofNat 32 s.val)) = _
  congr 1
  rw [BitVec.sle, e _ ht, e _ hs]
  exact decide_eq_decide.2 Int.ofNat_le

theorem d156 (b : Fin 3) (h : Fin 8) (g : Fin 4) (s t : Fin 8192) : val_main_v156 (F := Ideal) r3 r4 r6 r7 (ix5 b h g s t)
    = ∑ x : Fin 128, val_main_v142 (F := Ideal) r4 r7 (ix4 b t h x) * val_main_v130 (F := Ideal) r3 r6 (ix5 b s h g x) := by
  pointwise [val_main_v156, val_main_v155]
attribute [local irreducible] val_main_v156
theorem d166 (b : Fin 3) (h : Fin 8) (g : Fin 4) (s t : Fin 8192) : val_main_v166 (F := Ideal) r3 r4 r6 r7 (ix5 b h g s t)
    = if t.val ≤ s.val then Ideal.div (val_main_v156 (F := Ideal) r3 r4 r6 r7 (ix5 b h g s t)) (Ideal.sqrt (Ideal.ofBits .f32 0x43000000#32)) else ⊥ := by
  pointwise [val_main_v166, val_main_call6_v0, val_main_call6_v1, val_main_call6_v2, val_main_v157, val_main_v158, val_main_v159, val_main_v160, val_main_v161, val_main_v162, val_main_v163, val_main_v164, val_main_v165, val_main_cst_39, val_main_cst_40]
  rw [sle8192]
  by_cases hts : t.val ≤ s.val
  · rw [if_pos hts, decide_eq_true hts]
    rfl
  · rw [if_neg hts, decide_eq_false hts]
    exact Cert.KernelIdeal.Val.wordNegInf
attribute [local irreducible] val_main_v166
theorem d167 (b : Fin 3) (h : Fin 8) (g : Fin 4) (s : Fin 8192) : val_main_v167 (F := Ideal) r3 r4 r6 r7 (ix4 b h g s)
    = Finset.univ.fold max ⊥ (fun t : Fin 8192 => val_main_v166 (F := Ideal) r3 r4 r6 r7 (ix5 b h g s t)) := by
  pointwise [val_main_v167, val_main_cst_41]
  rw [Cert.KernelIdeal.Val.wordNegInf]
attribute [local irreducible] val_main_v167
theorem d171 (b : Fin 3) (h : Fin 8) (g : Fin 4) (s t : Fin 8192) : val_main_v171 (F := Ideal) r3 r4 r6 r7 (ix5 b h g s t)
    = Ideal.exp (val_main_v166 (F := Ideal) r3 r4 r6 r7 (ix5 b h g s t) - val_main_v167 (F := Ideal) r3 r4 r6 r7 (ix4 b h g s)) := by
  pointwise [val_main_v171, val_main_v170, val_main_v169, val_main_v168]
attribute [local irreducible] val_main_v171
theorem d172 (b : Fin 3) (h : Fin 8) (g : Fin 4) (s : Fin 8192) : val_main_v172 (F := Ideal) r3 r4 r6 r7 (ix4 b h g s)
    = ∑ t : Fin 8192, val_main_v171 (F := Ideal) r3 r4 r6 r7 (ix5 b h g s t) := by
  pointwise [val_main_v172, val_main_cst_42]
theorem d176 (b : Fin 3) (h : Fin 8) (g : Fin 4) (s t : Fin 8192) : val_main_v176 (F := Ideal) r3 r4 r6 r7 (ix5 b h g s t)
    = clip0 (val_main_v171 (F := Ideal) r3 r4 r6 r7 (ix5 b h g s t) * Ideal.ofBits .f32 0x43E00000#32) := by
  pointwise [val_main_v176, val_main_v175, val_main_v174, val_main_v173, val_main_call7_v0, val_main_call7_v1, val_main_call7_v2, val_main_call7_v3, val_main_call7_v4, val_main_cst_43, val_main_cst_44, val_main_cst_45]
  show min (Ideal.ofBits .f32 0x43E00000#32) (max (Ideal.ofBits .f32 0x00000000#32) _) = _
  rw [Ideal.ofBits_zero_f32]
  rfl
attribute [local irreducible] val_main_v172 val_main_v176
theorem d177 (b : Fin 3) (h : Fin 8) (g : Fin 4) (s : Fin 8192) (e : Fin 128) : val_main_v177 (F := Ideal) r3 r4 r5 r6 r7 r8 (ix5 b h g s e)
    = ∑ t : Fin 8192, val_main_v176 (F := Ideal) r3 r4 r6 r7 (ix5 b h g s t) * val_main_v154 (F := Ideal) r5 r8 (ix4 b t h e) := by
  pointwise [val_main_v177]
attribute [local irreducible] val_main_v177
theorem d185 (b : Fin 3) (s : Fin 8192) (h : Fin 8) (g : Fin 4) (e : Fin 128) : val_main_v185 (F := Ideal) r3 r4 r5 r6 r7 r8 (ix3 b s ⟨(h.val * 4 + g.val) * 128 + e.val, by omega⟩)
    = Ideal.div (Ideal.div (val_main_v177 (F := Ideal) r3 r4 r5 r6 r7 r8 (ix5 b h g s e)) (Ideal.ofBits .f32 0x43E00000#32)) (val_main_v172 (F := Ideal) r3 r4 r6 r7 (ix4 b h g s)) := by
  pointwise [val_main_v185, val_main_v184, val_main_v183, val_main_v182, val_main_v181, val_main_v180, val_main_v179, val_main_v178, val_main_cst_46]
attribute [local irreducible] val_main_v185

/-- The reference's attention over any codes and stored exponents. -/
theorem att_read (b : Fin 3) (s : Fin 8192) (h : Fin 8) (g : Fin 4) (e : Fin 128) :
    val_main_v185 (F := Ideal) r3 r4 r5 r6 r7 r8 (ix3 b s ⟨(h.val * 4 + g.val) * 128 + e.val, by omega⟩)
      = Cert.KernelIdeal.Val.OR (fun t x => val_main_v142 (F := Ideal) r4 r7 (ix4 b t h x)) (fun x => val_main_v130 (F := Ideal) r3 r6 (ix5 b s h g x))
          (fun t => val_main_v154 (F := Ideal) r5 r8 (ix4 b t h e)) s.val := by
  rw [d185, d177, d172]
  have h1 : ∀ t, val_main_v166 (F := Ideal) r3 r4 r6 r7 (ix5 b h g s t) = Cert.KernelIdeal.Val.RS (fun t x => val_main_v142 (F := Ideal) r4 r7 (ix4 b t h x)) (fun x => val_main_v130 (F := Ideal) r3 r6 (ix5 b s h g x)) s.val t := fun t => by
    rw [d166, d156]
    rfl
  have h2 : ∀ t, val_main_v171 (F := Ideal) r3 r4 r6 r7 (ix5 b h g s t) = Cert.KernelIdeal.Val.RP (fun t x => val_main_v142 (F := Ideal) r4 r7 (ix4 b t h x)) (fun x => val_main_v130 (F := Ideal) r3 r6 (ix5 b s h g x)) s.val t := fun t => by
    rw [d171, d167]
    simp only [h1]
    rfl
  unfold Cert.KernelIdeal.Val.OR
  simp only [d176, h2]

end Cert.ReferenceIdeal.Att

end
-- ==== Proof.Att.Sum.lean ====
/- The kernel's running maximum, denominator and numerator, summed up over every key block. -/
module

public import proofs.«01_k».proof.Proof.Att.Kern

@[expose] public section

set_option maxRecDepth 16384

noncomputable section

namespace Cert.KernelIdeal.Val

open Cert.KernelIdeal Cert.KernelIdeal.Gen Idealize.ShloMosaic Idealize.SL.Sem Cert.Quant
open Cert.KernelIdeal.Facts Cert.KernelIdeal.Spec

/-- Row `w` of key block `j`. -/
def tt (j w : ℕ) : Fin 8192 := ⟨(256 * j + w) % 8192, Nat.mod_lt _ (by norm_num)⟩

variable (kd : Vec Ideal S8192x128 .bf16) (vt : Vec Ideal S128x8192 .bf16) (qt : Vec Ideal S128x1024 .bf16)

abbrev kf' : Fin 8192 → Fin 128 → EReal := fun t x => kd (ix2 t x)
abbrev qf' (c : Fin 1024) : Fin 128 → EReal := fun x => qt (ix2 x c)

theorem kBlk_at (j : ℕ) (w : Fin 256) (x : Fin 128) : kBlk (F := Ideal) kd j (ix2 w x) = kd (ix2 (tt j w.val) x) := by
  unfold kBlk
  congr 1
  funext a
  match a with
  | ⟨0, _⟩ => rfl
  | ⟨1, _⟩ => rfl
theorem vBlk_at (j : ℕ) (e : Fin 128) (w : Fin 256) : vBlk (F := Ideal) vt j (ix2 e w) = vt (ix2 e (tt j w.val)) := by
  unfold vBlk
  congr 1
  funext a
  match a with
  | ⟨0, _⟩ => rfl
  | ⟨1, _⟩ => rfl

theorem tt_val (j w : ℕ) (hj : j < 32) (hw : w < 256) : (tt j w).val = 256 * j + w := Nat.mod_eq_of_lt (by omega)

/-! ## The maximum -/

theorem mAcc_le (c : Fin 1024) (a : Fin 8) (z : EReal) (n : ℕ) : mAcc (F := Ideal) kd qt n (ix2 a c) ≤ z
    ↔ ∀ j < n, ∀ u : Fin 32, S (kf' kd) (qf' qt c) (tt j (u.val * 8 + a.val)) ≤ z := by
  induction n with
  | zero =>
    have : mAcc (F := Ideal) kd qt 0 (ix2 a c) = ⊥ := wordNegInf
    rw [this]
    simp
  | succ n ih =>
    rw [mAcc, pay51, max_le_iff, ih, Finset.fold_max_le, wordNegInf]
    constructor
    · rintro ⟨h1, _, h2⟩ j hj u
      rcases Nat.lt_succ_iff_lt_or_eq.1 hj with h | rfl
      · exact h1 j h u
      · have := h2 u (Finset.mem_univ _)
        simp only [kBlk_at] at this
        exact this
    · intro h
      refine ⟨fun j hj u => h j (by omega) u, bot_le, fun u _ => ?_⟩
      simp only [kBlk_at]
      exact h n (by omega) u

theorem sDiag_at (i : ℕ) (hi : i < 32) (w : Fin 256) (c : Fin 1024) : sDiag (F := Ideal) kd qt i (ix2 w c)
    = MS (kf' kd) (qf' qt c) (256 * i + c.val % 256) (tt i w.val) := by
  unfold sDiag MS
  rw [pay55, tt_val i w.val hi w.isLt]
  simp only [kBlk_at]
  by_cases h : w.val ≤ c.val % 256
  · rw [if_pos h, if_pos (by omega)]; rfl
  · rw [if_neg h, if_neg (by omega)]

theorem sBlk_at (i j : ℕ) (hi : i < 32) (hj : j ≤ i) (w : Fin 256) (c : Fin 1024) : sBlk (F := Ideal) kd qt i j (ix2 w c)
    = MS (kf' kd) (qf' qt c) (256 * i + c.val % 256) (tt j w.val) := by
  unfold sBlk
  split
  · rename_i h
    rw [pay50]
    simp only [kBlk_at]
    unfold MS
    rw [tt_val j w.val (by omega) w.isLt, if_pos (by have := w.isLt; omega)]
    rfl
  · have : j = i := by omega
    subst this
    have e : k0_pay56 (F := Ideal) (sDiag kd qt j) (ix2 w c) = sDiag (F := Ideal) kd qt j (ix2 w c) := by
      unfold k0_pay56
      rw [shapeCast_id]
    rw [e, sDiag_at kd qt j hi]

theorem max_at (i : ℕ) (hi : i < 32) (c : Fin 1024) : k0_pay57 (F := Ideal) (mAcc kd qt i) (sDiag kd qt i) (ix2 0 c)
    = MX (kf' kd) (qf' qt c) (256 * i + c.val % 256) * cC - cL := by
  rw [pay57]
  congr 2
  refine eq_of_forall_ge_iff fun z => ?_
  unfold MX
  rw [Finset.fold_max_le, Finset.fold_max_le, wordNegInf]
  simp only [max_le_iff, Finset.fold_max_le, mAcc_le, sDiag_at kd qt i hi, Finset.mem_univ, forall_const, bot_le, true_and]
  constructor
  · intro h t
    unfold MS
    split
    · rename_i ht
      have hlt := t.isLt
      have ha := h ⟨t.val % 8, Nat.mod_lt _ (by norm_num)⟩
      have e : t = tt (t.val / 256) (t.val % 256 / 8 * 8 + t.val % 8) := Fin.ext (by rw [tt_val _ _ (by omega) (by omega)]; omega)
      by_cases hj : t.val / 256 < i
      · have := ha.1 (t.val / 256) hj ⟨t.val % 256 / 8, by omega⟩
        rw [e]; exact this
      · have hji : t.val / 256 = i := by have := Nat.mod_lt c.val (by norm_num : 256 > 0); omega
        have := ha.2 ⟨t.val % 256 / 8, by omega⟩
        unfold MS at this
        simp only at this
        rw [hji] at e
        rw [← e, if_pos ht] at this
        exact this
    · exact bot_le
  · intro h a
    refine ⟨fun j hj u => ?_, fun u => h _⟩
    have := h (tt j (u.val * 8 + a.val))
    unfold MS at this
    rw [if_pos (by rw [tt_val _ _ (by omega) (by have := u.isLt; have := a.isLt; omega)]; have := u.isLt; have := a.isLt; omega)] at this
    exact this

/-! ## The sums -/

theorem pk_at (i j : ℕ) (hi : i < 32) (hj : j ≤ i) (w : Fin 256) (c : Fin 1024) :
    k0_pay60 (F := Ideal) (mAcc kd qt i) (sDiag kd qt i) (sBlk kd qt i j) (ix2 w c) = PK (kf' kd) (qf' qt c) (256 * i + c.val % 256) (tt j w.val) := by
  rw [pay60, max_at kd qt i hi, sBlk_at kd qt i j hi hj]
  rfl

theorem lAcc1 (i : ℕ) (hi : i < 32) (c : Fin 1024) (a : Fin 8) (n : ℕ) (hn : n ≤ i + 1) : (lAcc (F := Ideal) kd vt qt i n).1 (ix2 a c)
    = ∑ j ∈ Finset.range n, ∑ u : Fin 32, PK (kf' kd) (qf' qt c) (256 * i + c.val % 256) (tt j (u.val * 8 + a.val)) := by
  induction n with
  | zero => exact Ideal.ofBits_zero_f32
  | succ n ih =>
    rw [Finset.sum_range_succ, ← ih (by omega)]
    show k0_pay61 (F := Ideal) _ _ _ _ (ix2 a c) = _
    rw [pay61]
    simp only [pk_at kd qt i n hi (by omega)]
theorem lAcc2 (i : ℕ) (hi : i < 32) (c : Fin 1024) (e : Fin 128) (n : ℕ) (hn : n ≤ i + 1) : (lAcc (F := Ideal) kd vt qt i n).2 (ix2 e c)
    = ∑ j ∈ Finset.range n, ∑ w : Fin 256, vt (ix2 e (tt j w.val)) * clip0 (PK (kf' kd) (qf' qt c) (256 * i + c.val % 256) (tt j w.val)) := by
  induction n with
  | zero => exact Ideal.ofBits_zero_f32
  | succ n ih =>
    rw [Finset.sum_range_succ, ← ih (by omega)]
    show k0_pay62 (F := Ideal) _ _ _ _ _ (ix2 e c) = _
    rw [pay62]
    simp only [pk_at kd qt i n hi (by omega), vBlk_at]

theorem sum256 (f : ℕ → EReal) : ∑ a : Fin 8, ∑ u : Fin 32, f (u.val * 8 + a.val) = ∑ w : Fin 256, f w.val := by
  rw [Finset.sum_comm, ← Equiv.sum_comp (finProdFinEquiv (m := 32) (n := 8)) (fun w : Fin 256 => f w.val), Fintype.sum_prod_type]
  refine Finset.sum_congr rfl fun u _ => Finset.sum_congr rfl fun a _ => congrArg f ?_
  show u.val * 8 + a.val = a.val + 8 * u.val
  omega

theorem sum_keys (f : Fin 8192 → EReal) (i : ℕ) (hi : i < 32) (hz : ∀ t : Fin 8192, 256 * (i + 1) ≤ t.val → f t = 0) :
    ∑ j ∈ Finset.range (i + 1), ∑ w : Fin 256, f (tt j w.val) = ∑ t, f t := by
  have h1 : ∑ t, f t = ∑ j ∈ Finset.range 32, ∑ w : Fin 256, f (tt j w.val) := by
    rw [← Fin.sum_univ_eq_sum_range (fun j => ∑ w : Fin 256, f (tt j w.val)) 32,
      ← Equiv.sum_comp (finProdFinEquiv (m := 32) (n := 256)) (fun t : Fin 8192 => f t), Fintype.sum_prod_type]
    refine Finset.sum_congr rfl fun j _ => Finset.sum_congr rfl fun w _ => congrArg f (Fin.ext ?_)
    rw [tt_val _ _ j.isLt w.isLt]
    show w.val + 256 * j.val = _
    omega
  rw [h1]
  refine Finset.sum_subset (fun j hj => ?_) fun j hj hn => ?_
  · rw [Finset.mem_range] at *; omega
  · rw [Finset.mem_range] at *
    refine Finset.sum_eq_zero fun w _ => hz _ ?_
    rw [tt_val _ _ hj w.isLt]
    omega

theorem pk_masked (k : Fin 8192 → Fin 128 → EReal) (q : Fin 128 → EReal) (s : ℕ) (t : Fin 8192) (h : s < t.val) : PK k q s t = 0 := by
  unfold PK MS
  rw [if_neg (by omega)]
  have hc : (⊥ : EReal) * cC = ⊥ := by
    unfold cC
    refine EReal.bot_mul_coe_of_pos ?_
    have := Real.log_pos (by norm_num : (1 : ℝ) < 2)
    positivity
  rw [hc, EReal.bot_sub]
  rfl

theorem clip0_zero : clip0 0 = 0 := by
  unfold clip0
  rw [max_self, word448, min_eq_right]
  exact_mod_cast (by norm_num : (0 : ℝ) ≤ 448)

theorem acc_at (i : ℕ) (hi : i < 32) (c : Fin 1024) (e : Fin 128) : (lAcc (F := Ideal) kd vt qt i (i + 1)).2 (ix2 e c)
    = ∑ t, vt (ix2 e t) * clip0 (PK (kf' kd) (qf' qt c) (256 * i + c.val % 256) t) := by
  have hm := Nat.mod_lt c.val (by norm_num : 256 > 0)
  refine (lAcc2 kd vt qt i hi c e _ le_rfl).trans ?_
  have hf := fun t => pk_masked (kf' kd) (qf' qt c) (256 * i + c.val % 256) t
  generalize PK (kf' kd) (qf' qt c) (256 * i + c.val % 256) = f at hf ⊢
  exact sum_keys (fun t => vt (ix2 e t) * clip0 (f t)) i hi fun t ht => by
    show _ * clip0 (f t) = 0
    rw [hf t (by omega), clip0_zero, mul_zero]
theorem l_at (i : ℕ) (hi : i < 32) (c : Fin 1024) : (∑ a : Fin 8, (lAcc (F := Ideal) kd vt qt i (i + 1)).1 (ix2 a c))
    = ∑ t, PK (kf' kd) (qf' qt c) (256 * i + c.val % 256) t := by
  have hm := Nat.mod_lt c.val (by norm_num : 256 > 0)
  refine (Finset.sum_congr rfl fun a _ => lAcc1 kd vt qt i hi c a _ le_rfl).trans ?_
  have hf := fun t => pk_masked (kf' kd) (qf' qt c) (256 * i + c.val % 256) t
  generalize PK (kf' kd) (qf' qt c) (256 * i + c.val % 256) = f at hf ⊢
  rw [Finset.sum_comm]
  refine (Finset.sum_congr rfl fun j _ => sum256 (fun w => f (tt j w))).trans ?_
  exact sum_keys f i hi fun t ht => hf t (by omega)
theorem out_at (i : ℕ) (hi : i < 32) (c : Fin 1024) (e : Fin 128) :
    k0_pay66 (F := Ideal) (lAcc kd vt qt i (i + 1)).1 (lAcc kd vt qt i (i + 1)).2 (ix2 e c)
      = OK (kf' kd) (qf' qt c) (fun t => vt (ix2 e t)) (256 * i + c.val % 256) := by
  rw [pay66, acc_at kd vt qt i hi, l_at kd vt qt i hi]
  rfl

end Cert.KernelIdeal.Val

end
-- ==== Proof.Att.Arr3.lean ====
/- The attention the kernel leaves, as a function of the three arguments. -/
module

public import proofs.«01_k».proof.Proof.Att.Sum
public import proofs.«01_k».proof.Proof.Val.Arr

@[expose] public section

set_option maxRecDepth 16384

noncomputable section

namespace Cert.KernelIdeal.Val

open Cert.KernelIdeal Cert.KernelIdeal.Gen Idealize.ShloMosaic Idealize.ShloMosaic.TcCoe Idealize.SL.Sem Cert.Quant Idealize.ShloMosaic.Pipeline
open Cert.KernelIdeal.Facts Cert.KernelIdeal.Spec

/-! ## The dequantised arrays -/

/-- A dequantised query: token `s`, head `n`, column `d`. -/
def QX (x : S3x8192x4096.Idx → EReal) (b : Fin 3) (s : Fin 8192) (n : Fin 32) (d : Fin 128) : EReal :=
  kcode (QG x b s ⟨n.val * 4 + d.val / 32, by omega⟩) ⟨d.val % 32, Nat.mod_lt _ (by decide)⟩ * kscale (QG x b s ⟨n.val * 4 + d.val / 32, by omega⟩)
/-- A dequantised key. -/
def KX (x : S3x8192x1024.Idx → EReal) (b : Fin 3) (s : Fin 8192) (h : Fin 8) (d : Fin 128) : EReal :=
  kcode (KG x b s ⟨h.val * 4 + d.val / 32, by omega⟩) ⟨d.val % 32, Nat.mod_lt _ (by decide)⟩ * kscale (KG x b s ⟨h.val * 4 + d.val / 32, by omega⟩)
/-- A dequantised value. -/
def VX (x : S3x8192x1024.Idx → EReal) (b : Fin 3) (s : Fin 8192) (h : Fin 8) (d : Fin 128) : EReal :=
  kcode (VG x b s ⟨h.val * 4 + d.val / 32, by omega⟩) ⟨d.val % 32, Nat.mod_lt _ (by decide)⟩ * kscale (VG x b s ⟨h.val * 4 + d.val / 32, by omega⟩)

/-- The attention of token `s`, head `n`, column `e`. -/
def OX (x0 : S3x8192x4096.Idx → EReal) (x1 x2 : S3x8192x1024.Idx → EReal) (b : Fin 3) (s : Fin 8192) (n : Fin 32) (e : Fin 128) : EReal :=
  OK (fun t => KX x1 b t ⟨n.val / 4, by omega⟩) (QX x0 b s n) (fun t => VX x2 b t ⟨n.val / 4, by omega⟩ e) s.val
def GOUT (x0 : S3x8192x4096.Idx → EReal) (x1 x2 : S3x8192x1024.Idx → EReal) : FVec Ideal S3x8192x4096 .bf16 := fun i =>
  OX x0 x1 x2 (i 0) (i 1) ⟨(i 2).val / 128, by have : (i 2).val < 4096 := (i 2).isLt; omega⟩ ⟨(i 2).val % 128, Nat.mod_lt _ (by decide)⟩

/-! ## The block -/

section q4
attribute [local irreducible] k0_pay40
variable (a : FVec Ideal S16x1x256 .f32) (v : FVec Ideal S16x32x256 .f32) (d : Fin 128) (r : Fin 256)
theorem q43 : k0_pay43 (F := Ideal) a v (ix2 d r) = k0_pay40 (F := Ideal) a v (ix2 ⟨d.val, by omega⟩ r) := by
  pointwise [k0_pay43]
theorem q44 : k0_pay44 (F := Ideal) a v (ix2 d r) = k0_pay40 (F := Ideal) a v (ix2 ⟨128 + d.val, by omega⟩ r) := by
  pointwise [k0_pay44]
theorem q45 : k0_pay45 (F := Ideal) a v (ix2 d r) = k0_pay40 (F := Ideal) a v (ix2 ⟨256 + d.val, by omega⟩ r) := by
  pointwise [k0_pay45]
theorem q47 : k0_pay47 (F := Ideal) (k0_pay46 a v) (ix2 d r) = k0_pay40 (F := Ideal) a v (ix2 ⟨384 + d.val, by omega⟩ r) := by
  pointwise [k0_pay47, k0_pay46]
end q4

theorem QT_apply (x : Vec Ideal S1x256x512 .bf16) (d : Fin 128) (c : Fin 1024) :
    QT x (ix2 d c) = k0_pay40 (F := Ideal) (qsc x) (qv x) (ix2 ⟨c.val / 256 * 128 + d.val, by omega⟩ ⟨c.val % 256, Nat.mod_lt _ (by decide)⟩) := by
  have e : inHead (ix2 d c) = ix2 d ⟨c.val % 256, Nat.mod_lt _ (by decide)⟩ := funext fun a => match a with | ⟨0, _⟩ => rfl | ⟨1, _⟩ => rfl
  have hc := c.isLt
  unfold QT
  rw [e, q43, q44, q45, q47]
  generalize k0_pay40 (F := Ideal) (qsc x) (qv x) = w
  show (if c.val < 256 then _ else if c.val < 512 then _ else if c.val < 768 then _ else _) = _
  split
  · congr 3; omega
  · split
    · congr 3; omega
    · split
      · congr 3; omega
      · congr 3; omega

theorem QT_head (x : Vec Ideal S1x256x512 .bf16) (d : Fin 128) (g : Fin 4) (r : Fin 256) :
    QT x (ix2 d ⟨g.val * 256 + r.val, by omega⟩) = kcode (qf x r ⟨g.val * 4 + d.val / 32, by omega⟩) ⟨d.val % 32, Nat.mod_lt _ (by decide)⟩
      * kscale (qf x r ⟨g.val * 4 + d.val / 32, by omega⟩) := by
  rw [QT_apply, q40]
  have e1 : (⟨(g.val * 256 + r.val) % 256, Nat.mod_lt _ (by decide)⟩ : Fin 256) = r := Fin.ext (by show (g.val * 256 + r.val) % 256 = r.val; omega)
  have e2 : (⟨((g.val * 256 + r.val) / 256 * 128 + d.val) / 32, by omega⟩ : Fin 16) = ⟨g.val * 4 + d.val / 32, by omega⟩ :=
    Fin.ext (by show ((g.val * 256 + r.val) / 256 * 128 + d.val) / 32 = g.val * 4 + d.val / 32; omega)
  have e3 : (⟨((g.val * 256 + r.val) / 256 * 128 + d.val) % 32, by omega⟩ : Fin 32) = ⟨d.val % 32, Nat.mod_lt _ (by decide)⟩ :=
    Fin.ext (by show ((g.val * 256 + r.val) / 256 * 128 + d.val) % 32 = d.val % 32; omega)
  rw [e1]
  simp only [e2, e3]

section outs
attribute [local irreducible] k0_pay66 k0_pay67 k0_pay68 k0_pay69 k0_pay1 k0_pay2
theorem outOf_apply (l : FVec Ideal S8x1024 .f32) (acc : FVec Ideal S128x1024 .f32) (r : Fin 256) (g : Fin 4) (e : Fin 128) :
    outOf l acc (ix3 0 r ⟨g.val * 128 + e.val, by omega⟩) = k0_pay66 (F := Ideal) l acc (ix2 e ⟨g.val * 256 + r.val, by omega⟩) := by
  have e1 : inOut (ix3 0 r ⟨g.val * 128 + e.val, by omega⟩) = ix3 0 r e := funext fun a => match a with
    | ⟨0, _⟩ => rfl | ⟨1, _⟩ => rfl | ⟨2, _⟩ => Fin.ext (by show (g.val * 128 + e.val) % 128 = e.val; omega)
  unfold outOf
  rw [e1, out0, out1, out2, out3]
  generalize k0_pay66 (F := Ideal) l acc = w
  show (if g.val * 128 + e.val < 128 then _ else if g.val * 128 + e.val < 256 then _ else if g.val * 128 + e.val < 384 then _ else _) = _
  split
  · congr 3; omega
  · split
    · congr 3; omega
    · split
      · congr 3; omega
      · congr 3; omega
end outs

attribute [local irreducible] lAcc QT KD VT k0_pay66 in
theorem OUT_apply (i : ℕ) (hi : i < 32) (x0 : Vec Ideal S1x256x512 .bf16) (x1 x2 : Vec Ideal S1x8192x128 .bf16) (r : Fin 256) (g : Fin 4) (e : Fin 128) :
    OUT i x0 x1 x2 (ix3 0 r ⟨g.val * 128 + e.val, by omega⟩)
      = OK (fun t x => KD x1 (ix2 t x)) (fun x => QT x0 (ix2 x ⟨g.val * 256 + r.val, by omega⟩)) (fun t => VT x2 (ix2 e t)) (256 * i + r.val) := by
  unfold OUT
  rw [outOf_apply, out_at _ _ _ i hi]
  have h : (g.val * 256 + r.val) % 256 = r.val := by omega
  rw [show ((⟨g.val * 256 + r.val, by omega⟩ : Fin 1024)).val % 256 = r.val from h]

/-! ## The array -/

variable (m : (ℓ : Loc nD τ sig) → Buf (Elt Ideal) ℓ)

theorem coord2 : ∀ t : Fin cfg0.N, (grid0.coords t 2).val = t.val % 32 := by decide +kernel

attribute [local irreducible] Spec.OUT

theorem arr3 (c : Dev nD) : (dats m 0 c).arrAt 3 cfg0.N = GOUT (A0 m c) (A1 m c) (A2 m c) := by
  refine (dats m 0 c).arrAt_eq_of_covers 3 _ (by decide +kernel) fun t hf y => ?_
  rw [after_3, coord2]
  blk_simp
  obtain ⟨r, d, rfl⟩ : ∃ (r : Fin 256) (d : Fin 512), y = ix3 0 r d := ⟨y 1, y 2, ex3b y⟩
  have e : (win0_3.blk t).view.emb (ix3 0 r d) = ix3 (tb t) ⟨(ti t).val * 256 + r.val, by have := (ti t).isLt; omega⟩ ⟨(th t).val * 512 + d.val, by have := (th t).isLt; omega⟩ := by
    refine funext fun a => Fin.ext ?_
    obtain ⟨h0, h1, h2⟩ := idx3 t
    match a with
    | ⟨0, _⟩ => blk_simp [h0]; rfl
    | ⟨1, _⟩ => blk_simp [h1]; rfl
    | ⟨2, _⟩ => blk_simp [h2]; rfl
  rw [e]
  obtain ⟨g, u, rfl⟩ : ∃ (g : Fin 4) (u : Fin 128), d = ⟨g.val * 128 + u.val, by omega⟩ :=
    ⟨⟨d.val / 128, by omega⟩, ⟨d.val % 128, Nat.mod_lt _ (by decide)⟩, Fin.ext (by show d.val = d.val / 128 * 128 + d.val % 128; omega)⟩
  refine (OUT_apply (t.val % 32) (Nat.mod_lt _ (by decide)) (iblk m c 0 t) (iblk m c 1 t) (iblk m c 2 t) r g u).trans ?_
  have hh := (th t).isLt
  have en : (⟨((th t).val * 512 + (g.val * 128 + u.val)) / 128, by omega⟩ : Fin 32) = ⟨(th t).val * 4 + g.val, by omega⟩ :=
    Fin.ext (by show ((th t).val * 512 + (g.val * 128 + u.val)) / 128 = (th t).val * 4 + g.val; omega)
  have eu : (⟨((th t).val * 512 + (g.val * 128 + u.val)) % 128, Nat.mod_lt _ (by decide)⟩ : Fin 128) = u :=
    Fin.ext (by show ((th t).val * 512 + (g.val * 128 + u.val)) % 128 = u.val; omega)
  show _ = OX _ _ _ (tb t) ⟨(ti t).val * 256 + r.val, _⟩ ⟨((th t).val * 512 + (g.val * 128 + u.val)) / 128, _⟩ ⟨((th t).val * 512 + (g.val * 128 + u.val)) % 128, _⟩
  rw [en, eu]
  unfold OX
  have eh : (⟨((th t).val * 4 + g.val) / 4, by omega⟩ : Fin 8) = th t := Fin.ext (by show ((th t).val * 4 + g.val) / 4 = (th t).val; omega)
  have hk : (fun (s : Fin 8192) (x : Fin 128) => KD (iblk m c 1 t) (ix2 s x)) = fun s => KX (A1 m c) (tb t) s (th t) := by
    funext s x
    rw [KD_apply, KF_eq]
    rfl
  have hv : (fun (s : Fin 8192) => VT (iblk m c 2 t) (ix2 u s)) = fun s => VX (A2 m c) (tb t) s (th t) u := by
    funext s
    rw [VT_apply, VF_eq]
    rfl
  have hq : (fun (x : Fin 128) => QT (iblk m c 0 t) (ix2 x ⟨g.val * 256 + r.val, by omega⟩))
      = QX (A0 m c) (tb t) ⟨(ti t).val * 256 + r.val, by have := (ti t).isLt; omega⟩ ⟨(th t).val * 4 + g.val, by omega⟩ := by
    funext x
    rw [QT_head, QF_eq]
    have en : (⟨(th t).val * 16 + (g.val * 4 + x.val / 32), by omega⟩ : Fin 128) = ⟨((th t).val * 4 + g.val) * 4 + x.val / 32, by omega⟩ :=
      Fin.ext (by show (th t).val * 16 + (g.val * 4 + x.val / 32) = ((th t).val * 4 + g.val) * 4 + x.val / 32; omega)
    unfold QX
    simp only [en]
  have ei : 256 * (t.val % 32) + r.val = (ti t).val * 256 + r.val := by show 256 * (t.val % 32) + r.val = t.val % 32 * 256 + r.val; omega
  rw [hk, hv, hq, eh, ei]

end Cert.KernelIdeal.Val

end
-- ==== Proof.Ref.Final.lean ====
/- The reference's results are the kernel's. -/
module

public import proofs.«01_k».proof.Proof.Ref.Codes
public import proofs.«01_k».proof.Proof.Ref.Attn
public import proofs.«01_k».proof.Proof.Att.Arr3

@[expose] public section

set_option maxRecDepth 16384

noncomputable section

namespace Cert.ReferenceIdeal.Val

open Cert.ReferenceIdeal Cert.ReferenceIdeal.Gen Idealize.ShloMosaic Idealize.ShloMosaic.TcCoe Idealize.SL.Sem Cert.Quant Cert.ReferenceIdeal.Pre
open Cert.ReferenceIdeal.Facts
open Cert.KernelIdeal.Val (GQC GKC GVC GQS GKS GVS GOUT OX QX KX VX rscale rscale_eq deq_real att_row)
open Cert.ReferenceIdeal.Att (fld)

attribute [local irreducible] StableHlo.after val_main_v108 val_main_v109 val_main_v110 val_main_v24 val_main_v64 val_main_v98

/-- The stored exponents. -/
abbrev EQ (x : FVec Ideal S3x8192x4096 .bf16) : IVec S3x8192x32x4 32 := addi (val_main_v24 (F := Ideal) x : IVec S3x8192x32x4 32) (fun _ => 127#32)
abbrev EK (x : FVec Ideal S3x8192x1024 .bf16) : IVec S3x8192x8x4 32 := addi (val_main_v64 (F := Ideal) x : IVec S3x8192x8x4 32) (fun _ => 127#32)
abbrev EV (x : FVec Ideal S3x8192x1024 .bf16) : IVec S3x8192x8x4 32 := addi (val_main_v98 (F := Ideal) x : IVec S3x8192x8x4 32) (fun _ => 127#32)

variable (x0 : FVec Ideal S3x8192x4096 .bf16) (x1 x2 : FVec Ideal S3x8192x1024 .bf16)

theorem deq_q (h0 : Bnd x0) (b : Fin 3) (s : Fin 8192) (h : Fin 8) (g : Fin 4) (d : Fin 128) :
    Read.val_main_v130 (F := Ideal) (GQC x0) (EQ x0) (ix5 b s h g d) = QX x0 b s ⟨h.val * 4 + g.val, by omega⟩ d := by
  refine (Att.d130 _ _ b s h g d).trans ?_
  rw [show fld (EQ x0 (ix4 b s ⟨h.val * 4 + g.val, by omega⟩ ⟨d.val / 32, by omega⟩)) = _ from q_field x0 h0 b s _ _, rscale_eq _ (QG_small x0 h0 _ _ _)]
  refine congrArg (· * _) ?_
  have e1 : (⟨((h.val * 4 + g.val) * 128 + d.val) / 32, by omega⟩ : Fin 128) = ⟨(h.val * 4 + g.val) * 4 + d.val / 32, by omega⟩ :=
    Fin.ext (by show ((h.val * 4 + g.val) * 128 + d.val) / 32 = (h.val * 4 + g.val) * 4 + d.val / 32; omega)
  have e2 : (⟨((h.val * 4 + g.val) * 128 + d.val) % 32, Nat.mod_lt _ (by decide)⟩ : Fin 32) = ⟨d.val % 32, Nat.mod_lt _ (by decide)⟩ :=
    Fin.ext (by show ((h.val * 4 + g.val) * 128 + d.val) % 32 = d.val % 32; omega)
  show kcode (QG x0 b s ⟨((h.val * 4 + g.val) * 128 + d.val) / 32, _⟩) ⟨((h.val * 4 + g.val) * 128 + d.val) % 32, _⟩ = _
  rw [e1, e2]

theorem deq_k (h1 : Bnd x1) (b : Fin 3) (s : Fin 8192) (h : Fin 8) (d : Fin 128) :
    Read.val_main_v142 (F := Ideal) (GKC x1) (EK x1) (ix4 b s h d) = KX x1 b s h d := by
  refine (Att.d142 _ _ b s h d).trans ?_
  rw [show fld (EK x1 (ix4 b s h ⟨d.val / 32, by omega⟩)) = _ from k_field x1 h1 b s _ _, rscale_eq _ (KG_small x1 h1 _ _ _)]
  refine congrArg (· * _) ?_
  have e1 : (⟨(h.val * 128 + d.val) / 32, by omega⟩ : Fin 32) = ⟨h.val * 4 + d.val / 32, by omega⟩ :=
    Fin.ext (by show (h.val * 128 + d.val) / 32 = h.val * 4 + d.val / 32; omega)
  have e2 : (⟨(h.val * 128 + d.val) % 32, Nat.mod_lt _ (by decide)⟩ : Fin 32) = ⟨d.val % 32, Nat.mod_lt _ (by decide)⟩ :=
    Fin.ext (by show (h.val * 128 + d.val) % 32 = d.val % 32; omega)
  show kcode (KG x1 b s ⟨(h.val * 128 + d.val) / 32, _⟩) ⟨(h.val * 128 + d.val) % 32, _⟩ = _
  rw [e1, e2]

theorem deq_v (h2 : Bnd x2) (b : Fin 3) (s : Fin 8192) (h : Fin 8) (d : Fin 128) :
    Read.val_main_v154 (F := Ideal) (GVC x2) (EV x2) (ix4 b s h d) = VX x2 b s h d := by
  refine (Att.d154 _ _ b s h d).trans ?_
  rw [show fld (EV x2 (ix4 b s h ⟨d.val / 32, by omega⟩)) = _ from v_field x2 h2 b s _ _, rscale_eq _ (VG_small x2 h2 _ _ _)]
  refine congrArg (· * _) ?_
  have e1 : (⟨(h.val * 128 + d.val) / 32, by omega⟩ : Fin 32) = ⟨h.val * 4 + d.val / 32, by omega⟩ :=
    Fin.ext (by show (h.val * 128 + d.val) / 32 = h.val * 4 + d.val / 32; omega)
  have e2 : (⟨(h.val * 128 + d.val) % 32, Nat.mod_lt _ (by decide)⟩ : Fin 32) = ⟨d.val % 32, Nat.mod_lt _ (by decide)⟩ :=
    Fin.ext (by show (h.val * 128 + d.val) % 32 = d.val % 32; omega)
  show kcode (VG x2 b s ⟨(h.val * 128 + d.val) / 32, _⟩) ⟨(h.val * 128 + d.val) % 32, _⟩ = _
  rw [e1, e2]

theorem out_eq (h0 : Bnd x0) (h1 : Bnd x1) (h2 : Bnd x2) :
    (Read.val_main_v185 (F := Ideal) (GQC x0) (GKC x1) (GVC x2) (EQ x0) (EK x1) (EV x2) : S3x8192x4096.Idx → EReal) = GOUT x0 x1 x2 := by
  funext (i : S3x8192x4096.Idx)
  obtain ⟨b, s, d, rfl⟩ : ∃ (b : Fin 3) (s : Fin 8192) (d : Fin 4096), i = ix3 b s d := ⟨i 0, i 1, i 2, eq_ix3 i⟩
  obtain ⟨h, g, e, rfl⟩ : ∃ (h : Fin 8) (g : Fin 4) (e : Fin 128), d = ⟨(h.val * 4 + g.val) * 128 + e.val, by omega⟩ :=
    ⟨⟨d.val / 512, by omega⟩, ⟨d.val / 128 % 4, Nat.mod_lt _ (by decide)⟩, ⟨d.val % 128, Nat.mod_lt _ (by decide)⟩,
      Fin.ext (by show d.val = (d.val / 512 * 4 + d.val / 128 % 4) * 128 + d.val % 128; omega)⟩
  refine (Att.att_read _ _ _ _ _ _ b s h g e).trans ?_
  simp only [deq_q x0 h0, deq_k x1 h1, deq_v x2 h2]
  have e1 : (⟨((h.val * 4 + g.val) * 128 + e.val) / 128, by omega⟩ : Fin 32) = ⟨h.val * 4 + g.val, by omega⟩ :=
    Fin.ext (by show ((h.val * 4 + g.val) * 128 + e.val) / 128 = h.val * 4 + g.val; omega)
  have e2 : (⟨((h.val * 4 + g.val) * 128 + e.val) % 128, Nat.mod_lt _ (by decide)⟩ : Fin 128) = e :=
    Fin.ext (by show ((h.val * 4 + g.val) * 128 + e.val) % 128 = e.val; omega)
  have e3 : (⟨(h.val * 4 + g.val) / 4, by omega⟩ : Fin 8) = h := Fin.ext (by show (h.val * 4 + g.val) / 4 = h.val; omega)
  show _ = OX x0 x1 x2 b s ⟨((h.val * 4 + g.val) * 128 + e.val) / 128, _⟩ ⟨((h.val * 4 + g.val) * 128 + e.val) % 128, _⟩
  rw [e1, e2]
  unfold OX
  rw [show (⟨(⟨h.val * 4 + g.val, by omega⟩ : Fin 32).val / 4, by omega⟩ : Fin 8) = h from e3]
  exact (att_row _ _ _ _ (fun t x => deq_real _ (KG_small x1 h1 _ _ _) _) (fun x => deq_real _ (QG_small x0 h0 _ _ _) _)
    (fun t => deq_real _ (VG_small x2 h2 _ _ _) _)).symm

variable (m : (ℓ : Loc nD τ sig) → Buf (Elt Ideal) ℓ) (c : Dev nD)

theorem out_ref (h0 : Bnd (R0 m c)) (h1 : Bnd (R1 m c)) (h2 : Bnd (R2 m c)) :
    Read.val_main_v185 (F := Ideal) (Value.exitV m c (Proc.devRef .tc main_v111_3)) (Value.exitV m c (Proc.devRef .tc main_v111_4))
      (Value.exitV m c (Proc.devRef .tc main_v111_5)) (Value.exitV m c (Proc.devRef .tc main_v111_6)) (Value.exitV m c (Proc.devRef .tc main_v111_7))
      (Value.exitV m c (Proc.devRef .tc main_v111_8)) = GOUT (R0 m c) (R1 m c) (R2 m c) := by
  rw [Value.exit_main_v111_3, Value.exit_main_v111_4, Value.exit_main_v111_5, Value.exit_main_v111_6, Value.exit_main_v111_7, Value.exit_main_v111_8,
    reg_q, reg_k, reg_v, refb_q m c h0, refb_k m c h1, refb_v m c h2]
  exact out_eq _ _ _ h0 h1 h2
theorem outs_q (h : Bnd (R0 m c)) : Read.val_main_v187 (F := Ideal) (Value.exitV m c (Proc.devRef .tc main_v111_6)) = GQS (R0 m c) := by
  rw [Value.exit_main_v111_6]
  exact refs_q m c h
theorem outs_k (h : Bnd (R1 m c)) : Read.val_main_v188 (F := Ideal) (Value.exitV m c (Proc.devRef .tc main_v111_7)) = GKS (R1 m c) := by
  rw [Value.exit_main_v111_7]
  exact refs_k m c h
theorem outs_v (h : Bnd (R2 m c)) : Read.val_main_v189 (F := Ideal) (Value.exitV m c (Proc.devRef .tc main_v111_8)) = GVS (R2 m c) := by
  rw [Value.exit_main_v111_8]
  exact refs_v m c h

end Cert.ReferenceIdeal.Val

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_finite
public import proofs.«01_k».proof.Proof.Gen.ReferenceIdeal.Run
public import proofs.«01_k».proof.Proof.Gen.ReferenceIdeal.Read
public import proofs.«01_k».proof.Proof.KI.Run
public import proofs.«01_k».proof.Proof.KP.Run
public import proofs.«01_k».proof.Proof.Val.Arr
public import proofs.«01_k».proof.Proof.Val.Bounds
public import proofs.«01_k».proof.Proof.Ref.Final
public import Idealize.ShloMosaic.Adequacy
public import Idealize.ShloMosaic.Init

@[expose] public section

noncomputable section

namespace Cert.Proof

open Idealize.ShloMosaic Idealize.SL.Sem Cert.Kernel

attribute [local irreducible] StableHlo.after

set_option maxRecDepth 16384 in
/-- The values claim. -/
theorem algebraic [hP : Cert.Pre_finite.Facts] : Cert.algebraic_KernelIdeal_ReferenceIdeal_pre_finite (hKernelIdeal := Cert.KernelIdeal.Gen.facts) (hReferenceIdeal := Cert.ReferenceIdeal.Gen.facts) := by
  intro m g m' g' hpre hargs
  have h0 : ∀ c, Cert.ReferenceIdeal.Val.R0 m' c = Cert.KernelIdeal.Val.A0 m c := fun c => (hargs c).1
  have h1 : ∀ c, Cert.ReferenceIdeal.Val.R1 m' c = Cert.KernelIdeal.Val.A1 m c := fun c => (hargs c).2.1
  have h2 : ∀ c, Cert.ReferenceIdeal.Val.R2 m' c = Cert.KernelIdeal.Val.A2 m c := fun c => (hargs c).2.2
  have hb := fun c => Cert.Quant.pre_bnd _ _ _ (hpre c)
  refine ⟨fun c => Cert.KernelIdeal.Val.GOUT (Cert.KernelIdeal.Val.A0 m c) (Cert.KernelIdeal.Val.A1 m c) (Cert.KernelIdeal.Val.A2 m c),
    fun c => Cert.KernelIdeal.Val.GQC (Cert.KernelIdeal.Val.A0 m c), fun c => Cert.KernelIdeal.Val.GQS (Cert.KernelIdeal.Val.A0 m c),
    fun c => Cert.KernelIdeal.Val.GKC (Cert.KernelIdeal.Val.A1 m c), fun c => Cert.KernelIdeal.Val.GKS (Cert.KernelIdeal.Val.A1 m c),
    fun c => Cert.KernelIdeal.Val.GVC (Cert.KernelIdeal.Val.A2 m c), fun c => Cert.KernelIdeal.Val.GVS (Cert.KernelIdeal.Val.A2 m c), ?_, ?_⟩
  · refine (θ_run _ _ _).mono (fun r h c => ?_) (Cert.KernelIdeal.Spec.run_main m g)
    exact ⟨((h c).1 3).trans (Cert.KernelIdeal.Val.arr3 m c), ((h c).1 4).trans (Cert.KernelIdeal.Val.arr4 m c), ((h c).1 5).trans (Cert.KernelIdeal.Val.arr5 m c),
      ((h c).1 6).trans (Cert.KernelIdeal.Val.arr6 m c), ((h c).1 7).trans (Cert.KernelIdeal.Val.arr7 m c),
      ((h c).1 8).trans (Cert.KernelIdeal.Val.arr8 m c), ((h c).1 9).trans (Cert.KernelIdeal.Val.arr9 m c),
      ((h c).1 0).trans ((Cert.KernelIdeal.Spec.dats m 0 c).arrAt_in 0 rfl _), ((h c).1 1).trans ((Cert.KernelIdeal.Spec.dats m 0 c).arrAt_in 1 rfl _),
      ((h c).1 2).trans ((Cert.KernelIdeal.Spec.dats m 0 c).arrAt_in 2 rfl _)⟩
  · refine (θ_run _ _ _).mono (fun r h c => ?_) (Cert.ReferenceIdeal.Value.run m' g')
    obtain ⟨r0, r1, r2, r3, r4, r5, r6, a0, a1, a2⟩ := h c
    refine ⟨r0.trans ?_, r1.trans ?_, r2.trans ?_, r3.trans ?_, r4.trans ?_, r5.trans ?_, r6.trans ?_, a0, a1, a2⟩
    · exact ((Cert.ReferenceIdeal.Read.val_main_v185_eq (Cert.ReferenceIdeal.Value.exitV m' c)).trans (Cert.ReferenceIdeal.Val.out_ref m' c ((h0 c).symm ▸ (hb c).1) ((h1 c).symm ▸ (hb c).2.1) ((h2 c).symm ▸ (hb c).2.2))).trans
        (by rw [h0, h1, h2])
    · exact (Cert.ReferenceIdeal.Val.ref_q m' c ((h0 c).symm ▸ (hb c).1)).trans (congrArg Cert.KernelIdeal.Val.GQC (h0 c))
    · exact ((Cert.ReferenceIdeal.Read.val_main_v187_eq (Cert.ReferenceIdeal.Value.exitV m' c)).trans (Cert.ReferenceIdeal.Val.outs_q m' c ((h0 c).symm ▸ (hb c).1))).trans (congrArg Cert.KernelIdeal.Val.GQS (h0 c))
    · exact (Cert.ReferenceIdeal.Val.ref_k m' c ((h1 c).symm ▸ (hb c).2.1)).trans (congrArg Cert.KernelIdeal.Val.GKC (h1 c))
    · exact ((Cert.ReferenceIdeal.Read.val_main_v188_eq (Cert.ReferenceIdeal.Value.exitV m' c)).trans (Cert.ReferenceIdeal.Val.outs_k m' c ((h1 c).symm ▸ (hb c).2.1))).trans (congrArg Cert.KernelIdeal.Val.GKS (h1 c))
    · exact (Cert.ReferenceIdeal.Val.ref_v m' c ((h2 c).symm ▸ (hb c).2.2)).trans (congrArg Cert.KernelIdeal.Val.GVC (h2 c))
    · exact ((Cert.ReferenceIdeal.Read.val_main_v189_eq (Cert.ReferenceIdeal.Value.exitV m' c)).trans (Cert.ReferenceIdeal.Val.outs_v m' c ((h2 c).symm ▸ (hb c).2.2))).trans (congrArg Cert.KernelIdeal.Val.GVS (h2 c))

theorem claim : Cert.Claim := ⟨Cert.Kernel.Gen.facts, Cert.KernelIdeal.Gen.facts, Cert.ReferenceIdeal.Gen.facts, Cert.Pre_finite.Gen.facts,
  fun m ρ _ => Cert.Kernel.Spec.frame_run m ρ,
  fun m ρ _ => Cert.KernelIdeal.Spec.frame_run m ρ,
  fun m ρ _ => Cert.KernelIdeal.Spec.frame_run m ρ,
  fun m ρ _ => Cert.ReferenceIdeal.Gen.frame m ρ,
  fun m ρ _ => Cert.ReferenceIdeal.Gen.frame m ρ,
  ⟨IdealRules.named_const.statement Cert.KernelIdeal.κ "inv_448" .f32 0x3B124925#32 ((1 / 448 : ℝ) : EReal) rfl,
    IdealRules.named_const.statement Cert.KernelIdeal.κ "scale_log2e" .f32 0x3E0293EE#32 (((Real.sqrt 128)⁻¹ * (Real.log 2)⁻¹ : ℝ) : EReal) rfl,
    IdealRules.named_const.statement Cert.KernelIdeal.κ "log2_448" .f32 0x410CEAED#32 (((Real.log 448) * (Real.log 2)⁻¹ : ℝ) : EReal) rfl⟩,
  algebraic (hP := Cert.Pre_finite.Gen.facts)⟩

end Cert.Proof

end
